-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x6144x8192 : Shape := ⟨3, ![6, 6144, 8192]⟩
abbrev S6x6144 : Shape := ⟨2, ![6, 6144]⟩
abbrev S8192 : Shape := ⟨1, ![8192]⟩
abbrev S1 : Shape := ⟨1, ![1]⟩
abbrev S6 : Shape := ⟨1, ![6]⟩
abbrev S4x512x8192 : Shape := ⟨3, ![4, 512, 8192]⟩
abbrev S128x6144 : Shape := ⟨2, ![128, 6144]⟩
abbrev S8x2048 : Shape := ⟨2, ![8, 2048]⟩
abbrev S512x128 : Shape := ⟨2, ![512, 128]⟩
abbrev S6x128 : Shape := ⟨2, ![6, 128]⟩
abbrev S4 : Shape := ⟨1, ![4]⟩
abbrev S3 : Shape := ⟨1, ![3]⟩
abbrev S_ : Shape := ⟨0, ![]⟩
abbrev S1x8192 : Shape := ⟨2, ![1, 8192]⟩
abbrev S1x6144 : Shape := ⟨2, ![1, 6144]⟩
abbrev S1x2048 : Shape := ⟨2, ![1, 2048]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S6x1 : Shape := ⟨2, ![6, 1]⟩
abbrev S1x512x1536 : Shape := ⟨3, ![1, 512, 1536]⟩
abbrev S512x1536 : Shape := ⟨2, ![512, 1536]⟩
abbrev S128x1536 : Shape := ⟨2, ![128, 1536]⟩
abbrev S16x8x128 : Shape := ⟨3, ![16, 8, 128]⟩
abbrev S1x128x128 : Shape := ⟨3, ![1, 128, 128]⟩
abbrev S8x128 : Shape := ⟨2, ![8, 128]⟩
abbrev S1x8x128 : Shape := ⟨3, ![1, 8, 128]⟩
abbrev S1x1 : Shape := ⟨2, ![1, 1]⟩

abbrev nBuf : Space → Nat
  | .hbm => 12
  | .vmem => 15
  | .smem => 4
  | _ => 0

abbrev bufTy : (tb : Table) → Fin (tcTables nBuf tb) → BufTy
  | .hbm, ⟨0, _⟩ => ⟨S6x6144x8192, .fp8e4m3⟩
  | .hbm, ⟨1, _⟩ => ⟨S6x6144, .f32⟩
  | .hbm, ⟨2, _⟩ => ⟨S8192, .fp8e4m3⟩
  | .hbm, ⟨3, _⟩ => ⟨S1, .f32⟩
  | .hbm, ⟨4, _⟩ => ⟨S1, .f32⟩
  | .hbm, ⟨5, _⟩ => ⟨S6x6144, .bf16⟩
  | .hbm, ⟨6, _⟩ => ⟨S6x6144, .bf16⟩
  | .hbm, ⟨7, _⟩ => ⟨S6, .f32⟩
  | .hbm, ⟨8, _⟩ => ⟨S6, .i32⟩
  | .hbm, ⟨9, _⟩ => ⟨S6x6144, .f32⟩
  | .hbm, ⟨10, _⟩ => ⟨S6x6144, .f32⟩
  | .hbm, ⟨11, _⟩ => ⟨S6x6144, .f32⟩
  | .local _ .vmem, ⟨0, _⟩ => ⟨S4x512x8192, .fp8e4m3⟩
  | .local _ .vmem, ⟨1, _⟩ => ⟨S8192, .fp8e4m3⟩
  | .local _ .vmem, ⟨2, _⟩ => ⟨S128x6144, .fp8e4m3⟩
  | .local _ .vmem, ⟨3, _⟩ => ⟨S8x2048, .f32⟩
  | .local _ .vmem, ⟨4, _⟩ => ⟨S512x128, .f32⟩
  | .local _ .vmem, ⟨5, _⟩ => ⟨S512x128, .f32⟩
  | .local _ .vmem, ⟨6, _⟩ => ⟨S6x6144, .f32⟩
  | .local _ .vmem, ⟨7, _⟩ => ⟨S6x6144, .bf16⟩
  | .local _ .vmem, ⟨8, _⟩ => ⟨S6x6144, .bf16⟩
  | .local _ .vmem, ⟨9, _⟩ => ⟨S6x6144, .f32⟩
  | .local _ .vmem, ⟨10, _⟩ => ⟨S6x6144, .f32⟩
  | .local _ .vmem, ⟨11, _⟩ => ⟨S6x6144, .f32⟩
  | .local _ .vmem, ⟨12, _⟩ => ⟨S6x128, .f32⟩
  | .local _ .vmem, ⟨13, _⟩ => ⟨S6x128, .f32⟩
  | .local _ .vmem, ⟨14, _⟩ => ⟨S6x128, .f32⟩
  | .local _ .smem, ⟨0, _⟩ => ⟨S1, .f32⟩
  | .local _ .smem, ⟨1, _⟩ => ⟨S1, .f32⟩
  | .local _ .smem, ⟨2, _⟩ => ⟨S6, .i32⟩
  | .local _ .smem, ⟨3, _⟩ => ⟨S6, .f32⟩
  | _, _ => ⟨S6x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_stg0_0 : Ref sig .tc := ⟨.smem, 0, rfl⟩
abbrev cc0_stg1_0 : Ref sig .tc := ⟨.smem, 1, rfl⟩
abbrev cc0_scratch0 : Ref sig .tc := ⟨.smem, 2, rfl⟩
abbrev cc0_scratch1 : Ref sig .tc := ⟨.smem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_66 : BitVec 32 := 0#32
  let c4_i32_67 : BitVec 32 := 4#32
  let v152 : BitVec 32 := Scalar.addi c0_i32_66 c4_i32_67
  let c1_i32_68 : BitVec 32 := 1#32
  ⟨c0_i32_66, v152, c1_i32_68⟩
def k0_mult1 (v14 : BitVec 32) (v17 : BitVec 32) (v20 : BitVec 32) (v23 : BitVec 32) (v26 : BitVec 32) (v29 : BitVec 32) (k0_t1 : Fin k0_t1_loop.trips) : BitVec 32 :=
  let c0_i32_66 : BitVec 32 := 0#32
  let c1_i32_68 : BitVec 32 := 1#32
  let arg32 : BitVec 32 := Scf.iv c0_i32_66 c1_i32_68 k0_t1
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v493 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v489 : BitVec 1 := Scalar.cmpi .sge arg32 v111
  let v485 : BitVec 1 := Scalar.cmpi .sge arg32 v91
  let v481 : BitVec 1 := Scalar.cmpi .sge arg32 v71
  let v477 : BitVec 1 := Scalar.cmpi .sge arg32 v51
  let v479 : BitVec 32 := Scalar.select v477 v19 v16
  let v483 : BitVec 32 := Scalar.select v481 v22 v479
  let v487 : BitVec 32 := Scalar.select v485 v25 v483
  let v491 : BitVec 32 := Scalar.select v489 v28 v487
  let v495 : BitVec 32 := Scalar.select v493 v31 v491
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v480 : BitVec 32 := Scalar.select v477 v71 v51
  let v484 : BitVec 32 := Scalar.select v481 v91 v480
  let v488 : BitVec 32 := Scalar.select v485 v111 v484
  let v492 : BitVec 32 := Scalar.select v489 v131 v488
  let v496 : BitVec 32 := Scalar.select v493 v151 v492
  let c1_i32_173 : BitVec 32 := 1#32
  let v497 : BitVec 32 := Scalar.subi v496 c1_i32_173
  let v498 : BitVec 32 := Scalar.subi v497 arg32
  let c512_i32_174 : BitVec 32 := 512#32
  let v499 : BitVec 32 := Scalar.muli v498 c512_i32_174
  let v500 : BitVec 32 := Scalar.subi v495 v499
  let c32_i32_175 : BitVec 32 := 32#32
  let v501 : BitVec 32 := Scalar.addi v500 c32_i32_175
  let c1_i32_176 : BitVec 32 := 1#32
  let v502 : BitVec 32 := Scalar.subi v501 c1_i32_176
  let c0_i32_178 : BitVec 32 := 0#32
  let v504 : BitVec 1 := Scalar.cmpi .sgt v502 c0_i32_178
  let v505 : BitVec 32 := Scalar.extui v504
  let c0_i32_179 : BitVec 32 := 0#32
  let v506 : BitVec 1 := Scalar.cmpi .slt v502 c0_i32_179
  let v507 : BitVec 32 := Scalar.extui v506
  let v508 : BitVec 32 := Scalar.subi v505 v507
  let c32_i32_177 : BitVec 32 := 32#32
  let c0_i32_180 : BitVec 32 := 0#32
  let v509 : BitVec 1 := Scalar.cmpi .sgt c32_i32_177 c0_i32_180
  let v510 : BitVec 32 := Scalar.extui v509
  let c0_i32_181 : BitVec 32 := 0#32
  let v511 : BitVec 1 := Scalar.cmpi .slt c32_i32_177 c0_i32_181
  let v512 : BitVec 32 := Scalar.extui v511
  let v513 : BitVec 32 := Scalar.subi v510 v512
  let v514 : BitVec 1 := Scalar.cmpi .ne v508 v513
  let v515 : BitVec 32 := Scalar.remsi v502 c32_i32_177
  let c0_i32_182 : BitVec 32 := 0#32
  let v516 : BitVec 1 := Scalar.cmpi .ne v515 c0_i32_182
  let v517 : BitVec 1 := Scalar.andi v514 v516
  let v503 : BitVec 32 := Scalar.divsi v502 c32_i32_177
  let c1_i32_183 : BitVec 32 := 1#32
  let v518 : BitVec 32 := Scalar.subi v503 c1_i32_183
  let v519 : BitVec 32 := Scalar.select v517 v518 v503
  let c32_i32_184 : BitVec 32 := 32#32
  let v520 : BitVec 32 := Scalar.muli v519 c32_i32_184
  let c512_i32_185 : BitVec 32 := 512#32
  let v521 : BitVec 32 := Scalar.minsi v520 c512_i32_185
  v521
def k0_cond1 (v14 : BitVec 32) (v17 : BitVec 32) (v20 : BitVec 32) (v23 : BitVec 32) (v26 : BitVec 32) (v29 : BitVec 32) (k0_t1 : Fin k0_t1_loop.trips) : BitVec 1 :=
  let c0_i32_66 : BitVec 32 := 0#32
  let c1_i32_68 : BitVec 32 := 1#32
  let arg32 : BitVec 32 := Scf.iv c0_i32_66 c1_i32_68 k0_t1
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v474 : BitVec 1 := Scalar.cmpi .slt arg32 v151
  let v475 : BitVec 32 := Scalar.extui v474
  let c0_i32_166 : BitVec 32 := 0#32
  let v476 : BitVec 1 := Scalar.cmpi .ne v475 c0_i32_166
  v476

def k0_mult2 (v14 : BitVec 32) (v17 : BitVec 32) (v20 : BitVec 32) (v23 : BitVec 32) (v26 : BitVec 32) (v29 : BitVec 32) (k0_t1 : Fin k0_t1_loop.trips) : BitVec 32 :=
  let c0_i32_66 : BitVec 32 := 0#32
  let c1_i32_68 : BitVec 32 := 1#32
  let arg32 : BitVec 32 := Scf.iv c0_i32_66 c1_i32_68 k0_t1
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v493 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v489 : BitVec 1 := Scalar.cmpi .sge arg32 v111
  let v485 : BitVec 1 := Scalar.cmpi .sge arg32 v91
  let v481 : BitVec 1 := Scalar.cmpi .sge arg32 v71
  let v477 : BitVec 1 := Scalar.cmpi .sge arg32 v51
  let v480 : BitVec 32 := Scalar.select v477 v71 v51
  let v484 : BitVec 32 := Scalar.select v481 v91 v480
  let v488 : BitVec 32 := Scalar.select v485 v111 v484
  let v492 : BitVec 32 := Scalar.select v489 v131 v488
  let v496 : BitVec 32 := Scalar.select v493 v151 v492
  let c1_i32_173 : BitVec 32 := 1#32
  let v497 : BitVec 32 := Scalar.subi v496 c1_i32_173
  let v498 : BitVec 32 := Scalar.subi v497 arg32
  let c512_i32_187 : BitVec 32 := 512#32
  let v524 : BitVec 32 := Scalar.muli v498 c512_i32_187
  v524
def k0_off1 (k0_t1 : Fin k0_t1_loop.trips) : Fin 1 → Nat :=
  let c0_i32_66 : BitVec 32 := 0#32
  let c1_i32_68 : BitVec 32 := 1#32
  let arg32 : BitVec 32 := Scf.iv c0_i32_66 c1_i32_68 k0_t1
  let c4_i32_186 : BitVec 32 := 4#32
  let v523 : BitVec 32 := Scalar.remsi arg32 c4_i32_186
  ![v523.toNat]
def k0_off2 (v14 : BitVec 32) (v17 : BitVec 32) (v20 : BitVec 32) (v23 : BitVec 32) (v26 : BitVec 32) (v29 : BitVec 32) (k0_t1 : Fin k0_t1_loop.trips) : (Fin 3 → Nat) × (Fin 3 → Nat) :=
  let c0_i32_66 : BitVec 32 := 0#32
  let c1_i32_68 : BitVec 32 := 1#32
  let arg32 : BitVec 32 := Scf.iv c0_i32_66 c1_i32_68 k0_t1
  let c4_i32_186 : BitVec 32 := 4#32
  let v523 : BitVec 32 := Scalar.remsi arg32 c4_i32_186
  let c0_i32_188 : BitVec 32 := 0#32
  let c0_i32_189 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v493 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v489 : BitVec 1 := Scalar.cmpi .sge arg32 v111
  let v485 : BitVec 1 := Scalar.cmpi .sge arg32 v91
  let v481 : BitVec 1 := Scalar.cmpi .sge arg32 v71
  let v477 : BitVec 1 := Scalar.cmpi .sge arg32 v51
  let v479 : BitVec 32 := Scalar.select v477 v19 v16
  let v483 : BitVec 32 := Scalar.select v481 v22 v479
  let v487 : BitVec 32 := Scalar.select v485 v25 v483
  let v491 : BitVec 32 := Scalar.select v489 v28 v487
  let v495 : BitVec 32 := Scalar.select v493 v31 v491
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v480 : BitVec 32 := Scalar.select v477 v71 v51
  let v484 : BitVec 32 := Scalar.select v481 v91 v480
  let v488 : BitVec 32 := Scalar.select v485 v111 v484
  let v492 : BitVec 32 := Scalar.select v489 v131 v488
  let v496 : BitVec 32 := Scalar.select v493 v151 v492
  let c1_i32_173 : BitVec 32 := 1#32
  let v497 : BitVec 32 := Scalar.subi v496 c1_i32_173
  let v498 : BitVec 32 := Scalar.subi v497 arg32
  let c512_i32_174 : BitVec 32 := 512#32
  let v499 : BitVec 32 := Scalar.muli v498 c512_i32_174
  let v500 : BitVec 32 := Scalar.subi v495 v499
  let c32_i32_175 : BitVec 32 := 32#32
  let v501 : BitVec 32 := Scalar.addi v500 c32_i32_175
  let c1_i32_176 : BitVec 32 := 1#32
  let v502 : BitVec 32 := Scalar.subi v501 c1_i32_176
  let c0_i32_178 : BitVec 32 := 0#32
  let v504 : BitVec 1 := Scalar.cmpi .sgt v502 c0_i32_178
  let v505 : BitVec 32 := Scalar.extui v504
  let c0_i32_179 : BitVec 32 := 0#32
  let v506 : BitVec 1 := Scalar.cmpi .slt v502 c0_i32_179
  let v507 : BitVec 32 := Scalar.extui v506
  let v508 : BitVec 32 := Scalar.subi v505 v507
  let c32_i32_177 : BitVec 32 := 32#32
  let c0_i32_180 : BitVec 32 := 0#32
  let v509 : BitVec 1 := Scalar.cmpi .sgt c32_i32_177 c0_i32_180
  let v510 : BitVec 32 := Scalar.extui v509
  let c0_i32_181 : BitVec 32 := 0#32
  let v511 : BitVec 1 := Scalar.cmpi .slt c32_i32_177 c0_i32_181
  let v512 : BitVec 32 := Scalar.extui v511
  let v513 : BitVec 32 := Scalar.subi v510 v512
  let v514 : BitVec 1 := Scalar.cmpi .ne v508 v513
  let v515 : BitVec 32 := Scalar.remsi v502 c32_i32_177
  let c0_i32_182 : BitVec 32 := 0#32
  let v516 : BitVec 1 := Scalar.cmpi .ne v515 c0_i32_182
  let v517 : BitVec 1 := Scalar.andi v514 v516
  let v503 : BitVec 32 := Scalar.divsi v502 c32_i32_177
  let c1_i32_183 : BitVec 32 := 1#32
  let v518 : BitVec 32 := Scalar.subi v503 c1_i32_183
  let v519 : BitVec 32 := Scalar.select v517 v518 v503
  let c32_i32_184 : BitVec 32 := 32#32
  let v520 : BitVec 32 := Scalar.muli v519 c32_i32_184
  let c512_i32_185 : BitVec 32 := 512#32
  let v521 : BitVec 32 := Scalar.minsi v520 c512_i32_185
  let v522 : BitVec 32 := v521
  ⟨![v523.toNat, 0, 0], ![1, v522.toNat, 8192]⟩
def k0_sz1 (v14 : BitVec 32) (v17 : BitVec 32) (v20 : BitVec 32) (v23 : BitVec 32) (v26 : BitVec 32) (v29 : BitVec 32) (k0_t1 : Fin k0_t1_loop.trips) : Fin 2 → Nat :=
  let c0_i32_66 : BitVec 32 := 0#32
  let c1_i32_68 : BitVec 32 := 1#32
  let arg32 : BitVec 32 := Scf.iv c0_i32_66 c1_i32_68 k0_t1
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v493 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v489 : BitVec 1 := Scalar.cmpi .sge arg32 v111
  let v485 : BitVec 1 := Scalar.cmpi .sge arg32 v91
  let v481 : BitVec 1 := Scalar.cmpi .sge arg32 v71
  let v477 : BitVec 1 := Scalar.cmpi .sge arg32 v51
  let v479 : BitVec 32 := Scalar.select v477 v19 v16
  let v483 : BitVec 32 := Scalar.select v481 v22 v479
  let v487 : BitVec 32 := Scalar.select v485 v25 v483
  let v491 : BitVec 32 := Scalar.select v489 v28 v487
  let v495 : BitVec 32 := Scalar.select v493 v31 v491
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v480 : BitVec 32 := Scalar.select v477 v71 v51
  let v484 : BitVec 32 := Scalar.select v481 v91 v480
  let v488 : BitVec 32 := Scalar.select v485 v111 v484
  let v492 : BitVec 32 := Scalar.select v489 v131 v488
  let v496 : BitVec 32 := Scalar.select v493 v151 v492
  let c1_i32_173 : BitVec 32 := 1#32
  let v497 : BitVec 32 := Scalar.subi v496 c1_i32_173
  let v498 : BitVec 32 := Scalar.subi v497 arg32
  let c512_i32_174 : BitVec 32 := 512#32
  let v499 : BitVec 32 := Scalar.muli v498 c512_i32_174
  let v500 : BitVec 32 := Scalar.subi v495 v499
  let c32_i32_175 : BitVec 32 := 32#32
  let v501 : BitVec 32 := Scalar.addi v500 c32_i32_175
  let c1_i32_176 : BitVec 32 := 1#32
  let v502 : BitVec 32 := Scalar.subi v501 c1_i32_176
  let c0_i32_178 : BitVec 32 := 0#32
  let v504 : BitVec 1 := Scalar.cmpi .sgt v502 c0_i32_178
  let v505 : BitVec 32 := Scalar.extui v504
  let c0_i32_179 : BitVec 32 := 0#32
  let v506 : BitVec 1 := Scalar.cmpi .slt v502 c0_i32_179
  let v507 : BitVec 32 := Scalar.extui v506
  let v508 : BitVec 32 := Scalar.subi v505 v507
  let c32_i32_177 : BitVec 32 := 32#32
  let c0_i32_180 : BitVec 32 := 0#32
  let v509 : BitVec 1 := Scalar.cmpi .sgt c32_i32_177 c0_i32_180
  let v510 : BitVec 32 := Scalar.extui v509
  let c0_i32_181 : BitVec 32 := 0#32
  let v511 : BitVec 1 := Scalar.cmpi .slt c32_i32_177 c0_i32_181
  let v512 : BitVec 32 := Scalar.extui v511
  let v513 : BitVec 32 := Scalar.subi v510 v512
  let v514 : BitVec 1 := Scalar.cmpi .ne v508 v513
  let v515 : BitVec 32 := Scalar.remsi v502 c32_i32_177
  let c0_i32_182 : BitVec 32 := 0#32
  let v516 : BitVec 1 := Scalar.cmpi .ne v515 c0_i32_182
  let v517 : BitVec 1 := Scalar.andi v514 v516
  let v503 : BitVec 32 := Scalar.divsi v502 c32_i32_177
  let c1_i32_183 : BitVec 32 := 1#32
  let v518 : BitVec 32 := Scalar.subi v503 c1_i32_183
  let v519 : BitVec 32 := Scalar.select v517 v518 v503
  let c32_i32_184 : BitVec 32 := 32#32
  let v520 : BitVec 32 := Scalar.muli v519 c32_i32_184
  let c512_i32_185 : BitVec 32 := 512#32
  let v521 : BitVec 32 := Scalar.minsi v520 c512_i32_185
  let v522 : BitVec 32 := v521
  ![v522.toNat, 8192]
def k0_off3 (v14 : BitVec 32) (v17 : BitVec 32) (v20 : BitVec 32) (v23 : BitVec 32) (v26 : BitVec 32) (v29 : BitVec 32) (k0_t1 : Fin k0_t1_loop.trips) : (Fin 3 → Nat) × (Fin 3 → Nat) :=
  let c0_i32_66 : BitVec 32 := 0#32
  let c1_i32_68 : BitVec 32 := 1#32
  let arg32 : BitVec 32 := Scf.iv c0_i32_66 c1_i32_68 k0_t1
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v493 : BitVec 1 := Scalar.cmpi .sge arg32 v131
  let c5_i32_172 : BitVec 32 := 5#32
  let v489 : BitVec 1 := Scalar.cmpi .sge arg32 v111
  let c4_i32_171 : BitVec 32 := 4#32
  let v485 : BitVec 1 := Scalar.cmpi .sge arg32 v91
  let c3_i32_170 : BitVec 32 := 3#32
  let v481 : BitVec 1 := Scalar.cmpi .sge arg32 v71
  let c2_i32_169 : BitVec 32 := 2#32
  let v477 : BitVec 1 := Scalar.cmpi .sge arg32 v51
  let c1_i32_167 : BitVec 32 := 1#32
  let c0_i32_168 : BitVec 32 := 0#32
  let v478 : BitVec 32 := Scalar.select v477 c1_i32_167 c0_i32_168
  let v482 : BitVec 32 := Scalar.select v481 c2_i32_169 v478
  let v486 : BitVec 32 := Scalar.select v485 c3_i32_170 v482
  let v490 : BitVec 32 := Scalar.select v489 c4_i32_171 v486
  let v494 : BitVec 32 := Scalar.select v493 c5_i32_172 v490
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v480 : BitVec 32 := Scalar.select v477 v71 v51
  let v484 : BitVec 32 := Scalar.select v481 v91 v480
  let v488 : BitVec 32 := Scalar.select v485 v111 v484
  let v492 : BitVec 32 := Scalar.select v489 v131 v488
  let v496 : BitVec 32 := Scalar.select v493 v151 v492
  let c1_i32_173 : BitVec 32 := 1#32
  let v497 : BitVec 32 := Scalar.subi v496 c1_i32_173
  let v498 : BitVec 32 := Scalar.subi v497 arg32
  let c512_i32_187 : BitVec 32 := 512#32
  let v524 : BitVec 32 := Scalar.muli v498 c512_i32_187
  let v525 : BitVec 32 := v524
  let c0_i32_190 : BitVec 32 := 0#32
  let v479 : BitVec 32 := Scalar.select v477 v19 v16
  let v483 : BitVec 32 := Scalar.select v481 v22 v479
  let v487 : BitVec 32 := Scalar.select v485 v25 v483
  let v491 : BitVec 32 := Scalar.select v489 v28 v487
  let v495 : BitVec 32 := Scalar.select v493 v31 v491
  let c512_i32_174 : BitVec 32 := 512#32
  let v499 : BitVec 32 := Scalar.muli v498 c512_i32_174
  let v500 : BitVec 32 := Scalar.subi v495 v499
  let c32_i32_175 : BitVec 32 := 32#32
  let v501 : BitVec 32 := Scalar.addi v500 c32_i32_175
  let c1_i32_176 : BitVec 32 := 1#32
  let v502 : BitVec 32 := Scalar.subi v501 c1_i32_176
  let c0_i32_178 : BitVec 32 := 0#32
  let v504 : BitVec 1 := Scalar.cmpi .sgt v502 c0_i32_178
  let v505 : BitVec 32 := Scalar.extui v504
  let c0_i32_179 : BitVec 32 := 0#32
  let v506 : BitVec 1 := Scalar.cmpi .slt v502 c0_i32_179
  let v507 : BitVec 32 := Scalar.extui v506
  let v508 : BitVec 32 := Scalar.subi v505 v507
  let c32_i32_177 : BitVec 32 := 32#32
  let c0_i32_180 : BitVec 32 := 0#32
  let v509 : BitVec 1 := Scalar.cmpi .sgt c32_i32_177 c0_i32_180
  let v510 : BitVec 32 := Scalar.extui v509
  let c0_i32_181 : BitVec 32 := 0#32
  let v511 : BitVec 1 := Scalar.cmpi .slt c32_i32_177 c0_i32_181
  let v512 : BitVec 32 := Scalar.extui v511
  let v513 : BitVec 32 := Scalar.subi v510 v512
  let v514 : BitVec 1 := Scalar.cmpi .ne v508 v513
  let v515 : BitVec 32 := Scalar.remsi v502 c32_i32_177
  let c0_i32_182 : BitVec 32 := 0#32
  let v516 : BitVec 1 := Scalar.cmpi .ne v515 c0_i32_182
  let v517 : BitVec 1 := Scalar.andi v514 v516
  let v503 : BitVec 32 := Scalar.divsi v502 c32_i32_177
  let c1_i32_183 : BitVec 32 := 1#32
  let v518 : BitVec 32 := Scalar.subi v503 c1_i32_183
  let v519 : BitVec 32 := Scalar.select v517 v518 v503
  let c32_i32_184 : BitVec 32 := 32#32
  let v520 : BitVec 32 := Scalar.muli v519 c32_i32_184
  let c512_i32_185 : BitVec 32 := 512#32
  let v521 : BitVec 32 := Scalar.minsi v520 c512_i32_185
  let v522 : BitVec 32 := v521
  ⟨![v494.toNat, v525.toNat, 0], ![1, v522.toNat, 8192]⟩
def k0_sz2 (v14 : BitVec 32) (v17 : BitVec 32) (v20 : BitVec 32) (v23 : BitVec 32) (v26 : BitVec 32) (v29 : BitVec 32) (k0_t1 : Fin k0_t1_loop.trips) : Fin 2 → Nat :=
  let c0_i32_66 : BitVec 32 := 0#32
  let c1_i32_68 : BitVec 32 := 1#32
  let arg32 : BitVec 32 := Scf.iv c0_i32_66 c1_i32_68 k0_t1
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v493 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v489 : BitVec 1 := Scalar.cmpi .sge arg32 v111
  let v485 : BitVec 1 := Scalar.cmpi .sge arg32 v91
  let v481 : BitVec 1 := Scalar.cmpi .sge arg32 v71
  let v477 : BitVec 1 := Scalar.cmpi .sge arg32 v51
  let v479 : BitVec 32 := Scalar.select v477 v19 v16
  let v483 : BitVec 32 := Scalar.select v481 v22 v479
  let v487 : BitVec 32 := Scalar.select v485 v25 v483
  let v491 : BitVec 32 := Scalar.select v489 v28 v487
  let v495 : BitVec 32 := Scalar.select v493 v31 v491
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v480 : BitVec 32 := Scalar.select v477 v71 v51
  let v484 : BitVec 32 := Scalar.select v481 v91 v480
  let v488 : BitVec 32 := Scalar.select v485 v111 v484
  let v492 : BitVec 32 := Scalar.select v489 v131 v488
  let v496 : BitVec 32 := Scalar.select v493 v151 v492
  let c1_i32_173 : BitVec 32 := 1#32
  let v497 : BitVec 32 := Scalar.subi v496 c1_i32_173
  let v498 : BitVec 32 := Scalar.subi v497 arg32
  let c512_i32_174 : BitVec 32 := 512#32
  let v499 : BitVec 32 := Scalar.muli v498 c512_i32_174
  let v500 : BitVec 32 := Scalar.subi v495 v499
  let c32_i32_175 : BitVec 32 := 32#32
  let v501 : BitVec 32 := Scalar.addi v500 c32_i32_175
  let c1_i32_176 : BitVec 32 := 1#32
  let v502 : BitVec 32 := Scalar.subi v501 c1_i32_176
  let c0_i32_178 : BitVec 32 := 0#32
  let v504 : BitVec 1 := Scalar.cmpi .sgt v502 c0_i32_178
  let v505 : BitVec 32 := Scalar.extui v504
  let c0_i32_179 : BitVec 32 := 0#32
  let v506 : BitVec 1 := Scalar.cmpi .slt v502 c0_i32_179
  let v507 : BitVec 32 := Scalar.extui v506
  let v508 : BitVec 32 := Scalar.subi v505 v507
  let c32_i32_177 : BitVec 32 := 32#32
  let c0_i32_180 : BitVec 32 := 0#32
  let v509 : BitVec 1 := Scalar.cmpi .sgt c32_i32_177 c0_i32_180
  let v510 : BitVec 32 := Scalar.extui v509
  let c0_i32_181 : BitVec 32 := 0#32
  let v511 : BitVec 1 := Scalar.cmpi .slt c32_i32_177 c0_i32_181
  let v512 : BitVec 32 := Scalar.extui v511
  let v513 : BitVec 32 := Scalar.subi v510 v512
  let v514 : BitVec 1 := Scalar.cmpi .ne v508 v513
  let v515 : BitVec 32 := Scalar.remsi v502 c32_i32_177
  let c0_i32_182 : BitVec 32 := 0#32
  let v516 : BitVec 1 := Scalar.cmpi .ne v515 c0_i32_182
  let v517 : BitVec 1 := Scalar.andi v514 v516
  let v503 : BitVec 32 := Scalar.divsi v502 c32_i32_177
  let c1_i32_183 : BitVec 32 := 1#32
  let v518 : BitVec 32 := Scalar.subi v503 c1_i32_183
  let v519 : BitVec 32 := Scalar.select v517 v518 v503
  let c32_i32_184 : BitVec 32 := 32#32
  let v520 : BitVec 32 := Scalar.muli v519 c32_i32_184
  let c512_i32_185 : BitVec 32 := 512#32
  let v521 : BitVec 32 := Scalar.minsi v520 c512_i32_185
  let v522 : BitVec 32 := v521
  ![v522.toNat, 8192]
@[reducible] def k0_t2_loop (v14 : BitVec 32) (v17 : BitVec 32) (v20 : BitVec 32) (v23 : BitVec 32) (v26 : BitVec 32) (v29 : BitVec 32) : Scf.Loop 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_134 : BitVec 32 := 1#32
  ⟨c0_i32_131, v290, c1_i32_134⟩
def k0_mult3 (v14 : BitVec 32) (v17 : BitVec 32) (v20 : BitVec 32) (v23 : BitVec 32) (v26 : BitVec 32) (v29 : BitVec 32) (k0_t2 : Fin (k0_t2_loop v14 v17 v20 v23 v26 v29).trips) : BitVec 32 :=
  let c0_i32_131 : BitVec 32 := 0#32
  let c1_i32_134 : BitVec 32 := 1#32
  let arg32 : BitVec 32 := Scf.iv c0_i32_131 c1_i32_134 k0_t2
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v491 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  v519
def k0_mult4 (v14 : BitVec 32) (v17 : BitVec 32) (v20 : BitVec 32) (v23 : BitVec 32) (v26 : BitVec 32) (v29 : BitVec 32) (k0_t2 : Fin (k0_t2_loop v14 v17 v20 v23 v26 v29).trips) : BitVec 32 :=
  let c0_i32_131 : BitVec 32 := 0#32
  let c1_i32_134 : BitVec 32 := 1#32
  let arg32 : BitVec 32 := Scf.iv c0_i32_131 c1_i32_134 k0_t2
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v491 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_187 : BitVec 32 := 512#32
  let v522 : BitVec 32 := Scalar.muli v496 c512_i32_187
  v522
def k0_off4 (v14 : BitVec 32) (v17 : BitVec 32) (v20 : BitVec 32) (v23 : BitVec 32) (v26 : BitVec 32) (v29 : BitVec 32) (k0_t2 : Fin (k0_t2_loop v14 v17 v20 v23 v26 v29).trips) : Fin 1 → Nat :=
  let c0_i32_131 : BitVec 32 := 0#32
  let c1_i32_134 : BitVec 32 := 1#32
  let arg32 : BitVec 32 := Scf.iv c0_i32_131 c1_i32_134 k0_t2
  let c4_i32_186 : BitVec 32 := 4#32
  let v521 : BitVec 32 := Scalar.remsi arg32 c4_i32_186
  ![v521.toNat]
def k0_off5 (v14 : BitVec 32) (v17 : BitVec 32) (v20 : BitVec 32) (v23 : BitVec 32) (v26 : BitVec 32) (v29 : BitVec 32) (k0_t2 : Fin (k0_t2_loop v14 v17 v20 v23 v26 v29).trips) : (Fin 3 → Nat) × (Fin 3 → Nat) :=
  let c0_i32_131 : BitVec 32 := 0#32
  let c1_i32_134 : BitVec 32 := 1#32
  let arg32 : BitVec 32 := Scf.iv c0_i32_131 c1_i32_134 k0_t2
  let c4_i32_186 : BitVec 32 := 4#32
  let v521 : BitVec 32 := Scalar.remsi arg32 c4_i32_186
  let c0_i32_188 : BitVec 32 := 0#32
  let c0_i32_189 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v491 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  let v520 : BitVec 32 := v519
  ⟨![v521.toNat, 0, 0], ![1, v520.toNat, 8192]⟩

def k0_sz3 (v14 : BitVec 32) (v17 : BitVec 32) (v20 : BitVec 32) (v23 : BitVec 32) (v26 : BitVec 32) (v29 : BitVec 32) (k0_t2 : Fin (k0_t2_loop v14 v17 v20 v23 v26 v29).trips) : Fin 2 → Nat :=
  let c0_i32_131 : BitVec 32 := 0#32
  let c1_i32_134 : BitVec 32 := 1#32
  let arg32 : BitVec 32 := Scf.iv c0_i32_131 c1_i32_134 k0_t2
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v491 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  let v520 : BitVec 32 := v519
  ![v520.toNat, 8192]
def k0_off6 (v14 : BitVec 32) (v17 : BitVec 32) (v20 : BitVec 32) (v23 : BitVec 32) (v26 : BitVec 32) (v29 : BitVec 32) (k0_t2 : Fin (k0_t2_loop v14 v17 v20 v23 v26 v29).trips) : (Fin 3 → Nat) × (Fin 3 → Nat) :=
  let c0_i32_131 : BitVec 32 := 0#32
  let c1_i32_134 : BitVec 32 := 1#32
  let arg32 : BitVec 32 := Scf.iv c0_i32_131 c1_i32_134 k0_t2
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v491 : BitVec 1 := Scalar.cmpi .sge arg32 v131
  let c5_i32_172 : BitVec 32 := 5#32
  let v487 : BitVec 1 := Scalar.cmpi .sge arg32 v111
  let c4_i32_171 : BitVec 32 := 4#32
  let v483 : BitVec 1 := Scalar.cmpi .sge arg32 v91
  let c3_i32_170 : BitVec 32 := 3#32
  let v479 : BitVec 1 := Scalar.cmpi .sge arg32 v71
  let c2_i32_169 : BitVec 32 := 2#32
  let v475 : BitVec 1 := Scalar.cmpi .sge arg32 v51
  let c1_i32_167 : BitVec 32 := 1#32
  let c0_i32_168 : BitVec 32 := 0#32
  let v476 : BitVec 32 := Scalar.select v475 c1_i32_167 c0_i32_168
  let v480 : BitVec 32 := Scalar.select v479 c2_i32_169 v476
  let v484 : BitVec 32 := Scalar.select v483 c3_i32_170 v480
  let v488 : BitVec 32 := Scalar.select v487 c4_i32_171 v484
  let v492 : BitVec 32 := Scalar.select v491 c5_i32_172 v488
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_187 : BitVec 32 := 512#32
  let v522 : BitVec 32 := Scalar.muli v496 c512_i32_187
  let v523 : BitVec 32 := v522
  let c0_i32_190 : BitVec 32 := 0#32
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  let v520 : BitVec 32 := v519
  ⟨![v492.toNat, v523.toNat, 0], ![1, v520.toNat, 8192]⟩

def k0_sz4 (v14 : BitVec 32) (v17 : BitVec 32) (v20 : BitVec 32) (v23 : BitVec 32) (v26 : BitVec 32) (v29 : BitVec 32) (k0_t2 : Fin (k0_t2_loop v14 v17 v20 v23 v26 v29).trips) : Fin 2 → Nat :=
  let c0_i32_131 : BitVec 32 := 0#32
  let c1_i32_134 : BitVec 32 := 1#32
  let arg32 : BitVec 32 := Scf.iv c0_i32_131 c1_i32_134 k0_t2
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v491 : BitVec 1 := Scalar.cmpi .sge arg32 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  let v520 : BitVec 32 := v519
  ![v520.toNat, 8192]
def k0_off7 (v14 : BitVec 32) (v17 : BitVec 32) (v20 : BitVec 32) (v23 : BitVec 32) (v26 : BitVec 32) (v29 : BitVec 32) (k0_t2 : Fin (k0_t2_loop v14 v17 v20 v23 v26 v29).trips) : Fin 1 → Nat :=
  let c0_i32_131 : BitVec 32 := 0#32
  let c1_i32_134 : BitVec 32 := 1#32
  let arg32 : BitVec 32 := Scf.iv c0_i32_131 c1_i32_134 k0_t2
  let c1_i32_191 : BitVec 32 := 1#32
  let v530 : BitVec 32 := Scalar.subi arg32 c1_i32_191
  let c0_i32_192 : BitVec 32 := 0#32
  let v531 : BitVec 32 := Scalar.maxsi v530 c0_i32_192
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v548 : BitVec 1 := Scalar.cmpi .sge v531 v131
  let c5_i32_198 : BitVec 32 := 5#32
  let v544 : BitVec 1 := Scalar.cmpi .sge v531 v111
  let c4_i32_197 : BitVec 32 := 4#32
  let v540 : BitVec 1 := Scalar.cmpi .sge v531 v91
  let c3_i32_196 : BitVec 32 := 3#32
  let v536 : BitVec 1 := Scalar.cmpi .sge v531 v71
  let c2_i32_195 : BitVec 32 := 2#32
  let v532 : BitVec 1 := Scalar.cmpi .sge v531 v51
  let c1_i32_193 : BitVec 32 := 1#32
  let c0_i32_194 : BitVec 32 := 0#32
  let v533 : BitVec 32 := Scalar.select v532 c1_i32_193 c0_i32_194
  let v537 : BitVec 32 := Scalar.select v536 c2_i32_195 v533
  let v541 : BitVec 32 := Scalar.select v540 c3_i32_196 v537
  let v545 : BitVec 32 := Scalar.select v544 c4_i32_197 v541
  let v549 : BitVec 32 := Scalar.select v548 c5_i32_198 v545
  let v556 : Index := Scalar.indexCast v549
  ![v556.toNat]
def k0_mult5 (v14 : BitVec 32) (v17 : BitVec 32) (v20 : BitVec 32) (v23 : BitVec 32) (v26 : BitVec 32) (v29 : BitVec 32) (k0_t2 : Fin (k0_t2_loop v14 v17 v20 v23 v26 v29).trips) : BitVec 32 :=
  let c0_i32_131 : BitVec 32 := 0#32
  let c1_i32_134 : BitVec 32 := 1#32
  let arg32 : BitVec 32 := Scf.iv c0_i32_131 c1_i32_134 k0_t2
  let c1_i32_191 : BitVec 32 := 1#32
  let v530 : BitVec 32 := Scalar.subi arg32 c1_i32_191
  let c0_i32_192 : BitVec 32 := 0#32
  let v531 : BitVec 32 := Scalar.maxsi v530 c0_i32_192
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v548 : BitVec 1 := Scalar.cmpi .sge v531 v131
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_216 : BitVec 32 := 512#32
  let v576 : BitVec 32 := Scalar.muli v553 c512_i32_216
  let c384_i32 : BitVec 32 := 384#32
  let v577 : BitVec 32 := Scalar.addi v576 c384_i32
  v577
def k0_off8 (v14 : BitVec 32) (v17 : BitVec 32) (v20 : BitVec 32) (v23 : BitVec 32) (v26 : BitVec 32) (v29 : BitVec 32) (k0_t2 : Fin (k0_t2_loop v14 v17 v20 v23 v26 v29).trips) (c384_i32 : BitVec 32) : Fin 2 → Nat :=
  let c0_217 : Index := 0#32
  let c0_i32_131 : BitVec 32 := 0#32
  let c1_i32_134 : BitVec 32 := 1#32
  let arg32 : BitVec 32 := Scf.iv c0_i32_131 c1_i32_134 k0_t2
  let c1_i32_191 : BitVec 32 := 1#32
  let v530 : BitVec 32 := Scalar.subi arg32 c1_i32_191
  let c0_i32_192 : BitVec 32 := 0#32
  let v531 : BitVec 32 := Scalar.maxsi v530 c0_i32_192
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v548 : BitVec 1 := Scalar.cmpi .sge v531 v131
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_216 : BitVec 32 := 512#32
  let v576 : BitVec 32 := Scalar.muli v553 c512_i32_216
  let v577 : BitVec 32 := Scalar.addi v576 c384_i32
  let v578 : BitVec 32 := v577
  let v586 : Index := Scalar.indexCast v578
  ![0, v586.toNat]
def k0_mult6 (v14 : BitVec 32) (v17 : BitVec 32) (v20 : BitVec 32) (v23 : BitVec 32) (v26 : BitVec 32) (v29 : BitVec 32) (k0_t2 : Fin (k0_t2_loop v14 v17 v20 v23 v26 v29).trips) : BitVec 32 :=
  let c0_i32_131 : BitVec 32 := 0#32
  let c1_i32_134 : BitVec 32 := 1#32
  let arg32 : BitVec 32 := Scf.iv c0_i32_131 c1_i32_134 k0_t2
  let c1_i32_191 : BitVec 32 := 1#32
  let v530 : BitVec 32 := Scalar.subi arg32 c1_i32_191
  let c0_i32_192 : BitVec 32 := 0#32
  let v531 : BitVec 32 := Scalar.maxsi v530 c0_i32_192
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v548 : BitVec 1 := Scalar.cmpi .sge v531 v131
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_334 : BitVec 32 := 512#32
  let v886 : BitVec 32 := Scalar.muli v553 c512_i32_334
  let c256_i32 : BitVec 32 := 256#32
  let v887 : BitVec 32 := Scalar.addi v886 c256_i32
  v887
def k0_mult7 (v14 : BitVec 32) (v17 : BitVec 32) (v20 : BitVec 32) (v23 : BitVec 32) (v26 : BitVec 32) (v29 : BitVec 32) (k0_t2 : Fin (k0_t2_loop v14 v17 v20 v23 v26 v29).trips) : BitVec 32 :=
  let c0_i32_131 : BitVec 32 := 0#32
  let c1_i32_134 : BitVec 32 := 1#32
  let arg32 : BitVec 32 := Scf.iv c0_i32_131 c1_i32_134 k0_t2
  let c1_i32_191 : BitVec 32 := 1#32
  let v530 : BitVec 32 := Scalar.subi arg32 c1_i32_191
  let c0_i32_192 : BitVec 32 := 0#32
  let v531 : BitVec 32 := Scalar.maxsi v530 c0_i32_192
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v548 : BitVec 1 := Scalar.cmpi .sge v531 v131
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_470 : BitVec 32 := 512#32
  let v1196 : BitVec 32 := Scalar.muli v553 c512_i32_470
  let c128_i32_471 : BitVec 32 := 128#32
  let v1197 : BitVec 32 := Scalar.addi v1196 c128_i32_471
  v1197
def k0_mult8 (v14 : BitVec 32) (v17 : BitVec 32) (v20 : BitVec 32) (v23 : BitVec 32) (v26 : BitVec 32) (v29 : BitVec 32) (k0_t2 : Fin (k0_t2_loop v14 v17 v20 v23 v26 v29).trips) : BitVec 32 :=
  let c0_i32_131 : BitVec 32 := 0#32
  let c1_i32_134 : BitVec 32 := 1#32
  let arg32 : BitVec 32 := Scf.iv c0_i32_131 c1_i32_134 k0_t2
  let c1_i32_191 : BitVec 32 := 1#32
  let v530 : BitVec 32 := Scalar.subi arg32 c1_i32_191
  let c0_i32_192 : BitVec 32 := 0#32
  let v531 : BitVec 32 := Scalar.maxsi v530 c0_i32_192
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v548 : BitVec 1 := Scalar.cmpi .sge v531 v131
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_608 : BitVec 32 := 512#32
  let v1506 : BitVec 32 := Scalar.muli v553 c512_i32_608
  let c0_i32_609 : BitVec 32 := 0#32
  let v1507 : BitVec 32 := Scalar.addi v1506 c0_i32_609
  v1507
def k0_off9 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1814 : Index := Scalar.indexCast v474
  let c0_745 : Index := 0#32
  let c0_746 : Index := 0#32
  ![v1814.toNat, 0, 0]
def k0_off10 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1820 : Index := Scalar.indexCast v474
  let c0_751 : Index := 0#32
  let c6144 : Index := 6144#32
  ![v1820.toNat, 0, 6144]
def k0_off11 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1830 : Index := Scalar.indexCast v474
  let c0_754 : Index := 0#32
  let c6272 : Index := 6272#32
  ![v1830.toNat, 0, 6272]
def k0_off12 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1840 : Index := Scalar.indexCast v474
  let c0_757 : Index := 0#32
  let c6400 : Index := 6400#32
  ![v1840.toNat, 0, 6400]
def k0_off13 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1850 : Index := Scalar.indexCast v474
  let c0_760 : Index := 0#32
  let c6528 : Index := 6528#32
  ![v1850.toNat, 0, 6528]
def k0_off14 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1860 : Index := Scalar.indexCast v474
  let c0_763 : Index := 0#32
  let c6656 : Index := 6656#32
  ![v1860.toNat, 0, 6656]
def k0_off15 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1870 : Index := Scalar.indexCast v474
  let c0_765 : Index := 0#32
  let c6784 : Index := 6784#32
  ![v1870.toNat, 0, 6784]
def k0_off16 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1880 : Index := Scalar.indexCast v474
  let c0_767 : Index := 0#32
  let c6912 : Index := 6912#32
  ![v1880.toNat, 0, 6912]
def k0_off17 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1890 : Index := Scalar.indexCast v474
  let c0_769 : Index := 0#32
  let c7040 : Index := 7040#32
  ![v1890.toNat, 0, 7040]
def k0_off18 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1900 : Index := Scalar.indexCast v474
  let c0_771 : Index := 0#32
  let c7168 : Index := 7168#32
  ![v1900.toNat, 0, 7168]
def k0_off19 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1910 : Index := Scalar.indexCast v474
  let c0_773 : Index := 0#32
  let c7296 : Index := 7296#32
  ![v1910.toNat, 0, 7296]
def k0_off20 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1920 : Index := Scalar.indexCast v474
  let c0_775 : Index := 0#32
  let c7424 : Index := 7424#32
  ![v1920.toNat, 0, 7424]
def k0_off21 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1930 : Index := Scalar.indexCast v474
  let c0_777 : Index := 0#32
  let c7552 : Index := 7552#32
  ![v1930.toNat, 0, 7552]
def k0_off22 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1940 : Index := Scalar.indexCast v474
  let c0_779 : Index := 0#32
  let c7680 : Index := 7680#32
  ![v1940.toNat, 0, 7680]
def k0_off23 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1950 : Index := Scalar.indexCast v474
  let c0_781 : Index := 0#32
  let c7808 : Index := 7808#32
  ![v1950.toNat, 0, 7808]
def k0_off24 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1960 : Index := Scalar.indexCast v474
  let c0_783 : Index := 0#32
  let c7936 : Index := 7936#32
  ![v1960.toNat, 0, 7936]
def k0_off25 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1970 : Index := Scalar.indexCast v474
  let c0_785 : Index := 0#32
  let c8064 : Index := 8064#32
  ![v1970.toNat, 0, 8064]
def k0_off26 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1984 : Index := Scalar.indexCast v474
  let c0_789 : Index := 0#32
  let c1536_790 : Index := 1536#32
  ![v1984.toNat, 0, 1536]
def k0_off27 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v1991 : Index := Scalar.indexCast v474
  let c128_795 : Index := 128#32
  let c6144_796 : Index := 6144#32
  ![v1991.toNat, 128, 6144]
def k0_off28 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2001 : Index := Scalar.indexCast v474
  let c128_799 : Index := 128#32
  let c6272_800 : Index := 6272#32
  ![v2001.toNat, 128, 6272]
def k0_off29 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2011 : Index := Scalar.indexCast v474
  let c128_803 : Index := 128#32
  let c6400_804 : Index := 6400#32
  ![v2011.toNat, 128, 6400]
def k0_off30 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2021 : Index := Scalar.indexCast v474
  let c128_807 : Index := 128#32
  let c6528_808 : Index := 6528#32
  ![v2021.toNat, 128, 6528]
def k0_off31 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2031 : Index := Scalar.indexCast v474
  let c128_811 : Index := 128#32
  let c6656_812 : Index := 6656#32
  ![v2031.toNat, 128, 6656]
def k0_off32 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2041 : Index := Scalar.indexCast v474
  let c128_815 : Index := 128#32
  let c6784_816 : Index := 6784#32
  ![v2041.toNat, 128, 6784]
def k0_off33 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2051 : Index := Scalar.indexCast v474
  let c128_819 : Index := 128#32
  let c6912_820 : Index := 6912#32
  ![v2051.toNat, 128, 6912]
def k0_off34 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2061 : Index := Scalar.indexCast v474
  let c128_823 : Index := 128#32
  let c7040_824 : Index := 7040#32
  ![v2061.toNat, 128, 7040]
def k0_off35 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2071 : Index := Scalar.indexCast v474
  let c128_827 : Index := 128#32
  let c7168_828 : Index := 7168#32
  ![v2071.toNat, 128, 7168]
def k0_off36 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2081 : Index := Scalar.indexCast v474
  let c128_831 : Index := 128#32
  let c7296_832 : Index := 7296#32
  ![v2081.toNat, 128, 7296]
def k0_off37 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2091 : Index := Scalar.indexCast v474
  let c128_835 : Index := 128#32
  let c7424_836 : Index := 7424#32
  ![v2091.toNat, 128, 7424]
def k0_off38 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2101 : Index := Scalar.indexCast v474
  let c128_839 : Index := 128#32
  let c7552_840 : Index := 7552#32
  ![v2101.toNat, 128, 7552]
def k0_off39 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2111 : Index := Scalar.indexCast v474
  let c128_843 : Index := 128#32
  let c7680_844 : Index := 7680#32
  ![v2111.toNat, 128, 7680]
def k0_off40 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2121 : Index := Scalar.indexCast v474
  let c128_847 : Index := 128#32
  let c7808_848 : Index := 7808#32
  ![v2121.toNat, 128, 7808]
def k0_off41 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2131 : Index := Scalar.indexCast v474
  let c128_851 : Index := 128#32
  let c7936_852 : Index := 7936#32
  ![v2131.toNat, 128, 7936]
def k0_off42 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2141 : Index := Scalar.indexCast v474
  let c128_855 : Index := 128#32
  let c8064_856 : Index := 8064#32
  ![v2141.toNat, 128, 8064]
def k0_off43 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2155 : Index := Scalar.indexCast v474
  let c0_861 : Index := 0#32
  let c3072 : Index := 3072#32
  ![v2155.toNat, 0, 3072]
def k0_off44 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2162 : Index := Scalar.indexCast v474
  let c256_866 : Index := 256#32
  let c6144_867 : Index := 6144#32
  ![v2162.toNat, 256, 6144]
def k0_off45 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2172 : Index := Scalar.indexCast v474
  let c256_870 : Index := 256#32
  let c6272_871 : Index := 6272#32
  ![v2172.toNat, 256, 6272]
def k0_off46 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2182 : Index := Scalar.indexCast v474
  let c256_874 : Index := 256#32
  let c6400_875 : Index := 6400#32
  ![v2182.toNat, 256, 6400]
def k0_off47 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2192 : Index := Scalar.indexCast v474
  let c256_878 : Index := 256#32
  let c6528_879 : Index := 6528#32
  ![v2192.toNat, 256, 6528]
def k0_off48 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2202 : Index := Scalar.indexCast v474
  let c256_882 : Index := 256#32
  let c6656_883 : Index := 6656#32
  ![v2202.toNat, 256, 6656]
def k0_off49 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2212 : Index := Scalar.indexCast v474
  let c256_886 : Index := 256#32
  let c6784_887 : Index := 6784#32
  ![v2212.toNat, 256, 6784]
def k0_off50 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2222 : Index := Scalar.indexCast v474
  let c256_890 : Index := 256#32
  let c6912_891 : Index := 6912#32
  ![v2222.toNat, 256, 6912]
def k0_off51 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2232 : Index := Scalar.indexCast v474
  let c256_894 : Index := 256#32
  let c7040_895 : Index := 7040#32
  ![v2232.toNat, 256, 7040]
def k0_off52 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2242 : Index := Scalar.indexCast v474
  let c256_898 : Index := 256#32
  let c7168_899 : Index := 7168#32
  ![v2242.toNat, 256, 7168]
def k0_off53 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2252 : Index := Scalar.indexCast v474
  let c256_902 : Index := 256#32
  let c7296_903 : Index := 7296#32
  ![v2252.toNat, 256, 7296]
def k0_off54 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2262 : Index := Scalar.indexCast v474
  let c256_906 : Index := 256#32
  let c7424_907 : Index := 7424#32
  ![v2262.toNat, 256, 7424]
def k0_off55 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2272 : Index := Scalar.indexCast v474
  let c256_910 : Index := 256#32
  let c7552_911 : Index := 7552#32
  ![v2272.toNat, 256, 7552]
def k0_off56 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2282 : Index := Scalar.indexCast v474
  let c256_914 : Index := 256#32
  let c7680_915 : Index := 7680#32
  ![v2282.toNat, 256, 7680]
def k0_off57 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2292 : Index := Scalar.indexCast v474
  let c256_918 : Index := 256#32
  let c7808_919 : Index := 7808#32
  ![v2292.toNat, 256, 7808]
def k0_off58 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2302 : Index := Scalar.indexCast v474
  let c256_922 : Index := 256#32
  let c7936_923 : Index := 7936#32
  ![v2302.toNat, 256, 7936]
def k0_off59 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2312 : Index := Scalar.indexCast v474
  let c256_926 : Index := 256#32
  let c8064_927 : Index := 8064#32
  ![v2312.toNat, 256, 8064]
def k0_off60 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2326 : Index := Scalar.indexCast v474
  let c0_932 : Index := 0#32
  let c4608 : Index := 4608#32
  ![v2326.toNat, 0, 4608]
def k0_off61 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2333 : Index := Scalar.indexCast v474
  let c384_937 : Index := 384#32
  let c6144_938 : Index := 6144#32
  ![v2333.toNat, 384, 6144]
def k0_off62 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2343 : Index := Scalar.indexCast v474
  let c384_941 : Index := 384#32
  let c6272_942 : Index := 6272#32
  ![v2343.toNat, 384, 6272]
def k0_off63 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2353 : Index := Scalar.indexCast v474
  let c384_945 : Index := 384#32
  let c6400_946 : Index := 6400#32
  ![v2353.toNat, 384, 6400]
def k0_off64 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2363 : Index := Scalar.indexCast v474
  let c384_949 : Index := 384#32
  let c6528_950 : Index := 6528#32
  ![v2363.toNat, 384, 6528]
def k0_off65 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2373 : Index := Scalar.indexCast v474
  let c384_953 : Index := 384#32
  let c6656_954 : Index := 6656#32
  ![v2373.toNat, 384, 6656]
def k0_off66 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2383 : Index := Scalar.indexCast v474
  let c384_957 : Index := 384#32
  let c6784_958 : Index := 6784#32
  ![v2383.toNat, 384, 6784]
def k0_off67 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2393 : Index := Scalar.indexCast v474
  let c384_961 : Index := 384#32
  let c6912_962 : Index := 6912#32
  ![v2393.toNat, 384, 6912]
def k0_off68 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2403 : Index := Scalar.indexCast v474
  let c384_965 : Index := 384#32
  let c7040_966 : Index := 7040#32
  ![v2403.toNat, 384, 7040]
def k0_off69 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2413 : Index := Scalar.indexCast v474
  let c384_969 : Index := 384#32
  let c7168_970 : Index := 7168#32
  ![v2413.toNat, 384, 7168]
def k0_off70 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2423 : Index := Scalar.indexCast v474
  let c384_973 : Index := 384#32
  let c7296_974 : Index := 7296#32
  ![v2423.toNat, 384, 7296]
def k0_off71 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2433 : Index := Scalar.indexCast v474
  let c384_977 : Index := 384#32
  let c7424_978 : Index := 7424#32
  ![v2433.toNat, 384, 7424]
def k0_off72 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2443 : Index := Scalar.indexCast v474
  let c384_981 : Index := 384#32
  let c7552_982 : Index := 7552#32
  ![v2443.toNat, 384, 7552]
def k0_off73 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2453 : Index := Scalar.indexCast v474
  let c384_985 : Index := 384#32
  let c7680_986 : Index := 7680#32
  ![v2453.toNat, 384, 7680]
def k0_off74 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2463 : Index := Scalar.indexCast v474
  let c384_989 : Index := 384#32
  let c7808_990 : Index := 7808#32
  ![v2463.toNat, 384, 7808]
def k0_off75 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2473 : Index := Scalar.indexCast v474
  let c384_993 : Index := 384#32
  let c7936_994 : Index := 7936#32
  ![v2473.toNat, 384, 7936]
def k0_off76 (v14 : BitVec 32) (v17 : BitVec 32) (v20 : BitVec 32) (v23 : BitVec 32) (v26 : BitVec 32) (v29 : BitVec 32) (k0_t2 : Fin (k0_t2_loop v14 v17 v20 v23 v26 v29).trips) : Fin 3 → Nat :=
  let c0_i32_131 : BitVec 32 := 0#32
  let c1_i32_134 : BitVec 32 := 1#32
  let arg32 : BitVec 32 := Scf.iv c0_i32_131 c1_i32_134 k0_t2
  let c4_i32_166 : BitVec 32 := 4#32
  let v474 : BitVec 32 := Scalar.remsi arg32 c4_i32_166
  let v2483 : Index := Scalar.indexCast v474
  let c384_997 : Index := 384#32
  let c8064_998 : Index := 8064#32
  ![v2483.toNat, 384, 8064]
def k0_mult9 (v14 : BitVec 32) (v17 : BitVec 32) (v20 : BitVec 32) (v23 : BitVec 32) (v26 : BitVec 32) (v29 : BitVec 32) (k0_t2 : Fin (k0_t2_loop v14 v17 v20 v23 v26 v29).trips) : BitVec 32 :=
  let c0_i32_131 : BitVec 32 := 0#32
  let c1_i32_134 : BitVec 32 := 1#32
  let arg32 : BitVec 32 := Scf.iv c0_i32_131 c1_i32_134 k0_t2
  let c4_i32_1005 : BitVec 32 := 4#32
  let v2500 : BitVec 32 := Scalar.addi arg32 c4_i32_1005
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v2520 : BitVec 1 := Scalar.cmpi .sge v2500 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  v2548
def k0_cond2 (v14 : BitVec 32) (v17 : BitVec 32) (v20 : BitVec 32) (v23 : BitVec 32) (v26 : BitVec 32) (v29 : BitVec 32) (k0_t2 : Fin (k0_t2_loop v14 v17 v20 v23 v26 v29).trips) : BitVec 1 :=
  let c0_i32_131 : BitVec 32 := 0#32
  let c1_i32_134 : BitVec 32 := 1#32
  let arg32 : BitVec 32 := Scf.iv c0_i32_131 c1_i32_134 k0_t2
  let c4_i32_1005 : BitVec 32 := 4#32
  let v2500 : BitVec 32 := Scalar.addi arg32 c4_i32_1005
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v2501 : BitVec 1 := Scalar.cmpi .slt v2500 v151
  let v2502 : BitVec 32 := Scalar.extui v2501
  let c0_i32_1006 : BitVec 32 := 0#32
  let v2503 : BitVec 1 := Scalar.cmpi .ne v2502 c0_i32_1006
  v2503

def k0_mult10 (v14 : BitVec 32) (v17 : BitVec 32) (v20 : BitVec 32) (v23 : BitVec 32) (v26 : BitVec 32) (v29 : BitVec 32) (k0_t2 : Fin (k0_t2_loop v14 v17 v20 v23 v26 v29).trips) : BitVec 32 :=
  let c0_i32_131 : BitVec 32 := 0#32
  let c1_i32_134 : BitVec 32 := 1#32
  let arg32 : BitVec 32 := Scf.iv c0_i32_131 c1_i32_134 k0_t2
  let c4_i32_1005 : BitVec 32 := 4#32
  let v2500 : BitVec 32 := Scalar.addi arg32 c4_i32_1005
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v2520 : BitVec 1 := Scalar.cmpi .sge v2500 v131
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1028 : BitVec 32 := 512#32
  let v2551 : BitVec 32 := Scalar.muli v2525 c512_i32_1028
  v2551
def k0_off77 (v14 : BitVec 32) (v17 : BitVec 32) (v20 : BitVec 32) (v23 : BitVec 32) (v26 : BitVec 32) (v29 : BitVec 32) (k0_t2 : Fin (k0_t2_loop v14 v17 v20 v23 v26 v29).trips) : Fin 1 → Nat :=
  let c0_i32_131 : BitVec 32 := 0#32
  let c1_i32_134 : BitVec 32 := 1#32
  let arg32 : BitVec 32 := Scf.iv c0_i32_131 c1_i32_134 k0_t2
  let c4_i32_1005 : BitVec 32 := 4#32
  let v2500 : BitVec 32 := Scalar.addi arg32 c4_i32_1005
  let c4_i32_1027 : BitVec 32 := 4#32
  let v2550 : BitVec 32 := Scalar.remsi v2500 c4_i32_1027
  ![v2550.toNat]
def k0_off78 (v14 : BitVec 32) (v17 : BitVec 32) (v20 : BitVec 32) (v23 : BitVec 32) (v26 : BitVec 32) (v29 : BitVec 32) (k0_t2 : Fin (k0_t2_loop v14 v17 v20 v23 v26 v29).trips) : (Fin 3 → Nat) × (Fin 3 → Nat) :=
  let c0_i32_131 : BitVec 32 := 0#32
  let c1_i32_134 : BitVec 32 := 1#32
  let arg32 : BitVec 32 := Scf.iv c0_i32_131 c1_i32_134 k0_t2
  let c4_i32_1005 : BitVec 32 := 4#32
  let v2500 : BitVec 32 := Scalar.addi arg32 c4_i32_1005
  let c4_i32_1027 : BitVec 32 := 4#32
  let v2550 : BitVec 32 := Scalar.remsi v2500 c4_i32_1027
  let c0_i32_1029 : BitVec 32 := 0#32
  let c0_i32_1030 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v2520 : BitVec 1 := Scalar.cmpi .sge v2500 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  let v2549 : BitVec 32 := v2548
  ⟨![v2550.toNat, 0, 0], ![1, v2549.toNat, 8192]⟩
def k0_sz5 (v14 : BitVec 32) (v17 : BitVec 32) (v20 : BitVec 32) (v23 : BitVec 32) (v26 : BitVec 32) (v29 : BitVec 32) (k0_t2 : Fin (k0_t2_loop v14 v17 v20 v23 v26 v29).trips) : Fin 2 → Nat :=
  let c0_i32_131 : BitVec 32 := 0#32
  let c1_i32_134 : BitVec 32 := 1#32
  let arg32 : BitVec 32 := Scf.iv c0_i32_131 c1_i32_134 k0_t2
  let c4_i32_1005 : BitVec 32 := 4#32
  let v2500 : BitVec 32 := Scalar.addi arg32 c4_i32_1005
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v2520 : BitVec 1 := Scalar.cmpi .sge v2500 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  let v2549 : BitVec 32 := v2548
  ![v2549.toNat, 8192]
def k0_off79 (v14 : BitVec 32) (v17 : BitVec 32) (v20 : BitVec 32) (v23 : BitVec 32) (v26 : BitVec 32) (v29 : BitVec 32) (k0_t2 : Fin (k0_t2_loop v14 v17 v20 v23 v26 v29).trips) : (Fin 3 → Nat) × (Fin 3 → Nat) :=
  let c0_i32_131 : BitVec 32 := 0#32
  let c1_i32_134 : BitVec 32 := 1#32
  let arg32 : BitVec 32 := Scf.iv c0_i32_131 c1_i32_134 k0_t2
  let c4_i32_1005 : BitVec 32 := 4#32
  let v2500 : BitVec 32 := Scalar.addi arg32 c4_i32_1005
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v2520 : BitVec 1 := Scalar.cmpi .sge v2500 v131
  let c5_i32_1013 : BitVec 32 := 5#32
  let v2516 : BitVec 1 := Scalar.cmpi .sge v2500 v111
  let c4_i32_1012 : BitVec 32 := 4#32
  let v2512 : BitVec 1 := Scalar.cmpi .sge v2500 v91
  let c3_i32_1011 : BitVec 32 := 3#32
  let v2508 : BitVec 1 := Scalar.cmpi .sge v2500 v71
  let c2_i32_1010 : BitVec 32 := 2#32
  let v2504 : BitVec 1 := Scalar.cmpi .sge v2500 v51
  let c1_i32_1008 : BitVec 32 := 1#32
  let c0_i32_1009 : BitVec 32 := 0#32
  let v2505 : BitVec 32 := Scalar.select v2504 c1_i32_1008 c0_i32_1009
  let v2509 : BitVec 32 := Scalar.select v2508 c2_i32_1010 v2505
  let v2513 : BitVec 32 := Scalar.select v2512 c3_i32_1011 v2509
  let v2517 : BitVec 32 := Scalar.select v2516 c4_i32_1012 v2513
  let v2521 : BitVec 32 := Scalar.select v2520 c5_i32_1013 v2517
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1028 : BitVec 32 := 512#32
  let v2551 : BitVec 32 := Scalar.muli v2525 c512_i32_1028
  let v2552 : BitVec 32 := v2551
  let c0_i32_1031 : BitVec 32 := 0#32
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  let v2549 : BitVec 32 := v2548
  ⟨![v2521.toNat, v2552.toNat, 0], ![1, v2549.toNat, 8192]⟩
def k0_sz6 (v14 : BitVec 32) (v17 : BitVec 32) (v20 : BitVec 32) (v23 : BitVec 32) (v26 : BitVec 32) (v29 : BitVec 32) (k0_t2 : Fin (k0_t2_loop v14 v17 v20 v23 v26 v29).trips) : Fin 2 → Nat :=
  let c0_i32_131 : BitVec 32 := 0#32
  let c1_i32_134 : BitVec 32 := 1#32
  let arg32 : BitVec 32 := Scf.iv c0_i32_131 c1_i32_134 k0_t2
  let c4_i32_1005 : BitVec 32 := 4#32
  let v2500 : BitVec 32 := Scalar.addi arg32 c4_i32_1005
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let v2520 : BitVec 1 := Scalar.cmpi .sge v2500 v131
  let c6144_i32_11 : BitVec 32 := 6144#32
  let c0_i32_10 : BitVec 32 := 0#32
  let v30 : BitVec 32 := Scalar.maxsi c0_i32_10 v29
  let v31 : BitVec 32 := Scalar.minsi c6144_i32_11 v30
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  let v2549 : BitVec 32 := v2548
  ![v2549.toNat, 8192]
@[reducible] def k0_t3_loop (v14 : BitVec 32) (v17 : BitVec 32) (v20 : BitVec 32) (v23 : BitVec 32) (v26 : BitVec 32) (v29 : BitVec 32) : Scf.Loop 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let v287 : BitVec 32 := Scalar.addi c0_i32_131 v286
  let c1_i32_135 : BitVec 32 := 1#32
  ⟨v290, v287, c1_i32_135⟩
def k0_mult11 (v14 : BitVec 32) (v17 : BitVec 32) (v20 : BitVec 32) (v23 : BitVec 32) (v26 : BitVec 32) (v29 : BitVec 32) (k0_t3 : Fin (k0_t3_loop v14 v17 v20 v23 v26 v29).trips) : BitVec 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let v491 : BitVec 1 := Scalar.cmpi .sge arg32 v131
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  v519
def k0_mult12 (v14 : BitVec 32) (v17 : BitVec 32) (v20 : BitVec 32) (v23 : BitVec 32) (v26 : BitVec 32) (v29 : BitVec 32) (k0_t3 : Fin (k0_t3_loop v14 v17 v20 v23 v26 v29).trips) : BitVec 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let v491 : BitVec 1 := Scalar.cmpi .sge arg32 v131
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_187 : BitVec 32 := 512#32
  let v522 : BitVec 32 := Scalar.muli v496 c512_i32_187
  v522
def k0_off80 (v14 : BitVec 32) (v17 : BitVec 32) (v20 : BitVec 32) (v23 : BitVec 32) (v26 : BitVec 32) (v29 : BitVec 32) (k0_t3 : Fin (k0_t3_loop v14 v17 v20 v23 v26 v29).trips) : Fin 1 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_186 : BitVec 32 := 4#32
  let v521 : BitVec 32 := Scalar.remsi arg32 c4_i32_186
  ![v521.toNat]
def k0_off81 (v14 : BitVec 32) (v17 : BitVec 32) (v20 : BitVec 32) (v23 : BitVec 32) (v26 : BitVec 32) (v29 : BitVec 32) (k0_t3 : Fin (k0_t3_loop v14 v17 v20 v23 v26 v29).trips) : (Fin 3 → Nat) × (Fin 3 → Nat) :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_186 : BitVec 32 := 4#32
  let v521 : BitVec 32 := Scalar.remsi arg32 c4_i32_186
  let c0_i32_188 : BitVec 32 := 0#32
  let c0_i32_189 : BitVec 32 := 0#32
  let v491 : BitVec 1 := Scalar.cmpi .sge arg32 v131
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  let v520 : BitVec 32 := v519
  ⟨![v521.toNat, 0, 0], ![1, v520.toNat, 8192]⟩

def k0_sz7 (v14 : BitVec 32) (v17 : BitVec 32) (v20 : BitVec 32) (v23 : BitVec 32) (v26 : BitVec 32) (v29 : BitVec 32) (k0_t3 : Fin (k0_t3_loop v14 v17 v20 v23 v26 v29).trips) : Fin 2 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let v491 : BitVec 1 := Scalar.cmpi .sge arg32 v131
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  let v520 : BitVec 32 := v519
  ![v520.toNat, 8192]
def k0_off82 (v14 : BitVec 32) (v17 : BitVec 32) (v20 : BitVec 32) (v23 : BitVec 32) (v26 : BitVec 32) (v29 : BitVec 32) (k0_t3 : Fin (k0_t3_loop v14 v17 v20 v23 v26 v29).trips) : (Fin 3 → Nat) × (Fin 3 → Nat) :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let v491 : BitVec 1 := Scalar.cmpi .sge arg32 v131
  let c5_i32_172 : BitVec 32 := 5#32
  let v487 : BitVec 1 := Scalar.cmpi .sge arg32 v111
  let c4_i32_171 : BitVec 32 := 4#32
  let v483 : BitVec 1 := Scalar.cmpi .sge arg32 v91
  let c3_i32_170 : BitVec 32 := 3#32
  let v479 : BitVec 1 := Scalar.cmpi .sge arg32 v71
  let c2_i32_169 : BitVec 32 := 2#32
  let v475 : BitVec 1 := Scalar.cmpi .sge arg32 v51
  let c1_i32_167 : BitVec 32 := 1#32
  let c0_i32_168 : BitVec 32 := 0#32
  let v476 : BitVec 32 := Scalar.select v475 c1_i32_167 c0_i32_168
  let v480 : BitVec 32 := Scalar.select v479 c2_i32_169 v476
  let v484 : BitVec 32 := Scalar.select v483 c3_i32_170 v480
  let v488 : BitVec 32 := Scalar.select v487 c4_i32_171 v484
  let v492 : BitVec 32 := Scalar.select v491 c5_i32_172 v488
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_187 : BitVec 32 := 512#32
  let v522 : BitVec 32 := Scalar.muli v496 c512_i32_187
  let v523 : BitVec 32 := v522
  let c0_i32_190 : BitVec 32 := 0#32
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  let v520 : BitVec 32 := v519
  ⟨![v492.toNat, v523.toNat, 0], ![1, v520.toNat, 8192]⟩

def k0_sz8 (v14 : BitVec 32) (v17 : BitVec 32) (v20 : BitVec 32) (v23 : BitVec 32) (v26 : BitVec 32) (v29 : BitVec 32) (k0_t3 : Fin (k0_t3_loop v14 v17 v20 v23 v26 v29).trips) : Fin 2 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let v491 : BitVec 1 := Scalar.cmpi .sge arg32 v131
  let v487 : BitVec 1 := Scalar.cmpi .sge arg32 v111
  let v483 : BitVec 1 := Scalar.cmpi .sge arg32 v91
  let v479 : BitVec 1 := Scalar.cmpi .sge arg32 v71
  let v475 : BitVec 1 := Scalar.cmpi .sge arg32 v51
  let v477 : BitVec 32 := Scalar.select v475 v19 v16
  let v481 : BitVec 32 := Scalar.select v479 v22 v477
  let v485 : BitVec 32 := Scalar.select v483 v25 v481
  let v489 : BitVec 32 := Scalar.select v487 v28 v485
  let v493 : BitVec 32 := Scalar.select v491 v31 v489
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 arg32
  let c512_i32_174 : BitVec 32 := 512#32
  let v497 : BitVec 32 := Scalar.muli v496 c512_i32_174
  let v498 : BitVec 32 := Scalar.subi v493 v497
  let c32_i32_175 : BitVec 32 := 32#32
  let v499 : BitVec 32 := Scalar.addi v498 c32_i32_175
  let c1_i32_176 : BitVec 32 := 1#32
  let v500 : BitVec 32 := Scalar.subi v499 c1_i32_176
  let c0_i32_178 : BitVec 32 := 0#32
  let v502 : BitVec 1 := Scalar.cmpi .sgt v500 c0_i32_178
  let v503 : BitVec 32 := Scalar.extui v502
  let c0_i32_179 : BitVec 32 := 0#32
  let v504 : BitVec 1 := Scalar.cmpi .slt v500 c0_i32_179
  let v505 : BitVec 32 := Scalar.extui v504
  let v506 : BitVec 32 := Scalar.subi v503 v505
  let c32_i32_177 : BitVec 32 := 32#32
  let c0_i32_180 : BitVec 32 := 0#32
  let v507 : BitVec 1 := Scalar.cmpi .sgt c32_i32_177 c0_i32_180
  let v508 : BitVec 32 := Scalar.extui v507
  let c0_i32_181 : BitVec 32 := 0#32
  let v509 : BitVec 1 := Scalar.cmpi .slt c32_i32_177 c0_i32_181
  let v510 : BitVec 32 := Scalar.extui v509
  let v511 : BitVec 32 := Scalar.subi v508 v510
  let v512 : BitVec 1 := Scalar.cmpi .ne v506 v511
  let v513 : BitVec 32 := Scalar.remsi v500 c32_i32_177
  let c0_i32_182 : BitVec 32 := 0#32
  let v514 : BitVec 1 := Scalar.cmpi .ne v513 c0_i32_182
  let v515 : BitVec 1 := Scalar.andi v512 v514
  let v501 : BitVec 32 := Scalar.divsi v500 c32_i32_177
  let c1_i32_183 : BitVec 32 := 1#32
  let v516 : BitVec 32 := Scalar.subi v501 c1_i32_183
  let v517 : BitVec 32 := Scalar.select v515 v516 v501
  let c32_i32_184 : BitVec 32 := 32#32
  let v518 : BitVec 32 := Scalar.muli v517 c32_i32_184
  let c512_i32_185 : BitVec 32 := 512#32
  let v519 : BitVec 32 := Scalar.minsi v518 c512_i32_185
  let v520 : BitVec 32 := v519
  ![v520.toNat, 8192]
def k0_off83 (v14 : BitVec 32) (v17 : BitVec 32) (v20 : BitVec 32) (v23 : BitVec 32) (v26 : BitVec 32) (v29 : BitVec 32) (k0_t3 : Fin (k0_t3_loop v14 v17 v20 v23 v26 v29).trips) : Fin 1 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c1_i32_191 : BitVec 32 := 1#32
  let v530 : BitVec 32 := Scalar.subi arg32 c1_i32_191
  let c0_i32_192 : BitVec 32 := 0#32
  let v531 : BitVec 32 := Scalar.maxsi v530 c0_i32_192
  let v548 : BitVec 1 := Scalar.cmpi .sge v531 v131
  let c5_i32_198 : BitVec 32 := 5#32
  let v544 : BitVec 1 := Scalar.cmpi .sge v531 v111
  let c4_i32_197 : BitVec 32 := 4#32
  let v540 : BitVec 1 := Scalar.cmpi .sge v531 v91
  let c3_i32_196 : BitVec 32 := 3#32
  let v536 : BitVec 1 := Scalar.cmpi .sge v531 v71
  let c2_i32_195 : BitVec 32 := 2#32
  let v532 : BitVec 1 := Scalar.cmpi .sge v531 v51
  let c1_i32_193 : BitVec 32 := 1#32
  let c0_i32_194 : BitVec 32 := 0#32
  let v533 : BitVec 32 := Scalar.select v532 c1_i32_193 c0_i32_194
  let v537 : BitVec 32 := Scalar.select v536 c2_i32_195 v533
  let v541 : BitVec 32 := Scalar.select v540 c3_i32_196 v537
  let v545 : BitVec 32 := Scalar.select v544 c4_i32_197 v541
  let v549 : BitVec 32 := Scalar.select v548 c5_i32_198 v545
  let v556 : Index := Scalar.indexCast v549
  ![v556.toNat]
def k0_mult13 (v14 : BitVec 32) (v17 : BitVec 32) (v20 : BitVec 32) (v23 : BitVec 32) (v26 : BitVec 32) (v29 : BitVec 32) (k0_t3 : Fin (k0_t3_loop v14 v17 v20 v23 v26 v29).trips) : BitVec 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c1_i32_191 : BitVec 32 := 1#32
  let v530 : BitVec 32 := Scalar.subi arg32 c1_i32_191
  let c0_i32_192 : BitVec 32 := 0#32
  let v531 : BitVec 32 := Scalar.maxsi v530 c0_i32_192
  let v548 : BitVec 1 := Scalar.cmpi .sge v531 v131
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_216 : BitVec 32 := 512#32
  let v576 : BitVec 32 := Scalar.muli v553 c512_i32_216
  let c384_i32 : BitVec 32 := 384#32
  let v577 : BitVec 32 := Scalar.addi v576 c384_i32
  v577
def k0_off84 (v14 : BitVec 32) (v17 : BitVec 32) (v20 : BitVec 32) (v23 : BitVec 32) (v26 : BitVec 32) (v29 : BitVec 32) (k0_t3 : Fin (k0_t3_loop v14 v17 v20 v23 v26 v29).trips) (c384_i32 : BitVec 32) : Fin 2 → Nat :=
  let c0_217 : Index := 0#32
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c1_i32_191 : BitVec 32 := 1#32
  let v530 : BitVec 32 := Scalar.subi arg32 c1_i32_191
  let c0_i32_192 : BitVec 32 := 0#32
  let v531 : BitVec 32 := Scalar.maxsi v530 c0_i32_192
  let v548 : BitVec 1 := Scalar.cmpi .sge v531 v131
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_216 : BitVec 32 := 512#32
  let v576 : BitVec 32 := Scalar.muli v553 c512_i32_216
  let v577 : BitVec 32 := Scalar.addi v576 c384_i32
  let v578 : BitVec 32 := v577
  let v586 : Index := Scalar.indexCast v578
  ![0, v586.toNat]
def k0_mult14 (v14 : BitVec 32) (v17 : BitVec 32) (v20 : BitVec 32) (v23 : BitVec 32) (v26 : BitVec 32) (v29 : BitVec 32) (k0_t3 : Fin (k0_t3_loop v14 v17 v20 v23 v26 v29).trips) : BitVec 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c1_i32_191 : BitVec 32 := 1#32
  let v530 : BitVec 32 := Scalar.subi arg32 c1_i32_191
  let c0_i32_192 : BitVec 32 := 0#32
  let v531 : BitVec 32 := Scalar.maxsi v530 c0_i32_192
  let v548 : BitVec 1 := Scalar.cmpi .sge v531 v131
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_334 : BitVec 32 := 512#32
  let v886 : BitVec 32 := Scalar.muli v553 c512_i32_334
  let c256_i32 : BitVec 32 := 256#32
  let v887 : BitVec 32 := Scalar.addi v886 c256_i32
  v887
def k0_mult15 (v14 : BitVec 32) (v17 : BitVec 32) (v20 : BitVec 32) (v23 : BitVec 32) (v26 : BitVec 32) (v29 : BitVec 32) (k0_t3 : Fin (k0_t3_loop v14 v17 v20 v23 v26 v29).trips) : BitVec 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c1_i32_191 : BitVec 32 := 1#32
  let v530 : BitVec 32 := Scalar.subi arg32 c1_i32_191
  let c0_i32_192 : BitVec 32 := 0#32
  let v531 : BitVec 32 := Scalar.maxsi v530 c0_i32_192
  let v548 : BitVec 1 := Scalar.cmpi .sge v531 v131
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_470 : BitVec 32 := 512#32
  let v1196 : BitVec 32 := Scalar.muli v553 c512_i32_470
  let c128_i32_471 : BitVec 32 := 128#32
  let v1197 : BitVec 32 := Scalar.addi v1196 c128_i32_471
  v1197
def k0_mult16 (v14 : BitVec 32) (v17 : BitVec 32) (v20 : BitVec 32) (v23 : BitVec 32) (v26 : BitVec 32) (v29 : BitVec 32) (k0_t3 : Fin (k0_t3_loop v14 v17 v20 v23 v26 v29).trips) : BitVec 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c1_i32_191 : BitVec 32 := 1#32
  let v530 : BitVec 32 := Scalar.subi arg32 c1_i32_191
  let c0_i32_192 : BitVec 32 := 0#32
  let v531 : BitVec 32 := Scalar.maxsi v530 c0_i32_192
  let v548 : BitVec 1 := Scalar.cmpi .sge v531 v131
  let v544 : BitVec 1 := Scalar.cmpi .sge v531 v111
  let v540 : BitVec 1 := Scalar.cmpi .sge v531 v91
  let v536 : BitVec 1 := Scalar.cmpi .sge v531 v71
  let v532 : BitVec 1 := Scalar.cmpi .sge v531 v51
  let v535 : BitVec 32 := Scalar.select v532 v71 v51
  let v539 : BitVec 32 := Scalar.select v536 v91 v535
  let v543 : BitVec 32 := Scalar.select v540 v111 v539
  let v547 : BitVec 32 := Scalar.select v544 v131 v543
  let v551 : BitVec 32 := Scalar.select v548 v151 v547
  let c1_i32_199 : BitVec 32 := 1#32
  let v552 : BitVec 32 := Scalar.subi v551 c1_i32_199
  let v553 : BitVec 32 := Scalar.subi v552 v531
  let c512_i32_608 : BitVec 32 := 512#32
  let v1506 : BitVec 32 := Scalar.muli v553 c512_i32_608
  let c0_i32_609 : BitVec 32 := 0#32
  let v1507 : BitVec 32 := Scalar.addi v1506 c0_i32_609
  v1507
def k0_off85 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1814 : Index := Scalar.indexCast v474
  let c0_745 : Index := 0#32
  let c0_746 : Index := 0#32
  ![v1814.toNat, 0, 0]
def k0_off86 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1820 : Index := Scalar.indexCast v474
  let c0_751 : Index := 0#32
  let c6144 : Index := 6144#32
  ![v1820.toNat, 0, 6144]
def k0_off87 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1830 : Index := Scalar.indexCast v474
  let c0_754 : Index := 0#32
  let c6272 : Index := 6272#32
  ![v1830.toNat, 0, 6272]
def k0_off88 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1840 : Index := Scalar.indexCast v474
  let c0_757 : Index := 0#32
  let c6400 : Index := 6400#32
  ![v1840.toNat, 0, 6400]
def k0_off89 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1850 : Index := Scalar.indexCast v474
  let c0_760 : Index := 0#32
  let c6528 : Index := 6528#32
  ![v1850.toNat, 0, 6528]
def k0_off90 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1860 : Index := Scalar.indexCast v474
  let c0_763 : Index := 0#32
  let c6656 : Index := 6656#32
  ![v1860.toNat, 0, 6656]
def k0_off91 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1870 : Index := Scalar.indexCast v474
  let c0_765 : Index := 0#32
  let c6784 : Index := 6784#32
  ![v1870.toNat, 0, 6784]
def k0_off92 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1880 : Index := Scalar.indexCast v474
  let c0_767 : Index := 0#32
  let c6912 : Index := 6912#32
  ![v1880.toNat, 0, 6912]
def k0_off93 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1890 : Index := Scalar.indexCast v474
  let c0_769 : Index := 0#32
  let c7040 : Index := 7040#32
  ![v1890.toNat, 0, 7040]
def k0_off94 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1900 : Index := Scalar.indexCast v474
  let c0_771 : Index := 0#32
  let c7168 : Index := 7168#32
  ![v1900.toNat, 0, 7168]
def k0_off95 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1910 : Index := Scalar.indexCast v474
  let c0_773 : Index := 0#32
  let c7296 : Index := 7296#32
  ![v1910.toNat, 0, 7296]
def k0_off96 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1920 : Index := Scalar.indexCast v474
  let c0_775 : Index := 0#32
  let c7424 : Index := 7424#32
  ![v1920.toNat, 0, 7424]
def k0_off97 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1930 : Index := Scalar.indexCast v474
  let c0_777 : Index := 0#32
  let c7552 : Index := 7552#32
  ![v1930.toNat, 0, 7552]
def k0_off98 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1940 : Index := Scalar.indexCast v474
  let c0_779 : Index := 0#32
  let c7680 : Index := 7680#32
  ![v1940.toNat, 0, 7680]
def k0_off99 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1950 : Index := Scalar.indexCast v474
  let c0_781 : Index := 0#32
  let c7808 : Index := 7808#32
  ![v1950.toNat, 0, 7808]
def k0_off100 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1960 : Index := Scalar.indexCast v474
  let c0_783 : Index := 0#32
  let c7936 : Index := 7936#32
  ![v1960.toNat, 0, 7936]
def k0_off101 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1970 : Index := Scalar.indexCast v474
  let c0_785 : Index := 0#32
  let c8064 : Index := 8064#32
  ![v1970.toNat, 0, 8064]
def k0_off102 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1984 : Index := Scalar.indexCast v474
  let c0_789 : Index := 0#32
  let c1536_790 : Index := 1536#32
  ![v1984.toNat, 0, 1536]
def k0_off103 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v1991 : Index := Scalar.indexCast v474
  let c128_795 : Index := 128#32
  let c6144_796 : Index := 6144#32
  ![v1991.toNat, 128, 6144]
def k0_off104 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2001 : Index := Scalar.indexCast v474
  let c128_799 : Index := 128#32
  let c6272_800 : Index := 6272#32
  ![v2001.toNat, 128, 6272]
def k0_off105 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2011 : Index := Scalar.indexCast v474
  let c128_803 : Index := 128#32
  let c6400_804 : Index := 6400#32
  ![v2011.toNat, 128, 6400]
def k0_off106 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2021 : Index := Scalar.indexCast v474
  let c128_807 : Index := 128#32
  let c6528_808 : Index := 6528#32
  ![v2021.toNat, 128, 6528]
def k0_off107 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2031 : Index := Scalar.indexCast v474
  let c128_811 : Index := 128#32
  let c6656_812 : Index := 6656#32
  ![v2031.toNat, 128, 6656]
def k0_off108 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2041 : Index := Scalar.indexCast v474
  let c128_815 : Index := 128#32
  let c6784_816 : Index := 6784#32
  ![v2041.toNat, 128, 6784]
def k0_off109 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2051 : Index := Scalar.indexCast v474
  let c128_819 : Index := 128#32
  let c6912_820 : Index := 6912#32
  ![v2051.toNat, 128, 6912]
def k0_off110 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2061 : Index := Scalar.indexCast v474
  let c128_823 : Index := 128#32
  let c7040_824 : Index := 7040#32
  ![v2061.toNat, 128, 7040]
def k0_off111 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2071 : Index := Scalar.indexCast v474
  let c128_827 : Index := 128#32
  let c7168_828 : Index := 7168#32
  ![v2071.toNat, 128, 7168]
def k0_off112 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2081 : Index := Scalar.indexCast v474
  let c128_831 : Index := 128#32
  let c7296_832 : Index := 7296#32
  ![v2081.toNat, 128, 7296]
def k0_off113 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2091 : Index := Scalar.indexCast v474
  let c128_835 : Index := 128#32
  let c7424_836 : Index := 7424#32
  ![v2091.toNat, 128, 7424]
def k0_off114 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2101 : Index := Scalar.indexCast v474
  let c128_839 : Index := 128#32
  let c7552_840 : Index := 7552#32
  ![v2101.toNat, 128, 7552]
def k0_off115 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2111 : Index := Scalar.indexCast v474
  let c128_843 : Index := 128#32
  let c7680_844 : Index := 7680#32
  ![v2111.toNat, 128, 7680]
def k0_off116 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2121 : Index := Scalar.indexCast v474
  let c128_847 : Index := 128#32
  let c7808_848 : Index := 7808#32
  ![v2121.toNat, 128, 7808]
def k0_off117 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2131 : Index := Scalar.indexCast v474
  let c128_851 : Index := 128#32
  let c7936_852 : Index := 7936#32
  ![v2131.toNat, 128, 7936]
def k0_off118 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2141 : Index := Scalar.indexCast v474
  let c128_855 : Index := 128#32
  let c8064_856 : Index := 8064#32
  ![v2141.toNat, 128, 8064]
def k0_off119 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2155 : Index := Scalar.indexCast v474
  let c0_861 : Index := 0#32
  let c3072 : Index := 3072#32
  ![v2155.toNat, 0, 3072]
def k0_off120 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2162 : Index := Scalar.indexCast v474
  let c256_866 : Index := 256#32
  let c6144_867 : Index := 6144#32
  ![v2162.toNat, 256, 6144]
def k0_off121 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2172 : Index := Scalar.indexCast v474
  let c256_870 : Index := 256#32
  let c6272_871 : Index := 6272#32
  ![v2172.toNat, 256, 6272]
def k0_off122 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2182 : Index := Scalar.indexCast v474
  let c256_874 : Index := 256#32
  let c6400_875 : Index := 6400#32
  ![v2182.toNat, 256, 6400]
def k0_off123 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2192 : Index := Scalar.indexCast v474
  let c256_878 : Index := 256#32
  let c6528_879 : Index := 6528#32
  ![v2192.toNat, 256, 6528]
def k0_off124 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2202 : Index := Scalar.indexCast v474
  let c256_882 : Index := 256#32
  let c6656_883 : Index := 6656#32
  ![v2202.toNat, 256, 6656]
def k0_off125 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2212 : Index := Scalar.indexCast v474
  let c256_886 : Index := 256#32
  let c6784_887 : Index := 6784#32
  ![v2212.toNat, 256, 6784]
def k0_off126 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2222 : Index := Scalar.indexCast v474
  let c256_890 : Index := 256#32
  let c6912_891 : Index := 6912#32
  ![v2222.toNat, 256, 6912]
def k0_off127 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2232 : Index := Scalar.indexCast v474
  let c256_894 : Index := 256#32
  let c7040_895 : Index := 7040#32
  ![v2232.toNat, 256, 7040]
def k0_off128 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2242 : Index := Scalar.indexCast v474
  let c256_898 : Index := 256#32
  let c7168_899 : Index := 7168#32
  ![v2242.toNat, 256, 7168]
def k0_off129 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2252 : Index := Scalar.indexCast v474
  let c256_902 : Index := 256#32
  let c7296_903 : Index := 7296#32
  ![v2252.toNat, 256, 7296]
def k0_off130 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2262 : Index := Scalar.indexCast v474
  let c256_906 : Index := 256#32
  let c7424_907 : Index := 7424#32
  ![v2262.toNat, 256, 7424]
def k0_off131 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2272 : Index := Scalar.indexCast v474
  let c256_910 : Index := 256#32
  let c7552_911 : Index := 7552#32
  ![v2272.toNat, 256, 7552]
def k0_off132 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2282 : Index := Scalar.indexCast v474
  let c256_914 : Index := 256#32
  let c7680_915 : Index := 7680#32
  ![v2282.toNat, 256, 7680]
def k0_off133 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2292 : Index := Scalar.indexCast v474
  let c256_918 : Index := 256#32
  let c7808_919 : Index := 7808#32
  ![v2292.toNat, 256, 7808]
def k0_off134 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2302 : Index := Scalar.indexCast v474
  let c256_922 : Index := 256#32
  let c7936_923 : Index := 7936#32
  ![v2302.toNat, 256, 7936]
def k0_off135 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2312 : Index := Scalar.indexCast v474
  let c256_926 : Index := 256#32
  let c8064_927 : Index := 8064#32
  ![v2312.toNat, 256, 8064]
def k0_off136 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2326 : Index := Scalar.indexCast v474
  let c0_932 : Index := 0#32
  let c4608 : Index := 4608#32
  ![v2326.toNat, 0, 4608]
def k0_off137 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2333 : Index := Scalar.indexCast v474
  let c384_937 : Index := 384#32
  let c6144_938 : Index := 6144#32
  ![v2333.toNat, 384, 6144]
def k0_off138 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2343 : Index := Scalar.indexCast v474
  let c384_941 : Index := 384#32
  let c6272_942 : Index := 6272#32
  ![v2343.toNat, 384, 6272]
def k0_off139 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2353 : Index := Scalar.indexCast v474
  let c384_945 : Index := 384#32
  let c6400_946 : Index := 6400#32
  ![v2353.toNat, 384, 6400]
def k0_off140 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2363 : Index := Scalar.indexCast v474
  let c384_949 : Index := 384#32
  let c6528_950 : Index := 6528#32
  ![v2363.toNat, 384, 6528]
def k0_off141 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2373 : Index := Scalar.indexCast v474
  let c384_953 : Index := 384#32
  let c6656_954 : Index := 6656#32
  ![v2373.toNat, 384, 6656]
def k0_off142 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2383 : Index := Scalar.indexCast v474
  let c384_957 : Index := 384#32
  let c6784_958 : Index := 6784#32
  ![v2383.toNat, 384, 6784]
def k0_off143 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2393 : Index := Scalar.indexCast v474
  let c384_961 : Index := 384#32
  let c6912_962 : Index := 6912#32
  ![v2393.toNat, 384, 6912]
def k0_off144 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2403 : Index := Scalar.indexCast v474
  let c384_965 : Index := 384#32
  let c7040_966 : Index := 7040#32
  ![v2403.toNat, 384, 7040]
def k0_off145 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2413 : Index := Scalar.indexCast v474
  let c384_969 : Index := 384#32
  let c7168_970 : Index := 7168#32
  ![v2413.toNat, 384, 7168]
def k0_off146 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2423 : Index := Scalar.indexCast v474
  let c384_973 : Index := 384#32
  let c7296_974 : Index := 7296#32
  ![v2423.toNat, 384, 7296]
def k0_off147 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2433 : Index := Scalar.indexCast v474
  let c384_977 : Index := 384#32
  let c7424_978 : Index := 7424#32
  ![v2433.toNat, 384, 7424]
def k0_off148 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2443 : Index := Scalar.indexCast v474
  let c384_981 : Index := 384#32
  let c7552_982 : Index := 7552#32
  ![v2443.toNat, 384, 7552]
def k0_off149 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2453 : Index := Scalar.indexCast v474
  let c384_985 : Index := 384#32
  let c7680_986 : Index := 7680#32
  ![v2453.toNat, 384, 7680]
def k0_off150 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2463 : Index := Scalar.indexCast v474
  let c384_989 : Index := 384#32
  let c7808_990 : Index := 7808#32
  ![v2463.toNat, 384, 7808]
def k0_off151 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2473 : Index := Scalar.indexCast v474
  let c384_993 : Index := 384#32
  let c7936_994 : Index := 7936#32
  ![v2473.toNat, 384, 7936]
def k0_off152 (v14 : BitVec 32) (v17 : BitVec 32) (v20 : BitVec 32) (v23 : BitVec 32) (v26 : BitVec 32) (v29 : BitVec 32) (k0_t3 : Fin (k0_t3_loop v14 v17 v20 v23 v26 v29).trips) : Fin 3 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_166 : BitVec 32 := 4#32
  let v474 : BitVec 32 := Scalar.remsi arg32 c4_i32_166
  let v2483 : Index := Scalar.indexCast v474
  let c384_997 : Index := 384#32
  let c8064_998 : Index := 8064#32
  ![v2483.toNat, 384, 8064]
def k0_mult17 (v14 : BitVec 32) (v17 : BitVec 32) (v20 : BitVec 32) (v23 : BitVec 32) (v26 : BitVec 32) (v29 : BitVec 32) (k0_t3 : Fin (k0_t3_loop v14 v17 v20 v23 v26 v29).trips) : BitVec 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_1005 : BitVec 32 := 4#32
  let v2500 : BitVec 32 := Scalar.addi arg32 c4_i32_1005
  let v2520 : BitVec 1 := Scalar.cmpi .sge v2500 v131
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  v2548
def k0_cond3 (v14 : BitVec 32) (v17 : BitVec 32) (v20 : BitVec 32) (v23 : BitVec 32) (v26 : BitVec 32) (v29 : BitVec 32) (k0_t3 : Fin (k0_t3_loop v14 v17 v20 v23 v26 v29).trips) : BitVec 1 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_1005 : BitVec 32 := 4#32
  let v2500 : BitVec 32 := Scalar.addi arg32 c4_i32_1005
  let v2501 : BitVec 1 := Scalar.cmpi .slt v2500 v151
  let v2502 : BitVec 32 := Scalar.extui v2501
  let c0_i32_1006 : BitVec 32 := 0#32
  let v2503 : BitVec 1 := Scalar.cmpi .ne v2502 c0_i32_1006
  v2503

def k0_mult18 (v14 : BitVec 32) (v17 : BitVec 32) (v20 : BitVec 32) (v23 : BitVec 32) (v26 : BitVec 32) (v29 : BitVec 32) (k0_t3 : Fin (k0_t3_loop v14 v17 v20 v23 v26 v29).trips) : BitVec 32 :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_1005 : BitVec 32 := 4#32
  let v2500 : BitVec 32 := Scalar.addi arg32 c4_i32_1005
  let v2520 : BitVec 1 := Scalar.cmpi .sge v2500 v131
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1028 : BitVec 32 := 512#32
  let v2551 : BitVec 32 := Scalar.muli v2525 c512_i32_1028
  v2551
def k0_off153 (v14 : BitVec 32) (v17 : BitVec 32) (v20 : BitVec 32) (v23 : BitVec 32) (v26 : BitVec 32) (v29 : BitVec 32) (k0_t3 : Fin (k0_t3_loop v14 v17 v20 v23 v26 v29).trips) : Fin 1 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_1005 : BitVec 32 := 4#32
  let v2500 : BitVec 32 := Scalar.addi arg32 c4_i32_1005
  let c4_i32_1027 : BitVec 32 := 4#32
  let v2550 : BitVec 32 := Scalar.remsi v2500 c4_i32_1027
  ![v2550.toNat]
def k0_off154 (v14 : BitVec 32) (v17 : BitVec 32) (v20 : BitVec 32) (v23 : BitVec 32) (v26 : BitVec 32) (v29 : BitVec 32) (k0_t3 : Fin (k0_t3_loop v14 v17 v20 v23 v26 v29).trips) : (Fin 3 → Nat) × (Fin 3 → Nat) :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_1005 : BitVec 32 := 4#32
  let v2500 : BitVec 32 := Scalar.addi arg32 c4_i32_1005
  let c4_i32_1027 : BitVec 32 := 4#32
  let v2550 : BitVec 32 := Scalar.remsi v2500 c4_i32_1027
  let c0_i32_1029 : BitVec 32 := 0#32
  let c0_i32_1030 : BitVec 32 := 0#32
  let v2520 : BitVec 1 := Scalar.cmpi .sge v2500 v131
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  let v2549 : BitVec 32 := v2548
  ⟨![v2550.toNat, 0, 0], ![1, v2549.toNat, 8192]⟩
def k0_sz9 (v14 : BitVec 32) (v17 : BitVec 32) (v20 : BitVec 32) (v23 : BitVec 32) (v26 : BitVec 32) (v29 : BitVec 32) (k0_t3 : Fin (k0_t3_loop v14 v17 v20 v23 v26 v29).trips) : Fin 2 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_1005 : BitVec 32 := 4#32
  let v2500 : BitVec 32 := Scalar.addi arg32 c4_i32_1005
  let v2520 : BitVec 1 := Scalar.cmpi .sge v2500 v131
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  let v2549 : BitVec 32 := v2548
  ![v2549.toNat, 8192]
def k0_off155 (v14 : BitVec 32) (v17 : BitVec 32) (v20 : BitVec 32) (v23 : BitVec 32) (v26 : BitVec 32) (v29 : BitVec 32) (k0_t3 : Fin (k0_t3_loop v14 v17 v20 v23 v26 v29).trips) : (Fin 3 → Nat) × (Fin 3 → Nat) :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_1005 : BitVec 32 := 4#32
  let v2500 : BitVec 32 := Scalar.addi arg32 c4_i32_1005
  let v2520 : BitVec 1 := Scalar.cmpi .sge v2500 v131
  let c5_i32_1013 : BitVec 32 := 5#32
  let v2516 : BitVec 1 := Scalar.cmpi .sge v2500 v111
  let c4_i32_1012 : BitVec 32 := 4#32
  let v2512 : BitVec 1 := Scalar.cmpi .sge v2500 v91
  let c3_i32_1011 : BitVec 32 := 3#32
  let v2508 : BitVec 1 := Scalar.cmpi .sge v2500 v71
  let c2_i32_1010 : BitVec 32 := 2#32
  let v2504 : BitVec 1 := Scalar.cmpi .sge v2500 v51
  let c1_i32_1008 : BitVec 32 := 1#32
  let c0_i32_1009 : BitVec 32 := 0#32
  let v2505 : BitVec 32 := Scalar.select v2504 c1_i32_1008 c0_i32_1009
  let v2509 : BitVec 32 := Scalar.select v2508 c2_i32_1010 v2505
  let v2513 : BitVec 32 := Scalar.select v2512 c3_i32_1011 v2509
  let v2517 : BitVec 32 := Scalar.select v2516 c4_i32_1012 v2513
  let v2521 : BitVec 32 := Scalar.select v2520 c5_i32_1013 v2517
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1028 : BitVec 32 := 512#32
  let v2551 : BitVec 32 := Scalar.muli v2525 c512_i32_1028
  let v2552 : BitVec 32 := v2551
  let c0_i32_1031 : BitVec 32 := 0#32
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  let v2549 : BitVec 32 := v2548
  ⟨![v2521.toNat, v2552.toNat, 0], ![1, v2549.toNat, 8192]⟩
def k0_sz10 (v14 : BitVec 32) (v17 : BitVec 32) (v20 : BitVec 32) (v23 : BitVec 32) (v26 : BitVec 32) (v29 : BitVec 32) (k0_t3 : Fin (k0_t3_loop v14 v17 v20 v23 v26 v29).trips) : Fin 2 → Nat :=
  let c0_i32_131 : BitVec 32 := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let v286 : BitVec 32 := Scalar.subi v151 c0_i32_131
  let c1_i32_133 : BitVec 32 := 1#32
  let v288 : BitVec 32 := Scalar.divsi v286 c1_i32_133
  let v289 : BitVec 32 := Scalar.muli v288 c1_i32_133
  let v290 : BitVec 32 := Scalar.addi c0_i32_131 v289
  let c1_i32_135 : BitVec 32 := 1#32
  let arg32 : BitVec 32 := Scf.iv v290 c1_i32_135 k0_t3
  let c4_i32_1005 : BitVec 32 := 4#32
  let v2500 : BitVec 32 := Scalar.addi arg32 c4_i32_1005
  let v2520 : BitVec 1 := Scalar.cmpi .sge v2500 v131
  let v2516 : BitVec 1 := Scalar.cmpi .sge v2500 v111
  let v2512 : BitVec 1 := Scalar.cmpi .sge v2500 v91
  let v2508 : BitVec 1 := Scalar.cmpi .sge v2500 v71
  let v2504 : BitVec 1 := Scalar.cmpi .sge v2500 v51
  let v2506 : BitVec 32 := Scalar.select v2504 v19 v16
  let v2510 : BitVec 32 := Scalar.select v2508 v22 v2506
  let v2514 : BitVec 32 := Scalar.select v2512 v25 v2510
  let v2518 : BitVec 32 := Scalar.select v2516 v28 v2514
  let v2522 : BitVec 32 := Scalar.select v2520 v31 v2518
  let v2507 : BitVec 32 := Scalar.select v2504 v71 v51
  let v2511 : BitVec 32 := Scalar.select v2508 v91 v2507
  let v2515 : BitVec 32 := Scalar.select v2512 v111 v2511
  let v2519 : BitVec 32 := Scalar.select v2516 v131 v2515
  let v2523 : BitVec 32 := Scalar.select v2520 v151 v2519
  let c1_i32_1014 : BitVec 32 := 1#32
  let v2524 : BitVec 32 := Scalar.subi v2523 c1_i32_1014
  let v2525 : BitVec 32 := Scalar.subi v2524 v2500
  let c512_i32_1015 : BitVec 32 := 512#32
  let v2526 : BitVec 32 := Scalar.muli v2525 c512_i32_1015
  let v2527 : BitVec 32 := Scalar.subi v2522 v2526
  let c32_i32_1016 : BitVec 32 := 32#32
  let v2528 : BitVec 32 := Scalar.addi v2527 c32_i32_1016
  let c1_i32_1017 : BitVec 32 := 1#32
  let v2529 : BitVec 32 := Scalar.subi v2528 c1_i32_1017
  let c0_i32_1019 : BitVec 32 := 0#32
  let v2531 : BitVec 1 := Scalar.cmpi .sgt v2529 c0_i32_1019
  let v2532 : BitVec 32 := Scalar.extui v2531
  let c0_i32_1020 : BitVec 32 := 0#32
  let v2533 : BitVec 1 := Scalar.cmpi .slt v2529 c0_i32_1020
  let v2534 : BitVec 32 := Scalar.extui v2533
  let v2535 : BitVec 32 := Scalar.subi v2532 v2534
  let c32_i32_1018 : BitVec 32 := 32#32
  let c0_i32_1021 : BitVec 32 := 0#32
  let v2536 : BitVec 1 := Scalar.cmpi .sgt c32_i32_1018 c0_i32_1021
  let v2537 : BitVec 32 := Scalar.extui v2536
  let c0_i32_1022 : BitVec 32 := 0#32
  let v2538 : BitVec 1 := Scalar.cmpi .slt c32_i32_1018 c0_i32_1022
  let v2539 : BitVec 32 := Scalar.extui v2538
  let v2540 : BitVec 32 := Scalar.subi v2537 v2539
  let v2541 : BitVec 1 := Scalar.cmpi .ne v2535 v2540
  let v2542 : BitVec 32 := Scalar.remsi v2529 c32_i32_1018
  let c0_i32_1023 : BitVec 32 := 0#32
  let v2543 : BitVec 1 := Scalar.cmpi .ne v2542 c0_i32_1023
  let v2544 : BitVec 1 := Scalar.andi v2541 v2543
  let v2530 : BitVec 32 := Scalar.divsi v2529 c32_i32_1018
  let c1_i32_1024 : BitVec 32 := 1#32
  let v2545 : BitVec 32 := Scalar.subi v2530 c1_i32_1024
  let v2546 : BitVec 32 := Scalar.select v2544 v2545 v2530
  let c32_i32_1025 : BitVec 32 := 32#32
  let v2547 : BitVec 32 := Scalar.muli v2546 c32_i32_1025
  let c512_i32_1026 : BitVec 32 := 512#32
  let v2548 : BitVec 32 := Scalar.minsi v2547 c512_i32_1026
  let v2549 : BitVec 32 := v2548
  ![v2549.toNat, 8192]
def k0_off156 (v14 : BitVec 32) (v17 : BitVec 32) (v20 : BitVec 32) (v23 : BitVec 32) (v26 : BitVec 32) (v29 : BitVec 32) : Fin 1 → Nat :=
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let c1_i32_166 : BitVec 32 := 1#32
  let v474 : BitVec 32 := Scalar.subi v151 c1_i32_166
  let v491 : BitVec 1 := Scalar.cmpi .sge v474 v131
  let c5_i32_172 : BitVec 32 := 5#32
  let v487 : BitVec 1 := Scalar.cmpi .sge v474 v111
  let c4_i32_171 : BitVec 32 := 4#32
  let v483 : BitVec 1 := Scalar.cmpi .sge v474 v91
  let c3_i32_170 : BitVec 32 := 3#32
  let v479 : BitVec 1 := Scalar.cmpi .sge v474 v71
  let c2_i32_169 : BitVec 32 := 2#32
  let v475 : BitVec 1 := Scalar.cmpi .sge v474 v51
  let c1_i32_167 : BitVec 32 := 1#32
  let c0_i32_168 : BitVec 32 := 0#32
  let v476 : BitVec 32 := Scalar.select v475 c1_i32_167 c0_i32_168
  let v480 : BitVec 32 := Scalar.select v479 c2_i32_169 v476
  let v484 : BitVec 32 := Scalar.select v483 c3_i32_170 v480
  let v488 : BitVec 32 := Scalar.select v487 c4_i32_171 v484
  let v492 : BitVec 32 := Scalar.select v491 c5_i32_172 v488
  let v497 : Index := Scalar.indexCast v492
  ![v497.toNat]
def k0_cond4 (v14 : BitVec 32) (v17 : BitVec 32) (v20 : BitVec 32) (v23 : BitVec 32) (v26 : BitVec 32) (v29 : BitVec 32) : BitVec 1 :=
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let c0_i32_136 : BitVec 32 := 0#32
  let v293 : BitVec 1 := Scalar.cmpi .sgt v151 c0_i32_136
  let v294 : BitVec 32 := Scalar.extui v293
  let c0_i32_137 : BitVec 32 := 0#32
  let v295 : BitVec 1 := Scalar.cmpi .ne v294 c0_i32_137
  v295

def k0_mult19 (v14 : BitVec 32) (v17 : BitVec 32) (v20 : BitVec 32) (v23 : BitVec 32) (v26 : BitVec 32) (v29 : BitVec 32) : BitVec 32 :=
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let c1_i32_166 : BitVec 32 := 1#32
  let v474 : BitVec 32 := Scalar.subi v151 c1_i32_166
  let v491 : BitVec 1 := Scalar.cmpi .sge v474 v131
  let v487 : BitVec 1 := Scalar.cmpi .sge v474 v111
  let v483 : BitVec 1 := Scalar.cmpi .sge v474 v91
  let v479 : BitVec 1 := Scalar.cmpi .sge v474 v71
  let v475 : BitVec 1 := Scalar.cmpi .sge v474 v51
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 v474
  let c512_i32_188 : BitVec 32 := 512#32
  let v517 : BitVec 32 := Scalar.muli v496 c512_i32_188
  let c384_i32 : BitVec 32 := 384#32
  let v518 : BitVec 32 := Scalar.addi v517 c384_i32
  v518
def k0_off157 (v14 : BitVec 32) (v17 : BitVec 32) (v20 : BitVec 32) (v23 : BitVec 32) (v26 : BitVec 32) (v29 : BitVec 32) (c384_i32 : BitVec 32) : Fin 2 → Nat :=
  let c0_189 : Index := 0#32
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let c1_i32_166 : BitVec 32 := 1#32
  let v474 : BitVec 32 := Scalar.subi v151 c1_i32_166
  let v491 : BitVec 1 := Scalar.cmpi .sge v474 v131
  let v487 : BitVec 1 := Scalar.cmpi .sge v474 v111
  let v483 : BitVec 1 := Scalar.cmpi .sge v474 v91
  let v479 : BitVec 1 := Scalar.cmpi .sge v474 v71
  let v475 : BitVec 1 := Scalar.cmpi .sge v474 v51
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 v474
  let c512_i32_188 : BitVec 32 := 512#32
  let v517 : BitVec 32 := Scalar.muli v496 c512_i32_188
  let v518 : BitVec 32 := Scalar.addi v517 c384_i32
  let v519 : BitVec 32 := v518
  let v527 : Index := Scalar.indexCast v519
  ![0, v527.toNat]
def k0_mult20 (v14 : BitVec 32) (v17 : BitVec 32) (v20 : BitVec 32) (v23 : BitVec 32) (v26 : BitVec 32) (v29 : BitVec 32) : BitVec 32 :=
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let c1_i32_166 : BitVec 32 := 1#32
  let v474 : BitVec 32 := Scalar.subi v151 c1_i32_166
  let v491 : BitVec 1 := Scalar.cmpi .sge v474 v131
  let v487 : BitVec 1 := Scalar.cmpi .sge v474 v111
  let v483 : BitVec 1 := Scalar.cmpi .sge v474 v91
  let v479 : BitVec 1 := Scalar.cmpi .sge v474 v71
  let v475 : BitVec 1 := Scalar.cmpi .sge v474 v51
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 v474
  let c512_i32_306 : BitVec 32 := 512#32
  let v827 : BitVec 32 := Scalar.muli v496 c512_i32_306
  let c256_i32 : BitVec 32 := 256#32
  let v828 : BitVec 32 := Scalar.addi v827 c256_i32
  v828
def k0_mult21 (v14 : BitVec 32) (v17 : BitVec 32) (v20 : BitVec 32) (v23 : BitVec 32) (v26 : BitVec 32) (v29 : BitVec 32) : BitVec 32 :=
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let c1_i32_166 : BitVec 32 := 1#32
  let v474 : BitVec 32 := Scalar.subi v151 c1_i32_166
  let v491 : BitVec 1 := Scalar.cmpi .sge v474 v131
  let v487 : BitVec 1 := Scalar.cmpi .sge v474 v111
  let v483 : BitVec 1 := Scalar.cmpi .sge v474 v91
  let v479 : BitVec 1 := Scalar.cmpi .sge v474 v71
  let v475 : BitVec 1 := Scalar.cmpi .sge v474 v51
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 v474
  let c512_i32_442 : BitVec 32 := 512#32
  let v1137 : BitVec 32 := Scalar.muli v496 c512_i32_442
  let c128_i32_443 : BitVec 32 := 128#32
  let v1138 : BitVec 32 := Scalar.addi v1137 c128_i32_443
  v1138
def k0_mult22 (v14 : BitVec 32) (v17 : BitVec 32) (v20 : BitVec 32) (v23 : BitVec 32) (v26 : BitVec 32) (v29 : BitVec 32) : BitVec 32 :=
  let c0_i32_20 : BitVec 32 := 0#32
  let c6144_i32 : BitVec 32 := 6144#32
  let c0_i32_1 : BitVec 32 := 0#32
  let v15 : BitVec 32 := Scalar.maxsi c0_i32_1 v14
  let v16 : BitVec 32 := Scalar.minsi c6144_i32 v15
  let c512_i32 : BitVec 32 := 512#32
  let v32 : BitVec 32 := Scalar.addi v16 c512_i32
  let c1_i32_12 : BitVec 32 := 1#32
  let v33 : BitVec 32 := Scalar.subi v32 c1_i32_12
  let c0_i32_14 : BitVec 32 := 0#32
  let v35 : BitVec 1 := Scalar.cmpi .sgt v33 c0_i32_14
  let v36 : BitVec 32 := Scalar.extui v35
  let c0_i32_15 : BitVec 32 := 0#32
  let v37 : BitVec 1 := Scalar.cmpi .slt v33 c0_i32_15
  let v38 : BitVec 32 := Scalar.extui v37
  let v39 : BitVec 32 := Scalar.subi v36 v38
  let c512_i32_13 : BitVec 32 := 512#32
  let c0_i32_16 : BitVec 32 := 0#32
  let v40 : BitVec 1 := Scalar.cmpi .sgt c512_i32_13 c0_i32_16
  let v41 : BitVec 32 := Scalar.extui v40
  let c0_i32_17 : BitVec 32 := 0#32
  let v42 : BitVec 1 := Scalar.cmpi .slt c512_i32_13 c0_i32_17
  let v43 : BitVec 32 := Scalar.extui v42
  let v44 : BitVec 32 := Scalar.subi v41 v43
  let v45 : BitVec 1 := Scalar.cmpi .ne v39 v44
  let v46 : BitVec 32 := Scalar.remsi v33 c512_i32_13
  let c0_i32_18 : BitVec 32 := 0#32
  let v47 : BitVec 1 := Scalar.cmpi .ne v46 c0_i32_18
  let v48 : BitVec 1 := Scalar.andi v45 v47
  let v34 : BitVec 32 := Scalar.divsi v33 c512_i32_13
  let c1_i32_19 : BitVec 32 := 1#32
  let v49 : BitVec 32 := Scalar.subi v34 c1_i32_19
  let v50 : BitVec 32 := Scalar.select v48 v49 v34
  let v51 : BitVec 32 := Scalar.addi c0_i32_20 v50
  let c6144_i32_3 : BitVec 32 := 6144#32
  let c0_i32_2 : BitVec 32 := 0#32
  let v18 : BitVec 32 := Scalar.maxsi c0_i32_2 v17
  let v19 : BitVec 32 := Scalar.minsi c6144_i32_3 v18
  let c512_i32_21 : BitVec 32 := 512#32
  let v52 : BitVec 32 := Scalar.addi v19 c512_i32_21
  let c1_i32_22 : BitVec 32 := 1#32
  let v53 : BitVec 32 := Scalar.subi v52 c1_i32_22
  let c0_i32_24 : BitVec 32 := 0#32
  let v55 : BitVec 1 := Scalar.cmpi .sgt v53 c0_i32_24
  let v56 : BitVec 32 := Scalar.extui v55
  let c0_i32_25 : BitVec 32 := 0#32
  let v57 : BitVec 1 := Scalar.cmpi .slt v53 c0_i32_25
  let v58 : BitVec 32 := Scalar.extui v57
  let v59 : BitVec 32 := Scalar.subi v56 v58
  let c512_i32_23 : BitVec 32 := 512#32
  let c0_i32_26 : BitVec 32 := 0#32
  let v60 : BitVec 1 := Scalar.cmpi .sgt c512_i32_23 c0_i32_26
  let v61 : BitVec 32 := Scalar.extui v60
  let c0_i32_27 : BitVec 32 := 0#32
  let v62 : BitVec 1 := Scalar.cmpi .slt c512_i32_23 c0_i32_27
  let v63 : BitVec 32 := Scalar.extui v62
  let v64 : BitVec 32 := Scalar.subi v61 v63
  let v65 : BitVec 1 := Scalar.cmpi .ne v59 v64
  let v66 : BitVec 32 := Scalar.remsi v53 c512_i32_23
  let c0_i32_28 : BitVec 32 := 0#32
  let v67 : BitVec 1 := Scalar.cmpi .ne v66 c0_i32_28
  let v68 : BitVec 1 := Scalar.andi v65 v67
  let v54 : BitVec 32 := Scalar.divsi v53 c512_i32_23
  let c1_i32_29 : BitVec 32 := 1#32
  let v69 : BitVec 32 := Scalar.subi v54 c1_i32_29
  let v70 : BitVec 32 := Scalar.select v68 v69 v54
  let v71 : BitVec 32 := Scalar.addi v51 v70
  let c6144_i32_5 : BitVec 32 := 6144#32
  let c0_i32_4 : BitVec 32 := 0#32
  let v21 : BitVec 32 := Scalar.maxsi c0_i32_4 v20
  let v22 : BitVec 32 := Scalar.minsi c6144_i32_5 v21
  let c512_i32_30 : BitVec 32 := 512#32
  let v72 : BitVec 32 := Scalar.addi v22 c512_i32_30
  let c1_i32_31 : BitVec 32 := 1#32
  let v73 : BitVec 32 := Scalar.subi v72 c1_i32_31
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c512_i32_32 : BitVec 32 := 512#32
  let c0_i32_35 : BitVec 32 := 0#32
  let v80 : BitVec 1 := Scalar.cmpi .sgt c512_i32_32 c0_i32_35
  let v81 : BitVec 32 := Scalar.extui v80
  let c0_i32_36 : BitVec 32 := 0#32
  let v82 : BitVec 1 := Scalar.cmpi .slt c512_i32_32 c0_i32_36
  let v83 : BitVec 32 := Scalar.extui v82
  let v84 : BitVec 32 := Scalar.subi v81 v83
  let v85 : BitVec 1 := Scalar.cmpi .ne v79 v84
  let v86 : BitVec 32 := Scalar.remsi v73 c512_i32_32
  let c0_i32_37 : BitVec 32 := 0#32
  let v87 : BitVec 1 := Scalar.cmpi .ne v86 c0_i32_37
  let v88 : BitVec 1 := Scalar.andi v85 v87
  let v74 : BitVec 32 := Scalar.divsi v73 c512_i32_32
  let c1_i32_38 : BitVec 32 := 1#32
  let v89 : BitVec 32 := Scalar.subi v74 c1_i32_38
  let v90 : BitVec 32 := Scalar.select v88 v89 v74
  let v91 : BitVec 32 := Scalar.addi v71 v90
  let c6144_i32_7 : BitVec 32 := 6144#32
  let c0_i32_6 : BitVec 32 := 0#32
  let v24 : BitVec 32 := Scalar.maxsi c0_i32_6 v23
  let v25 : BitVec 32 := Scalar.minsi c6144_i32_7 v24
  let c512_i32_39 : BitVec 32 := 512#32
  let v92 : BitVec 32 := Scalar.addi v25 c512_i32_39
  let c1_i32_40 : BitVec 32 := 1#32
  let v93 : BitVec 32 := Scalar.subi v92 c1_i32_40
  let c0_i32_42 : BitVec 32 := 0#32
  let v95 : BitVec 1 := Scalar.cmpi .sgt v93 c0_i32_42
  let v96 : BitVec 32 := Scalar.extui v95
  let c0_i32_43 : BitVec 32 := 0#32
  let v97 : BitVec 1 := Scalar.cmpi .slt v93 c0_i32_43
  let v98 : BitVec 32 := Scalar.extui v97
  let v99 : BitVec 32 := Scalar.subi v96 v98
  let c512_i32_41 : BitVec 32 := 512#32
  let c0_i32_44 : BitVec 32 := 0#32
  let v100 : BitVec 1 := Scalar.cmpi .sgt c512_i32_41 c0_i32_44
  let v101 : BitVec 32 := Scalar.extui v100
  let c0_i32_45 : BitVec 32 := 0#32
  let v102 : BitVec 1 := Scalar.cmpi .slt c512_i32_41 c0_i32_45
  let v103 : BitVec 32 := Scalar.extui v102
  let v104 : BitVec 32 := Scalar.subi v101 v103
  let v105 : BitVec 1 := Scalar.cmpi .ne v99 v104
  let v106 : BitVec 32 := Scalar.remsi v93 c512_i32_41
  let c0_i32_46 : BitVec 32 := 0#32
  let v107 : BitVec 1 := Scalar.cmpi .ne v106 c0_i32_46
  let v108 : BitVec 1 := Scalar.andi v105 v107
  let v94 : BitVec 32 := Scalar.divsi v93 c512_i32_41
  let c1_i32_47 : BitVec 32 := 1#32
  let v109 : BitVec 32 := Scalar.subi v94 c1_i32_47
  let v110 : BitVec 32 := Scalar.select v108 v109 v94
  let v111 : BitVec 32 := Scalar.addi v91 v110
  let c6144_i32_9 : BitVec 32 := 6144#32
  let c0_i32_8 : BitVec 32 := 0#32
  let v27 : BitVec 32 := Scalar.maxsi c0_i32_8 v26
  let v28 : BitVec 32 := Scalar.minsi c6144_i32_9 v27
  let c512_i32_48 : BitVec 32 := 512#32
  let v112 : BitVec 32 := Scalar.addi v28 c512_i32_48
  let c1_i32_49 : BitVec 32 := 1#32
  let v113 : BitVec 32 := Scalar.subi v112 c1_i32_49
  let c0_i32_51 : BitVec 32 := 0#32
  let v115 : BitVec 1 := Scalar.cmpi .sgt v113 c0_i32_51
  let v116 : BitVec 32 := Scalar.extui v115
  let c0_i32_52 : BitVec 32 := 0#32
  let v117 : BitVec 1 := Scalar.cmpi .slt v113 c0_i32_52
  let v118 : BitVec 32 := Scalar.extui v117
  let v119 : BitVec 32 := Scalar.subi v116 v118
  let c512_i32_50 : BitVec 32 := 512#32
  let c0_i32_53 : BitVec 32 := 0#32
  let v120 : BitVec 1 := Scalar.cmpi .sgt c512_i32_50 c0_i32_53
  let v121 : BitVec 32 := Scalar.extui v120
  let c0_i32_54 : BitVec 32 := 0#32
  let v122 : BitVec 1 := Scalar.cmpi .slt c512_i32_50 c0_i32_54
  let v123 : BitVec 32 := Scalar.extui v122
  let v124 : BitVec 32 := Scalar.subi v121 v123
  let v125 : BitVec 1 := Scalar.cmpi .ne v119 v124
  let v126 : BitVec 32 := Scalar.remsi v113 c512_i32_50
  let c0_i32_55 : BitVec 32 := 0#32
  let v127 : BitVec 1 := Scalar.cmpi .ne v126 c0_i32_55
  let v128 : BitVec 1 := Scalar.andi v125 v127
  let v114 : BitVec 32 := Scalar.divsi v113 c512_i32_50
  let c1_i32_56 : BitVec 32 := 1#32
  let v129 : BitVec 32 := Scalar.subi v114 c1_i32_56
  let v130 : BitVec 32 := Scalar.select v128 v129 v114
  let v131 : BitVec 32 := Scalar.addi v111 v130
  let c6144_i32_11 : BitVec 32 := 6144#32
  let c0_i32_10 : BitVec 32 := 0#32
  let v30 : BitVec 32 := Scalar.maxsi c0_i32_10 v29
  let v31 : BitVec 32 := Scalar.minsi c6144_i32_11 v30
  let c512_i32_57 : BitVec 32 := 512#32
  let v132 : BitVec 32 := Scalar.addi v31 c512_i32_57
  let c1_i32_58 : BitVec 32 := 1#32
  let v133 : BitVec 32 := Scalar.subi v132 c1_i32_58
  let c0_i32_60 : BitVec 32 := 0#32
  let v135 : BitVec 1 := Scalar.cmpi .sgt v133 c0_i32_60
  let v136 : BitVec 32 := Scalar.extui v135
  let c0_i32_61 : BitVec 32 := 0#32
  let v137 : BitVec 1 := Scalar.cmpi .slt v133 c0_i32_61
  let v138 : BitVec 32 := Scalar.extui v137
  let v139 : BitVec 32 := Scalar.subi v136 v138
  let c512_i32_59 : BitVec 32 := 512#32
  let c0_i32_62 : BitVec 32 := 0#32
  let v140 : BitVec 1 := Scalar.cmpi .sgt c512_i32_59 c0_i32_62
  let v141 : BitVec 32 := Scalar.extui v140
  let c0_i32_63 : BitVec 32 := 0#32
  let v142 : BitVec 1 := Scalar.cmpi .slt c512_i32_59 c0_i32_63
  let v143 : BitVec 32 := Scalar.extui v142
  let v144 : BitVec 32 := Scalar.subi v141 v143
  let v145 : BitVec 1 := Scalar.cmpi .ne v139 v144
  let v146 : BitVec 32 := Scalar.remsi v133 c512_i32_59
  let c0_i32_64 : BitVec 32 := 0#32
  let v147 : BitVec 1 := Scalar.cmpi .ne v146 c0_i32_64
  let v148 : BitVec 1 := Scalar.andi v145 v147
  let v134 : BitVec 32 := Scalar.divsi v133 c512_i32_59
  let c1_i32_65 : BitVec 32 := 1#32
  let v149 : BitVec 32 := Scalar.subi v134 c1_i32_65
  let v150 : BitVec 32 := Scalar.select v148 v149 v134
  let v151 : BitVec 32 := Scalar.addi v131 v150
  let c1_i32_166 : BitVec 32 := 1#32
  let v474 : BitVec 32 := Scalar.subi v151 c1_i32_166
  let v491 : BitVec 1 := Scalar.cmpi .sge v474 v131
  let v487 : BitVec 1 := Scalar.cmpi .sge v474 v111
  let v483 : BitVec 1 := Scalar.cmpi .sge v474 v91
  let v479 : BitVec 1 := Scalar.cmpi .sge v474 v71
  let v475 : BitVec 1 := Scalar.cmpi .sge v474 v51
  let v478 : BitVec 32 := Scalar.select v475 v71 v51
  let v482 : BitVec 32 := Scalar.select v479 v91 v478
  let v486 : BitVec 32 := Scalar.select v483 v111 v482
  let v490 : BitVec 32 := Scalar.select v487 v131 v486
  let v494 : BitVec 32 := Scalar.select v491 v151 v490
  let c1_i32_173 : BitVec 32 := 1#32
  let v495 : BitVec 32 := Scalar.subi v494 c1_i32_173
  let v496 : BitVec 32 := Scalar.subi v495 v474
  let c512_i32_580 : BitVec 32 := 512#32
  let v1447 : BitVec 32 := Scalar.muli v496 c512_i32_580
  let c0_i32_581 : BitVec 32 := 0#32
  let v1448 : BitVec 32 := Scalar.addi v1447 c0_i32_581
  v1448

def k0_chk1_0 (v14 : BitVec 32) (v17 : BitVec 32) (v20 : BitVec 32) (v23 : BitVec 32) (v26 : BitVec 32) (v29 : BitVec 32) : Prop :=
  (∀ k0_t1 : Fin k0_t1_loop.trips, ∀ (k0_h1 : k0_cond1 v14 v17 v20 v23 v26 v29 k0_t1 = 1#1), 32 ∣ (k0_mult1 v14 v17 v20 v23 v26 v29 k0_t1).toNat) ∧
  (∀ k0_t1 : Fin k0_t1_loop.trips, ∀ (k0_h1 : k0_cond1 v14 v17 v20 v23 v26 v29 k0_t1 = 1#1), 512 ∣ (k0_mult2 v14 v17 v20 v23 v26 v29 k0_t1).toNat) ∧
  (∀ k0_t1 : Fin k0_t1_loop.trips, ∀ (k0_h1 : k0_cond1 v14 v17 v20 v23 v26 v29 k0_t1 = 1#1), ∀ a, (k0_off2 v14 v17 v20 v23 v26 v29 k0_t1).2 a = 0 ∨ (k0_off2 v14 v17 v20 v23 v26 v29 k0_t1).1 a + (k0_off2 v14 v17 v20 v23 v26 v29 k0_t1).2 a ≤ S4x512x8192.size a) ∧
  (∀ k0_t1 : Fin k0_t1_loop.trips, ∀ (k0_h1 : k0_cond1 v14 v17 v20 v23 v26 v29 k0_t1 = 1#1), (⟨3, (k0_off2 v14 v17 v20 v23 v26 v29 k0_t1).2⟩ : Shape).Squeezes ⟨2, k0_sz1 v14 v17 v20 v23 v26 v29 k0_t1⟩) ∧
  (∀ k0_t1 : Fin k0_t1_loop.trips, ∀ (k0_h1 : k0_cond1 v14 v17 v20 v23 v26 v29 k0_t1 = 1#1), ∀ a, (k0_off3 v14 v17 v20 v23 v26 v29 k0_t1).2 a = 0 ∨ (k0_off3 v14 v17 v20 v23 v26 v29 k0_t1).1 a + (k0_off3 v14 v17 v20 v23 v26 v29 k0_t1).2 a ≤ S6x6144x8192.size a) ∧
  (∀ k0_t1 : Fin k0_t1_loop.trips, ∀ (k0_h1 : k0_cond1 v14 v17 v20 v23 v26 v29 k0_t1 = 1#1), (⟨3, (k0_off3 v14 v17 v20 v23 v26 v29 k0_t1).2⟩ : Shape).Squeezes ⟨2, k0_sz2 v14 v17 v20 v23 v26 v29 k0_t1⟩) ∧
  (∀ k0_t1 : Fin k0_t1_loop.trips, ∀ (k0_h1 : k0_cond1 v14 v17 v20 v23 v26 v29 k0_t1 = 1#1), ∀ (hinb : ∀ a, (k0_off3 v14 v17 v20 v23 v26 v29 k0_t1).2 a = 0 ∨ (k0_off3 v14 v17 v20 v23 v26 v29 k0_t1).1 a + (k0_off3 v14 v17 v20 v23 v26 v29 k0_t1).2 a ≤ S6x6144x8192.size a), (Rect.unitDyn (s := S6x6144x8192) (k0_off3 v14 v17 v20 v23 v26 v29 k0_t1).1 (k0_off3 v14 v17 v20 v23 v26 v29 k0_t1).2 hinb).WholeWords (EltTy.packing .fp8e4m3)) ∧
  (∀ k0_t1 : Fin k0_t1_loop.trips, ∀ (k0_h1 : k0_cond1 v14 v17 v20 v23 v26 v29 k0_t1 = 1#1), ∀ (hinb : ∀ a, (k0_off2 v14 v17 v20 v23 v26 v29 k0_t1).2 a = 0 ∨ (k0_off2 v14 v17 v20 v23 v26 v29 k0_t1).1 a + (k0_off2 v14 v17 v20 v23 v26 v29 k0_t1).2 a ≤ S4x512x8192.size a), (Rect.unitDyn (s := S4x512x8192) (k0_off2 v14 v17 v20 v23 v26 v29 k0_t1).1 (k0_off2 v14 v17 v20 v23 v26 v29 k0_t1).2 hinb).WholeWords (EltTy.packing .fp8e4m3)) ∧
  ((k0_t2_loop v14 v17 v20 v23 v26 v29).OK) ∧
  (∀ k0_t2 : Fin (k0_t2_loop v14 v17 v20 v23 v26 v29).trips, 32 ∣ (k0_mult3 v14 v17 v20 v23 v26 v29 k0_t2).toNat) ∧
  (∀ k0_t2 : Fin (k0_t2_loop v14 v17 v20 v23 v26 v29).trips, 512 ∣ (k0_mult4 v14 v17 v20 v23 v26 v29 k0_t2).toNat) ∧
  (∀ k0_t2 : Fin (k0_t2_loop v14 v17 v20 v23 v26 v29).trips, ∀ a, (k0_off4 v14 v17 v20 v23 v26 v29 k0_t2) a + S1.size a ≤ S4.size a) ∧
  (∀ k0_t2 : Fin (k0_t2_loop v14 v17 v20 v23 v26 v29).trips, (⟨3, (k0_off5 v14 v17 v20 v23 v26 v29 k0_t2).2⟩ : Shape).Squeezes ⟨2, k0_sz3 v14 v17 v20 v23 v26 v29 k0_t2⟩) ∧
  (∀ k0_t2 : Fin (k0_t2_loop v14 v17 v20 v23 v26 v29).trips, (⟨3, (k0_off6 v14 v17 v20 v23 v26 v29 k0_t2).2⟩ : Shape).Squeezes ⟨2, k0_sz4 v14 v17 v20 v23 v26 v29 k0_t2⟩) ∧
  (∀ k0_t2 : Fin (k0_t2_loop v14 v17 v20 v23 v26 v29).trips, ∀ a, (k0_off7 v14 v17 v20 v23 v26 v29 k0_t2) a + S1.size a ≤ S6.size a) ∧
  (∀ k0_t2 : Fin (k0_t2_loop v14 v17 v20 v23 v26 v29).trips, 128 ∣ (k0_mult5 v14 v17 v20 v23 v26 v29 k0_t2).toNat) ∧
  (∀ k0_t2 : Fin (k0_t2_loop v14 v17 v20 v23 v26 v29).trips, ∀ (r : Fin 4), ∀ a, (k0_off8 v14 v17 v20 v23 v26 v29 k0_t2 (BitVec.ofNat 32 (128 * r.val))) a + S6x128.size a ≤ S6x6144.size a) ∧
  (∀ k0_t2 : Fin (k0_t2_loop v14 v17 v20 v23 v26 v29).trips, 128 ∣ (k0_mult6 v14 v17 v20 v23 v26 v29 k0_t2).toNat) ∧
  (∀ k0_t2 : Fin (k0_t2_loop v14 v17 v20 v23 v26 v29).trips, 128 ∣ (k0_mult7 v14 v17 v20 v23 v26 v29 k0_t2).toNat) ∧
  (∀ k0_t2 : Fin (k0_t2_loop v14 v17 v20 v23 v26 v29).trips, 128 ∣ (k0_mult8 v14 v17 v20 v23 v26 v29 k0_t2).toNat) ∧
  (∀ k0_t2 : Fin (k0_t2_loop v14 v17 v20 v23 v26 v29).trips, ∀ a, (k0_off9 v14 v17 v20 v23 v26 v29 k0_t2) a + S1x512x1536.size a ≤ S4x512x8192.size a) ∧
  (∀ k0_t2 : Fin (k0_t2_loop v14 v17 v20 v23 v26 v29).trips, ∀ a, (k0_off10 v14 v17 v20 v23 v26 v29 k0_t2) a + S1x128x128.size a ≤ S4x512x8192.size a) ∧
  (∀ k0_t2 : Fin (k0_t2_loop v14 v17 v20 v23 v26 v29).trips, ∀ a, (k0_off11 v14 v17 v20 v23 v26 v29 k0_t2) a + S1x128x128.size a ≤ S4x512x8192.size a) ∧
  (∀ k0_t2 : Fin (k0_t2_loop v14 v17 v20 v23 v26 v29).trips, ∀ a, (k0_off12 v14 v17 v20 v23 v26 v29 k0_t2) a + S1x128x128.size a ≤ S4x512x8192.size a) ∧
  (∀ k0_t2 : Fin (k0_t2_loop v14 v17 v20 v23 v26 v29).trips, ∀ a, (k0_off13 v14 v17 v20 v23 v26 v29 k0_t2) a + S1x128x128.size a ≤ S4x512x8192.size a) ∧
  (∀ k0_t2 : Fin (k0_t2_loop v14 v17 v20 v23 v26 v29).trips, ∀ a, (k0_off14 v14 v17 v20 v23 v26 v29 k0_t2) a + S1x128x128.size a ≤ S4x512x8192.size a) ∧
  (∀ k0_t2 : Fin (k0_t2_loop v14 v17 v20 v23 v26 v29).trips, ∀ a, (k0_off15 v14 v17 v20 v23 v26 v29 k0_t2) a + S1x128x128.size a ≤ S4x512x8192.size a) ∧
  (∀ k0_t2 : Fin (k0_t2_loop v14 v17 v20 v23 v26 v29).trips, ∀ a, (k0_off16 v14 v17 v20 v23 v26 v29 k0_t2) a + S1x128x128.size a ≤ S4x512x8192.size a) ∧
  (∀ k0_t2 : Fin (k0_t2_loop v14 v17 v20 v23 v26 v29).trips, ∀ a, (k0_off17 v14 v17 v20 v23 v26 v29 k0_t2) a + S1x128x128.size a ≤ S4x512x8192.size a) ∧
  (∀ k0_t2 : Fin (k0_t2_loop v14 v17 v20 v23 v26 v29).trips, ∀ a, (k0_off18 v14 v17 v20 v23 v26 v29 k0_t2) a + S1x128x128.size a ≤ S4x512x8192.size a) ∧
  (∀ k0_t2 : Fin (k0_t2_loop v14 v17 v20 v23 v26 v29).trips, ∀ a, (k0_off19 v14 v17 v20 v23 v26 v29 k0_t2) a + S1x128x128.size a ≤ S4x512x8192.size a) ∧
  (∀ k0_t2 : Fin (k0_t2_loop v14 v17 v20 v23 v26 v29).trips, ∀ a, (k0_off20 v14 v17 v20 v23 v26 v29 k0_t2) a + S1x128x128.size a ≤ S4x512x8192.size a)
def k0_chk1_1 (v14 : BitVec 32) (v17 : BitVec 32) (v20 : BitVec 32) (v23 : BitVec 32) (v26 : BitVec 32) (v29 : BitVec 32) : Prop :=
  (∀ k0_t2 : Fin (k0_t2_loop v14 v17 v20 v23 v26 v29).trips, ∀ a, (k0_off21 v14 v17 v20 v23 v26 v29 k0_t2) a + S1x128x128.size a ≤ S4x512x8192.size a) ∧
  (∀ k0_t2 : Fin (k0_t2_loop v14 v17 v20 v23 v26 v29).trips, ∀ a, (k0_off22 v14 v17 v20 v23 v26 v29 k0_t2) a + S1x128x128.size a ≤ S4x512x8192.size a) ∧
  (∀ k0_t2 : Fin (k0_t2_loop v14 v17 v20 v23 v26 v29).trips, ∀ a, (k0_off23 v14 v17 v20 v23 v26 v29 k0_t2) a + S1x128x128.size a ≤ S4x512x8192.size a) ∧
  (∀ k0_t2 : Fin (k0_t2_loop v14 v17 v20 v23 v26 v29).trips, ∀ a, (k0_off24 v14 v17 v20 v23 v26 v29 k0_t2) a + S1x128x128.size a ≤ S4x512x8192.size a) ∧
  (∀ k0_t2 : Fin (k0_t2_loop v14 v17 v20 v23 v26 v29).trips, ∀ a, (k0_off25 v14 v17 v20 v23 v26 v29 k0_t2) a + S1x128x128.size a ≤ S4x512x8192.size a) ∧
  (∀ k0_t2 : Fin (k0_t2_loop v14 v17 v20 v23 v26 v29).trips, ∀ a, (k0_off26 v14 v17 v20 v23 v26 v29 k0_t2) a + S1x512x1536.size a ≤ S4x512x8192.size a) ∧
  (∀ k0_t2 : Fin (k0_t2_loop v14 v17 v20 v23 v26 v29).trips, ∀ a, (k0_off27 v14 v17 v20 v23 v26 v29 k0_t2) a + S1x128x128.size a ≤ S4x512x8192.size a) ∧
  (∀ k0_t2 : Fin (k0_t2_loop v14 v17 v20 v23 v26 v29).trips, ∀ a, (k0_off28 v14 v17 v20 v23 v26 v29 k0_t2) a + S1x128x128.size a ≤ S4x512x8192.size a) ∧
  (∀ k0_t2 : Fin (k0_t2_loop v14 v17 v20 v23 v26 v29).trips, ∀ a, (k0_off29 v14 v17 v20 v23 v26 v29 k0_t2) a + S1x128x128.size a ≤ S4x512x8192.size a) ∧
  (∀ k0_t2 : Fin (k0_t2_loop v14 v17 v20 v23 v26 v29).trips, ∀ a, (k0_off30 v14 v17 v20 v23 v26 v29 k0_t2) a + S1x128x128.size a ≤ S4x512x8192.size a) ∧
  (∀ k0_t2 : Fin (k0_t2_loop v14 v17 v20 v23 v26 v29).trips, ∀ a, (k0_off31 v14 v17 v20 v23 v26 v29 k0_t2) a + S1x128x128.size a ≤ S4x512x8192.size a) ∧
  (∀ k0_t2 : Fin (k0_t2_loop v14 v17 v20 v23 v26 v29).trips, ∀ a, (k0_off32 v14 v17 v20 v23 v26 v29 k0_t2) a + S1x128x128.size a ≤ S4x512x8192.size a) ∧
  (∀ k0_t2 : Fin (k0_t2_loop v14 v17 v20 v23 v26 v29).trips, ∀ a, (k0_off33 v14 v17 v20 v23 v26 v29 k0_t2) a + S1x128x128.size a ≤ S4x512x8192.size a) ∧
  (∀ k0_t2 : Fin (k0_t2_loop v14 v17 v20 v23 v26 v29).trips, ∀ a, (k0_off34 v14 v17 v20 v23 v26 v29 k0_t2) a + S1x128x128.size a ≤ S4x512x8192.size a) ∧
  (∀ k0_t2 : Fin (k0_t2_loop v14 v17 v20 v23 v26 v29).trips, ∀ a, (k0_off35 v14 v17 v20 v23 v26 v29 k0_t2) a + S1x128x128.size a ≤ S4x512x8192.size a) ∧
  (∀ k0_t2 : Fin (k0_t2_loop v14 v17 v20 v23 v26 v29).trips, ∀ a, (k0_off36 v14 v17 v20 v23 v26 v29 k0_t2) a + S1x128x128.size a ≤ S4x512x8192.size a) ∧
  (∀ k0_t2 : Fin (k0_t2_loop v14 v17 v20 v23 v26 v29).trips, ∀ a, (k0_off37 v14 v17 v20 v23 v26 v29 k0_t2) a + S1x128x128.size a ≤ S4x512x8192.size a) ∧
  (∀ k0_t2 : Fin (k0_t2_loop v14 v17 v20 v23 v26 v29).trips, ∀ a, (k0_off38 v14 v17 v20 v23 v26 v29 k0_t2) a + S1x128x128.size a ≤ S4x512x8192.size a) ∧
  (∀ k0_t2 : Fin (k0_t2_loop v14 v17 v20 v23 v26 v29).trips, ∀ a, (k0_off39 v14 v17 v20 v23 v26 v29 k0_t2) a + S1x128x128.size a ≤ S4x512x8192.size a) ∧
  (∀ k0_t2 : Fin (k0_t2_loop v14 v17 v20 v23 v26 v29).trips, ∀ a, (k0_off40 v14 v17 v20 v23 v26 v29 k0_t2) a + S1x128x128.size a ≤ S4x512x8192.size a) ∧
  (∀ k0_t2 : Fin (k0_t2_loop v14 v17 v20 v23 v26 v29).trips, ∀ a, (k0_off41 v14 v17 v20 v23 v26 v29 k0_t2) a + S1x128x128.size a ≤ S4x512x8192.size a) ∧
  (∀ k0_t2 : Fin (k0_t2_loop v14 v17 v20 v23 v26 v29).trips, ∀ a, (k0_off42 v14 v17 v20 v23 v26 v29 k0_t2) a + S1x128x128.size a ≤ S4x512x8192.size a) ∧
  (∀ k0_t2 : Fin (k0_t2_loop v14 v17 v20 v23 v26 v29).trips, ∀ a, (k0_off43 v14 v17 v20 v23 v26 v29 k0_t2) a + S1x512x1536.size a ≤ S4x512x8192.size a) ∧
  (∀ k0_t2 : Fin (k0_t2_loop v14 v17 v20 v23 v26 v29).trips, ∀ a, (k0_off44 v14 v17 v20 v23 v26 v29 k0_t2) a + S1x128x128.size a ≤ S4x512x8192.size a) ∧
  (∀ k0_t2 : Fin (k0_t2_loop v14 v17 v20 v23 v26 v29).trips, ∀ a, (k0_off45 v14 v17 v20 v23 v26 v29 k0_t2) a + S1x128x128.size a ≤ S4x512x8192.size a) ∧
  (∀ k0_t2 : Fin (k0_t2_loop v14 v17 v20 v23 v26 v29).trips, ∀ a, (k0_off46 v14 v17 v20 v23 v26 v29 k0_t2) a + S1x128x128.size a ≤ S4x512x8192.size a) ∧
  (∀ k0_t2 : Fin (k0_t2_loop v14 v17 v20 v23 v26 v29).trips, ∀ a, (k0_off47 v14 v17 v20 v23 v26 v29 k0_t2) a + S1x128x128.size a ≤ S4x512x8192.size a) ∧
  (∀ k0_t2 : Fin (k0_t2_loop v14 v17 v20 v23 v26 v29).trips, ∀ a, (k0_off48 v14 v17 v20 v23 v26 v29 k0_t2) a + S1x128x128.size a ≤ S4x512x8192.size a) ∧
  (∀ k0_t2 : Fin (k0_t2_loop v14 v17 v20 v23 v26 v29).trips, ∀ a, (k0_off49 v14 v17 v20 v23 v26 v29 k0_t2) a + S1x128x128.size a ≤ S4x512x8192.size a) ∧
  (∀ k0_t2 : Fin (k0_t2_loop v14 v17 v20 v23 v26 v29).trips, ∀ a, (k0_off50 v14 v17 v20 v23 v26 v29 k0_t2) a + S1x128x128.size a ≤ S4x512x8192.size a) ∧
  (∀ k0_t2 : Fin (k0_t2_loop v14 v17 v20 v23 v26 v29).trips, ∀ a, (k0_off51 v14 v17 v20 v23 v26 v29 k0_t2) a + S1x128x128.size a ≤ S4x512x8192.size a) ∧
  (∀ k0_t2 : Fin (k0_t2_loop v14 v17 v20 v23 v26 v29).trips, ∀ a, (k0_off52 v14 v17 v20 v23 v26 v29 k0_t2) a + S1x128x128.size a ≤ S4x512x8192.size a)
def k0_chk1_2 (v14 : BitVec 32) (v17 : BitVec 32) (v20 : BitVec 32) (v23 : BitVec 32) (v26 : BitVec 32) (v29 : BitVec 32) : Prop :=
  (∀ k0_t2 : Fin (k0_t2_loop v14 v17 v20 v23 v26 v29).trips, ∀ a, (k0_off53 v14 v17 v20 v23 v26 v29 k0_t2) a + S1x128x128.size a ≤ S4x512x8192.size a) ∧
  (∀ k0_t2 : Fin (k0_t2_loop v14 v17 v20 v23 v26 v29).trips, ∀ a, (k0_off54 v14 v17 v20 v23 v26 v29 k0_t2) a + S1x128x128.size a ≤ S4x512x8192.size a) ∧
  (∀ k0_t2 : Fin (k0_t2_loop v14 v17 v20 v23 v26 v29).trips, ∀ a, (k0_off55 v14 v17 v20 v23 v26 v29 k0_t2) a + S1x128x128.size a ≤ S4x512x8192.size a) ∧
  (∀ k0_t2 : Fin (k0_t2_loop v14 v17 v20 v23 v26 v29).trips, ∀ a, (k0_off56 v14 v17 v20 v23 v26 v29 k0_t2) a + S1x128x128.size a ≤ S4x512x8192.size a) ∧
  (∀ k0_t2 : Fin (k0_t2_loop v14 v17 v20 v23 v26 v29).trips, ∀ a, (k0_off57 v14 v17 v20 v23 v26 v29 k0_t2) a + S1x128x128.size a ≤ S4x512x8192.size a) ∧
  (∀ k0_t2 : Fin (k0_t2_loop v14 v17 v20 v23 v26 v29).trips, ∀ a, (k0_off58 v14 v17 v20 v23 v26 v29 k0_t2) a + S1x128x128.size a ≤ S4x512x8192.size a) ∧
  (∀ k0_t2 : Fin (k0_t2_loop v14 v17 v20 v23 v26 v29).trips, ∀ a, (k0_off59 v14 v17 v20 v23 v26 v29 k0_t2) a + S1x128x128.size a ≤ S4x512x8192.size a) ∧
  (∀ k0_t2 : Fin (k0_t2_loop v14 v17 v20 v23 v26 v29).trips, ∀ a, (k0_off60 v14 v17 v20 v23 v26 v29 k0_t2) a + S1x512x1536.size a ≤ S4x512x8192.size a) ∧
  (∀ k0_t2 : Fin (k0_t2_loop v14 v17 v20 v23 v26 v29).trips, ∀ a, (k0_off61 v14 v17 v20 v23 v26 v29 k0_t2) a + S1x128x128.size a ≤ S4x512x8192.size a) ∧
  (∀ k0_t2 : Fin (k0_t2_loop v14 v17 v20 v23 v26 v29).trips, ∀ a, (k0_off62 v14 v17 v20 v23 v26 v29 k0_t2) a + S1x128x128.size a ≤ S4x512x8192.size a) ∧
  (∀ k0_t2 : Fin (k0_t2_loop v14 v17 v20 v23 v26 v29).trips, ∀ a, (k0_off63 v14 v17 v20 v23 v26 v29 k0_t2) a + S1x128x128.size a ≤ S4x512x8192.size a) ∧
  (∀ k0_t2 : Fin (k0_t2_loop v14 v17 v20 v23 v26 v29).trips, ∀ a, (k0_off64 v14 v17 v20 v23 v26 v29 k0_t2) a + S1x128x128.size a ≤ S4x512x8192.size a) ∧
  (∀ k0_t2 : Fin (k0_t2_loop v14 v17 v20 v23 v26 v29).trips, ∀ a, (k0_off65 v14 v17 v20 v23 v26 v29 k0_t2) a + S1x128x128.size a ≤ S4x512x8192.size a) ∧
  (∀ k0_t2 : Fin (k0_t2_loop v14 v17 v20 v23 v26 v29).trips, ∀ a, (k0_off66 v14 v17 v20 v23 v26 v29 k0_t2) a + S1x128x128.size a ≤ S4x512x8192.size a) ∧
  (∀ k0_t2 : Fin (k0_t2_loop v14 v17 v20 v23 v26 v29).trips, ∀ a, (k0_off67 v14 v17 v20 v23 v26 v29 k0_t2) a + S1x128x128.size a ≤ S4x512x8192.size a) ∧
  (∀ k0_t2 : Fin (k0_t2_loop v14 v17 v20 v23 v26 v29).trips, ∀ a, (k0_off68 v14 v17 v20 v23 v26 v29 k0_t2) a + S1x128x128.size a ≤ S4x512x8192.size a) ∧
  (∀ k0_t2 : Fin (k0_t2_loop v14 v17 v20 v23 v26 v29).trips, ∀ a, (k0_off69 v14 v17 v20 v23 v26 v29 k0_t2) a + S1x128x128.size a ≤ S4x512x8192.size a) ∧
  (∀ k0_t2 : Fin (k0_t2_loop v14 v17 v20 v23 v26 v29).trips, ∀ a, (k0_off70 v14 v17 v20 v23 v26 v29 k0_t2) a + S1x128x128.size a ≤ S4x512x8192.size a) ∧
  (∀ k0_t2 : Fin (k0_t2_loop v14 v17 v20 v23 v26 v29).trips, ∀ a, (k0_off71 v14 v17 v20 v23 v26 v29 k0_t2) a + S1x128x128.size a ≤ S4x512x8192.size a) ∧
  (∀ k0_t2 : Fin (k0_t2_loop v14 v17 v20 v23 v26 v29).trips, ∀ a, (k0_off72 v14 v17 v20 v23 v26 v29 k0_t2) a + S1x128x128.size a ≤ S4x512x8192.size a) ∧
  (∀ k0_t2 : Fin (k0_t2_loop v14 v17 v20 v23 v26 v29).trips, ∀ a, (k0_off73 v14 v17 v20 v23 v26 v29 k0_t2) a + S1x128x128.size a ≤ S4x512x8192.size a) ∧
  (∀ k0_t2 : Fin (k0_t2_loop v14 v17 v20 v23 v26 v29).trips, ∀ a, (k0_off74 v14 v17 v20 v23 v26 v29 k0_t2) a + S1x128x128.size a ≤ S4x512x8192.size a) ∧
  (∀ k0_t2 : Fin (k0_t2_loop v14 v17 v20 v23 v26 v29).trips, ∀ a, (k0_off75 v14 v17 v20 v23 v26 v29 k0_t2) a + S1x128x128.size a ≤ S4x512x8192.size a) ∧
  (∀ k0_t2 : Fin (k0_t2_loop v14 v17 v20 v23 v26 v29).trips, ∀ a, (k0_off76 v14 v17 v20 v23 v26 v29 k0_t2) a + S1x128x128.size a ≤ S4x512x8192.size a) ∧
  (∀ k0_t2 : Fin (k0_t2_loop v14 v17 v20 v23 v26 v29).trips, ∀ (k0_h2 : k0_cond2 v14 v17 v20 v23 v26 v29 k0_t2 = 1#1), 32 ∣ (k0_mult9 v14 v17 v20 v23 v26 v29 k0_t2).toNat) ∧
  (∀ k0_t2 : Fin (k0_t2_loop v14 v17 v20 v23 v26 v29).trips, ∀ (k0_h2 : k0_cond2 v14 v17 v20 v23 v26 v29 k0_t2 = 1#1), 512 ∣ (k0_mult10 v14 v17 v20 v23 v26 v29 k0_t2).toNat) ∧
  (∀ k0_t2 : Fin (k0_t2_loop v14 v17 v20 v23 v26 v29).trips, ∀ (k0_h2 : k0_cond2 v14 v17 v20 v23 v26 v29 k0_t2 = 1#1), ∀ a, (k0_off77 v14 v17 v20 v23 v26 v29 k0_t2) a + S1.size a ≤ S4.size a) ∧
  (∀ k0_t2 : Fin (k0_t2_loop v14 v17 v20 v23 v26 v29).trips, ∀ (k0_h2 : k0_cond2 v14 v17 v20 v23 v26 v29 k0_t2 = 1#1), ∀ a, (k0_off78 v14 v17 v20 v23 v26 v29 k0_t2).2 a = 0 ∨ (k0_off78 v14 v17 v20 v23 v26 v29 k0_t2).1 a + (k0_off78 v14 v17 v20 v23 v26 v29 k0_t2).2 a ≤ S4x512x8192.size a) ∧
  (∀ k0_t2 : Fin (k0_t2_loop v14 v17 v20 v23 v26 v29).trips, ∀ (k0_h2 : k0_cond2 v14 v17 v20 v23 v26 v29 k0_t2 = 1#1), (⟨3, (k0_off78 v14 v17 v20 v23 v26 v29 k0_t2).2⟩ : Shape).Squeezes ⟨2, k0_sz5 v14 v17 v20 v23 v26 v29 k0_t2⟩) ∧
  (∀ k0_t2 : Fin (k0_t2_loop v14 v17 v20 v23 v26 v29).trips, ∀ (k0_h2 : k0_cond2 v14 v17 v20 v23 v26 v29 k0_t2 = 1#1), ∀ a, (k0_off79 v14 v17 v20 v23 v26 v29 k0_t2).2 a = 0 ∨ (k0_off79 v14 v17 v20 v23 v26 v29 k0_t2).1 a + (k0_off79 v14 v17 v20 v23 v26 v29 k0_t2).2 a ≤ S6x6144x8192.size a) ∧
  (∀ k0_t2 : Fin (k0_t2_loop v14 v17 v20 v23 v26 v29).trips, ∀ (k0_h2 : k0_cond2 v14 v17 v20 v23 v26 v29 k0_t2 = 1#1), (⟨3, (k0_off79 v14 v17 v20 v23 v26 v29 k0_t2).2⟩ : Shape).Squeezes ⟨2, k0_sz6 v14 v17 v20 v23 v26 v29 k0_t2⟩) ∧
  (∀ k0_t2 : Fin (k0_t2_loop v14 v17 v20 v23 v26 v29).trips, ∀ (k0_h2 : k0_cond2 v14 v17 v20 v23 v26 v29 k0_t2 = 1#1), ∀ (hinb : ∀ a, (k0_off79 v14 v17 v20 v23 v26 v29 k0_t2).2 a = 0 ∨ (k0_off79 v14 v17 v20 v23 v26 v29 k0_t2).1 a + (k0_off79 v14 v17 v20 v23 v26 v29 k0_t2).2 a ≤ S6x6144x8192.size a), (Rect.unitDyn (s := S6x6144x8192) (k0_off79 v14 v17 v20 v23 v26 v29 k0_t2).1 (k0_off79 v14 v17 v20 v23 v26 v29 k0_t2).2 hinb).WholeWords (EltTy.packing .fp8e4m3))
def k0_chk1_3 (v14 : BitVec 32) (v17 : BitVec 32) (v20 : BitVec 32) (v23 : BitVec 32) (v26 : BitVec 32) (v29 : BitVec 32) : Prop :=
  (∀ k0_t2 : Fin (k0_t2_loop v14 v17 v20 v23 v26 v29).trips, ∀ (k0_h2 : k0_cond2 v14 v17 v20 v23 v26 v29 k0_t2 = 1#1), ∀ (hinb : ∀ a, (k0_off78 v14 v17 v20 v23 v26 v29 k0_t2).2 a = 0 ∨ (k0_off78 v14 v17 v20 v23 v26 v29 k0_t2).1 a + (k0_off78 v14 v17 v20 v23 v26 v29 k0_t2).2 a ≤ S4x512x8192.size a), (Rect.unitDyn (s := S4x512x8192) (k0_off78 v14 v17 v20 v23 v26 v29 k0_t2).1 (k0_off78 v14 v17 v20 v23 v26 v29 k0_t2).2 hinb).WholeWords (EltTy.packing .fp8e4m3)) ∧
  ((k0_t3_loop v14 v17 v20 v23 v26 v29).OK) ∧
  (∀ k0_t3 : Fin (k0_t3_loop v14 v17 v20 v23 v26 v29).trips, 32 ∣ (k0_mult11 v14 v17 v20 v23 v26 v29 k0_t3).toNat) ∧
  (∀ k0_t3 : Fin (k0_t3_loop v14 v17 v20 v23 v26 v29).trips, 512 ∣ (k0_mult12 v14 v17 v20 v23 v26 v29 k0_t3).toNat) ∧
  (∀ k0_t3 : Fin (k0_t3_loop v14 v17 v20 v23 v26 v29).trips, ∀ a, (k0_off80 v14 v17 v20 v23 v26 v29 k0_t3) a + S1.size a ≤ S4.size a) ∧
  (∀ k0_t3 : Fin (k0_t3_loop v14 v17 v20 v23 v26 v29).trips, (⟨3, (k0_off81 v14 v17 v20 v23 v26 v29 k0_t3).2⟩ : Shape).Squeezes ⟨2, k0_sz7 v14 v17 v20 v23 v26 v29 k0_t3⟩) ∧
  (∀ k0_t3 : Fin (k0_t3_loop v14 v17 v20 v23 v26 v29).trips, (⟨3, (k0_off82 v14 v17 v20 v23 v26 v29 k0_t3).2⟩ : Shape).Squeezes ⟨2, k0_sz8 v14 v17 v20 v23 v26 v29 k0_t3⟩) ∧
  (∀ k0_t3 : Fin (k0_t3_loop v14 v17 v20 v23 v26 v29).trips, ∀ a, (k0_off83 v14 v17 v20 v23 v26 v29 k0_t3) a + S1.size a ≤ S6.size a) ∧
  (∀ k0_t3 : Fin (k0_t3_loop v14 v17 v20 v23 v26 v29).trips, 128 ∣ (k0_mult13 v14 v17 v20 v23 v26 v29 k0_t3).toNat) ∧
  (∀ k0_t3 : Fin (k0_t3_loop v14 v17 v20 v23 v26 v29).trips, ∀ (r : Fin 4), ∀ a, (k0_off84 v14 v17 v20 v23 v26 v29 k0_t3 (BitVec.ofNat 32 (128 * r.val))) a + S6x128.size a ≤ S6x6144.size a) ∧
  (∀ k0_t3 : Fin (k0_t3_loop v14 v17 v20 v23 v26 v29).trips, 128 ∣ (k0_mult14 v14 v17 v20 v23 v26 v29 k0_t3).toNat) ∧
  (∀ k0_t3 : Fin (k0_t3_loop v14 v17 v20 v23 v26 v29).trips, 128 ∣ (k0_mult15 v14 v17 v20 v23 v26 v29 k0_t3).toNat) ∧
  (∀ k0_t3 : Fin (k0_t3_loop v14 v17 v20 v23 v26 v29).trips, 128 ∣ (k0_mult16 v14 v17 v20 v23 v26 v29 k0_t3).toNat) ∧
  (∀ k0_t3 : Fin (k0_t3_loop v14 v17 v20 v23 v26 v29).trips, ∀ a, (k0_off85 v14 v17 v20 v23 v26 v29 k0_t3) a + S1x512x1536.size a ≤ S4x512x8192.size a) ∧
  (∀ k0_t3 : Fin (k0_t3_loop v14 v17 v20 v23 v26 v29).trips, ∀ a, (k0_off86 v14 v17 v20 v23 v26 v29 k0_t3) a + S1x128x128.size a ≤ S4x512x8192.size a) ∧
  (∀ k0_t3 : Fin (k0_t3_loop v14 v17 v20 v23 v26 v29).trips, ∀ a, (k0_off87 v14 v17 v20 v23 v26 v29 k0_t3) a + S1x128x128.size a ≤ S4x512x8192.size a) ∧
  (∀ k0_t3 : Fin (k0_t3_loop v14 v17 v20 v23 v26 v29).trips, ∀ a, (k0_off88 v14 v17 v20 v23 v26 v29 k0_t3) a + S1x128x128.size a ≤ S4x512x8192.size a) ∧
  (∀ k0_t3 : Fin (k0_t3_loop v14 v17 v20 v23 v26 v29).trips, ∀ a, (k0_off89 v14 v17 v20 v23 v26 v29 k0_t3) a + S1x128x128.size a ≤ S4x512x8192.size a) ∧
  (∀ k0_t3 : Fin (k0_t3_loop v14 v17 v20 v23 v26 v29).trips, ∀ a, (k0_off90 v14 v17 v20 v23 v26 v29 k0_t3) a + S1x128x128.size a ≤ S4x512x8192.size a) ∧
  (∀ k0_t3 : Fin (k0_t3_loop v14 v17 v20 v23 v26 v29).trips, ∀ a, (k0_off91 v14 v17 v20 v23 v26 v29 k0_t3) a + S1x128x128.size a ≤ S4x512x8192.size a) ∧
  (∀ k0_t3 : Fin (k0_t3_loop v14 v17 v20 v23 v26 v29).trips, ∀ a, (k0_off92 v14 v17 v20 v23 v26 v29 k0_t3) a + S1x128x128.size a ≤ S4x512x8192.size a) ∧
  (∀ k0_t3 : Fin (k0_t3_loop v14 v17 v20 v23 v26 v29).trips, ∀ a, (k0_off93 v14 v17 v20 v23 v26 v29 k0_t3) a + S1x128x128.size a ≤ S4x512x8192.size a) ∧
  (∀ k0_t3 : Fin (k0_t3_loop v14 v17 v20 v23 v26 v29).trips, ∀ a, (k0_off94 v14 v17 v20 v23 v26 v29 k0_t3) a + S1x128x128.size a ≤ S4x512x8192.size a) ∧
  (∀ k0_t3 : Fin (k0_t3_loop v14 v17 v20 v23 v26 v29).trips, ∀ a, (k0_off95 v14 v17 v20 v23 v26 v29 k0_t3) a + S1x128x128.size a ≤ S4x512x8192.size a) ∧
  (∀ k0_t3 : Fin (k0_t3_loop v14 v17 v20 v23 v26 v29).trips, ∀ a, (k0_off96 v14 v17 v20 v23 v26 v29 k0_t3) a + S1x128x128.size a ≤ S4x512x8192.size a) ∧
  (∀ k0_t3 : Fin (k0_t3_loop v14 v17 v20 v23 v26 v29).trips, ∀ a, (k0_off97 v14 v17 v20 v23 v26 v29 k0_t3) a + S1x128x128.size a ≤ S4x512x8192.size a) ∧
  (∀ k0_t3 : Fin (k0_t3_loop v14 v17 v20 v23 v26 v29).trips, ∀ a, (k0_off98 v14 v17 v20 v23 v26 v29 k0_t3) a + S1x128x128.size a ≤ S4x512x8192.size a) ∧
  (∀ k0_t3 : Fin (k0_t3_loop v14 v17 v20 v23 v26 v29).trips, ∀ a, (k0_off99 v14 v17 v20 v23 v26 v29 k0_t3) a + S1x128x128.size a ≤ S4x512x8192.size a) ∧
  (∀ k0_t3 : Fin (k0_t3_loop v14 v17 v20 v23 v26 v29).trips, ∀ a, (k0_off100 v14 v17 v20 v23 v26 v29 k0_t3) a + S1x128x128.size a ≤ S4x512x8192.size a) ∧
  (∀ k0_t3 : Fin (k0_t3_loop v14 v17 v20 v23 v26 v29).trips, ∀ a, (k0_off101 v14 v17 v20 v23 v26 v29 k0_t3) a + S1x128x128.size a ≤ S4x512x8192.size a) ∧
  (∀ k0_t3 : Fin (k0_t3_loop v14 v17 v20 v23 v26 v29).trips, ∀ a, (k0_off102 v14 v17 v20 v23 v26 v29 k0_t3) a + S1x512x1536.size a ≤ S4x512x8192.size a) ∧
  (∀ k0_t3 : Fin (k0_t3_loop v14 v17 v20 v23 v26 v29).trips, ∀ a, (k0_off103 v14 v17 v20 v23 v26 v29 k0_t3) a + S1x128x128.size a ≤ S4x512x8192.size a)
def k0_chk1_4 (v14 : BitVec 32) (v17 : BitVec 32) (v20 : BitVec 32) (v23 : BitVec 32) (v26 : BitVec 32) (v29 : BitVec 32) : Prop :=
  (∀ k0_t3 : Fin (k0_t3_loop v14 v17 v20 v23 v26 v29).trips, ∀ a, (k0_off104 v14 v17 v20 v23 v26 v29 k0_t3) a + S1x128x128.size a ≤ S4x512x8192.size a) ∧
  (∀ k0_t3 : Fin (k0_t3_loop v14 v17 v20 v23 v26 v29).trips, ∀ a, (k0_off105 v14 v17 v20 v23 v26 v29 k0_t3) a + S1x128x128.size a ≤ S4x512x8192.size a) ∧
  (∀ k0_t3 : Fin (k0_t3_loop v14 v17 v20 v23 v26 v29).trips, ∀ a, (k0_off106 v14 v17 v20 v23 v26 v29 k0_t3) a + S1x128x128.size a ≤ S4x512x8192.size a) ∧
  (∀ k0_t3 : Fin (k0_t3_loop v14 v17 v20 v23 v26 v29).trips, ∀ a, (k0_off107 v14 v17 v20 v23 v26 v29 k0_t3) a + S1x128x128.size a ≤ S4x512x8192.size a) ∧
  (∀ k0_t3 : Fin (k0_t3_loop v14 v17 v20 v23 v26 v29).trips, ∀ a, (k0_off108 v14 v17 v20 v23 v26 v29 k0_t3) a + S1x128x128.size a ≤ S4x512x8192.size a) ∧
  (∀ k0_t3 : Fin (k0_t3_loop v14 v17 v20 v23 v26 v29).trips, ∀ a, (k0_off109 v14 v17 v20 v23 v26 v29 k0_t3) a + S1x128x128.size a ≤ S4x512x8192.size a) ∧
  (∀ k0_t3 : Fin (k0_t3_loop v14 v17 v20 v23 v26 v29).trips, ∀ a, (k0_off110 v14 v17 v20 v23 v26 v29 k0_t3) a + S1x128x128.size a ≤ S4x512x8192.size a) ∧
  (∀ k0_t3 : Fin (k0_t3_loop v14 v17 v20 v23 v26 v29).trips, ∀ a, (k0_off111 v14 v17 v20 v23 v26 v29 k0_t3) a + S1x128x128.size a ≤ S4x512x8192.size a) ∧
  (∀ k0_t3 : Fin (k0_t3_loop v14 v17 v20 v23 v26 v29).trips, ∀ a, (k0_off112 v14 v17 v20 v23 v26 v29 k0_t3) a + S1x128x128.size a ≤ S4x512x8192.size a) ∧
  (∀ k0_t3 : Fin (k0_t3_loop v14 v17 v20 v23 v26 v29).trips, ∀ a, (k0_off113 v14 v17 v20 v23 v26 v29 k0_t3) a + S1x128x128.size a ≤ S4x512x8192.size a) ∧
  (∀ k0_t3 : Fin (k0_t3_loop v14 v17 v20 v23 v26 v29).trips, ∀ a, (k0_off114 v14 v17 v20 v23 v26 v29 k0_t3) a + S1x128x128.size a ≤ S4x512x8192.size a) ∧
  (∀ k0_t3 : Fin (k0_t3_loop v14 v17 v20 v23 v26 v29).trips, ∀ a, (k0_off115 v14 v17 v20 v23 v26 v29 k0_t3) a + S1x128x128.size a ≤ S4x512x8192.size a) ∧
  (∀ k0_t3 : Fin (k0_t3_loop v14 v17 v20 v23 v26 v29).trips, ∀ a, (k0_off116 v14 v17 v20 v23 v26 v29 k0_t3) a + S1x128x128.size a ≤ S4x512x8192.size a) ∧
  (∀ k0_t3 : Fin (k0_t3_loop v14 v17 v20 v23 v26 v29).trips, ∀ a, (k0_off117 v14 v17 v20 v23 v26 v29 k0_t3) a + S1x128x128.size a ≤ S4x512x8192.size a) ∧
  (∀ k0_t3 : Fin (k0_t3_loop v14 v17 v20 v23 v26 v29).trips, ∀ a, (k0_off118 v14 v17 v20 v23 v26 v29 k0_t3) a + S1x128x128.size a ≤ S4x512x8192.size a) ∧
  (∀ k0_t3 : Fin (k0_t3_loop v14 v17 v20 v23 v26 v29).trips, ∀ a, (k0_off119 v14 v17 v20 v23 v26 v29 k0_t3) a + S1x512x1536.size a ≤ S4x512x8192.size a) ∧
  (∀ k0_t3 : Fin (k0_t3_loop v14 v17 v20 v23 v26 v29).trips, ∀ a, (k0_off120 v14 v17 v20 v23 v26 v29 k0_t3) a + S1x128x128.size a ≤ S4x512x8192.size a) ∧
  (∀ k0_t3 : Fin (k0_t3_loop v14 v17 v20 v23 v26 v29).trips, ∀ a, (k0_off121 v14 v17 v20 v23 v26 v29 k0_t3) a + S1x128x128.size a ≤ S4x512x8192.size a) ∧
  (∀ k0_t3 : Fin (k0_t3_loop v14 v17 v20 v23 v26 v29).trips, ∀ a, (k0_off122 v14 v17 v20 v23 v26 v29 k0_t3) a + S1x128x128.size a ≤ S4x512x8192.size a) ∧
  (∀ k0_t3 : Fin (k0_t3_loop v14 v17 v20 v23 v26 v29).trips, ∀ a, (k0_off123 v14 v17 v20 v23 v26 v29 k0_t3) a + S1x128x128.size a ≤ S4x512x8192.size a) ∧
  (∀ k0_t3 : Fin (k0_t3_loop v14 v17 v20 v23 v26 v29).trips, ∀ a, (k0_off124 v14 v17 v20 v23 v26 v29 k0_t3) a + S1x128x128.size a ≤ S4x512x8192.size a) ∧
  (∀ k0_t3 : Fin (k0_t3_loop v14 v17 v20 v23 v26 v29).trips, ∀ a, (k0_off125 v14 v17 v20 v23 v26 v29 k0_t3) a + S1x128x128.size a ≤ S4x512x8192.size a) ∧
  (∀ k0_t3 : Fin (k0_t3_loop v14 v17 v20 v23 v26 v29).trips, ∀ a, (k0_off126 v14 v17 v20 v23 v26 v29 k0_t3) a + S1x128x128.size a ≤ S4x512x8192.size a) ∧
  (∀ k0_t3 : Fin (k0_t3_loop v14 v17 v20 v23 v26 v29).trips, ∀ a, (k0_off127 v14 v17 v20 v23 v26 v29 k0_t3) a + S1x128x128.size a ≤ S4x512x8192.size a) ∧
  (∀ k0_t3 : Fin (k0_t3_loop v14 v17 v20 v23 v26 v29).trips, ∀ a, (k0_off128 v14 v17 v20 v23 v26 v29 k0_t3) a + S1x128x128.size a ≤ S4x512x8192.size a) ∧
  (∀ k0_t3 : Fin (k0_t3_loop v14 v17 v20 v23 v26 v29).trips, ∀ a, (k0_off129 v14 v17 v20 v23 v26 v29 k0_t3) a + S1x128x128.size a ≤ S4x512x8192.size a) ∧
  (∀ k0_t3 : Fin (k0_t3_loop v14 v17 v20 v23 v26 v29).trips, ∀ a, (k0_off130 v14 v17 v20 v23 v26 v29 k0_t3) a + S1x128x128.size a ≤ S4x512x8192.size a) ∧
  (∀ k0_t3 : Fin (k0_t3_loop v14 v17 v20 v23 v26 v29).trips, ∀ a, (k0_off131 v14 v17 v20 v23 v26 v29 k0_t3) a + S1x128x128.size a ≤ S4x512x8192.size a) ∧
  (∀ k0_t3 : Fin (k0_t3_loop v14 v17 v20 v23 v26 v29).trips, ∀ a, (k0_off132 v14 v17 v20 v23 v26 v29 k0_t3) a + S1x128x128.size a ≤ S4x512x8192.size a) ∧
  (∀ k0_t3 : Fin (k0_t3_loop v14 v17 v20 v23 v26 v29).trips, ∀ a, (k0_off133 v14 v17 v20 v23 v26 v29 k0_t3) a + S1x128x128.size a ≤ S4x512x8192.size a) ∧
  (∀ k0_t3 : Fin (k0_t3_loop v14 v17 v20 v23 v26 v29).trips, ∀ a, (k0_off134 v14 v17 v20 v23 v26 v29 k0_t3) a + S1x128x128.size a ≤ S4x512x8192.size a) ∧
  (∀ k0_t3 : Fin (k0_t3_loop v14 v17 v20 v23 v26 v29).trips, ∀ a, (k0_off135 v14 v17 v20 v23 v26 v29 k0_t3) a + S1x128x128.size a ≤ S4x512x8192.size a)
def k0_chk1_5 (v14 : BitVec 32) (v17 : BitVec 32) (v20 : BitVec 32) (v23 : BitVec 32) (v26 : BitVec 32) (v29 : BitVec 32) : Prop :=
  (∀ k0_t3 : Fin (k0_t3_loop v14 v17 v20 v23 v26 v29).trips, ∀ a, (k0_off136 v14 v17 v20 v23 v26 v29 k0_t3) a + S1x512x1536.size a ≤ S4x512x8192.size a) ∧
  (∀ k0_t3 : Fin (k0_t3_loop v14 v17 v20 v23 v26 v29).trips, ∀ a, (k0_off137 v14 v17 v20 v23 v26 v29 k0_t3) a + S1x128x128.size a ≤ S4x512x8192.size a) ∧
  (∀ k0_t3 : Fin (k0_t3_loop v14 v17 v20 v23 v26 v29).trips, ∀ a, (k0_off138 v14 v17 v20 v23 v26 v29 k0_t3) a + S1x128x128.size a ≤ S4x512x8192.size a) ∧
  (∀ k0_t3 : Fin (k0_t3_loop v14 v17 v20 v23 v26 v29).trips, ∀ a, (k0_off139 v14 v17 v20 v23 v26 v29 k0_t3) a + S1x128x128.size a ≤ S4x512x8192.size a) ∧
  (∀ k0_t3 : Fin (k0_t3_loop v14 v17 v20 v23 v26 v29).trips, ∀ a, (k0_off140 v14 v17 v20 v23 v26 v29 k0_t3) a + S1x128x128.size a ≤ S4x512x8192.size a) ∧
  (∀ k0_t3 : Fin (k0_t3_loop v14 v17 v20 v23 v26 v29).trips, ∀ a, (k0_off141 v14 v17 v20 v23 v26 v29 k0_t3) a + S1x128x128.size a ≤ S4x512x8192.size a) ∧
  (∀ k0_t3 : Fin (k0_t3_loop v14 v17 v20 v23 v26 v29).trips, ∀ a, (k0_off142 v14 v17 v20 v23 v26 v29 k0_t3) a + S1x128x128.size a ≤ S4x512x8192.size a) ∧
  (∀ k0_t3 : Fin (k0_t3_loop v14 v17 v20 v23 v26 v29).trips, ∀ a, (k0_off143 v14 v17 v20 v23 v26 v29 k0_t3) a + S1x128x128.size a ≤ S4x512x8192.size a) ∧
  (∀ k0_t3 : Fin (k0_t3_loop v14 v17 v20 v23 v26 v29).trips, ∀ a, (k0_off144 v14 v17 v20 v23 v26 v29 k0_t3) a + S1x128x128.size a ≤ S4x512x8192.size a) ∧
  (∀ k0_t3 : Fin (k0_t3_loop v14 v17 v20 v23 v26 v29).trips, ∀ a, (k0_off145 v14 v17 v20 v23 v26 v29 k0_t3) a + S1x128x128.size a ≤ S4x512x8192.size a) ∧
  (∀ k0_t3 : Fin (k0_t3_loop v14 v17 v20 v23 v26 v29).trips, ∀ a, (k0_off146 v14 v17 v20 v23 v26 v29 k0_t3) a + S1x128x128.size a ≤ S4x512x8192.size a) ∧
  (∀ k0_t3 : Fin (k0_t3_loop v14 v17 v20 v23 v26 v29).trips, ∀ a, (k0_off147 v14 v17 v20 v23 v26 v29 k0_t3) a + S1x128x128.size a ≤ S4x512x8192.size a) ∧
  (∀ k0_t3 : Fin (k0_t3_loop v14 v17 v20 v23 v26 v29).trips, ∀ a, (k0_off148 v14 v17 v20 v23 v26 v29 k0_t3) a + S1x128x128.size a ≤ S4x512x8192.size a) ∧
  (∀ k0_t3 : Fin (k0_t3_loop v14 v17 v20 v23 v26 v29).trips, ∀ a, (k0_off149 v14 v17 v20 v23 v26 v29 k0_t3) a + S1x128x128.size a ≤ S4x512x8192.size a) ∧
  (∀ k0_t3 : Fin (k0_t3_loop v14 v17 v20 v23 v26 v29).trips, ∀ a, (k0_off150 v14 v17 v20 v23 v26 v29 k0_t3) a + S1x128x128.size a ≤ S4x512x8192.size a) ∧
  (∀ k0_t3 : Fin (k0_t3_loop v14 v17 v20 v23 v26 v29).trips, ∀ a, (k0_off151 v14 v17 v20 v23 v26 v29 k0_t3) a + S1x128x128.size a ≤ S4x512x8192.size a) ∧
  (∀ k0_t3 : Fin (k0_t3_loop v14 v17 v20 v23 v26 v29).trips, ∀ a, (k0_off152 v14 v17 v20 v23 v26 v29 k0_t3) a + S1x128x128.size a ≤ S4x512x8192.size a) ∧
  (∀ k0_t3 : Fin (k0_t3_loop v14 v17 v20 v23 v26 v29).trips, ∀ (k0_h3 : k0_cond3 v14 v17 v20 v23 v26 v29 k0_t3 = 1#1), 32 ∣ (k0_mult17 v14 v17 v20 v23 v26 v29 k0_t3).toNat) ∧
  (∀ k0_t3 : Fin (k0_t3_loop v14 v17 v20 v23 v26 v29).trips, ∀ (k0_h3 : k0_cond3 v14 v17 v20 v23 v26 v29 k0_t3 = 1#1), 512 ∣ (k0_mult18 v14 v17 v20 v23 v26 v29 k0_t3).toNat) ∧
  (∀ k0_t3 : Fin (k0_t3_loop v14 v17 v20 v23 v26 v29).trips, ∀ (k0_h3 : k0_cond3 v14 v17 v20 v23 v26 v29 k0_t3 = 1#1), ∀ a, (k0_off153 v14 v17 v20 v23 v26 v29 k0_t3) a + S1.size a ≤ S4.size a) ∧
  (∀ k0_t3 : Fin (k0_t3_loop v14 v17 v20 v23 v26 v29).trips, ∀ (k0_h3 : k0_cond3 v14 v17 v20 v23 v26 v29 k0_t3 = 1#1), ∀ a, (k0_off154 v14 v17 v20 v23 v26 v29 k0_t3).2 a = 0 ∨ (k0_off154 v14 v17 v20 v23 v26 v29 k0_t3).1 a + (k0_off154 v14 v17 v20 v23 v26 v29 k0_t3).2 a ≤ S4x512x8192.size a) ∧
  (∀ k0_t3 : Fin (k0_t3_loop v14 v17 v20 v23 v26 v29).trips, ∀ (k0_h3 : k0_cond3 v14 v17 v20 v23 v26 v29 k0_t3 = 1#1), (⟨3, (k0_off154 v14 v17 v20 v23 v26 v29 k0_t3).2⟩ : Shape).Squeezes ⟨2, k0_sz9 v14 v17 v20 v23 v26 v29 k0_t3⟩) ∧
  (∀ k0_t3 : Fin (k0_t3_loop v14 v17 v20 v23 v26 v29).trips, ∀ (k0_h3 : k0_cond3 v14 v17 v20 v23 v26 v29 k0_t3 = 1#1), ∀ a, (k0_off155 v14 v17 v20 v23 v26 v29 k0_t3).2 a = 0 ∨ (k0_off155 v14 v17 v20 v23 v26 v29 k0_t3).1 a + (k0_off155 v14 v17 v20 v23 v26 v29 k0_t3).2 a ≤ S6x6144x8192.size a) ∧
  (∀ k0_t3 : Fin (k0_t3_loop v14 v17 v20 v23 v26 v29).trips, ∀ (k0_h3 : k0_cond3 v14 v17 v20 v23 v26 v29 k0_t3 = 1#1), (⟨3, (k0_off155 v14 v17 v20 v23 v26 v29 k0_t3).2⟩ : Shape).Squeezes ⟨2, k0_sz10 v14 v17 v20 v23 v26 v29 k0_t3⟩) ∧
  (∀ k0_t3 : Fin (k0_t3_loop v14 v17 v20 v23 v26 v29).trips, ∀ (k0_h3 : k0_cond3 v14 v17 v20 v23 v26 v29 k0_t3 = 1#1), ∀ (hinb : ∀ a, (k0_off155 v14 v17 v20 v23 v26 v29 k0_t3).2 a = 0 ∨ (k0_off155 v14 v17 v20 v23 v26 v29 k0_t3).1 a + (k0_off155 v14 v17 v20 v23 v26 v29 k0_t3).2 a ≤ S6x6144x8192.size a), (Rect.unitDyn (s := S6x6144x8192) (k0_off155 v14 v17 v20 v23 v26 v29 k0_t3).1 (k0_off155 v14 v17 v20 v23 v26 v29 k0_t3).2 hinb).WholeWords (EltTy.packing .fp8e4m3)) ∧
  (∀ k0_t3 : Fin (k0_t3_loop v14 v17 v20 v23 v26 v29).trips, ∀ (k0_h3 : k0_cond3 v14 v17 v20 v23 v26 v29 k0_t3 = 1#1), ∀ (hinb : ∀ a, (k0_off154 v14 v17 v20 v23 v26 v29 k0_t3).2 a = 0 ∨ (k0_off154 v14 v17 v20 v23 v26 v29 k0_t3).1 a + (k0_off154 v14 v17 v20 v23 v26 v29 k0_t3).2 a ≤ S4x512x8192.size a), (Rect.unitDyn (s := S4x512x8192) (k0_off154 v14 v17 v20 v23 v26 v29 k0_t3).1 (k0_off154 v14 v17 v20 v23 v26 v29 k0_t3).2 hinb).WholeWords (EltTy.packing .fp8e4m3)) ∧
  (∀ (k0_h4 : k0_cond4 v14 v17 v20 v23 v26 v29 = 1#1), ∀ a, (k0_off156 v14 v17 v20 v23 v26 v29) a + S1.size a ≤ S6.size a) ∧
  (∀ (k0_h4 : k0_cond4 v14 v17 v20 v23 v26 v29 = 1#1), 128 ∣ (k0_mult19 v14 v17 v20 v23 v26 v29).toNat) ∧
  (∀ (k0_h4 : k0_cond4 v14 v17 v20 v23 v26 v29 = 1#1), ∀ (r : Fin 4), ∀ a, (k0_off157 v14 v17 v20 v23 v26 v29 (BitVec.ofNat 32 (128 * r.val))) a + S6x128.size a ≤ S6x6144.size a) ∧
  (∀ (k0_h4 : k0_cond4 v14 v17 v20 v23 v26 v29 = 1#1), 128 ∣ (k0_mult20 v14 v17 v20 v23 v26 v29).toNat) ∧
  (∀ (k0_h4 : k0_cond4 v14 v17 v20 v23 v26 v29 = 1#1), 128 ∣ (k0_mult21 v14 v17 v20 v23 v26 v29).toNat) ∧
  (∀ (k0_h4 : k0_cond4 v14 v17 v20 v23 v26 v29 = 1#1), 128 ∣ (k0_mult22 v14 v17 v20 v23 v26 v29).toNat)
def k0_chk1 (v14 : BitVec 32) (v17 : BitVec 32) (v20 : BitVec 32) (v23 : BitVec 32) (v26 : BitVec 32) (v29 : BitVec 32) : Prop :=
  k0_chk1_0 v14 v17 v20 v23 v26 v29 ∧
  k0_chk1_1 v14 v17 v20 v23 v26 v29 ∧
  k0_chk1_2 v14 v17 v20 v23 v26 v29 ∧
  k0_chk1_3 v14 v17 v20 v23 v26 v29 ∧
  k0_chk1_4 v14 v17 v20 v23 v26 v29 ∧
  k0_chk1_5 v14 v17 v20 v23 v26 v29
theorem k0_mult1_dvd : ∀ (v14 : BitVec 32) (v17 : BitVec 32) (v20 : BitVec 32) (v23 : BitVec 32) (v26 : BitVec 32) (v29 : BitVec 32) (k0_hw1 : k0_chk1 v14 v17 v20 v23 v26 v29) (k0_t1 : Fin k0_t1_loop.trips), ∀ (k0_h1 : k0_cond1 v14 v17 v20 v23 v26 v29 k0_t1 = 1#1), 32 ∣ (k0_mult1 v14 v17 v20 v23 v26 v29 k0_t1).toNat := fun v14 v17 v20 v23 v26 v29 k0_hw1 k0_t1 k0_h1 => k0_hw1.1.1 k0_t1 k0_h1
theorem k0_mult2_dvd : ∀ (v14 : BitVec 32) (v17 : BitVec 32) (v20 : BitVec 32) (v23 : BitVec 32) (v26 : BitVec 32) (v29 : BitVec 32) (k0_hw1 : k0_chk1 v14 v17 v20 v23 v26 v29) (k0_t1 : Fin k0_t1_loop.trips), ∀ (k0_h1 : k0_cond1 v14 v17 v20 v23 v26 v29 k0_t1 = 1#1), 512 ∣ (k0_mult2 v14 v17 v20 v23 v26 v29 k0_t1).toNat := fun v14 v17 v20 v23 v26 v29 k0_hw1 k0_t1 k0_h1 => k0_hw1.1.2.1 k0_t1 k0_h1
theorem k0_off2_inb : ∀ (v14 : BitVec 32) (v17 : BitVec 32) (v20 : BitVec 32) (v23 : BitVec 32) (v26 : BitVec 32) (v29 : BitVec 32) (k0_hw1 : k0_chk1 v14 v17 v20 v23 v26 v29) (k0_t1 : Fin k0_t1_loop.trips), ∀ (k0_h1 : k0_cond1 v14 v17 v20 v23 v26 v29 k0_t1 = 1#1), ∀ a, (k0_off2 v14 v17 v20 v23 v26 v29 k0_t1).2 a = 0 ∨ (k0_off2 v14 v17 v20 v23 v26 v29 k0_t1).1 a + (k0_off2 v14 v17 v20 v23 v26 v29 k0_t1).2 a ≤ S4x512x8192.size a := fun v14 v17 v20 v23 v26 v29 k0_hw1 k0_t1 k0_h1 => k0_hw1.1.2.2.1 k0_t1 k0_h1
theorem k0_sz1_squeezes : ∀ (v14 : BitVec 32) (v17 : BitVec 32) (v20 : BitVec 32) (v23 : BitVec 32) (v26 : BitVec 32) (v29 : BitVec 32) (k0_hw1 : k0_chk1 v14 v17 v20 v23 v26 v29) (k0_t1 : Fin k0_t1_loop.trips), ∀ (k0_h1 : k0_cond1 v14 v17 v20 v23 v26 v29 k0_t1 = 1#1), (⟨3, (k0_off2 v14 v17 v20 v23 v26 v29 k0_t1).2⟩ : Shape).Squeezes ⟨2, k0_sz1 v14 v17 v20 v23 v26 v29 k0_t1⟩ := fun v14 v17 v20 v23 v26 v29 k0_hw1 k0_t1 k0_h1 => k0_hw1.1.2.2.2.1 k0_t1 k0_h1
theorem k0_off3_inb : ∀ (v14 : BitVec 32) (v17 : BitVec 32) (v20 : BitVec 32) (v23 : BitVec 32) (v26 : BitVec 32) (v29 : BitVec 32) (k0_hw1 : k0_chk1 v14 v17 v20 v23 v26 v29) (k0_t1 : Fin k0_t1_loop.trips), ∀ (k0_h1 : k0_cond1 v14 v17 v20 v23 v26 v29 k0_t1 = 1#1), ∀ a, (k0_off3 v14 v17 v20 v23 v26 v29 k0_t1).2 a = 0 ∨ (k0_off3 v14 v17 v20 v23 v26 v29 k0_t1).1 a + (k0_off3 v14 v17 v20 v23 v26 v29 k0_t1).2 a ≤ S6x6144x8192.size a := fun v14 v17 v20 v23 v26 v29 k0_hw1 k0_t1 k0_h1 => k0_hw1.1.2.2.2.2.1 k0_t1 k0_h1
theorem k0_sz2_squeezes : ∀ (v14 : BitVec 32) (v17 : BitVec 32) (v20 : BitVec 32) (v23 : BitVec 32) (v26 : BitVec 32) (v29 : BitVec 32) (k0_hw1 : k0_chk1 v14 v17 v20 v23 v26 v29) (k0_t1 : Fin k0_t1_loop.trips), ∀ (k0_h1 : k0_cond1 v14 v17 v20 v23 v26 v29 k0_t1 = 1#1), (⟨3, (k0_off3 v14 v17 v20 v23 v26 v29 k0_t1).2⟩ : Shape).Squeezes ⟨2, k0_sz2 v14 v17 v20 v23 v26 v29 k0_t1⟩ := fun v14 v17 v20 v23 v26 v29 k0_hw1 k0_t1 k0_h1 => k0_hw1.1.2.2.2.2.2.1 k0_t1 k0_h1
theorem k0_off3_wordsfp8e4m3 : ∀ (v14 : BitVec 32) (v17 : BitVec 32) (v20 : BitVec 32) (v23 : BitVec 32) (v26 : BitVec 32) (v29 : BitVec 32) (k0_hw1 : k0_chk1 v14 v17 v20 v23 v26 v29) (k0_t1 : Fin k0_t1_loop.trips), ∀ (k0_h1 : k0_cond1 v14 v17 v20 v23 v26 v29 k0_t1 = 1#1), (Rect.unitDyn (s := S6x6144x8192) (k0_off3 v14 v17 v20 v23 v26 v29 k0_t1).1 (k0_off3 v14 v17 v20 v23 v26 v29 k0_t1).2 (k0_off3_inb v14 v17 v20 v23 v26 v29 k0_hw1 k0_t1 k0_h1)).WholeWords (EltTy.packing .fp8e4m3) := fun v14 v17 v20 v23 v26 v29 k0_hw1 k0_t1 k0_h1 => k0_hw1.1.2.2.2.2.2.2.1 k0_t1 k0_h1 (k0_off3_inb v14 v17 v20 v23 v26 v29 k0_hw1 k0_t1 k0_h1)
theorem k0_off2_wordsfp8e4m3 : ∀ (v14 : BitVec 32) (v17 : BitVec 32) (v20 : BitVec 32) (v23 : BitVec 32) (v26 : BitVec 32) (v29 : BitVec 32) (k0_hw1 : k0_chk1 v14 v17 v20 v23 v26 v29) (k0_t1 : Fin k0_t1_loop.trips), ∀ (k0_h1 : k0_cond1 v14 v17 v20 v23 v26 v29 k0_t1 = 1#1), (Rect.unitDyn (s := S4x512x8192) (k0_off2 v14 v17 v20 v23 v26 v29 k0_t1).1 (k0_off2 v14 v17 v20 v23 v26 v29 k0_t1).2 (k0_off2_inb v14 v17 v20 v23 v26 v29 k0_hw1 k0_t1 k0_h1)).WholeWords (EltTy.packing .fp8e4m3) := fun v14 v17 v20 v23 v26 v29 k0_hw1 k0_t1 k0_h1 => k0_hw1.1.2.2.2.2.2.2.2.1 k0_t1 k0_h1 (k0_off2_inb v14 v17 v20 v23 v26 v29 k0_hw1 k0_t1 k0_h1)
theorem k0_t2_ok : ∀ (v14 : BitVec 32) (v17 : BitVec 32) (v20 : BitVec 32) (v23 : BitVec 32) (v26 : BitVec 32) (v29 : BitVec 32) (k0_hw1 : k0_chk1 v14 v17 v20 v23 v26 v29), (k0_t2_loop v14 v17 v20 v23 v26 v29).OK := fun v14 v17 v20 v23 v26 v29 k0_hw1 => k0_hw1.1.2.2.2.2.2.2.2.2.1
theorem k0_mult3_dvd : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), 32 ∣ (k0_mult3 v14 v17 v20 v23 v26 v29 k0_t2).toNat := fun v14 v17 v20 v23 v26 v29 k0_hw1 k0_t2 => k0_hw1.1.2.2.2.2.2.2.2.2.2.1 k0_t2
theorem k0_mult4_dvd : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), 512 ∣ (k0_mult4 v14 v17 v20 v23 v26 v29 k0_t2).toNat := fun v14 v17 v20 v23 v26 v29 k0_hw1 k0_t2 => k0_hw1.1.2.2.2.2.2.2.2.2.2.2.1 k0_t2
theorem k0_off4_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off4 v14 v17 v20 v23 v26 v29 k0_t2) a + S1.size a ≤ S4.size a := fun v14 v17 v20 v23 v26 v29 k0_hw1 k0_t2 => k0_hw1.1.2.2.2.2.2.2.2.2.2.2.2.1 k0_t2
theorem k0_sz3_squeezes : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), (⟨3, (k0_off5 v14 v17 v20 v23 v26 v29 k0_t2).2⟩ : Shape).Squeezes ⟨2, k0_sz3 v14 v17 v20 v23 v26 v29 k0_t2⟩ := fun v14 v17 v20 v23 v26 v29 k0_hw1 k0_t2 => k0_hw1.1.2.2.2.2.2.2.2.2.2.2.2.2.1 k0_t2
theorem k0_sz4_squeezes : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), (⟨3, (k0_off6 v14 v17 v20 v23 v26 v29 k0_t2).2⟩ : Shape).Squeezes ⟨2, k0_sz4 v14 v17 v20 v23 v26 v29 k0_t2⟩ := fun v14 v17 v20 v23 v26 v29 k0_hw1 k0_t2 => k0_hw1.1.2.2.2.2.2.2.2.2.2.2.2.2.2.1 k0_t2
theorem k0_off7_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off7 v14 v17 v20 v23 v26 v29 k0_t2) a + S1.size a ≤ S6.size a := fun v14 v17 v20 v23 v26 v29 k0_hw1 k0_t2 => k0_hw1.1.2.2.2.2.2.2.2.2.2.2.2.2.2.2.1 k0_t2
theorem k0_mult5_dvd : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), 128 ∣ (k0_mult5 v14 v17 v20 v23 v26 v29 k0_t2).toNat := fun v14 v17 v20 v23 v26 v29 k0_hw1 k0_t2 => k0_hw1.1.2.2.2.2.2.2.2.2.2.2.2.2.2.2.2.1 k0_t2
theorem k0_off8_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (r : Fin 4), ∀ a, (k0_off8 v14 v17 v20 v23 v26 v29 k0_t2 (BitVec.ofNat 32 (128 * r.val))) a + S6x128.size a ≤ S6x6144.size a := fun v14 v17 v20 v23 v26 v29 k0_hw1 k0_t2 r => k0_hw1.1.2.2.2.2.2.2.2.2.2.2.2.2.2.2.2.2.1 k0_t2 r
theorem k0_mult6_dvd : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), 128 ∣ (k0_mult6 v14 v17 v20 v23 v26 v29 k0_t2).toNat := fun v14 v17 v20 v23 v26 v29 k0_hw1 k0_t2 => k0_hw1.1.2.2.2.2.2.2.2.2.2.2.2.2.2.2.2.2.2.1 k0_t2
theorem k0_mult7_dvd : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), 128 ∣ (k0_mult7 v14 v17 v20 v23 v26 v29 k0_t2).toNat := fun v14 v17 v20 v23 v26 v29 k0_hw1 k0_t2 => k0_hw1.1.2.2.2.2.2.2.2.2.2.2.2.2.2.2.2.2.2.2.1 k0_t2
theorem k0_mult8_dvd : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), 128 ∣ (k0_mult8 v14 v17 v20 v23 v26 v29 k0_t2).toNat := fun v14 v17 v20 v23 v26 v29 k0_hw1 k0_t2 => k0_hw1.1.2.2.2.2.2.2.2.2.2.2.2.2.2.2.2.2.2.2.2.1 k0_t2
theorem k0_off9_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off9 v14 v17 v20 v23 v26 v29 k0_t2) a + S1x512x1536.size a ≤ S4x512x8192.size a := fun v14 v17 v20 v23 v26 v29 k0_hw1 k0_t2 => k0_hw1.1.2.2.2.2.2.2.2.2.2.2.2.2.2.2.2.2.2.2.2.2.1 k0_t2
theorem k0_off10_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off10 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.1 k0_t2
theorem k0_off11_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off11 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.1 k0_t2
theorem k0_off12_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off12 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.1 k0_t2
theorem k0_off13_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off13 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.2.1 k0_t2
theorem k0_off14_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off14 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.2.2.1 k0_t2
theorem k0_off15_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off15 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.2.2.2.1 k0_t2
theorem k0_off16_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off16 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.2.2.2.2.1 k0_t2
theorem k0_off17_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off17 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.2.2.2.2.2.1 k0_t2
theorem k0_off18_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off18 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.2.2.2.2.2.2.1 k0_t2
theorem k0_off19_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off19 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.2.2.2.2.2.2.2.1 k0_t2
theorem k0_off20_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off20 v14 v17 v20 v23 v26 v29 k0_t2) a + S1x128x128.size a ≤ S4x512x8192.size a := fun v14 v17 v20 v23 v26 v29 k0_hw1 k0_t2 => k0_hw1.1.2.2.2.2.2.2.2.2.2.2.2.2.2.2.2.2.2.2.2.2.2.2.2.2.2.2.2.2.2.2.2 k0_t2
theorem k0_off21_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off21 v14 v17 v20 v23 v26 v29 k0_t2) a + S1x128x128.size a ≤ S4x512x8192.size a := fun v14 v17 v20 v23 v26 v29 k0_hw1 k0_t2 => k0_hw1.2.1.1 k0_t2
theorem k0_off22_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off22 v14 v17 v20 v23 v26 v29 k0_t2) a + S1x128x128.size a ≤ S4x512x8192.size a := fun v14 v17 v20 v23 v26 v29 k0_hw1 k0_t2 => k0_hw1.2.1.2.1 k0_t2
theorem k0_off23_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off23 v14 v17 v20 v23 v26 v29 k0_t2) a + S1x128x128.size a ≤ S4x512x8192.size a := fun v14 v17 v20 v23 v26 v29 k0_hw1 k0_t2 => k0_hw1.2.1.2.2.1 k0_t2
theorem k0_off24_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off24 v14 v17 v20 v23 v26 v29 k0_t2) a + S1x128x128.size a ≤ S4x512x8192.size a := fun v14 v17 v20 v23 v26 v29 k0_hw1 k0_t2 => k0_hw1.2.1.2.2.2.1 k0_t2
theorem k0_off25_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off25 v14 v17 v20 v23 v26 v29 k0_t2) a + S1x128x128.size a ≤ S4x512x8192.size a := fun v14 v17 v20 v23 v26 v29 k0_hw1 k0_t2 => k0_hw1.2.1.2.2.2.2.1 k0_t2
theorem k0_off26_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off26 v14 v17 v20 v23 v26 v29 k0_t2) a + S1x512x1536.size a ≤ S4x512x8192.size a := fun v14 v17 v20 v23 v26 v29 k0_hw1 k0_t2 => k0_hw1.2.1.2.2.2.2.2.1 k0_t2
theorem k0_off27_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off27 v14 v17 v20 v23 v26 v29 k0_t2) a + S1x128x128.size a ≤ S4x512x8192.size a := fun v14 v17 v20 v23 v26 v29 k0_hw1 k0_t2 => k0_hw1.2.1.2.2.2.2.2.2.1 k0_t2
theorem k0_off28_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off28 v14 v17 v20 v23 v26 v29 k0_t2) a + S1x128x128.size a ≤ S4x512x8192.size a := fun v14 v17 v20 v23 v26 v29 k0_hw1 k0_t2 => k0_hw1.2.1.2.2.2.2.2.2.2.1 k0_t2
theorem k0_off29_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off29 v14 v17 v20 v23 v26 v29 k0_t2) a + S1x128x128.size a ≤ S4x512x8192.size a := fun v14 v17 v20 v23 v26 v29 k0_hw1 k0_t2 => k0_hw1.2.1.2.2.2.2.2.2.2.2.1 k0_t2
theorem k0_off30_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off30 v14 v17 v20 v23 v26 v29 k0_t2) a + S1x128x128.size a ≤ S4x512x8192.size a := fun v14 v17 v20 v23 v26 v29 k0_hw1 k0_t2 => k0_hw1.2.1.2.2.2.2.2.2.2.2.2.1 k0_t2
theorem k0_off31_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off31 v14 v17 v20 v23 v26 v29 k0_t2) a + S1x128x128.size a ≤ S4x512x8192.size a := fun v14 v17 v20 v23 v26 v29 k0_hw1 k0_t2 => k0_hw1.2.1.2.2.2.2.2.2.2.2.2.2.1 k0_t2
theorem k0_off32_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off32 v14 v17 v20 v23 v26 v29 k0_t2) a + S1x128x128.size a ≤ S4x512x8192.size a := fun v14 v17 v20 v23 v26 v29 k0_hw1 k0_t2 => k0_hw1.2.1.2.2.2.2.2.2.2.2.2.2.2.1 k0_t2
theorem k0_off33_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off33 v14 v17 v20 v23 v26 v29 k0_t2) a + S1x128x128.size a ≤ S4x512x8192.size a := fun v14 v17 v20 v23 v26 v29 k0_hw1 k0_t2 => k0_hw1.2.1.2.2.2.2.2.2.2.2.2.2.2.2.1 k0_t2
theorem k0_off34_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off34 v14 v17 v20 v23 v26 v29 k0_t2) a + S1x128x128.size a ≤ S4x512x8192.size a := fun v14 v17 v20 v23 v26 v29 k0_hw1 k0_t2 => k0_hw1.2.1.2.2.2.2.2.2.2.2.2.2.2.2.2.1 k0_t2
theorem k0_off35_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off35 v14 v17 v20 v23 v26 v29 k0_t2) a + S1x128x128.size a ≤ S4x512x8192.size a := fun v14 v17 v20 v23 v26 v29 k0_hw1 k0_t2 => k0_hw1.2.1.2.2.2.2.2.2.2.2.2.2.2.2.2.2.1 k0_t2
theorem k0_off36_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off36 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.1 k0_t2
theorem k0_off37_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off37 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.1 k0_t2
theorem k0_off38_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off38 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.1 k0_t2
theorem k0_off39_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off39 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.1 k0_t2
theorem k0_off40_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off40 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.1 k0_t2
theorem k0_off41_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off41 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.1 k0_t2
theorem k0_off42_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off42 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.1 k0_t2
theorem k0_off43_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off43 v14 v17 v20 v23 v26 v29 k0_t2) a + S1x512x1536.size a ≤ S4x512x8192.size a := fun v14 v17 v20 v23 v26 v29 k0_hw1 k0_t2 => k0_hw1.2.1.2.2.2.2.2.2.2.2.2.2.2.2.2.2.2.2.2.2.2.2.2.2.1 k0_t2
theorem k0_off44_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off44 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.1 k0_t2
theorem k0_off45_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off45 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.2.1 k0_t2
theorem k0_off46_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off46 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.2.2.1 k0_t2
theorem k0_off47_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off47 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.2.2.2.1 k0_t2
theorem k0_off48_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off48 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.2.2.2.2.1 k0_t2
theorem k0_off49_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off49 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.2.2.2.2.2.1 k0_t2
theorem k0_off50_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off50 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.2.2.2.2.2.2.1 k0_t2
theorem k0_off51_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off51 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.2.2.2.2.2.2.2.1 k0_t2
theorem k0_off52_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off52 v14 v17 v20 v23 v26 v29 k0_t2) a + S1x128x128.size a ≤ S4x512x8192.size a := fun v14 v17 v20 v23 v26 v29 k0_hw1 k0_t2 => k0_hw1.2.1.2.2.2.2.2.2.2.2.2.2.2.2.2.2.2.2.2.2.2.2.2.2.2.2.2.2.2.2.2.2.2 k0_t2
theorem k0_off53_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off53 v14 v17 v20 v23 v26 v29 k0_t2) a + S1x128x128.size a ≤ S4x512x8192.size a := fun v14 v17 v20 v23 v26 v29 k0_hw1 k0_t2 => k0_hw1.2.2.1.1 k0_t2
theorem k0_off54_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off54 v14 v17 v20 v23 v26 v29 k0_t2) a + S1x128x128.size a ≤ S4x512x8192.size a := fun v14 v17 v20 v23 v26 v29 k0_hw1 k0_t2 => k0_hw1.2.2.1.2.1 k0_t2
theorem k0_off55_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off55 v14 v17 v20 v23 v26 v29 k0_t2) a + S1x128x128.size a ≤ S4x512x8192.size a := fun v14 v17 v20 v23 v26 v29 k0_hw1 k0_t2 => k0_hw1.2.2.1.2.2.1 k0_t2
theorem k0_off56_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off56 v14 v17 v20 v23 v26 v29 k0_t2) a + S1x128x128.size a ≤ S4x512x8192.size a := fun v14 v17 v20 v23 v26 v29 k0_hw1 k0_t2 => k0_hw1.2.2.1.2.2.2.1 k0_t2
theorem k0_off57_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off57 v14 v17 v20 v23 v26 v29 k0_t2) a + S1x128x128.size a ≤ S4x512x8192.size a := fun v14 v17 v20 v23 v26 v29 k0_hw1 k0_t2 => k0_hw1.2.2.1.2.2.2.2.1 k0_t2
theorem k0_off58_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off58 v14 v17 v20 v23 v26 v29 k0_t2) a + S1x128x128.size a ≤ S4x512x8192.size a := fun v14 v17 v20 v23 v26 v29 k0_hw1 k0_t2 => k0_hw1.2.2.1.2.2.2.2.2.1 k0_t2
theorem k0_off59_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off59 v14 v17 v20 v23 v26 v29 k0_t2) a + S1x128x128.size a ≤ S4x512x8192.size a := fun v14 v17 v20 v23 v26 v29 k0_hw1 k0_t2 => k0_hw1.2.2.1.2.2.2.2.2.2.1 k0_t2
theorem k0_off60_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off60 v14 v17 v20 v23 v26 v29 k0_t2) a + S1x512x1536.size a ≤ S4x512x8192.size a := fun v14 v17 v20 v23 v26 v29 k0_hw1 k0_t2 => k0_hw1.2.2.1.2.2.2.2.2.2.2.1 k0_t2
theorem k0_off61_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off61 v14 v17 v20 v23 v26 v29 k0_t2) a + S1x128x128.size a ≤ S4x512x8192.size a := fun v14 v17 v20 v23 v26 v29 k0_hw1 k0_t2 => k0_hw1.2.2.1.2.2.2.2.2.2.2.2.1 k0_t2
theorem k0_off62_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off62 v14 v17 v20 v23 v26 v29 k0_t2) a + S1x128x128.size a ≤ S4x512x8192.size a := fun v14 v17 v20 v23 v26 v29 k0_hw1 k0_t2 => k0_hw1.2.2.1.2.2.2.2.2.2.2.2.2.1 k0_t2
theorem k0_off63_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off63 v14 v17 v20 v23 v26 v29 k0_t2) a + S1x128x128.size a ≤ S4x512x8192.size a := fun v14 v17 v20 v23 v26 v29 k0_hw1 k0_t2 => k0_hw1.2.2.1.2.2.2.2.2.2.2.2.2.2.1 k0_t2
theorem k0_off64_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off64 v14 v17 v20 v23 v26 v29 k0_t2) a + S1x128x128.size a ≤ S4x512x8192.size a := fun v14 v17 v20 v23 v26 v29 k0_hw1 k0_t2 => k0_hw1.2.2.1.2.2.2.2.2.2.2.2.2.2.2.1 k0_t2
theorem k0_off65_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off65 v14 v17 v20 v23 v26 v29 k0_t2) a + S1x128x128.size a ≤ S4x512x8192.size a := fun v14 v17 v20 v23 v26 v29 k0_hw1 k0_t2 => k0_hw1.2.2.1.2.2.2.2.2.2.2.2.2.2.2.2.1 k0_t2
theorem k0_off66_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off66 v14 v17 v20 v23 v26 v29 k0_t2) a + S1x128x128.size a ≤ S4x512x8192.size a := fun v14 v17 v20 v23 v26 v29 k0_hw1 k0_t2 => k0_hw1.2.2.1.2.2.2.2.2.2.2.2.2.2.2.2.2.1 k0_t2
theorem k0_off67_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off67 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.1 k0_t2
theorem k0_off68_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off68 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.1 k0_t2
theorem k0_off69_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off69 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.2.1 k0_t2
theorem k0_off70_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off70 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.2.2.1 k0_t2
theorem k0_off71_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off71 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.2.2.2.1 k0_t2
theorem k0_off72_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off72 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.2.2.2.2.1 k0_t2
theorem k0_off73_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off73 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.2.2.2.2.2.1 k0_t2
theorem k0_off74_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off74 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.2.2.2.2.2.2.1 k0_t2
theorem k0_off75_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off75 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.2.2.2.2.2.2.2.1 k0_t2
theorem k0_off76_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ a, (k0_off76 v14 v17 v20 v23 v26 v29 k0_t2) a + S1x128x128.size a ≤ S4x512x8192.size a := fun v14 v17 v20 v23 v26 v29 k0_hw1 k0_t2 => k0_hw1.2.2.1.2.2.2.2.2.2.2.2.2.2.2.2.2.2.2.2.2.2.2.2.2.2.2.1 k0_t2
theorem k0_mult9_dvd : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), 32 ∣ (k0_mult9 v14 v17 v20 v23 v26 v29 k0_t2).toNat := fun v14 v17 v20 v23 v26 v29 k0_hw1 k0_t2 k0_h2 => k0_hw1.2.2.1.2.2.2.2.2.2.2.2.2.2.2.2.2.2.2.2.2.2.2.2.2.2.2.2.1 k0_t2 k0_h2
theorem k0_mult10_dvd : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), 512 ∣ (k0_mult10 v14 v17 v20 v23 v26 v29 k0_t2).toNat := fun v14 v17 v20 v23 v26 v29 k0_hw1 k0_t2 k0_h2 => k0_hw1.2.2.1.2.2.2.2.2.2.2.2.2.2.2.2.2.2.2.2.2.2.2.2.2.2.2.2.2.1 k0_t2 k0_h2
theorem k0_off77_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), ∀ a, (k0_off77 v14 v17 v20 v23 v26 v29 k0_t2) a + S1.size a ≤ S4.size a := fun v14 v17 v20 v23 v26 v29 k0_hw1 k0_t2 k0_h2 => k0_hw1.2.2.1.2.2.2.2.2.2.2.2.2.2.2.2.2.2.2.2.2.2.2.2.2.2.2.2.2.2.1 k0_t2 k0_h2
theorem k0_off78_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), ∀ a, (k0_off78 v14 v17 v20 v23 v26 v29 k0_t2).2 a = 0 ∨ (k0_off78 v14 v17 v20 v23 v26 v29 k0_t2).1 a + (k0_off78 v14 v17 v20 v23 v26 v29 k0_t2).2 a ≤ S4x512x8192.size a := fun v14 v17 v20 v23 v26 v29 k0_hw1 k0_t2 k0_h2 => k0_hw1.2.2.1.2.2.2.2.2.2.2.2.2.2.2.2.2.2.2.2.2.2.2.2.2.2.2.2.2.2.2.1 k0_t2 k0_h2
theorem k0_sz5_squeezes : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), (⟨3, (k0_off78 v14 v17 v20 v23 v26 v29 k0_t2).2⟩ : Shape).Squeezes ⟨2, k0_sz5 v14 v17 v20 v23 v26 v29 k0_t2⟩ := fun v14 v17 v20 v23 v26 v29 k0_hw1 k0_t2 k0_h2 => k0_hw1.2.2.1.2.2.2.2.2.2.2.2.2.2.2.2.2.2.2.2.2.2.2.2.2.2.2.2.2.2.2.2.1 k0_t2 k0_h2
theorem k0_off79_inb : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), ∀ a, (k0_off79 v14 v17 v20 v23 v26 v29 k0_t2).2 a = 0 ∨ (k0_off79 v14 v17 v20 v23 v26 v29 k0_t2).1 a + (k0_off79 v14 v17 v20 v23 v26 v29 k0_t2).2 a ≤ S6x6144x8192.size a := fun v14 v17 v20 v23 v26 v29 k0_hw1 k0_t2 k0_h2 => k0_hw1.2.2.1.2.2.2.2.2.2.2.2.2.2.2.2.2.2.2.2.2.2.2.2.2.2.2.2.2.2.2.2.2.1 k0_t2 k0_h2
theorem k0_sz6_squeezes : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), (⟨3, (k0_off79 v14 v17 v20 v23 v26 v29 k0_t2).2⟩ : Shape).Squeezes ⟨2, k0_sz6 v14 v17 v20 v23 v26 v29 k0_t2⟩ := fun v14 v17 v20 v23 v26 v29 k0_hw1 k0_t2 k0_h2 => k0_hw1.2.2.1.2.2.2.2.2.2.2.2.2.2.2.2.2.2.2.2.2.2.2.2.2.2.2.2.2.2.2.2.2.2.1 k0_t2 k0_h2
theorem k0_off79_wordsfp8e4m3 : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), (Rect.unitDyn (s := S6x6144x8192) (k0_off79 v14 v17 v20 v23 v26 v29 k0_t2).1 (k0_off79 v14 v17 v20 v23 v26 v29 k0_t2).2 (k0_off79_inb v14 v17 v20 v23 v26 v29 k0_hw1 k0_t2 k0_h2)).WholeWords (EltTy.packing .fp8e4m3) := fun v14 v17 v20 v23 v26 v29 k0_hw1 k0_t2 k0_h2 => k0_hw1.2.2.1.2.2.2.2.2.2.2.2.2.2.2.2.2.2.2.2.2.2.2.2.2.2.2.2.2.2.2.2.2.2.2 k0_t2 k0_h2 (k0_off79_inb v14 v17 v20 v23 v26 v29 k0_hw1 k0_t2 k0_h2)
theorem k0_off78_wordsfp8e4m3 : ∀ (v14 : BitVec 32) (v17 : BitVec 32) (v20 : BitVec 32) (v23 : BitVec 32) (v26 : BitVec 32) (v29 : BitVec 32) (k0_hw1 : k0_chk1 v14 v17 v20 v23 v26 v29) (k0_t2 : Fin (k0_t2_loop v14 v17 v20 v23 v26 v29).trips), ∀ (k0_h2 : k0_cond2 v14 v17 v20 v23 v26 v29 k0_t2 = 1#1), (Rect.unitDyn (s := S4x512x8192) (k0_off78 v14 v17 v20 v23 v26 v29 k0_t2).1 (k0_off78 v14 v17 v20 v23 v26 v29 k0_t2).2 (k0_off78_inb v14 v17 v20 v23 v26 v29 k0_hw1 k0_t2 k0_h2)).WholeWords (EltTy.packing .fp8e4m3) := fun v14 v17 v20 v23 v26 v29 k0_hw1 k0_t2 k0_h2 => k0_hw1.2.2.2.1.1 k0_t2 k0_h2 (k0_off78_inb v14 v17 v20 v23 v26 v29 k0_hw1 k0_t2 k0_h2)
theorem k0_t3_ok : ∀ (v14 : BitVec 32) (v17 : BitVec 32) (v20 : BitVec 32) (v23 : BitVec 32) (v26 : BitVec 32) (v29 : BitVec 32) (k0_hw1 : k0_chk1 v14 v17 v20 v23 v26 v29), (k0_t3_loop v14 v17 v20 v23 v26 v29).OK := fun v14 v17 v20 v23 v26 v29 k0_hw1 => k0_hw1.2.2.2.1.2.1
theorem k0_mult11_dvd : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), 32 ∣ (k0_mult11 v14 v17 v20 v23 v26 v29 k0_t3).toNat := fun v14 v17 v20 v23 v26 v29 k0_hw1 k0_t3 => k0_hw1.2.2.2.1.2.2.1 k0_t3
theorem k0_mult12_dvd : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), 512 ∣ (k0_mult12 v14 v17 v20 v23 v26 v29 k0_t3).toNat := fun v14 v17 v20 v23 v26 v29 k0_hw1 k0_t3 => k0_hw1.2.2.2.1.2.2.2.1 k0_t3
theorem k0_off80_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off80 v14 v17 v20 v23 v26 v29 k0_t3) a + S1.size a ≤ S4.size a := fun v14 v17 v20 v23 v26 v29 k0_hw1 k0_t3 => k0_hw1.2.2.2.1.2.2.2.2.1 k0_t3
theorem k0_sz7_squeezes : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), (⟨3, (k0_off81 v14 v17 v20 v23 v26 v29 k0_t3).2⟩ : Shape).Squeezes ⟨2, k0_sz7 v14 v17 v20 v23 v26 v29 k0_t3⟩ := fun v14 v17 v20 v23 v26 v29 k0_hw1 k0_t3 => k0_hw1.2.2.2.1.2.2.2.2.2.1 k0_t3
theorem k0_sz8_squeezes : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), (⟨3, (k0_off82 v14 v17 v20 v23 v26 v29 k0_t3).2⟩ : Shape).Squeezes ⟨2, k0_sz8 v14 v17 v20 v23 v26 v29 k0_t3⟩ := fun v14 v17 v20 v23 v26 v29 k0_hw1 k0_t3 => k0_hw1.2.2.2.1.2.2.2.2.2.2.1 k0_t3
theorem k0_off83_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off83 v14 v17 v20 v23 v26 v29 k0_t3) a + S1.size a ≤ S6.size a := fun v14 v17 v20 v23 v26 v29 k0_hw1 k0_t3 => k0_hw1.2.2.2.1.2.2.2.2.2.2.2.1 k0_t3
theorem k0_mult13_dvd : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), 128 ∣ (k0_mult13 v14 v17 v20 v23 v26 v29 k0_t3).toNat := fun v14 v17 v20 v23 v26 v29 k0_hw1 k0_t3 => k0_hw1.2.2.2.1.2.2.2.2.2.2.2.2.1 k0_t3
theorem k0_off84_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (r : Fin 4), ∀ a, (k0_off84 v14 v17 v20 v23 v26 v29 k0_t3 (BitVec.ofNat 32 (128 * r.val))) a + S6x128.size a ≤ S6x6144.size a := fun v14 v17 v20 v23 v26 v29 k0_hw1 k0_t3 r => k0_hw1.2.2.2.1.2.2.2.2.2.2.2.2.2.1 k0_t3 r
theorem k0_mult14_dvd : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), 128 ∣ (k0_mult14 v14 v17 v20 v23 v26 v29 k0_t3).toNat := fun v14 v17 v20 v23 v26 v29 k0_hw1 k0_t3 => k0_hw1.2.2.2.1.2.2.2.2.2.2.2.2.2.2.1 k0_t3
theorem k0_mult15_dvd : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), 128 ∣ (k0_mult15 v14 v17 v20 v23 v26 v29 k0_t3).toNat := fun v14 v17 v20 v23 v26 v29 k0_hw1 k0_t3 => k0_hw1.2.2.2.1.2.2.2.2.2.2.2.2.2.2.2.1 k0_t3
theorem k0_mult16_dvd : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), 128 ∣ (k0_mult16 v14 v17 v20 v23 v26 v29 k0_t3).toNat := fun v14 v17 v20 v23 v26 v29 k0_hw1 k0_t3 => k0_hw1.2.2.2.1.2.2.2.2.2.2.2.2.2.2.2.2.1 k0_t3
theorem k0_off85_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off85 v14 v17 v20 v23 v26 v29 k0_t3) a + S1x512x1536.size a ≤ S4x512x8192.size a := fun v14 v17 v20 v23 v26 v29 k0_hw1 k0_t3 => k0_hw1.2.2.2.1.2.2.2.2.2.2.2.2.2.2.2.2.2.1 k0_t3
theorem k0_off86_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off86 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.1 k0_t3
theorem k0_off87_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off87 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.1 k0_t3
theorem k0_off88_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off88 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.1 k0_t3
theorem k0_off89_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off89 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.1 k0_t3
theorem k0_off90_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off90 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.1 k0_t3
theorem k0_off91_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off91 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.1 k0_t3
theorem k0_off92_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off92 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.1 k0_t3
theorem k0_off93_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off93 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.1 k0_t3
theorem k0_off94_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off94 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.1 k0_t3
theorem k0_off95_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off95 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.2.1 k0_t3
theorem k0_off96_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off96 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.2.2.1 k0_t3
theorem k0_off97_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off97 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.2.2.2.1 k0_t3
theorem k0_off98_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off98 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.2.2.2.2.1 k0_t3
theorem k0_off99_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off99 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.2.2.2.2.2.1 k0_t3
theorem k0_off100_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off100 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.2.2.2.2.2.2.1 k0_t3
theorem k0_off101_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off101 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.2.2.2.2.2.2.2.1 k0_t3
theorem k0_off102_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off102 v14 v17 v20 v23 v26 v29 k0_t3) a + S1x512x1536.size a ≤ S4x512x8192.size a := fun v14 v17 v20 v23 v26 v29 k0_hw1 k0_t3 => k0_hw1.2.2.2.1.2.2.2.2.2.2.2.2.2.2.2.2.2.2.2.2.2.2.2.2.2.2.2.2.2.2.2.2.2.2.1 k0_t3
theorem k0_off103_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off103 v14 v17 v20 v23 v26 v29 k0_t3) a + S1x128x128.size a ≤ S4x512x8192.size a := fun v14 v17 v20 v23 v26 v29 k0_hw1 k0_t3 => k0_hw1.2.2.2.1.2.2.2.2.2.2.2.2.2.2.2.2.2.2.2.2.2.2.2.2.2.2.2.2.2.2.2.2.2.2.2 k0_t3
theorem k0_off104_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off104 v14 v17 v20 v23 v26 v29 k0_t3) a + S1x128x128.size a ≤ S4x512x8192.size a := fun v14 v17 v20 v23 v26 v29 k0_hw1 k0_t3 => k0_hw1.2.2.2.2.1.1 k0_t3
theorem k0_off105_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off105 v14 v17 v20 v23 v26 v29 k0_t3) a + S1x128x128.size a ≤ S4x512x8192.size a := fun v14 v17 v20 v23 v26 v29 k0_hw1 k0_t3 => k0_hw1.2.2.2.2.1.2.1 k0_t3
theorem k0_off106_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off106 v14 v17 v20 v23 v26 v29 k0_t3) a + S1x128x128.size a ≤ S4x512x8192.size a := fun v14 v17 v20 v23 v26 v29 k0_hw1 k0_t3 => k0_hw1.2.2.2.2.1.2.2.1 k0_t3
theorem k0_off107_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off107 v14 v17 v20 v23 v26 v29 k0_t3) a + S1x128x128.size a ≤ S4x512x8192.size a := fun v14 v17 v20 v23 v26 v29 k0_hw1 k0_t3 => k0_hw1.2.2.2.2.1.2.2.2.1 k0_t3
theorem k0_off108_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off108 v14 v17 v20 v23 v26 v29 k0_t3) a + S1x128x128.size a ≤ S4x512x8192.size a := fun v14 v17 v20 v23 v26 v29 k0_hw1 k0_t3 => k0_hw1.2.2.2.2.1.2.2.2.2.1 k0_t3
theorem k0_off109_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off109 v14 v17 v20 v23 v26 v29 k0_t3) a + S1x128x128.size a ≤ S4x512x8192.size a := fun v14 v17 v20 v23 v26 v29 k0_hw1 k0_t3 => k0_hw1.2.2.2.2.1.2.2.2.2.2.1 k0_t3
theorem k0_off110_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off110 v14 v17 v20 v23 v26 v29 k0_t3) a + S1x128x128.size a ≤ S4x512x8192.size a := fun v14 v17 v20 v23 v26 v29 k0_hw1 k0_t3 => k0_hw1.2.2.2.2.1.2.2.2.2.2.2.1 k0_t3
theorem k0_off111_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off111 v14 v17 v20 v23 v26 v29 k0_t3) a + S1x128x128.size a ≤ S4x512x8192.size a := fun v14 v17 v20 v23 v26 v29 k0_hw1 k0_t3 => k0_hw1.2.2.2.2.1.2.2.2.2.2.2.2.1 k0_t3
theorem k0_off112_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off112 v14 v17 v20 v23 v26 v29 k0_t3) a + S1x128x128.size a ≤ S4x512x8192.size a := fun v14 v17 v20 v23 v26 v29 k0_hw1 k0_t3 => k0_hw1.2.2.2.2.1.2.2.2.2.2.2.2.2.1 k0_t3
theorem k0_off113_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off113 v14 v17 v20 v23 v26 v29 k0_t3) a + S1x128x128.size a ≤ S4x512x8192.size a := fun v14 v17 v20 v23 v26 v29 k0_hw1 k0_t3 => k0_hw1.2.2.2.2.1.2.2.2.2.2.2.2.2.2.1 k0_t3
theorem k0_off114_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off114 v14 v17 v20 v23 v26 v29 k0_t3) a + S1x128x128.size a ≤ S4x512x8192.size a := fun v14 v17 v20 v23 v26 v29 k0_hw1 k0_t3 => k0_hw1.2.2.2.2.1.2.2.2.2.2.2.2.2.2.2.1 k0_t3
theorem k0_off115_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off115 v14 v17 v20 v23 v26 v29 k0_t3) a + S1x128x128.size a ≤ S4x512x8192.size a := fun v14 v17 v20 v23 v26 v29 k0_hw1 k0_t3 => k0_hw1.2.2.2.2.1.2.2.2.2.2.2.2.2.2.2.2.1 k0_t3
theorem k0_off116_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off116 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.1 k0_t3
theorem k0_off117_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off117 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.1 k0_t3
theorem k0_off118_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off118 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.1 k0_t3
theorem k0_off119_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off119 v14 v17 v20 v23 v26 v29 k0_t3) a + S1x512x1536.size a ≤ S4x512x8192.size a := fun v14 v17 v20 v23 v26 v29 k0_hw1 k0_t3 => k0_hw1.2.2.2.2.1.2.2.2.2.2.2.2.2.2.2.2.2.2.2.2.1 k0_t3
theorem k0_off120_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off120 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.1 k0_t3
theorem k0_off121_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off121 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.1 k0_t3
theorem k0_off122_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off122 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.1 k0_t3
theorem k0_off123_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off123 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.1 k0_t3
theorem k0_off124_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off124 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.1 k0_t3
theorem k0_off125_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off125 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.1 k0_t3
theorem k0_off126_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off126 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.1 k0_t3
theorem k0_off127_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off127 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.1 k0_t3
theorem k0_off128_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off128 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.2.1 k0_t3
theorem k0_off129_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off129 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.2.2.1 k0_t3
theorem k0_off130_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off130 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.2.2.2.1 k0_t3
theorem k0_off131_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off131 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.2.2.2.2.1 k0_t3
theorem k0_off132_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off132 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.2.2.2.2.2.1 k0_t3
theorem k0_off133_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off133 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.2.2.2.2.2.2.1 k0_t3
theorem k0_off134_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off134 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.2.2.2.2.2.2.2.1 k0_t3
theorem k0_off135_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off135 v14 v17 v20 v23 v26 v29 k0_t3) a + S1x128x128.size a ≤ S4x512x8192.size a := fun v14 v17 v20 v23 v26 v29 k0_hw1 k0_t3 => k0_hw1.2.2.2.2.1.2.2.2.2.2.2.2.2.2.2.2.2.2.2.2.2.2.2.2.2.2.2.2.2.2.2.2.2.2.2.2 k0_t3
theorem k0_off136_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off136 v14 v17 v20 v23 v26 v29 k0_t3) a + S1x512x1536.size a ≤ S4x512x8192.size a := fun v14 v17 v20 v23 v26 v29 k0_hw1 k0_t3 => k0_hw1.2.2.2.2.2.1 k0_t3
theorem k0_off137_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off137 v14 v17 v20 v23 v26 v29 k0_t3) a + S1x128x128.size a ≤ S4x512x8192.size a := fun v14 v17 v20 v23 v26 v29 k0_hw1 k0_t3 => k0_hw1.2.2.2.2.2.2.1 k0_t3
theorem k0_off138_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off138 v14 v17 v20 v23 v26 v29 k0_t3) a + S1x128x128.size a ≤ S4x512x8192.size a := fun v14 v17 v20 v23 v26 v29 k0_hw1 k0_t3 => k0_hw1.2.2.2.2.2.2.2.1 k0_t3
theorem k0_off139_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off139 v14 v17 v20 v23 v26 v29 k0_t3) a + S1x128x128.size a ≤ S4x512x8192.size a := fun v14 v17 v20 v23 v26 v29 k0_hw1 k0_t3 => k0_hw1.2.2.2.2.2.2.2.2.1 k0_t3
theorem k0_off140_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off140 v14 v17 v20 v23 v26 v29 k0_t3) a + S1x128x128.size a ≤ S4x512x8192.size a := fun v14 v17 v20 v23 v26 v29 k0_hw1 k0_t3 => k0_hw1.2.2.2.2.2.2.2.2.2.1 k0_t3
theorem k0_off141_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off141 v14 v17 v20 v23 v26 v29 k0_t3) a + S1x128x128.size a ≤ S4x512x8192.size a := fun v14 v17 v20 v23 v26 v29 k0_hw1 k0_t3 => k0_hw1.2.2.2.2.2.2.2.2.2.2.1 k0_t3
theorem k0_off142_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off142 v14 v17 v20 v23 v26 v29 k0_t3) a + S1x128x128.size a ≤ S4x512x8192.size a := fun v14 v17 v20 v23 v26 v29 k0_hw1 k0_t3 => k0_hw1.2.2.2.2.2.2.2.2.2.2.2.1 k0_t3
theorem k0_off143_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off143 v14 v17 v20 v23 v26 v29 k0_t3) a + S1x128x128.size a ≤ S4x512x8192.size a := fun v14 v17 v20 v23 v26 v29 k0_hw1 k0_t3 => k0_hw1.2.2.2.2.2.2.2.2.2.2.2.2.1 k0_t3
theorem k0_off144_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off144 v14 v17 v20 v23 v26 v29 k0_t3) a + S1x128x128.size a ≤ S4x512x8192.size a := fun v14 v17 v20 v23 v26 v29 k0_hw1 k0_t3 => k0_hw1.2.2.2.2.2.2.2.2.2.2.2.2.2.1 k0_t3
theorem k0_off145_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off145 v14 v17 v20 v23 v26 v29 k0_t3) a + S1x128x128.size a ≤ S4x512x8192.size a := fun v14 v17 v20 v23 v26 v29 k0_hw1 k0_t3 => k0_hw1.2.2.2.2.2.2.2.2.2.2.2.2.2.2.1 k0_t3
theorem k0_off146_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off146 v14 v17 v20 v23 v26 v29 k0_t3) a + S1x128x128.size a ≤ S4x512x8192.size a := fun v14 v17 v20 v23 v26 v29 k0_hw1 k0_t3 => k0_hw1.2.2.2.2.2.2.2.2.2.2.2.2.2.2.2.1 k0_t3
theorem k0_off147_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off147 v14 v17 v20 v23 v26 v29 k0_t3) a + S1x128x128.size a ≤ S4x512x8192.size a := fun v14 v17 v20 v23 v26 v29 k0_hw1 k0_t3 => k0_hw1.2.2.2.2.2.2.2.2.2.2.2.2.2.2.2.2.1 k0_t3
theorem k0_off148_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off148 v14 v17 v20 v23 v26 v29 k0_t3) a + S1x128x128.size a ≤ S4x512x8192.size a := fun v14 v17 v20 v23 v26 v29 k0_hw1 k0_t3 => k0_hw1.2.2.2.2.2.2.2.2.2.2.2.2.2.2.2.2.2.1 k0_t3
theorem k0_off149_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off149 v14 v17 v20 v23 v26 v29 k0_t3) a + S1x128x128.size a ≤ S4x512x8192.size a := fun v14 v17 v20 v23 v26 v29 k0_hw1 k0_t3 => k0_hw1.2.2.2.2.2.2.2.2.2.2.2.2.2.2.2.2.2.2.1 k0_t3
theorem k0_off150_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off150 v14 v17 v20 v23 v26 v29 k0_t3) a + S1x128x128.size a ≤ S4x512x8192.size a := fun v14 v17 v20 v23 v26 v29 k0_hw1 k0_t3 => k0_hw1.2.2.2.2.2.2.2.2.2.2.2.2.2.2.2.2.2.2.2.1 k0_t3
theorem k0_off151_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off151 v14 v17 v20 v23 v26 v29 k0_t3) a + S1x128x128.size a ≤ S4x512x8192.size a := fun v14 v17 v20 v23 v26 v29 k0_hw1 k0_t3 => k0_hw1.2.2.2.2.2.2.2.2.2.2.2.2.2.2.2.2.2.2.2.2.1 k0_t3
theorem k0_off152_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ a, (k0_off152 v14 v17 v20 v23 v26 v29 k0_t3) a + S1x128x128.size a ≤ S4x512x8192.size a := fun v14 v17 v20 v23 v26 v29 k0_hw1 k0_t3 => k0_hw1.2.2.2.2.2.2.2.2.2.2.2.2.2.2.2.2.2.2.2.2.2.1 k0_t3
theorem k0_mult17_dvd : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), 32 ∣ (k0_mult17 v14 v17 v20 v23 v26 v29 k0_t3).toNat := fun v14 v17 v20 v23 v26 v29 k0_hw1 k0_t3 k0_h3 => k0_hw1.2.2.2.2.2.2.2.2.2.2.2.2.2.2.2.2.2.2.2.2.2.2.1 k0_t3 k0_h3
theorem k0_mult18_dvd : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), 512 ∣ (k0_mult18 v14 v17 v20 v23 v26 v29 k0_t3).toNat := fun v14 v17 v20 v23 v26 v29 k0_hw1 k0_t3 k0_h3 => k0_hw1.2.2.2.2.2.2.2.2.2.2.2.2.2.2.2.2.2.2.2.2.2.2.2.1 k0_t3 k0_h3
theorem k0_off153_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), ∀ a, (k0_off153 v14 v17 v20 v23 v26 v29 k0_t3) a + S1.size a ≤ S4.size a := fun v14 v17 v20 v23 v26 v29 k0_hw1 k0_t3 k0_h3 => k0_hw1.2.2.2.2.2.2.2.2.2.2.2.2.2.2.2.2.2.2.2.2.2.2.2.2.1 k0_t3 k0_h3
theorem k0_off154_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), ∀ a, (k0_off154 v14 v17 v20 v23 v26 v29 k0_t3).2 a = 0 ∨ (k0_off154 v14 v17 v20 v23 v26 v29 k0_t3).1 a + (k0_off154 v14 v17 v20 v23 v26 v29 k0_t3).2 a ≤ S4x512x8192.size a := fun v14 v17 v20 v23 v26 v29 k0_hw1 k0_t3 k0_h3 => k0_hw1.2.2.2.2.2.2.2.2.2.2.2.2.2.2.2.2.2.2.2.2.2.2.2.2.2.1 k0_t3 k0_h3
theorem k0_sz9_squeezes : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), (⟨3, (k0_off154 v14 v17 v20 v23 v26 v29 k0_t3).2⟩ : Shape).Squeezes ⟨2, k0_sz9 v14 v17 v20 v23 v26 v29 k0_t3⟩ := fun v14 v17 v20 v23 v26 v29 k0_hw1 k0_t3 k0_h3 => k0_hw1.2.2.2.2.2.2.2.2.2.2.2.2.2.2.2.2.2.2.2.2.2.2.2.2.2.2.1 k0_t3 k0_h3
theorem k0_off155_inb : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), ∀ a, (k0_off155 v14 v17 v20 v23 v26 v29 k0_t3).2 a = 0 ∨ (k0_off155 v14 v17 v20 v23 v26 v29 k0_t3).1 a + (k0_off155 v14 v17 v20 v23 v26 v29 k0_t3).2 a ≤ S6x6144x8192.size a := fun v14 v17 v20 v23 v26 v29 k0_hw1 k0_t3 k0_h3 => k0_hw1.2.2.2.2.2.2.2.2.2.2.2.2.2.2.2.2.2.2.2.2.2.2.2.2.2.2.2.1 k0_t3 k0_h3
theorem k0_sz10_squeezes : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), (⟨3, (k0_off155 v14 v17 v20 v23 v26 v29 k0_t3).2⟩ : Shape).Squeezes ⟨2, k0_sz10 v14 v17 v20 v23 v26 v29 k0_t3⟩ := fun v14 v17 v20 v23 v26 v29 k0_hw1 k0_t3 k0_h3 => k0_hw1.2.2.2.2.2.2.2.2.2.2.2.2.2.2.2.2.2.2.2.2.2.2.2.2.2.2.2.2.1 k0_t3 k0_h3
theorem k0_off155_wordsfp8e4m3 : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), (Rect.unitDyn (s := S6x6144x8192) (k0_off155 v14 v17 v20 v23 v26 v29 k0_t3).1 (k0_off155 v14 v17 v20 v23 v26 v29 k0_t3).2 (k0_off155_inb v14 v17 v20 v23 v26 v29 k0_hw1 k0_t3 k0_h3)).WholeWords (EltTy.packing .fp8e4m3) := fun v14 v17 v20 v23 v26 v29 k0_hw1 k0_t3 k0_h3 => k0_hw1.2.2.2.2.2.2.2.2.2.2.2.2.2.2.2.2.2.2.2.2.2.2.2.2.2.2.2.2.2.1 k0_t3 k0_h3 (k0_off155_inb v14 v17 v20 v23 v26 v29 k0_hw1 k0_t3 k0_h3)
theorem k0_off154_wordsfp8e4m3 : ∀ (v14 : BitVec 32) (v17 : BitVec 32) (v20 : BitVec 32) (v23 : BitVec 32) (v26 : BitVec 32) (v29 : BitVec 32) (k0_hw1 : k0_chk1 v14 v17 v20 v23 v26 v29) (k0_t3 : Fin (k0_t3_loop v14 v17 v20 v23 v26 v29).trips), ∀ (k0_h3 : k0_cond3 v14 v17 v20 v23 v26 v29 k0_t3 = 1#1), (Rect.unitDyn (s := S4x512x8192) (k0_off154 v14 v17 v20 v23 v26 v29 k0_t3).1 (k0_off154 v14 v17 v20 v23 v26 v29 k0_t3).2 (k0_off154_inb v14 v17 v20 v23 v26 v29 k0_hw1 k0_t3 k0_h3)).WholeWords (EltTy.packing .fp8e4m3) := fun v14 v17 v20 v23 v26 v29 k0_hw1 k0_t3 k0_h3 => k0_hw1.2.2.2.2.2.2.2.2.2.2.2.2.2.2.2.2.2.2.2.2.2.2.2.2.2.2.2.2.2.2.1 k0_t3 k0_h3 (k0_off154_inb v14 v17 v20 v23 v26 v29 k0_hw1 k0_t3 k0_h3)
theorem k0_off156_inb : ∀ (v14 : BitVec 32) (v17 : BitVec 32) (v20 : BitVec 32) (v23 : BitVec 32) (v26 : BitVec 32) (v29 : BitVec 32) (k0_hw1 : k0_chk1 v14 v17 v20 v23 v26 v29), ∀ (k0_h4 : k0_cond4 v14 v17 v20 v23 v26 v29 = 1#1), ∀ a, (k0_off156 v14 v17 v20 v23 v26 v29) a + S1.size a ≤ S6.size a := fun v14 v17 v20 v23 v26 v29 k0_hw1 k0_h4 => k0_hw1.2.2.2.2.2.2.2.2.2.2.2.2.2.2.2.2.2.2.2.2.2.2.2.2.2.2.2.2.2.2.2.1 k0_h4
theorem k0_mult19_dvd : ∀ (v14 : BitVec 32) (v17 : BitVec 32) (v20 : BitVec 32) (v23 : BitVec 32) (v26 : BitVec 32) (v29 : BitVec 32) (k0_hw1 : k0_chk1 v14 v17 v20 v23 v26 v29), ∀ (k0_h4 : k0_cond4 v14 v17 v20 v23 v26 v29 = 1#1), 128 ∣ (k0_mult19 v14 v17 v20 v23 v26 v29).toNat := fun v14 v17 v20 v23 v26 v29 k0_hw1 k0_h4 => k0_hw1.2.2.2.2.2.2.2.2.2.2.2.2.2.2.2.2.2.2.2.2.2.2.2.2.2.2.2.2.2.2.2.2.1 k0_h4
theorem k0_off157_inb : ∀ (v14 : BitVec 32) (v17 : BitVec 32) (v20 : BitVec 32) (v23 : BitVec 32) (v26 : BitVec 32) (v29 : BitVec 32) (k0_hw1 : k0_chk1 v14 v17 v20 v23 v26 v29), ∀ (k0_h4 : k0_cond4 v14 v17 v20 v23 v26 v29 = 1#1), ∀ (r : Fin 4), ∀ a, (k0_off157 v14 v17 v20 v23 v26 v29 (BitVec.ofNat 32 (128 * r.val))) a + S6x128.size a ≤ S6x6144.size a := fun v14 v17 v20 v23 v26 v29 k0_hw1 k0_h4 r => k0_hw1.2.2.2.2.2.2.2.2.2.2.2.2.2.2.2.2.2.2.2.2.2.2.2.2.2.2.2.2.2.2.2.2.2.1 k0_h4 r
theorem k0_mult20_dvd : ∀ (v14 : BitVec 32) (v17 : BitVec 32) (v20 : BitVec 32) (v23 : BitVec 32) (v26 : BitVec 32) (v29 : BitVec 32) (k0_hw1 : k0_chk1 v14 v17 v20 v23 v26 v29), ∀ (k0_h4 : k0_cond4 v14 v17 v20 v23 v26 v29 = 1#1), 128 ∣ (k0_mult20 v14 v17 v20 v23 v26 v29).toNat := fun v14 v17 v20 v23 v26 v29 k0_hw1 k0_h4 => k0_hw1.2.2.2.2.2.2.2.2.2.2.2.2.2.2.2.2.2.2.2.2.2.2.2.2.2.2.2.2.2.2.2.2.2.2.1 k0_h4
theorem k0_mult21_dvd : ∀ (v14 : BitVec 32) (v17 : BitVec 32) (v20 : BitVec 32) (v23 : BitVec 32) (v26 : BitVec 32) (v29 : BitVec 32) (k0_hw1 : k0_chk1 v14 v17 v20 v23 v26 v29), ∀ (k0_h4 : k0_cond4 v14 v17 v20 v23 v26 v29 = 1#1), 128 ∣ (k0_mult21 v14 v17 v20 v23 v26 v29).toNat := fun v14 v17 v20 v23 v26 v29 k0_hw1 k0_h4 => k0_hw1.2.2.2.2.2.2.2.2.2.2.2.2.2.2.2.2.2.2.2.2.2.2.2.2.2.2.2.2.2.2.2.2.2.2.2.1 k0_h4
theorem k0_mult22_dvd : ∀ (v14 : BitVec 32) (v17 : BitVec 32) (v20 : BitVec 32) (v23 : BitVec 32) (v26 : BitVec 32) (v29 : BitVec 32) (k0_hw1 : k0_chk1 v14 v17 v20 v23 v26 v29), ∀ (k0_h4 : k0_cond4 v14 v17 v20 v23 v26 v29 = 1#1), 128 ∣ (k0_mult22 v14 v17 v20 v23 v26 v29).toNat := fun v14 v17 v20 v23 v26 v29 k0_hw1 k0_h4 => k0_hw1.2.2.2.2.2.2.2.2.2.2.2.2.2.2.2.2.2.2.2.2.2.2.2.2.2.2.2.2.2.2.2.2.2.2.2.2 k0_h4

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S6x6144x8192 : Shape := ⟨3, ![6, 6144, 8192]⟩
abbrev S6x6144 : Shape := ⟨2, ![6, 6144]⟩
abbrev S8192 : Shape := ⟨1, ![8192]⟩
abbrev S1 : Shape := ⟨1, ![1]⟩
abbrev S6 : Shape := ⟨1, ![6]⟩
abbrev S1x1x8192 : Shape := ⟨3, ![1, 1, 8192]⟩
abbrev S6x1 : Shape := ⟨2, ![6, 1]⟩

abbrev nBuf : Space → Nat
  | .hbm => 10
  | .vmem => 5
  | .smem => 2
  | _ => 0

abbrev bufTy : (tb : Table) → Fin (tcTables nBuf tb) → BufTy
  | .hbm, ⟨0, _⟩ => ⟨S6x6144x8192, .fp8e4m3⟩
  | .hbm, ⟨1, _⟩ => ⟨S6x6144, .f32⟩
  | .hbm, ⟨2, _⟩ => ⟨S8192, .fp8e4m3⟩
  | .hbm, ⟨3, _⟩ => ⟨S1, .f32⟩
  | .hbm, ⟨4, _⟩ => ⟨S1, .f32⟩
  | .hbm, ⟨5, _⟩ => ⟨S6x6144, .bf16⟩
  | .hbm, ⟨6, _⟩ => ⟨S6x6144, .bf16⟩
  | .hbm, ⟨7, _⟩ => ⟨S6, .f32⟩
  | .hbm, ⟨8, _⟩ => ⟨S6, .i32⟩
  | .hbm, ⟨9, _⟩ => ⟨S6x6144, .f32⟩
  | .local _ .vmem, ⟨0, _⟩ => ⟨S6x6144x8192, .fp8e4m3⟩
  | .local _ .vmem, ⟨1, _⟩ => ⟨S6x6144, .f32⟩
  | .local _ .vmem, ⟨2, _⟩ => ⟨S8192, .fp8e4m3⟩
  | .local _ .vmem, ⟨3, _⟩ => ⟨S6, .i32⟩
  | .local _ .vmem, ⟨4, _⟩ => ⟨S6x6144, .f32⟩
  | .local _ .smem, ⟨0, _⟩ => ⟨S1, .f32⟩
  | .local _ .smem, ⟨1, _⟩ => ⟨S1, .f32⟩
  | _, _ => ⟨S6x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x6144x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KWords.lean ====
/- The run-time words of the printed kernel, in plain numbers. The printed body clips the six lengths, counts each
   sequence's chunks of 512 rows, and locates a chunk's sequence and position; every offset, extent and condition of the
   kernel is a composition of the few word functions below. Here the compositions are named, the printed definitions are
   identified with them, and the side condition the program assumes is proved. -/
module

public import proofs.«01_k».proof.Proof.Gen.KernelIdeal
public import Idealize.ShloMosaic.Lib.Tactic.WordOmega
public import Idealize.ShloMosaic.Lib.LoopRemainder
public import Idealize.ShloMosaic.Lib.WordCmp

@[expose] public section

set_option maxRecDepth 16384

noncomputable section

namespace Cert.KernelIdeal.Hand

open Cert.KernelIdeal
open Idealize.ShloMosaic Idealize.ShloMosaic.TcCoe

/-- A length word clipped to `[0, 6144]`. -/
def clipW (v : BitVec 32) : BitVec 32 := Scalar.minsi 6144#32 (Scalar.maxsi 0#32 v)
/-- Floor division as printed. -/
def fdivW (x d : BitVec 32) : BitVec 32 :=
  Scalar.select (Scalar.andi (Scalar.cmpi .ne (Scalar.subi (Scalar.extui (Scalar.cmpi .sgt x 0#32)) (Scalar.extui (Scalar.cmpi .slt x 0#32)))
    (Scalar.subi (Scalar.extui (Scalar.cmpi .sgt d 0#32)) (Scalar.extui (Scalar.cmpi .slt d 0#32)))) (Scalar.cmpi .ne (Scalar.remsi x d) 0#32))
    (Scalar.subi (Scalar.divsi x d) 1#32) (Scalar.divsi x d)
/-- The number of chunks of a clipped length. -/
def chunksW (l : BitVec 32) : BitVec 32 := fdivW (Scalar.subi (Scalar.addi l 512#32) 1#32) 512#32
/-- The rows a chunk's transfer moves: the rows left from the chunk's start, a multiple of 32, at most 512. -/
def rowsW (ln cr : BitVec 32) : BitVec 32 :=
  Scalar.minsi (Scalar.muli (fdivW (Scalar.subi (Scalar.addi (Scalar.subi ln (Scalar.muli cr 512#32)) 32#32) 1#32) 32#32) 32#32) 512#32

section
variable (v14 v17 v20 v23 v26 v29 : BitVec 32)

/-- Cumulative chunk counts. -/
def e0W : BitVec 32 := Scalar.addi 0#32 (chunksW (clipW v14))
def e1W : BitVec 32 := Scalar.addi (e0W v14) (chunksW (clipW v17))
def e2W : BitVec 32 := Scalar.addi (e1W v14 v17) (chunksW (clipW v20))
def e3W : BitVec 32 := Scalar.addi (e2W v14 v17 v20) (chunksW (clipW v23))
def e4W : BitVec 32 := Scalar.addi (e3W v14 v17 v20 v23) (chunksW (clipW v26))
def e5W : BitVec 32 := Scalar.addi (e4W v14 v17 v20 v23 v26) (chunksW (clipW v29))

/-- The value of the sequence a chunk number falls in, of six. -/
def locW (i a0 a1 a2 a3 a4 a5 : BitVec 32) : BitVec 32 :=
  Scalar.select (Scalar.cmpi .sge i (e4W v14 v17 v20 v23 v26)) a5
   (Scalar.select (Scalar.cmpi .sge i (e3W v14 v17 v20 v23)) a4
    (Scalar.select (Scalar.cmpi .sge i (e2W v14 v17 v20)) a3
     (Scalar.select (Scalar.cmpi .sge i (e1W v14 v17)) a2
      (Scalar.select (Scalar.cmpi .sge i (e0W v14)) a1 a0))))
def seqW (i : BitVec 32) : BitVec 32 := locW v14 v17 v20 v23 v26 i 0#32 1#32 2#32 3#32 4#32 5#32
def lenW (i : BitVec 32) : BitVec 32 := locW v14 v17 v20 v23 v26 i (clipW v14) (clipW v17) (clipW v20) (clipW v23) (clipW v26) (clipW v29)
def endW (i : BitVec 32) : BitVec 32 := locW v14 v17 v20 v23 v26 i (e0W v14) (e1W v14 v17) (e2W v14 v17 v20) (e3W v14 v17 v20 v23) (e4W v14 v17 v20 v23 v26) (e5W v14 v17 v20 v23 v26 v29)
/-- The chunk's position in its sequence: chunks are taken last to first. -/
def posW (i : BitVec 32) : BitVec 32 := Scalar.subi (Scalar.subi (endW v14 v17 v20 v23 v26 v29 i) 1#32) i
def nrowW (i : BitVec 32) : BitVec 32 := rowsW (lenW v14 v17 v20 v23 v26 v29 i) (posW v14 v17 v20 v23 v26 v29 i)
/-- The chunk finished at trip `i`: the one before. -/
def prevW (i : BitVec 32) : BitVec 32 := Scalar.maxsi (Scalar.subi i 1#32) 0#32

/-! ### The printed definitions, as these -/

theorem t2_loop_eq : k0_t2_loop v14 v17 v20 v23 v26 v29 = ⟨0#32, Scalar.addi 0#32 (Scalar.muli (Scalar.divsi (Scalar.subi (e5W v14 v17 v20 v23 v26 v29) 0#32) 1#32) 1#32), 1#32⟩ := rfl
theorem t3_loop_eq : k0_t3_loop v14 v17 v20 v23 v26 v29 = ⟨Scalar.addi 0#32 (Scalar.muli (Scalar.divsi (Scalar.subi (e5W v14 v17 v20 v23 v26 v29) 0#32) 1#32) 1#32), Scalar.addi 0#32 (Scalar.subi (e5W v14 v17 v20 v23 v26 v29) 0#32), 1#32⟩ := rfl
theorem cond1_eq (t : Fin k0_t1_loop.trips) : k0_cond1 v14 v17 v20 v23 v26 v29 t
  = Scalar.cmpi .ne (Scalar.extui (Scalar.cmpi .slt (Scf.iv 0#32 1#32 t) (e5W v14 v17 v20 v23 v26 v29)) : BitVec 32) 0#32 := rfl
theorem off2_eq (t : Fin k0_t1_loop.trips) : k0_off2 v14 v17 v20 v23 v26 v29 t
  = ⟨![(Scalar.remsi (Scf.iv 0#32 1#32 t) 4#32).toNat, 0, 0], ![1, (nrowW v14 v17 v20 v23 v26 v29 (Scf.iv 0#32 1#32 t)).toNat, 8192]⟩ := rfl
theorem off3_eq (t : Fin k0_t1_loop.trips) : k0_off3 v14 v17 v20 v23 v26 v29 t
  = ⟨![(seqW v14 v17 v20 v23 v26 (Scf.iv 0#32 1#32 t)).toNat, (Scalar.muli (posW v14 v17 v20 v23 v26 v29 (Scf.iv 0#32 1#32 t)) 512#32).toNat, 0], ![1, (nrowW v14 v17 v20 v23 v26 v29 (Scf.iv 0#32 1#32 t)).toNat, 8192]⟩ := rfl
theorem sz1_eq (t : Fin k0_t1_loop.trips) : k0_sz1 v14 v17 v20 v23 v26 v29 t = ![(nrowW v14 v17 v20 v23 v26 v29 (Scf.iv 0#32 1#32 t)).toNat, 8192] := rfl
theorem sz2_eq (t : Fin k0_t1_loop.trips) : k0_sz2 v14 v17 v20 v23 v26 v29 t = ![(nrowW v14 v17 v20 v23 v26 v29 (Scf.iv 0#32 1#32 t)).toNat, 8192] := rfl
theorem mult1_eq (t : Fin k0_t1_loop.trips) : k0_mult1 v14 v17 v20 v23 v26 v29 t = nrowW v14 v17 v20 v23 v26 v29 (Scf.iv 0#32 1#32 t) := rfl
theorem mult2_eq (t : Fin k0_t1_loop.trips) : k0_mult2 v14 v17 v20 v23 v26 v29 t = Scalar.muli (posW v14 v17 v20 v23 v26 v29 (Scf.iv 0#32 1#32 t)) 512#32 := rfl
theorem mult3_eq (t : Fin (k0_t2_loop v14 v17 v20 v23 v26 v29).trips) : k0_mult3 v14 v17 v20 v23 v26 v29 t = nrowW v14 v17 v20 v23 v26 v29 (Scf.iv 0#32 1#32 t) := rfl
theorem mult4_eq (t : Fin (k0_t2_loop v14 v17 v20 v23 v26 v29).trips) : k0_mult4 v14 v17 v20 v23 v26 v29 t = Scalar.muli (posW v14 v17 v20 v23 v26 v29 (Scf.iv 0#32 1#32 t)) 512#32 := rfl
theorem off4_eq (t : Fin (k0_t2_loop v14 v17 v20 v23 v26 v29).trips) : k0_off4 v14 v17 v20 v23 v26 v29 t = ![(Scalar.remsi (Scf.iv 0#32 1#32 t) 4#32).toNat] := rfl
theorem off5_eq (t : Fin (k0_t2_loop v14 v17 v20 v23 v26 v29).trips) : k0_off5 v14 v17 v20 v23 v26 v29 t = ⟨![(Scalar.remsi (Scf.iv 0#32 1#32 t) 4#32).toNat, 0, 0], ![1, (nrowW v14 v17 v20 v23 v26 v29 (Scf.iv 0#32 1#32 t)).toNat, 8192]⟩ := rfl
theorem sz3_eq (t : Fin (k0_t2_loop v14 v17 v20 v23 v26 v29).trips) : k0_sz3 v14 v17 v20 v23 v26 v29 t = ![(nrowW v14 v17 v20 v23 v26 v29 (Scf.iv 0#32 1#32 t)).toNat, 8192] := rfl
theorem sz4_eq (t : Fin (k0_t2_loop v14 v17 v20 v23 v26 v29).trips) : k0_sz4 v14 v17 v20 v23 v26 v29 t = ![(nrowW v14 v17 v20 v23 v26 v29 (Scf.iv 0#32 1#32 t)).toNat, 8192] := rfl
theorem off7_eq (t : Fin (k0_t2_loop v14 v17 v20 v23 v26 v29).trips) : k0_off7 v14 v17 v20 v23 v26 v29 t = ![(seqW v14 v17 v20 v23 v26 (prevW (Scf.iv 0#32 1#32 t))).toNat] := rfl
theorem off8_eq (t : Fin (k0_t2_loop v14 v17 v20 v23 v26 v29).trips) (r : BitVec 32) : k0_off8 v14 v17 v20 v23 v26 v29 t r = ![0, (Scalar.addi (Scalar.muli (posW v14 v17 v20 v23 v26 v29 (prevW (Scf.iv 0#32 1#32 t))) 512#32) r).toNat] := rfl
theorem mult5_eq (t : Fin (k0_t2_loop v14 v17 v20 v23 v26 v29).trips) : k0_mult5 v14 v17 v20 v23 v26 v29 t = Scalar.addi (Scalar.muli (posW v14 v17 v20 v23 v26 v29 (prevW (Scf.iv 0#32 1#32 t))) 512#32) 384#32 := rfl
theorem mult6_eq (t : Fin (k0_t2_loop v14 v17 v20 v23 v26 v29).trips) : k0_mult6 v14 v17 v20 v23 v26 v29 t = Scalar.addi (Scalar.muli (posW v14 v17 v20 v23 v26 v29 (prevW (Scf.iv 0#32 1#32 t))) 512#32) 256#32 := rfl
theorem mult7_eq (t : Fin (k0_t2_loop v14 v17 v20 v23 v26 v29).trips) : k0_mult7 v14 v17 v20 v23 v26 v29 t = Scalar.addi (Scalar.muli (posW v14 v17 v20 v23 v26 v29 (prevW (Scf.iv 0#32 1#32 t))) 512#32) 128#32 := rfl
theorem mult8_eq (t : Fin (k0_t2_loop v14 v17 v20 v23 v26 v29).trips) : k0_mult8 v14 v17 v20 v23 v26 v29 t = Scalar.addi (Scalar.muli (posW v14 v17 v20 v23 v26 v29 (prevW (Scf.iv 0#32 1#32 t))) 512#32) 0#32 := rfl
theorem cond2_eq (t : Fin (k0_t2_loop v14 v17 v20 v23 v26 v29).trips) : k0_cond2 v14 v17 v20 v23 v26 v29 t = Scalar.cmpi .ne (Scalar.extui (Scalar.cmpi .slt (Scalar.addi (Scf.iv 0#32 1#32 t) 4#32) (e5W v14 v17 v20 v23 v26 v29)) : BitVec 32) 0#32 := rfl
theorem off77_eq (t : Fin (k0_t2_loop v14 v17 v20 v23 v26 v29).trips) : k0_off77 v14 v17 v20 v23 v26 v29 t = ![(Scalar.remsi (Scalar.addi (Scf.iv 0#32 1#32 t) 4#32) 4#32).toNat] := rfl
theorem off78_eq (t : Fin (k0_t2_loop v14 v17 v20 v23 v26 v29).trips) : k0_off78 v14 v17 v20 v23 v26 v29 t = ⟨![(Scalar.remsi (Scalar.addi (Scf.iv 0#32 1#32 t) 4#32) 4#32).toNat, 0, 0], ![1, (nrowW v14 v17 v20 v23 v26 v29 (Scalar.addi (Scf.iv 0#32 1#32 t) 4#32)).toNat, 8192]⟩ := rfl
theorem off79_eq (t : Fin (k0_t2_loop v14 v17 v20 v23 v26 v29).trips) : k0_off79 v14 v17 v20 v23 v26 v29 t = ⟨![(seqW v14 v17 v20 v23 v26 (Scalar.addi (Scf.iv 0#32 1#32 t) 4#32)).toNat, (Scalar.muli (posW v14 v17 v20 v23 v26 v29 (Scalar.addi (Scf.iv 0#32 1#32 t) 4#32)) 512#32).toNat, 0], ![1, (nrowW v14 v17 v20 v23 v26 v29 (Scalar.addi (Scf.iv 0#32 1#32 t) 4#32)).toNat, 8192]⟩ := rfl
theorem sz5_eq (t : Fin (k0_t2_loop v14 v17 v20 v23 v26 v29).trips) : k0_sz5 v14 v17 v20 v23 v26 v29 t = ![(nrowW v14 v17 v20 v23 v26 v29 (Scalar.addi (Scf.iv 0#32 1#32 t) 4#32)).toNat, 8192] := rfl
theorem sz6_eq (t : Fin (k0_t2_loop v14 v17 v20 v23 v26 v29).trips) : k0_sz6 v14 v17 v20 v23 v26 v29 t = ![(nrowW v14 v17 v20 v23 v26 v29 (Scalar.addi (Scf.iv 0#32 1#32 t) 4#32)).toNat, 8192] := rfl
theorem mult9_eq (t : Fin (k0_t2_loop v14 v17 v20 v23 v26 v29).trips) : k0_mult9 v14 v17 v20 v23 v26 v29 t = nrowW v14 v17 v20 v23 v26 v29 (Scalar.addi (Scf.iv 0#32 1#32 t) 4#32) := rfl
theorem mult10_eq (t : Fin (k0_t2_loop v14 v17 v20 v23 v26 v29).trips) : k0_mult10 v14 v17 v20 v23 v26 v29 t = Scalar.muli (posW v14 v17 v20 v23 v26 v29 (Scalar.addi (Scf.iv 0#32 1#32 t) 4#32)) 512#32 := rfl
theorem cond4_eq  : k0_cond4 v14 v17 v20 v23 v26 v29  = Scalar.cmpi .ne (Scalar.extui (Scalar.cmpi .sgt (e5W v14 v17 v20 v23 v26 v29) 0#32) : BitVec 32) 0#32 := rfl
theorem off156_eq  : k0_off156 v14 v17 v20 v23 v26 v29  = ![(seqW v14 v17 v20 v23 v26 (Scalar.subi (e5W v14 v17 v20 v23 v26 v29) 1#32)).toNat] := rfl
theorem off157_eq (r : BitVec 32) : k0_off157 v14 v17 v20 v23 v26 v29 r = ![0, (Scalar.addi (Scalar.muli (posW v14 v17 v20 v23 v26 v29 (Scalar.subi (e5W v14 v17 v20 v23 v26 v29) 1#32)) 512#32) r).toNat] := rfl
theorem mult19_eq  : k0_mult19 v14 v17 v20 v23 v26 v29  = Scalar.addi (Scalar.muli (posW v14 v17 v20 v23 v26 v29 (Scalar.subi (e5W v14 v17 v20 v23 v26 v29) 1#32)) 512#32) 384#32 := rfl
theorem mult20_eq  : k0_mult20 v14 v17 v20 v23 v26 v29  = Scalar.addi (Scalar.muli (posW v14 v17 v20 v23 v26 v29 (Scalar.subi (e5W v14 v17 v20 v23 v26 v29) 1#32)) 512#32) 256#32 := rfl
theorem mult21_eq  : k0_mult21 v14 v17 v20 v23 v26 v29  = Scalar.addi (Scalar.muli (posW v14 v17 v20 v23 v26 v29 (Scalar.subi (e5W v14 v17 v20 v23 v26 v29) 1#32)) 512#32) 128#32 := rfl
theorem mult22_eq  : k0_mult22 v14 v17 v20 v23 v26 v29  = Scalar.addi (Scalar.muli (posW v14 v17 v20 v23 v26 v29 (Scalar.subi (e5W v14 v17 v20 v23 v26 v29) 1#32)) 512#32) 0#32 := rfl
end
end Cert.KernelIdeal.Hand
end
-- ==== Proof.KNat.lean ====
/- The kernel's run-time words in plain numbers: a clipped length is at most 6144, a chunk count is the quotient rounded
   up, and a chunk below the total has a sequence, a position in it and a row count that stay inside the arrays. -/
module

public import Idealize.ShloMosaic.Lib.Tactic.WordOmega
public import Idealize.ShloMosaic.Lib.WordCmp
public import Idealize.ShloMosaic.Lib.WordArith
public import Idealize.ShloMosaic.Lib.Routing.Words
public import proofs.«01_k».proof.Proof.KWords

@[expose] public section

set_option maxRecDepth 16384

noncomputable section

namespace Cert.KernelIdeal.Hand

open Cert.KernelIdeal
open Idealize.ShloMosaic Idealize.ShloMosaic.TcCoe

/-! ### Word operations on small numbers -/

theorem subN {x y : BitVec 32} (h : y.toNat ≤ x.toNat) : (Scalar.subi x y).toNat = x.toNat - y.toNat := by
  have := x.isLt; have := y.isLt
  show (x - y).toNat = _
  rw [BitVec.toNat_sub]; omega
theorem addN {x y : BitVec 32} (h : x.toNat + y.toNat < 2 ^ 32) : (Scalar.addi x y).toNat = x.toNat + y.toNat := by
  show (x + y).toNat = _
  rw [BitVec.toNat_add]; omega
theorem mulN {x y : BitVec 32} (h : x.toNat * y.toNat < 2 ^ 32) : (Scalar.muli x y).toNat = x.toNat * y.toNat := by
  show (x * y).toNat = _
  rw [BitVec.toNat_mul]; exact Nat.mod_eq_of_lt h
theorem ofNat_toNat' (x : BitVec 32) : BitVec.ofNat 32 x.toNat = x := by
  apply BitVec.eq_of_toNat_eq; rw [BitVec.toNat_ofNat]; exact Nat.mod_eq_of_lt x.isLt
theorem divN {x : BitVec 32} {d : Nat} (h : x.toNat < 2 ^ 31) (h0 : 0 < d) (hd : d < 2 ^ 31) : (Scalar.divsi x (BitVec.ofNat 32 d)).toNat = x.toNat / d := by
  have := Routing.divsi_word .scalar h h0 hd
  rw [ofNat_toNat'] at this
  show (IntOp.divsi .scalar x (BitVec.ofNat 32 d)).toNat = _
  rw [this, BitVec.toNat_ofNat]
  exact Nat.mod_eq_of_lt (lt_of_le_of_lt (Nat.div_le_self _ _) (by omega))
theorem remN {x : BitVec 32} {d : Nat} (h : x.toNat < 2 ^ 31) (h0 : 0 < d) (hd : d < 2 ^ 31) : (Scalar.remsi x (BitVec.ofNat 32 d)).toNat = x.toNat % d := by
  have := Routing.remsi_word .scalar h h0 hd
  rw [ofNat_toNat'] at this
  show (IntOp.remsi .scalar x (BitVec.ofNat 32 d)).toNat = _
  rw [this, BitVec.toNat_ofNat]
  exact Nat.mod_eq_of_lt (lt_of_le_of_lt (Nat.mod_le _ _) (by omega))
theorem minN {x y : BitVec 32} (hx : x.toNat < 2 ^ 31) (hy : y.toNat < 2 ^ 31) : (Scalar.minsi x y).toNat = min x.toNat y.toNat := by
  have h1 := WordCmp.toInt_eq_toNat_of_lt_half (w := 32) hx
  have h2 := WordCmp.toInt_eq_toNat_of_lt_half (w := 32) hy
  show (if x.slt y then x else y).toNat = _
  simp only [BitVec.slt_iff_toInt_lt]
  split <;> omega
theorem maxN {x y : BitVec 32} (hx : x.toNat < 2 ^ 31) (hy : y.toNat < 2 ^ 31) : (Scalar.maxsi x y).toNat = max x.toNat y.toNat := by
  have h1 := WordCmp.toInt_eq_toNat_of_lt_half (w := 32) hx
  have h2 := WordCmp.toInt_eq_toNat_of_lt_half (w := 32) hy
  show (if y.slt x then x else y).toNat = _
  simp only [BitVec.slt_iff_toInt_lt]
  split <;> omega
theorem geN {x y : BitVec 32} (hx : x.toNat < 2 ^ 31) (hy : y.toNat < 2 ^ 31) {α : Type} (a b : α) :
    Scalar.select (Scalar.cmpi .sge x y) a b = if y.toNat ≤ x.toNat then a else b := by
  have h1 := WordCmp.toInt_eq_toNat_of_lt_half (w := 32) hx
  have h2 := WordCmp.toInt_eq_toNat_of_lt_half (w := 32) hy
  show (if (IntOp.cmpi .sge x y) = 1 then a else b) = _
  rw [WordCmp.cmpi_sge_eq]
  by_cases h : y.toNat ≤ x.toNat
  · rw [if_pos h, if_pos]; exact (WordCmp.ofBool_decide_eq_one_iff _).2 (by omega)
  · rw [if_neg h, if_neg]; exact fun hh => h (by have := (WordCmp.ofBool_decide_eq_one_iff _).1 hh; omega)
theorem ltN {x y : BitVec 32} (hx : x.toNat < 2 ^ 31) (hy : y.toNat < 2 ^ 31) :
    Scalar.cmpi .ne (Scalar.extui (Scalar.cmpi .slt x y) : BitVec 32) 0#32 = 1#1 ↔ x.toNat < y.toNat := by
  have h1 := WordCmp.toInt_eq_toNat_of_lt_half (w := 32) hx
  have h2 := WordCmp.toInt_eq_toNat_of_lt_half (w := 32) hy
  show IntOp.cmpi .ne ((IntOp.cmpi .slt x y).setWidth 32) 0#32 = 1#1 ↔ _
  rw [WordCmp.cmpi_slt_eq, show (decide (x.toInt < y.toInt)) = decide (x.toNat < y.toNat) from by congr 1; rw [h1, h2]; exact propext Int.ofNat_lt]
  by_cases h : x.toNat < y.toNat <;> simp only [h, decide_true, decide_false] <;> decide

theorem clipW_le (v : BitVec 32) : (clipW v).toNat ≤ 6144 := by
  unfold clipW
  have h := WordArith.two_mul_toNat_maxsi_zero_lt v
  rw [minN (by decide) (by omega)]
  exact min_le_left _ _

theorem fdivW_eq (x : BitVec 32) (d : Nat) (h : x.toNat < 2 ^ 20) (h0 : 0 < d) (hd : d < 2 ^ 20) : (fdivW x (BitVec.ofNat 32 d)).toNat = x.toNat / d := by
  have hdv := divN (x := x) (d := d) (by omega) h0 (by omega)
  have hrm := remN (x := x) (d := d) (by omega) h0 (by omega)
  have hdn : (BitVec.ofNat 32 d).toNat = d := by rw [BitVec.toNat_ofNat]; exact Nat.mod_eq_of_lt (by omega)
  have hxi := WordCmp.toInt_eq_toNat_of_lt_half (w := 32) (x := x) (by omega)
  have hdi := WordCmp.toInt_eq_toNat_of_lt_half (w := 32) (x := BitVec.ofNat 32 d) (by omega)
  have z : (0#32).toInt = 0 := by decide
  unfold fdivW
  have e1 : Scalar.cmpi .sgt (BitVec.ofNat 32 d) 0#32 = 1#1 := by
    show IntOp.cmpi .sgt _ _ = _
    rw [WordCmp.cmpi_sgt_eq]; rw [WordCmp.ofBool_decide_eq_one_iff]; rw [hdi, z]; omega
  have e2 : Scalar.cmpi .slt (BitVec.ofNat 32 d) 0#32 = 0#1 := by
    show IntOp.cmpi .slt _ _ = _
    rw [WordCmp.cmpi_slt_eq]; rw [WordCmp.ofBool_decide_eq_zero_iff]; rw [hdi, z]; omega
  have e3 : Scalar.cmpi .slt x 0#32 = 0#1 := by
    show IntOp.cmpi .slt _ _ = _
    rw [WordCmp.cmpi_slt_eq]; rw [WordCmp.ofBool_decide_eq_zero_iff]; rw [hxi, z]; omega
  rw [e1, e2, e3]
  by_cases hx0 : x.toNat = 0
  · have hx : x = 0#32 := by apply BitVec.eq_of_toNat_eq; rw [hx0]; rfl
    have e4 : Scalar.cmpi .ne (Scalar.remsi x (BitVec.ofNat 32 d)) 0#32 = 0#1 := by
      have : Scalar.remsi x (BitVec.ofNat 32 d) = 0#32 := by apply BitVec.eq_of_toNat_eq; rw [hrm, hx0, Nat.zero_mod]; rfl
      rw [this]; decide
    rw [e4]
    have : ∀ b : BitVec 1, Scalar.andi b 0#1 = 0#1 := by decide
    rw [this]; exact hdv
  · have e5 : Scalar.cmpi .sgt x 0#32 = 1#1 := by
      show IntOp.cmpi .sgt _ _ = _
      rw [WordCmp.cmpi_sgt_eq]; rw [WordCmp.ofBool_decide_eq_one_iff]; rw [hxi, z]; omega
    rw [e5]
    have e6 : Scalar.cmpi .ne (Scalar.subi (Scalar.extui 1#1) (Scalar.extui 0#1)) (Scalar.subi (Scalar.extui 1#1) (Scalar.extui 0#1)) = 0#1 := by decide
    rw [e6]
    have : ∀ b : BitVec 1, Scalar.andi 0#1 b = 0#1 := by decide
    rw [this]; exact hdv

theorem chunksW_eq (l : BitVec 32) (h : l.toNat ≤ 6144) : (chunksW l).toNat = (l.toNat + 511) / 512 := by
  have h1 : (Scalar.addi l 512#32).toNat = l.toNat + 512 := addN (by rw [show (512#32).toNat = 512 from rfl]; omega)
  have h2 : (Scalar.subi (Scalar.addi l 512#32) 1#32).toNat = l.toNat + 511 := by
    rw [subN (by rw [h1]; show 1 ≤ _; omega), h1]; rfl
  unfold chunksW
  rw [show (512#32) = BitVec.ofNat 32 512 from rfl] at *
  rw [fdivW_eq _ 512 (by omega) (by omega) (by omega), h2]

theorem rowsW_eq (ln c : BitVec 32) (h : ln.toNat ≤ 6144) (hc : c.toNat * 512 < ln.toNat) :
    (rowsW ln c).toNat = min ((ln.toNat - c.toNat * 512 + 31) / 32 * 32) 512 := by
  have h0 : (Scalar.muli c 512#32).toNat = c.toNat * 512 := mulN (show c.toNat * 512 < _ by omega)
  have h1 : (Scalar.subi ln (Scalar.muli c 512#32)).toNat = ln.toNat - c.toNat * 512 := by rw [subN (by omega), h0]
  have h2 : (Scalar.addi (Scalar.subi ln (Scalar.muli c 512#32)) 32#32).toNat = ln.toNat - c.toNat * 512 + 32 := by
    rw [addN (by rw [h1]; show _ + 32 < _; omega), h1]; rfl
  have h3 : (Scalar.subi (Scalar.addi (Scalar.subi ln (Scalar.muli c 512#32)) 32#32) 1#32).toNat = ln.toNat - c.toNat * 512 + 31 := by
    rw [subN (by rw [h2]; show 1 ≤ _; omega), h2]; rfl
  have h4 := fdivW_eq _ 32 (show (Scalar.subi (Scalar.addi (Scalar.subi ln (Scalar.muli c 512#32)) 32#32) 1#32).toNat < 2 ^ 20 by omega) (by omega) (by omega)
  unfold rowsW
  have h5 : (Scalar.muli (fdivW (Scalar.subi (Scalar.addi (Scalar.subi ln (Scalar.muli c 512#32)) 32#32) 1#32) 32#32) 32#32).toNat = (ln.toNat - c.toNat * 512 + 31) / 32 * 32 := by
    rw [mulN (by rw [h4, h3]; show _ * 32 < _; omega), h4, h3]; rfl
  rw [minN (by omega) (by decide), h5]; rfl

/-! ### Chunks -/

/-- The six lengths, clipped. -/
def lenN (v : BitVec 32) : Nat := (clipW v).toNat
/-- A sequence's number of chunks. -/
def chN (v : BitVec 32) : Nat := (lenN v + 511) / 512
theorem lenN_le (v : BitVec 32) : lenN v ≤ 6144 := clipW_le v
theorem chN_le (v : BitVec 32) : chN v ≤ 12 := by have := lenN_le v; unfold chN; omega

section
variable (v14 v17 v20 v23 v26 v29 : BitVec 32)

theorem e0N : (e0W v14).toNat = chN v14 := by
  have := chunksW_eq _ (clipW_le v14)
  unfold e0W; rw [addN (by rw [this]; have := clipW_le v14; show 0 + _ < _; omega), this]; exact Nat.zero_add _
theorem eN (e v : BitVec 32) (h : e.toNat ≤ 1000) : (Scalar.addi e (chunksW (clipW v))).toNat = e.toNat + chN v := by
  have := chunksW_eq _ (clipW_le v)
  rw [addN (by rw [this]; have := clipW_le v; omega), this]; rfl
theorem e1N : (e1W v14 v17).toNat = chN v14 + chN v17 := by
  have := e0N v14; have := chN_le v14
  unfold e1W; rw [eN _ _ (by omega)]; omega
theorem e2N : (e2W v14 v17 v20).toNat = chN v14 + chN v17 + chN v20 := by
  have := e1N v14 v17; have := chN_le v14; have := chN_le v17
  unfold e2W; rw [eN _ _ (by omega)]; omega
theorem e3N : (e3W v14 v17 v20 v23).toNat = chN v14 + chN v17 + chN v20 + chN v23 := by
  have := e2N v14 v17 v20; have := chN_le v14; have := chN_le v17; have := chN_le v20
  unfold e3W; rw [eN _ _ (by omega)]; omega
theorem e4N : (e4W v14 v17 v20 v23 v26).toNat = chN v14 + chN v17 + chN v20 + chN v23 + chN v26 := by
  have := e3N v14 v17 v20 v23; have := chN_le v14; have := chN_le v17; have := chN_le v20; have := chN_le v23
  unfold e4W; rw [eN _ _ (by omega)]; omega
theorem e5N : (e5W v14 v17 v20 v23 v26 v29).toNat = chN v14 + chN v17 + chN v20 + chN v23 + chN v26 + chN v29 := by
  have := e4N v14 v17 v20 v23 v26; have := chN_le v14; have := chN_le v17; have := chN_le v20; have := chN_le v23; have := chN_le v26
  unfold e5W; rw [eN _ _ (by omega)]; omega

/-- The total number of chunks. -/
def totN : Nat := chN v14 + chN v17 + chN v20 + chN v23 + chN v26 + chN v29
theorem totN_le : totN v14 v17 v20 v23 v26 v29 ≤ 72 := by
  have := chN_le v14; have := chN_le v17; have := chN_le v20; have := chN_le v23; have := chN_le v26; have := chN_le v29
  unfold totN; omega

/-- Chunks before sequence `b`. -/
def begN (b : Nat) : Nat := ((List.range b).map fun k => chN ((![v14, v17, v20, v23, v26, v29] : Fin 6 → BitVec 32) (Fin.ofNat 6 k))).sum

/-- The clipped length of sequence `b`. -/
def lenB (b : Fin 6) : Nat := lenN ((![v14, v17, v20, v23, v26, v29] : Fin 6 → BitVec 32) b)
/-- The chunks up to and with sequence `b`. -/
def endB (b : Fin 6) : Nat := (![chN v14, chN v14 + chN v17, chN v14 + chN v17 + chN v20, chN v14 + chN v17 + chN v20 + chN v23,
  chN v14 + chN v17 + chN v20 + chN v23 + chN v26, chN v14 + chN v17 + chN v20 + chN v23 + chN v26 + chN v29] : Fin 6 → Nat) b
/-- The chunks of sequence `b`. -/
def chB (b : Fin 6) : Nat := chN ((![v14, v17, v20, v23, v26, v29] : Fin 6 → BitVec 32) b)

theorem lenB_le (b : Fin 6) : lenB v14 v17 v20 v23 v26 v29 b ≤ 6144 := lenN_le _
theorem chB_eq (b : Fin 6) : chB v14 v17 v20 v23 v26 v29 b = (lenB v14 v17 v20 v23 v26 v29 b + 511) / 512 := rfl
theorem chB_le (b : Fin 6) : chB v14 v17 v20 v23 v26 v29 b ≤ endB v14 v17 v20 v23 v26 v29 b := by
  fin_cases b <;> simp [chB, endB]
theorem endB_le (b : Fin 6) : endB v14 v17 v20 v23 v26 v29 b ≤ totN v14 v17 v20 v23 v26 v29 := by
  fin_cases b <;> simp [endB, totN] <;> omega

/-- Which sequence a chunk number below the total falls in. -/
theorem loc_spec (i : BitVec 32) (hi : i.toNat < totN v14 v17 v20 v23 v26 v29) :
    ∃ b : Fin 6, endB v14 v17 v20 v23 v26 v29 b - chB v14 v17 v20 v23 v26 v29 b ≤ i.toNat ∧ i.toNat < endB v14 v17 v20 v23 v26 v29 b ∧
      ∀ a0 a1 a2 a3 a4 a5 : BitVec 32, locW v14 v17 v20 v23 v26 i a0 a1 a2 a3 a4 a5 = (![a0, a1, a2, a3, a4, a5] : Fin 6 → BitVec 32) b := by
  have h72 := totN_le v14 v17 v20 v23 v26 v29
  have := chN_le v14; have := chN_le v17; have := chN_le v20; have := chN_le v23; have := chN_le v26; have := chN_le v29
  have E0 := e0N v14; have E1 := e1N v14 v17; have E2 := e2N v14 v17 v20; have E3 := e3N v14 v17 v20 v23; have E4 := e4N v14 v17 v20 v23 v26
  have key : ∀ a0 a1 a2 a3 a4 a5 : BitVec 32, locW v14 v17 v20 v23 v26 i a0 a1 a2 a3 a4 a5 =
      if chN v14 + chN v17 + chN v20 + chN v23 + chN v26 ≤ i.toNat then a5 else if chN v14 + chN v17 + chN v20 + chN v23 ≤ i.toNat then a4
      else if chN v14 + chN v17 + chN v20 ≤ i.toNat then a3 else if chN v14 + chN v17 ≤ i.toNat then a2 else if chN v14 ≤ i.toNat then a1 else a0 := by
    intro a0 a1 a2 a3 a4 a5
    unfold locW
    rw [geN (by omega) (by omega), geN (by omega) (by omega), geN (by omega) (by omega), geN (by omega) (by omega), geN (by omega) (by omega), E0, E1, E2, E3, E4]
  unfold totN at hi
  by_cases c4 : chN v14 + chN v17 + chN v20 + chN v23 + chN v26 ≤ i.toNat
  · exact ⟨5, by simp [endB, chB]; omega, by simp [endB]; omega, fun a0 a1 a2 a3 a4 a5 => by rw [key, if_pos c4]; rfl⟩
  by_cases c3 : chN v14 + chN v17 + chN v20 + chN v23 ≤ i.toNat
  · exact ⟨4, by simp [endB, chB]; omega, by simp [endB]; omega, fun a0 a1 a2 a3 a4 a5 => by rw [key, if_neg c4, if_pos c3]; rfl⟩
  by_cases c2 : chN v14 + chN v17 + chN v20 ≤ i.toNat
  · exact ⟨3, by simp [endB, chB]; omega, by simp [endB]; omega, fun a0 a1 a2 a3 a4 a5 => by rw [key, if_neg c4, if_neg c3, if_pos c2]; rfl⟩
  by_cases c1 : chN v14 + chN v17 ≤ i.toNat
  · exact ⟨2, by simp [endB, chB]; omega, by simp [endB]; omega, fun a0 a1 a2 a3 a4 a5 => by rw [key, if_neg c4, if_neg c3, if_neg c2, if_pos c1]; rfl⟩
  by_cases c0 : chN v14 ≤ i.toNat
  · exact ⟨1, by simp [endB, chB]; omega, by simp [endB]; omega, fun a0 a1 a2 a3 a4 a5 => by rw [key, if_neg c4, if_neg c3, if_neg c2, if_neg c1, if_pos c0]; rfl⟩
  · exact ⟨0, by simp [endB, chB], by simp [endB]; omega, fun a0 a1 a2 a3 a4 a5 => by rw [key, if_neg c4, if_neg c3, if_neg c2, if_neg c1, if_neg c0]; rfl⟩

/-- A chunk below the total: its sequence, its position there (counted from the last chunk), the rows its transfer moves. -/
theorem chunk_spec (i : BitVec 32) (hi : i.toNat < totN v14 v17 v20 v23 v26 v29) :
    ∃ b : Fin 6, endB v14 v17 v20 v23 v26 v29 b - chB v14 v17 v20 v23 v26 v29 b ≤ i.toNat ∧ i.toNat < endB v14 v17 v20 v23 v26 v29 b
      ∧ (seqW v14 v17 v20 v23 v26 i).toNat = b.val
      ∧ (lenW v14 v17 v20 v23 v26 v29 i).toNat = lenB v14 v17 v20 v23 v26 v29 b
      ∧ (posW v14 v17 v20 v23 v26 v29 i).toNat = endB v14 v17 v20 v23 v26 v29 b - 1 - i.toNat
      ∧ (posW v14 v17 v20 v23 v26 v29 i).toNat * 512 < lenB v14 v17 v20 v23 v26 v29 b
      ∧ (nrowW v14 v17 v20 v23 v26 v29 i).toNat = min ((lenB v14 v17 v20 v23 v26 v29 b - (posW v14 v17 v20 v23 v26 v29 i).toNat * 512 + 31) / 32 * 32) 512 := by
  obtain ⟨b, h1, h2, h3⟩ := loc_spec v14 v17 v20 v23 v26 v29 i hi
  have hE : (endW v14 v17 v20 v23 v26 v29 i).toNat = endB v14 v17 v20 v23 v26 v29 b := by
    unfold endW; rw [h3]
    have E0 := e0N v14; have E1 := e1N v14 v17; have E2 := e2N v14 v17 v20; have E3 := e3N v14 v17 v20 v23; have E4 := e4N v14 v17 v20 v23 v26; have E5 := e5N v14 v17 v20 v23 v26 v29
    fin_cases b <;> simpa [endB] using by assumption
  have hL : (lenW v14 v17 v20 v23 v26 v29 i).toNat = lenB v14 v17 v20 v23 v26 v29 b := by
    unfold lenW; rw [h3]; fin_cases b <;> rfl
  have hS : (seqW v14 v17 v20 v23 v26 i).toNat = b.val := by
    unfold seqW; rw [h3]; fin_cases b <;> rfl
  have hp0 : (Scalar.subi (endW v14 v17 v20 v23 v26 v29 i) 1#32).toNat = endB v14 v17 v20 v23 v26 v29 b - 1 := by
    rw [subN (by rw [hE]; show 1 ≤ _; omega), hE]; rfl
  have hp : (posW v14 v17 v20 v23 v26 v29 i).toNat = endB v14 v17 v20 v23 v26 v29 b - 1 - i.toNat := by
    unfold posW; rw [subN (by rw [hp0]; omega), hp0]
  have hlt : (posW v14 v17 v20 v23 v26 v29 i).toNat * 512 < lenB v14 v17 v20 v23 v26 v29 b := by
    have := chB_eq v14 v17 v20 v23 v26 v29 b; rw [hp]; omega
  refine ⟨b, h1, h2, hS, hL, hp, hlt, ?_⟩
  unfold nrowW
  rw [rowsW_eq _ _ (by rw [hL]; exact lenB_le _ _ _ _ _ _ b) (by rw [hL]; exact hlt), hL]

/-- The bounds every offset and extent of the kernel needs. -/
theorem chunk_bounds (i : BitVec 32) (hi : i.toNat < totN v14 v17 v20 v23 v26 v29) :
    (seqW v14 v17 v20 v23 v26 i).toNat < 6 ∧ (posW v14 v17 v20 v23 v26 v29 i).toNat < 12
    ∧ 32 ∣ (nrowW v14 v17 v20 v23 v26 v29 i).toNat ∧ (nrowW v14 v17 v20 v23 v26 v29 i).toNat ≤ 512 ∧ 32 ≤ (nrowW v14 v17 v20 v23 v26 v29 i).toNat
    ∧ (posW v14 v17 v20 v23 v26 v29 i).toNat * 512 + (nrowW v14 v17 v20 v23 v26 v29 i).toNat ≤ 6144 := by
  obtain ⟨b, h1, h2, hS, hL, hp, hlt, hr⟩ := chunk_spec v14 v17 v20 v23 v26 v29 i hi
  have := lenB_le v14 v17 v20 v23 v26 v29 b
  have := b.isLt
  rw [hS, hr]
  refine ⟨by omega, by omega, by omega, by omega, by omega, by omega⟩

/-- Column offsets: a chunk's position times 512 plus a small word. -/
theorem colW (i r : BitVec 32) (hi : i.toNat < totN v14 v17 v20 v23 v26 v29) (hr : r.toNat ≤ 384) :
    (Scalar.addi (Scalar.muli (posW v14 v17 v20 v23 v26 v29 i) 512#32) r).toNat = (posW v14 v17 v20 v23 v26 v29 i).toNat * 512 + r.toNat := by
  have := chunk_bounds v14 v17 v20 v23 v26 v29 i hi
  have h0 : (Scalar.muli (posW v14 v17 v20 v23 v26 v29 i) 512#32).toNat = (posW v14 v17 v20 v23 v26 v29 i).toNat * 512 := mulN (show _ * 512 < _ by omega)
  rw [addN (by omega), h0]
theorem mul512 (i : BitVec 32) (hi : i.toNat < totN v14 v17 v20 v23 v26 v29) :
    (Scalar.muli (posW v14 v17 v20 v23 v26 v29 i) 512#32).toNat = (posW v14 v17 v20 v23 v26 v29 i).toNat * 512 := by
  have := chunk_bounds v14 v17 v20 v23 v26 v29 i hi
  exact mulN (show _ * 512 < _ by omega)

/-! ### Trips -/

theorem ivN (t : Nat) (h : t < 2 ^ 31) : (Scf.iv 0#32 1#32 t).toNat = t := by
  unfold Scf.iv
  rw [BitVec.toNat_add, BitVec.toNat_mul, BitVec.toNat_ofNat]; show (0 + (t % 2 ^ 32 * 1) % 2 ^ 32) % 2 ^ 32 = t; omega

theorem t1_trips : k0_t1_loop.trips = 4 := by decide
theorem t2_ub : (k0_t2_loop v14 v17 v20 v23 v26 v29).ub = e5W v14 v17 v20 v23 v26 v29 := by
  rw [t2_loop_eq]; show Scalar.addi 0#32 (Scalar.muli (Scalar.divsi _ 1#32) 1#32) = _
  rw [Scalar.muli_divsi_one]
  apply BitVec.eq_of_toNat_eq
  rw [addN (by rw [subN (Nat.zero_le _)]; have := (e5W v14 v17 v20 v23 v26 v29).isLt; show 0 + (_ - 0) < _; omega), subN (Nat.zero_le _)]; exact Nat.zero_add _
theorem t2_trips : (k0_t2_loop v14 v17 v20 v23 v26 v29).trips = totN v14 v17 v20 v23 v26 v29 := by
  have h := t2_ub v14 v17 v20 v23 v26 v29
  have h5 := e5N v14 v17 v20 v23 v26 v29
  have h72 := totN_le v14 v17 v20 v23 v26 v29
  have hi := WordCmp.toInt_eq_toNat_of_lt_half (w := 32) (x := e5W v14 v17 v20 v23 v26 v29) (by unfold totN at h72; omega)
  show Scf.trips 0#32 (k0_t2_loop v14 v17 v20 v23 v26 v29).ub 1#32 = _
  rw [h]; unfold Scf.trips
  rw [hi, h5]
  show ((((_ : Nat) : Int) - 0 + 1 - 1) / 1).toNat = _
  unfold totN; omega
theorem t2_ok : (k0_t2_loop v14 v17 v20 v23 v26 v29).OK := by
  have h72 := totN_le v14 v17 v20 v23 v26 v29
  have ht := t2_trips v14 v17 v20 v23 v26 v29
  refine ⟨by show (0:Int) < 1; omega, ?_⟩
  show (0:Int) + ((k0_t2_loop v14 v17 v20 v23 v26 v29).trips : Int) * 1 < 2 ^ 31
  rw [ht]; omega
theorem t3_no (t : Fin (k0_t3_loop v14 v17 v20 v23 v26 v29).trips) : False :=
  Scf.rem_no_trip 0#32 (Scalar.subi (e5W v14 v17 v20 v23 v26 v29) 0#32) t
theorem t3_ok : (k0_t3_loop v14 v17 v20 v23 v26 v29).OK := Scf.rem_ok 0#32 (Scalar.subi (e5W v14 v17 v20 v23 v26 v29) 0#32)

theorem i1_toNat (t : Fin k0_t1_loop.trips) : (Scf.iv 0#32 1#32 t).toNat = t.val := ivN _ (by have := t.isLt; have := t1_trips; omega)
theorem i2_toNat (t : Fin (k0_t2_loop v14 v17 v20 v23 v26 v29).trips) : (Scf.iv 0#32 1#32 t).toNat = t.val :=
  ivN _ (by have := t.isLt; have := t2_trips v14 v17 v20 v23 v26 v29; have := totN_le v14 v17 v20 v23 v26 v29; omega)
theorem i2_lt (t : Fin (k0_t2_loop v14 v17 v20 v23 v26 v29).trips) : (Scf.iv 0#32 1#32 t).toNat < totN v14 v17 v20 v23 v26 v29 := by
  have := t.isLt; have := t2_trips v14 v17 v20 v23 v26 v29; rw [i2_toNat]; omega
theorem i24_toNat (t : Fin (k0_t2_loop v14 v17 v20 v23 v26 v29).trips) : (Scalar.addi (Scf.iv 0#32 1#32 t) 4#32).toNat = t.val + 4 := by
  have := t.isLt; have := t2_trips v14 v17 v20 v23 v26 v29; have := totN_le v14 v17 v20 v23 v26 v29
  have h := i2_toNat v14 v17 v20 v23 v26 v29 t
  rw [addN (by rw [h]; show _ + 4 < _; omega), h]; rfl
theorem prev_toNat (t : Fin (k0_t2_loop v14 v17 v20 v23 v26 v29).trips) : (prevW (Scf.iv 0#32 1#32 t)).toNat = t.val - 1 := by
  have := t.isLt; have := t2_trips v14 v17 v20 v23 v26 v29; have := totN_le v14 v17 v20 v23 v26 v29
  have h := i2_toNat v14 v17 v20 v23 v26 v29 t
  unfold prevW
  by_cases h0 : t.val = 0
  · have : Scf.iv 0#32 1#32 (t : Nat) = 0#32 := by apply BitVec.eq_of_toNat_eq; rw [h, h0]; rfl
    rw [this, h0]; decide
  · have h1 : (Scalar.subi (Scf.iv 0#32 1#32 t) 1#32).toNat = t.val - 1 := by rw [subN (by rw [h]; show 1 ≤ _; omega), h]; rfl
    rw [maxN (by omega) (by decide), h1]; show max _ 0 = _; omega
theorem prev_lt (t : Fin (k0_t2_loop v14 v17 v20 v23 v26 v29).trips) : (prevW (Scf.iv 0#32 1#32 t)).toNat < totN v14 v17 v20 v23 v26 v29 := by
  have := t.isLt; have := t2_trips v14 v17 v20 v23 v26 v29; rw [prev_toNat]; omega
theorem last_toNat (h0 : 0 < totN v14 v17 v20 v23 v26 v29) : (Scalar.subi (e5W v14 v17 v20 v23 v26 v29) 1#32).toNat = totN v14 v17 v20 v23 v26 v29 - 1 := by
  have h5 : (e5W v14 v17 v20 v23 v26 v29).toNat = totN v14 v17 v20 v23 v26 v29 := e5N v14 v17 v20 v23 v26 v29
  rw [subN (by rw [h5]; exact h0), h5]; rfl
theorem last_lt (h0 : 0 < totN v14 v17 v20 v23 v26 v29) : (Scalar.subi (e5W v14 v17 v20 v23 v26 v29) 1#32).toNat < totN v14 v17 v20 v23 v26 v29 := by
  rw [last_toNat _ _ _ _ _ _ h0]; omega
theorem cond1_iff (t : Fin k0_t1_loop.trips) : k0_cond1 v14 v17 v20 v23 v26 v29 t = 1#1 ↔ t.val < totN v14 v17 v20 v23 v26 v29 := by
  have h5 : (e5W v14 v17 v20 v23 v26 v29).toNat = totN v14 v17 v20 v23 v26 v29 := e5N v14 v17 v20 v23 v26 v29
  have h72 := totN_le v14 v17 v20 v23 v26 v29
  have := t.isLt; have := t1_trips
  have hi := i1_toNat t
  rw [cond1_eq, ltN (by omega) (by omega), h5, hi]
theorem cond2_iff (t : Fin (k0_t2_loop v14 v17 v20 v23 v26 v29).trips) : k0_cond2 v14 v17 v20 v23 v26 v29 t = 1#1 ↔ t.val + 4 < totN v14 v17 v20 v23 v26 v29 := by
  have h5 : (e5W v14 v17 v20 v23 v26 v29).toNat = totN v14 v17 v20 v23 v26 v29 := e5N v14 v17 v20 v23 v26 v29
  have h72 := totN_le v14 v17 v20 v23 v26 v29
  have := t.isLt; have := t2_trips v14 v17 v20 v23 v26 v29
  have hi := i24_toNat v14 v17 v20 v23 v26 v29 t
  rw [cond2_eq, ltN (by omega) (by omega), h5, hi]
theorem cond4_iff : k0_cond4 v14 v17 v20 v23 v26 v29 = 1#1 ↔ 0 < totN v14 v17 v20 v23 v26 v29 := by
  have h5 : (e5W v14 v17 v20 v23 v26 v29).toNat = totN v14 v17 v20 v23 v26 v29 := e5N v14 v17 v20 v23 v26 v29
  have h72 := totN_le v14 v17 v20 v23 v26 v29
  rw [cond4_eq]
  exact (ltN (x := 0#32) (y := e5W v14 v17 v20 v23 v26 v29) (by decide) (by omega)).trans (by rw [h5]; exact Iff.rfl)
end
end Cert.KernelIdeal.Hand
end
-- ==== Proof.KChk.lean ====
/- The side condition the printed kernel assumes of its length words holds for every six words: the kernel clips them. -/
module

public import proofs.«01_k».proof.Proof.KNat

@[expose] public section

set_option maxRecDepth 16384

noncomputable section

namespace Cert.KernelIdeal.Hand

open Cert.KernelIdeal
open Idealize.ShloMosaic Idealize.ShloMosaic.TcCoe

theorem slot_inb (w r c R C : Nat) (hw : w < 4) (hr : r + R ≤ 512) (hc : c + C ≤ 8192) :
    ∀ a, (![w, r, c] : Fin 3 → Nat) a + (⟨3, ![1, R, C]⟩ : Shape).size a ≤ S4x512x8192.size a := by
  intro a; fin_cases a
  · show w + 1 ≤ 4; omega
  · exact hr
  · exact hc
theorem ring_inb (w R : Nat) (hw : w < 4) (hR : R ≤ 512) :
    ∀ a, (![1, R, 8192] : Fin 3 → Nat) a = 0 ∨ (![w, 0, 0] : Fin 3 → Nat) a + (![1, R, 8192] : Fin 3 → Nat) a ≤ S4x512x8192.size a := by
  intro a; right; fin_cases a
  · show w + 1 ≤ 4; omega
  · show 0 + R ≤ 512; omega
  · show 0 + 8192 ≤ 8192; omega
theorem src_inb (b p R : Nat) (hb : b < 6) (hp : p + R ≤ 6144) :
    ∀ a, (![1, R, 8192] : Fin 3 → Nat) a = 0 ∨ (![b, p, 0] : Fin 3 → Nat) a + (![1, R, 8192] : Fin 3 → Nat) a ≤ S6x6144x8192.size a := by
  intro a; right; fin_cases a
  · show b + 1 ≤ 6; omega
  · show p + R ≤ 6144; omega
  · show 0 + 8192 ≤ 8192; omega
theorem sq_rows (R : Nat) : (⟨3, ![1, R, 8192]⟩ : Shape).Squeezes ⟨2, ![R, 8192]⟩ := by
  show Shape.dropsOnes [8192, R, 1] [8192, R] = true
  simp [Shape.dropsOnes]
theorem ring_words (w R : Nat) (h32 : 32 ∣ R) (hinb : ∀ a, (![1, R, 8192] : Fin 3 → Nat) a = 0 ∨ (![w, 0, 0] : Fin 3 → Nat) a + (![1, R, 8192] : Fin 3 → Nat) a ≤ S4x512x8192.size a) :
    (Rect.unitDyn (s := S4x512x8192) ![w, 0, 0] ![1, R, 8192] hinb).WholeWords (EltTy.packing .fp8e4m3) :=
by
  have h2 : 2 ≤ S4x512x8192.rank := by decide
  have h : EltTy.packing .fp8e4m3 ∣ R := Dvd.dvd.trans (by decide) h32
  exact Or.inl (Or.inr ⟨h2, rfl, Or.inl ⟨⟨0, rfl⟩, h⟩⟩)
theorem src_words (b p R : Nat) (h32 : 32 ∣ R) (hp : 512 ∣ p) (hinb : ∀ a, (![1, R, 8192] : Fin 3 → Nat) a = 0 ∨ (![b, p, 0] : Fin 3 → Nat) a + (![1, R, 8192] : Fin 3 → Nat) a ≤ S6x6144x8192.size a) :
    (Rect.unitDyn (s := S6x6144x8192) ![b, p, 0] ![1, R, 8192] hinb).WholeWords (EltTy.packing .fp8e4m3) :=
by
  have h2 : 2 ≤ S6x6144x8192.rank := by decide
  have h : EltTy.packing .fp8e4m3 ∣ R := Dvd.dvd.trans (by decide) h32
  have h' : EltTy.packing .fp8e4m3 ∣ p := Dvd.dvd.trans (by decide) hp
  exact Or.inl (Or.inr ⟨h2, rfl, Or.inl ⟨h', h⟩⟩)
theorem one_inb (n w : Nat) (hw : w < n) : ∀ a, (![w] : Fin 1 → Nat) a + S1.size a ≤ (⟨1, ![n]⟩ : Shape).size a := by
  intro a; fin_cases a; show w + 1 ≤ n; omega
theorem col_inb (p : Nat) (hp : p + 128 ≤ 6144) : ∀ a, (![0, p] : Fin 2 → Nat) a + S6x128.size a ≤ S6x6144.size a := by
  intro a; fin_cases a
  · show 0 + 6 ≤ 6; omega
  · exact hp
theorem slotw_lt (x : BitVec 32) (h : x.toNat < 2 ^ 31) : (Scalar.remsi x 4#32).toNat < 4 := by
  have := remN (x := x) (d := 4) h (by omega) (by omega)
  rw [show (4#32) = BitVec.ofNat 32 4 from rfl, this]; omega

section
variable (v14 v17 v20 v23 v26 v29 : BitVec 32)

theorem i1_lt (t : Fin k0_t1_loop.trips) (h : k0_cond1 v14 v17 v20 v23 v26 v29 t = 1#1) : (Scf.iv 0#32 1#32 t).toNat < totN v14 v17 v20 v23 v26 v29 := by
  rw [i1_toNat]; exact (cond1_iff _ _ _ _ _ _ t).1 h
theorem i24_lt (t : Fin (k0_t2_loop v14 v17 v20 v23 v26 v29).trips) (h : k0_cond2 v14 v17 v20 v23 v26 v29 t = 1#1) : (Scalar.addi (Scf.iv 0#32 1#32 t) 4#32).toNat < totN v14 v17 v20 v23 v26 v29 := by
  rw [i24_toNat]; exact (cond2_iff _ _ _ _ _ _ t).1 h
theorem tot_lt : totN v14 v17 v20 v23 v26 v29 < 2 ^ 31 := by have := totN_le v14 v17 v20 v23 v26 v29; omega
theorem dvd512 (i : BitVec 32) (hi : i.toNat < totN v14 v17 v20 v23 v26 v29) : 512 ∣ (Scalar.muli (posW v14 v17 v20 v23 v26 v29 i) 512#32).toNat := by
  rw [mul512 _ _ _ _ _ _ i hi]; omega
theorem dvd128 (i r : BitVec 32) (hi : i.toNat < totN v14 v17 v20 v23 v26 v29) (hr : r.toNat ≤ 384) (hr' : 128 ∣ r.toNat) :
    128 ∣ (Scalar.addi (Scalar.muli (posW v14 v17 v20 v23 v26 v29 i) 512#32) r).toNat := by
  rw [colW _ _ _ _ _ _ i r hi hr]; omega
theorem src_fit (i : BitVec 32) (hi : i.toNat < totN v14 v17 v20 v23 v26 v29) :
    (Scalar.muli (posW v14 v17 v20 v23 v26 v29 i) 512#32).toNat + (nrowW v14 v17 v20 v23 v26 v29 i).toNat ≤ 6144 := by
  rw [mul512 _ _ _ _ _ _ i hi]; exact (chunk_bounds _ _ _ _ _ _ i hi).2.2.2.2.2
theorem col_fit (i : BitVec 32) (hi : i.toNat < totN v14 v17 v20 v23 v26 v29) (r : Fin 4) :
    (Scalar.addi (Scalar.muli (posW v14 v17 v20 v23 v26 v29 i) 512#32) (BitVec.ofNat 32 (128 * r.val))).toNat + 128 ≤ 6144 := by
  have hr : (BitVec.ofNat 32 (128 * r.val)).toNat = 128 * r.val := by rw [BitVec.toNat_ofNat]; exact Nat.mod_eq_of_lt (by have := r.isLt; omega)
  have h := (chunk_bounds _ _ _ _ _ _ i hi).2.1
  rw [colW _ _ _ _ _ _ i _ hi (by rw [hr]; have := r.isLt; omega), hr]; have := r.isLt; omega

theorem chk1_0_holds : k0_chk1_0 v14 v17 v20 v23 v26 v29 := by
  unfold k0_chk1_0
  refine ⟨fun t h => (chunk_bounds v14 v17 v20 v23 v26 v29 (Scf.iv 0#32 1#32 t) (i1_lt v14 v17 v20 v23 v26 v29 t h)).2.2.1,
    fun t h => dvd512 v14 v17 v20 v23 v26 v29 (Scf.iv 0#32 1#32 t) (i1_lt v14 v17 v20 v23 v26 v29 t h),
    fun t h => ring_inb (Scalar.remsi (Scf.iv 0#32 1#32 t) 4#32).toNat (nrowW v14 v17 v20 v23 v26 v29 (Scf.iv 0#32 1#32 t)).toNat (slotw_lt (Scf.iv 0#32 1#32 t) (lt_trans (i1_lt v14 v17 v20 v23 v26 v29 t h) (tot_lt v14 v17 v20 v23 v26 v29))) (chunk_bounds v14 v17 v20 v23 v26 v29 (Scf.iv 0#32 1#32 t) (i1_lt v14 v17 v20 v23 v26 v29 t h)).2.2.2.1,
    fun t h => sq_rows (nrowW v14 v17 v20 v23 v26 v29 (Scf.iv 0#32 1#32 t)).toNat,
    fun t h => src_inb (seqW v14 v17 v20 v23 v26 (Scf.iv 0#32 1#32 t)).toNat (Scalar.muli (posW v14 v17 v20 v23 v26 v29 (Scf.iv 0#32 1#32 t)) 512#32).toNat (nrowW v14 v17 v20 v23 v26 v29 (Scf.iv 0#32 1#32 t)).toNat (chunk_bounds v14 v17 v20 v23 v26 v29 (Scf.iv 0#32 1#32 t) (i1_lt v14 v17 v20 v23 v26 v29 t h)).1 (src_fit v14 v17 v20 v23 v26 v29 (Scf.iv 0#32 1#32 t) (i1_lt v14 v17 v20 v23 v26 v29 t h)),
    fun t h => sq_rows (nrowW v14 v17 v20 v23 v26 v29 (Scf.iv 0#32 1#32 t)).toNat,
    fun t h => fun hinb => src_words (seqW v14 v17 v20 v23 v26 (Scf.iv 0#32 1#32 t)).toNat (Scalar.muli (posW v14 v17 v20 v23 v26 v29 (Scf.iv 0#32 1#32 t)) 512#32).toNat (nrowW v14 v17 v20 v23 v26 v29 (Scf.iv 0#32 1#32 t)).toNat (chunk_bounds v14 v17 v20 v23 v26 v29 (Scf.iv 0#32 1#32 t) (i1_lt v14 v17 v20 v23 v26 v29 t h)).2.2.1 (dvd512 v14 v17 v20 v23 v26 v29 (Scf.iv 0#32 1#32 t) (i1_lt v14 v17 v20 v23 v26 v29 t h)) hinb,
    fun t h => fun hinb => ring_words (Scalar.remsi (Scf.iv 0#32 1#32 t) 4#32).toNat (nrowW v14 v17 v20 v23 v26 v29 (Scf.iv 0#32 1#32 t)).toNat (chunk_bounds v14 v17 v20 v23 v26 v29 (Scf.iv 0#32 1#32 t) (i1_lt v14 v17 v20 v23 v26 v29 t h)).2.2.1 hinb,
    t2_ok v14 v17 v20 v23 v26 v29,
    fun t => (chunk_bounds v14 v17 v20 v23 v26 v29 (Scf.iv 0#32 1#32 t) (i2_lt v14 v17 v20 v23 v26 v29 t)).2.2.1,
    fun t => dvd512 v14 v17 v20 v23 v26 v29 (Scf.iv 0#32 1#32 t) (i2_lt v14 v17 v20 v23 v26 v29 t),
    fun t => one_inb 4 (Scalar.remsi (Scf.iv 0#32 1#32 t) 4#32).toNat (slotw_lt (Scf.iv 0#32 1#32 t) (lt_trans (i2_lt v14 v17 v20 v23 v26 v29 t) (tot_lt v14 v17 v20 v23 v26 v29))),
    fun t => sq_rows (nrowW v14 v17 v20 v23 v26 v29 (Scf.iv 0#32 1#32 t)).toNat,
    fun t => sq_rows (nrowW v14 v17 v20 v23 v26 v29 (Scf.iv 0#32 1#32 t)).toNat,
    fun t => one_inb 6 (seqW v14 v17 v20 v23 v26 (prevW (Scf.iv 0#32 1#32 t))).toNat (chunk_bounds v14 v17 v20 v23 v26 v29 (prevW (Scf.iv 0#32 1#32 t)) (prev_lt v14 v17 v20 v23 v26 v29 t)).1,
    fun t => dvd128 v14 v17 v20 v23 v26 v29 (prevW (Scf.iv 0#32 1#32 t)) 384#32 (prev_lt v14 v17 v20 v23 v26 v29 t) (by decide) (by decide),
    fun t => fun r => col_inb _ (col_fit v14 v17 v20 v23 v26 v29 (prevW (Scf.iv 0#32 1#32 t)) (prev_lt v14 v17 v20 v23 v26 v29 t) r),
    fun t => dvd128 v14 v17 v20 v23 v26 v29 (prevW (Scf.iv 0#32 1#32 t)) 256#32 (prev_lt v14 v17 v20 v23 v26 v29 t) (by decide) (by decide),
    fun t => dvd128 v14 v17 v20 v23 v26 v29 (prevW (Scf.iv 0#32 1#32 t)) 128#32 (prev_lt v14 v17 v20 v23 v26 v29 t) (by decide) (by decide),
    fun t => dvd128 v14 v17 v20 v23 v26 v29 (prevW (Scf.iv 0#32 1#32 t)) 0#32 (prev_lt v14 v17 v20 v23 v26 v29 t) (by decide) (by decide),
    fun t => slot_inb (Scalar.remsi (Scf.iv 0#32 1#32 t) 4#32).toNat 0 0 512 1536 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6144 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6272 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6400 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6528 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6656 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6784 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6912 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7040 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7168 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7296 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7424 128 128 (slotw_lt (Scf.iv 0#32 1#32 t) (lt_trans (i2_lt v14 v17 v20 v23 v26 v29 t) (tot_lt v14 v17 v20 v23 v26 v29))) (by decide) (by decide)⟩

theorem chk1_1_holds : k0_chk1_1 v14 v17 v20 v23 v26 v29 := by
  unfold k0_chk1_1
  refine ⟨fun t => slot_inb (Scalar.remsi (Scf.iv 0#32 1#32 t) 4#32).toNat 0 7552 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7680 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7808 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7936 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 8064 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 1536 512 1536 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6144 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6272 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6400 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6528 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6656 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6784 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6912 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7040 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7168 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7296 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7424 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7552 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7680 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7808 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7936 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 8064 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 3072 512 1536 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6144 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6272 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6400 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6528 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6656 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6784 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6912 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7040 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7168 128 128 (slotw_lt (Scf.iv 0#32 1#32 t) (lt_trans (i2_lt v14 v17 v20 v23 v26 v29 t) (tot_lt v14 v17 v20 v23 v26 v29))) (by decide) (by decide)⟩

theorem chk1_2_holds : k0_chk1_2 v14 v17 v20 v23 v26 v29 := by
  unfold k0_chk1_2
  refine ⟨fun t => slot_inb (Scalar.remsi (Scf.iv 0#32 1#32 t) 4#32).toNat 256 7296 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7424 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7552 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7680 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7808 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7936 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 8064 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 4608 512 1536 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6144 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6272 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6400 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6528 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6656 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6784 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6912 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7040 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7168 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7296 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7424 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7552 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7680 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7808 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7936 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 8064 128 128 (slotw_lt (Scf.iv 0#32 1#32 t) (lt_trans (i2_lt v14 v17 v20 v23 v26 v29 t) (tot_lt v14 v17 v20 v23 v26 v29))) (by decide) (by decide),
    fun t h => (chunk_bounds v14 v17 v20 v23 v26 v29 (Scalar.addi (Scf.iv 0#32 1#32 t) 4#32) (i24_lt v14 v17 v20 v23 v26 v29 t h)).2.2.1,
    fun t h => dvd512 v14 v17 v20 v23 v26 v29 (Scalar.addi (Scf.iv 0#32 1#32 t) 4#32) (i24_lt v14 v17 v20 v23 v26 v29 t h),
    fun t h => one_inb 4 (Scalar.remsi (Scalar.addi (Scf.iv 0#32 1#32 t) 4#32) 4#32).toNat (slotw_lt (Scalar.addi (Scf.iv 0#32 1#32 t) 4#32) (lt_trans (i24_lt v14 v17 v20 v23 v26 v29 t h) (tot_lt v14 v17 v20 v23 v26 v29))),
    fun t h => ring_inb (Scalar.remsi (Scalar.addi (Scf.iv 0#32 1#32 t) 4#32) 4#32).toNat (nrowW v14 v17 v20 v23 v26 v29 (Scalar.addi (Scf.iv 0#32 1#32 t) 4#32)).toNat (slotw_lt (Scalar.addi (Scf.iv 0#32 1#32 t) 4#32) (lt_trans (i24_lt v14 v17 v20 v23 v26 v29 t h) (tot_lt v14 v17 v20 v23 v26 v29))) (chunk_bounds v14 v17 v20 v23 v26 v29 (Scalar.addi (Scf.iv 0#32 1#32 t) 4#32) (i24_lt v14 v17 v20 v23 v26 v29 t h)).2.2.2.1,
    fun t h => sq_rows (nrowW v14 v17 v20 v23 v26 v29 (Scalar.addi (Scf.iv 0#32 1#32 t) 4#32)).toNat,
    fun t h => src_inb (seqW v14 v17 v20 v23 v26 (Scalar.addi (Scf.iv 0#32 1#32 t) 4#32)).toNat (Scalar.muli (posW v14 v17 v20 v23 v26 v29 (Scalar.addi (Scf.iv 0#32 1#32 t) 4#32)) 512#32).toNat (nrowW v14 v17 v20 v23 v26 v29 (Scalar.addi (Scf.iv 0#32 1#32 t) 4#32)).toNat (chunk_bounds v14 v17 v20 v23 v26 v29 (Scalar.addi (Scf.iv 0#32 1#32 t) 4#32) (i24_lt v14 v17 v20 v23 v26 v29 t h)).1 (src_fit v14 v17 v20 v23 v26 v29 (Scalar.addi (Scf.iv 0#32 1#32 t) 4#32) (i24_lt v14 v17 v20 v23 v26 v29 t h)),
    fun t h => sq_rows (nrowW v14 v17 v20 v23 v26 v29 (Scalar.addi (Scf.iv 0#32 1#32 t) 4#32)).toNat,
    fun t h => fun hinb => src_words (seqW v14 v17 v20 v23 v26 (Scalar.addi (Scf.iv 0#32 1#32 t) 4#32)).toNat (Scalar.muli (posW v14 v17 v20 v23 v26 v29 (Scalar.addi (Scf.iv 0#32 1#32 t) 4#32)) 512#32).toNat (nrowW v14 v17 v20 v23 v26 v29 (Scalar.addi (Scf.iv 0#32 1#32 t) 4#32)).toNat (chunk_bounds v14 v17 v20 v23 v26 v29 (Scalar.addi (Scf.iv 0#32 1#32 t) 4#32) (i24_lt v14 v17 v20 v23 v26 v29 t h)).2.2.1 (dvd512 v14 v17 v20 v23 v26 v29 (Scalar.addi (Scf.iv 0#32 1#32 t) 4#32) (i24_lt v14 v17 v20 v23 v26 v29 t h)) hinb⟩

theorem chk1_3_holds : k0_chk1_3 v14 v17 v20 v23 v26 v29 := by
  unfold k0_chk1_3
  refine ⟨fun t h => fun hinb => ring_words (Scalar.remsi (Scalar.addi (Scf.iv 0#32 1#32 t) 4#32) 4#32).toNat (nrowW v14 v17 v20 v23 v26 v29 (Scalar.addi (Scf.iv 0#32 1#32 t) 4#32)).toNat (chunk_bounds v14 v17 v20 v23 v26 v29 (Scalar.addi (Scf.iv 0#32 1#32 t) 4#32) (i24_lt v14 v17 v20 v23 v26 v29 t h)).2.2.1 hinb,
    t3_ok v14 v17 v20 v23 v26 v29,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim⟩

theorem chk1_4_holds : k0_chk1_4 v14 v17 v20 v23 v26 v29 := by
  unfold k0_chk1_4
  refine ⟨fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim⟩

theorem chk1_5_holds : k0_chk1_5 v14 v17 v20 v23 v26 v29 := by
  unfold k0_chk1_5
  refine ⟨fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun h => one_inb 6 (seqW v14 v17 v20 v23 v26 (Scalar.subi (e5W v14 v17 v20 v23 v26 v29) 1#32)).toNat (chunk_bounds v14 v17 v20 v23 v26 v29 (Scalar.subi (e5W v14 v17 v20 v23 v26 v29) 1#32) (last_lt v14 v17 v20 v23 v26 v29 ((cond4_iff v14 v17 v20 v23 v26 v29).1 h))).1,
    fun h => dvd128 v14 v17 v20 v23 v26 v29 (Scalar.subi (e5W v14 v17 v20 v23 v26 v29) 1#32) 384#32 (last_lt v14 v17 v20 v23 v26 v29 ((cond4_iff v14 v17 v20 v23 v26 v29).1 h)) (by decide) (by decide),
    fun h => fun r => col_inb _ (col_fit v14 v17 v20 v23 v26 v29 (Scalar.subi (e5W v14 v17 v20 v23 v26 v29) 1#32) (last_lt v14 v17 v20 v23 v26 v29 ((cond4_iff v14 v17 v20 v23 v26 v29).1 h)) r),
    fun h => dvd128 v14 v17 v20 v23 v26 v29 (Scalar.subi (e5W v14 v17 v20 v23 v26 v29) 1#32) 256#32 (last_lt v14 v17 v20 v23 v26 v29 ((cond4_iff v14 v17 v20 v23 v26 v29).1 h)) (by decide) (by decide),
    fun h => dvd128 v14 v17 v20 v23 v26 v29 (Scalar.subi (e5W v14 v17 v20 v23 v26 v29) 1#32) 128#32 (last_lt v14 v17 v20 v23 v26 v29 ((cond4_iff v14 v17 v20 v23 v26 v29).1 h)) (by decide) (by decide),
    fun h => dvd128 v14 v17 v20 v23 v26 v29 (Scalar.subi (e5W v14 v17 v20 v23 v26 v29) 1#32) 0#32 (last_lt v14 v17 v20 v23 v26 v29 ((cond4_iff v14 v17 v20 v23 v26 v29).1 h)) (by decide) (by decide)⟩

/-- The assumed side condition, at every six words. -/
theorem chk1_holds : k0_chk1 v14 v17 v20 v23 v26 v29 := by
  unfold k0_chk1
  exact ⟨chk1_0_holds v14 v17 v20 v23 v26 v29, chk1_1_holds v14 v17 v20 v23 v26 v29, chk1_2_holds v14 v17 v20 v23 v26 v29, chk1_3_holds v14 v17 v20 v23 v26 v29, chk1_4_holds v14 v17 v20 v23 v26 v29, chk1_5_holds v14 v17 v20 v23 v26 v29⟩
end
end Cert.KernelIdeal.Hand
end
-- ==== Proof.KRing.lean ====
/-
  The ring of four slots the rows arrive in: one transfer a slot, each with a run-time number of rows.
  A slot is held by its own elements, and the rows' array is lent to each cell as a read token.
-/
module

public import proofs.«01_k».proof.Proof.KNat
public import proofs.«01_k».proof.Proof.KChk
public import proofs.«01_k».proof.Proof.Gen.KernelIdeal.Launch
public import proofs.«01_k».proof.Proof.Gen.KernelIdeal.Frame
public import Idealize.ShloMosaic.Lib.Pipeline.Routed
public import Idealize.ShloMosaic.Lib.SparseCore.FromWhole
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The ring, whole, and the rows' array, whole. -/
abbrev ringM : Memref sig .tc .vmem S4x512x8192 .fp8e4m3 := Memref.whole cc0_scratch2
abbrev hidM : Memref sig .tc .hbm S6x6144x8192 .fp8e4m3 := Memref.whole main_arg0

/-- The elements of slot `k`. -/
def slotSet (k : Fin 4) : Finset S4x512x8192.Idx := Finset.univ.filter fun i => (i 0).val = k.val
/-- The cell of slot `k`. -/
abbrev cellK (k : Fin 4) : SemLoc sig := SemLoc.dma ⟨2 + k.val, by have := k.isLt; show 2 + k.val < 15; omega⟩

abbrev RBuf (c : Dev nD) : Type := Buf (Elt F) (ringM.view.loc (c : Thread nD τ))
abbrev HBuf (c : Dev nD) : Type := Buf (Elt F) (hidM.view.loc (c : Thread nD τ))

/-- The amount a transfer of `R` rows counts. -/
abbrev amt (R : ℕ) : ℕ := (cc0_scratch2 : Ref sig .tc).dmaCredit ⟨2, ![R, 8192]⟩ .fp8e4m3

/-- Slot `k` at rest: its cell at zero, its elements at contents of which `G` says something, its read token. -/
def rest (c : Dev nD) (fa : HBuf (F := F) c) (k : Fin 4) (G : RBuf (F := F) c → Prop) : sProp 𝕄 :=
  iprop(semVal ((c : Thread nD τ), cellK k) 0
    ∗ (∃ f : RBuf (F := F) c, ⌜G f⌝ ∗ ringM.view.loc (c : Thread nD τ) ↦[slotSet k]{fullShare} f)
    ∗ hidM.view.loc (c : Thread nD τ) ↦{Transfers.shareTok fullShare 4 k} fa)
/-- Slot `k` with `R` rows on their way. -/
def fly (c : Dev nD) (fa : HBuf (F := F) c) (k : Fin 4) (R : ℕ) (G : RBuf (F := F) c → Prop) : sProp 𝕄 :=
  Transfers.Flight (countersEmb (U := Pipeline.UC sig nD τ)) (c : Thread nD τ) (cellK k) () (amt R)
    iprop((∃ f : RBuf (F := F) c, ⌜G f⌝ ∗ ringM.view.loc (c : Thread nD τ) ↦[slotSet k]{fullShare} f)
      ∗ hidM.view.loc (c : Thread nD τ) ↦{Transfers.shareTok fullShare 4 k} fa)

theorem amt_pos (R : ℕ) (h : 0 < R) : 0 < amt R :=
  RefSig.dmaCredit_pos _ _ _ _ _ _ (by
    show 0 < ∏ a : Fin 2, (![R, 8192] : Fin 2 → ℕ) a
    rw [Fin.prod_univ_two]; show 0 < R * 8192; omega)

theorem subset_slot (k : Fin 4) (R : ℕ) (h) (hsq) :
    ((ringM.slice (Rect.unitDyn (s := S4x512x8192) ![k.val, 0, 0] ![1, R, 8192] h) (fun _ => rfl)).squeeze
      (⟨2, ![R, 8192]⟩ : Shape) hsq).view.set ⊆ slotSet k := by
  rw [Memref.set_view_squeeze]
  intro i hi
  have hi' : i ∈ (Rect.unitDyn (s := S4x512x8192) ![k.val, 0, 0] ![1, R, 8192] h).set := by
    have e : (ringM.slice (Rect.unitDyn (s := S4x512x8192) ![k.val, 0, 0] ![1, R, 8192] h) (fun _ => rfl)).view.set
        = (Rect.unitDyn (s := S4x512x8192) ![k.val, 0, 0] ![1, R, 8192] h).set := by
      show (ringM.view.slice _).set = _
      rw [View.set_slice]; exact Finset.map_refl
    rwa [e] at hi
  have h0 := Rect.mem_set_unitDyn.1 hi' 0
  have h1 : k.val ≤ (i 0).val ∧ (i 0).val < k.val + 1 := h0
  exact Finset.mem_filter.2 ⟨Finset.mem_univ _, by omega⟩

theorem cell_eq (o : Fin 1 → ℕ) (k : Fin 4) (ho : o = ![k.val]) (h) (hsq) :
    SemLoc.dma (((cc0_scratch17 : DmaSems sig S4).slice (Rect.unit (s := S4) o S1.size h)).squeeze S_ hsq).sem = cellK k := by
  subst ho
  fin_cases k <;> with_unfolding_all rfl

/-- Issue: slot `k` at rest becomes slot `k` in flight. -/
theorem issue (c : Dev nD) (fa : HBuf (F := F) c) (k : Fin 4) (R : ℕ) (hR : 0 < R) {G G' : RBuf (F := F) c → Prop}
    {o z : Fin 3 → ℕ} {h} {sz : Fin 2 → ℕ} {hsq} {o' z' : Fin 3 → ℕ} {h'} {hsq'}
    {sem : DmaSem sig} (hs : SemLoc.dma sem = cellK k) (ho : o = ![k.val, 0, 0]) (hz : z = ![1, R, 8192]) (hsz : sz = ![R, 8192])
    (hG : ∀ f, G f → G' ((((ringM.slice (Rect.unitDyn (s := S4x512x8192) o z h) (fun _ => rfl)).squeeze (⟨2, sz⟩ : Shape) hsq).view.write (Elt F) f
      ((((hidM.slice (Rect.unitDyn (s := S6x6144x8192) o' z' h') (fun _ => rfl)).squeeze (⟨2, sz⟩ : Shape) hsq').view.read (Elt F) fa)) Finset.univ)))
    {hsrc hdst hty} {α : Type} {kk : PUnit → Prog (TpuEff nD τ sig (Elt F) Λ₀ .tc) α} {Q : α → sProp 𝕄} :
    rest c fa k G
      ⊢ iprop((fly c fa k R G' -∗ wp frame (wpE (defs₀ (F := F)) Variants.none (c : Thread nD τ) none) Set.univ (kk ⟨⟩) Q)
        -∗ wp frame (wpE (defs₀ (F := F)) Variants.none (c : Thread nD τ) none) Set.univ
          (.op (.enqueueDma ((hidM.slice (Rect.unitDyn (s := S6x6144x8192) o' z' h') (fun _ => rfl)).squeeze (⟨2, sz⟩ : Shape) hsq')
            (.here ((ringM.slice (Rect.unitDyn (s := S4x512x8192) o z h) (fun _ => rfl)).squeeze
            (⟨2, sz⟩ : Shape) hsq)) (.dma sem) hsrc hdst hty) kk) Q) := by
  subst ho hz hsz
  unfold rest fly
  rw [← hs]
  iintro ⟨Hc, ⟨%f, %hf, Hd⟩, Ht⟩ Hk
  iapply (Transfers.wp_dmaFromWhole (countersEmb (U := Pipeline.UC sig nD τ)) Variants.none (c : Thread nD τ) none
    (src := (hidM.slice (Rect.unitDyn (s := S6x6144x8192) o' z' h') (fun _ => rfl)).squeeze (⟨2, ![R, 8192]⟩ : Shape) hsq')
    (dst := (ringM.slice (Rect.unitDyn (s := S4x512x8192) ![k.val, 0, 0] ![1, R, 8192] h) (fun _ => rfl)).squeeze (⟨2, ![R, 8192]⟩ : Shape) hsq)
    (fs := fa) (fd := f) (q := Transfers.shareTok fullShare 4 k) (Sd := slotSet k)
    () (amt R) rfl (amt_pos R hR) (subset_slot k R _ _)) $$ [Hc Hd Ht]
  · isplitl [Ht]; · iexact Ht
    isplitl [Hd]; · iexact Hd
    iexact Hc
  iintro Hfl
  iapply Hk
  iapply (Transfers.Flight_mono (countersEmb (U := Pipeline.UC sig nD τ)) (c : Thread nD τ) ?_) $$ Hfl
  iintro ⟨Hd, Ht⟩
  isplitl [Hd]
  · iexists _
    isplitr; swap; · iexact Hd
    ipureintro
    exact hG f hf
  · iexact Ht

/-- Wait: slot `k` in flight becomes slot `k` at rest. -/
theorem await (c : Dev nD) (fa : HBuf (F := F) c) (k : Fin 4) (R : ℕ) {G : RBuf (F := F) c → Prop}
    {sem : DmaSem sig} (hs : SemLoc.dma sem = cellK k) {sz : Fin 2 → ℕ} (hsz : sz = ![R, 8192]) {hty} {W : Waits sig Unit}
    {α : Type} {kk : PUnit → Prog (TpuEff nD τ sig (Elt F) Λ₀ .tc) α} {Q : α → sProp 𝕄} :
    iprop(fly c fa k R G ∗ owes (c : Thread nD τ) 0 W)
      ⊢ iprop((iprop(rest c fa k G ∗ owes (c : Thread nD τ) 0 (insert (SemLoc.dma sem, ()) W))
          -∗ wp frame (wpE (defs₀ (F := F)) Variants.none (c : Thread nD τ) none) Set.univ (kk ⟨⟩) Q)
        -∗ wp frame (wpE (defs₀ (F := F)) Variants.none (c : Thread nD τ) none) Set.univ
          (.op (.waitDma sem ringM.view.ref (⟨2, sz⟩ : Shape) .fp8e4m3 hty) kk) Q) := by
  subst hsz
  unfold rest fly
  rw [← hs]
  iintro ⟨Hf, HO⟩ Hk
  iapply (Transfers.wp_waitLocalSized (countersEmb (U := Pipeline.UC sig nD τ)) Variants.none (c : Thread nD τ) none
    () (N := amt R) rfl) $$ [Hf HO]
  · isplitl [Hf]; · iexact Hf
    iexact HO
  iintro ⟨⟨Hd, Ht⟩, Hc, HO⟩
  iapply Hk
  isplitr [HO]
  · isplitl [Hc]; · iexact Hc
    isplitl [Hd]; · iexact Hd
    iexact Ht
  · iexact HO

end Cert.KernelIdeal.Hand

end
-- ==== Proof.KLoop1.lean ====
/-
  The ring as one assertion over the four slots, each at rest or with a chunk's rows on their way, and the two
  loops' bookkeeping of it: the loop that starts the first four chunks.
-/
module

public import proofs.«01_k».proof.Proof.KRing
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- What a slot holds: nothing on its way, or the rows of chunk `j`, of which `G j` says what they will be. -/
def slotAt (c : Dev nD) (fa : HBuf (F := F) c) (R : ℕ → ℕ) (G : ℕ → RBuf (F := F) c → Prop) (k : Fin 4) : Option ℕ → sProp 𝕄
  | none => rest c fa k fun _ => True
  | some j => fly c fa k (R j) (G j)

/-- The four slots. -/
abbrev ring (c : Dev nD) (fa : HBuf (F := F) c) (R : ℕ → ℕ) (G : ℕ → RBuf (F := F) c → Prop) (st : Fin 4 → Option ℕ) : sProp 𝕄 :=
  Ring.AtW (slotAt c fa R G) st

/-- Before trip `t` of the first loop: the chunks below `t` are on their way. -/
def st1 (tot t : ℕ) (k : Fin 4) : Option ℕ := if k.val < t ∧ k.val < tot then some k.val else none
/-- Before trip `i` of the main loop: the chunks `i` to `i + 3` are on their way, each in its slot. -/
def st2 (tot i : ℕ) (k : Fin 4) : Option ℕ :=
  if i + (k.val + 4 - i % 4) % 4 < tot then some (i + (k.val + 4 - i % 4) % 4) else none

theorem st1_zero (tot : ℕ) : st1 tot 0 = fun _ => none := by
  funext k; simp [st1]
theorem st1_four (tot : ℕ) : st1 tot 4 = st2 tot 0 := by
  funext k; have := k.isLt
  have e : 0 + (k.val + 4 - 0 % 4) % 4 = k.val := by omega
  simp only [st1, st2, e, k.isLt, true_and]
theorem st1_self (tot : ℕ) (t : Fin 4) : st1 tot t.val t = none := by simp [st1]
theorem st1_succ (tot : ℕ) (t : Fin 4) :
    st1 tot (t.val + 1) = Function.update (st1 tot t.val) t (if t.val < tot then some t.val else none) := by
  funext k
  by_cases h : k = t
  · subst h; rw [Function.update_self]; simp [st1]
  · rw [Function.update_of_ne h]
    have hk : k.val ≠ t.val := fun e => h (Fin.ext e)
    simp only [st1]
    have : (k.val < t.val + 1) ↔ k.val < t.val := by omega
    simp only [this]
theorem st2_self (tot i : ℕ) (h : i < tot) : st2 tot i ⟨i % 4, Nat.mod_lt _ (by decide)⟩ = some i := by
  have e : i + (i % 4 + 4 - i % 4) % 4 = i := by omega
  simp only [st2, e, if_pos h]
theorem st2_succ (tot i : ℕ) :
    st2 tot (i + 1) = Function.update (st2 tot i) ⟨i % 4, Nat.mod_lt _ (by decide)⟩ (if i + 4 < tot then some (i + 4) else none) := by
  funext k
  have hk := k.isLt
  by_cases h : k = ⟨i % 4, Nat.mod_lt _ (by decide)⟩
  · subst h; rw [Function.update_self]
    have e : i + 1 + (i % 4 + 4 - (i + 1) % 4) % 4 = i + 4 := by omega
    simp only [st2, e]
  · rw [Function.update_of_ne h]
    have hk' : k.val ≠ i % 4 := fun e => h (Fin.ext e)
    have e : i + 1 + (k.val + 4 - (i + 1) % 4) % 4 = i + (k.val + 4 - i % 4) % 4 := by omega
    simp only [st2, e]
theorem st2_end (tot i : ℕ) (h : tot ≤ i) : st2 tot i = fun _ => none := by
  funext k; simp only [st2]; rw [if_neg (by omega)]

/-- The rows chunk `i` has. -/
def rowsN (v14 v17 v20 v23 v26 v29 : BitVec 32) (i : ℕ) : ℕ := (nrowW v14 v17 v20 v23 v26 v29 (BitVec.ofNat 32 i)).toNat

/-- The slot chunk word `I` uses. -/
abbrev slotN (n : ℕ) : Fin 4 := ⟨n % 4, Nat.mod_lt _ (by decide)⟩

/-- `G` says of every chunk's rows, once in their slot, what a transfer of that chunk leaves there. -/
def Delivers (c : Dev nD) (fa : HBuf (F := F) c) (G : ℕ → RBuf (F := F) c → Prop) (v14 v17 v20 v23 v26 v29 : BitVec 32) : Prop :=
  ∀ (I : BitVec 32), I.toNat < totN v14 v17 v20 v23 v26 v29 → ∀ (h) (hsq) (h') (hsq') (f : RBuf (F := F) c),
    G I.toNat (((ringM.slice (Rect.unitDyn (s := S4x512x8192) ![(slotN I.toNat).val, 0, 0] ![1, (nrowW v14 v17 v20 v23 v26 v29 I).toNat, 8192] h) (fun _ => rfl)).squeeze
        (⟨2, ![(nrowW v14 v17 v20 v23 v26 v29 I).toNat, 8192]⟩ : Shape) hsq).view.write (Elt F) f
      (((hidM.slice (Rect.unitDyn (s := S6x6144x8192) ![(seqW v14 v17 v20 v23 v26 I).toNat, (Scalar.muli (posW v14 v17 v20 v23 v26 v29 I) 512#32).toNat, 0]
        ![1, (nrowW v14 v17 v20 v23 v26 v29 I).toNat, 8192] h') (fun _ => rfl)).squeeze (⟨2, ![(nrowW v14 v17 v20 v23 v26 v29 I).toNat, 8192]⟩ : Shape) hsq').view.read (Elt F) fa) Finset.univ)

variable (c : Dev nD) (fa : HBuf (F := F) c) (G : ℕ → RBuf (F := F) c → Prop)
  (arg0 : Memref sig .tc .smem S1 .f32) (harg0 : arg0.IsWhole) (arg1 : Memref sig .tc .smem S1 .f32) (harg1 : arg1.IsWhole)
  (v14 v16 v17 v19 v20 v22 v23 v25 v26 v28 v29 : BitVec 32) (k0_hw1 : k0_chk1 v14 v17 v20 v23 v26 v29)
  (v31 v51 v71 v91 v111 v131 v151 : BitVec 32)

/-- Issue of chunk word `I` on the slot it names. -/
theorem issueI (hG : Delivers c fa G v14 v17 v20 v23 v26 v29) (I : BitVec 32) (hI : I.toNat < totN v14 v17 v20 v23 v26 v29) (st : Fin 4 → Option ℕ) (hst : st (slotN I.toNat) = none)
    {o z : Fin 3 → ℕ} {h} {sz : Fin 2 → ℕ} {hsq} {o' z' : Fin 3 → ℕ} {h'} {hsq'} {p : Fin 1 → ℕ} {hp}
    (ho : o = ![(Scalar.remsi I 4#32).toNat, 0, 0]) (hz : z = ![1, (nrowW v14 v17 v20 v23 v26 v29 I).toNat, 8192]) (hsz : sz = ![(nrowW v14 v17 v20 v23 v26 v29 I).toNat, 8192])
    (ho' : o' = ![(seqW v14 v17 v20 v23 v26 I).toNat, (Scalar.muli (posW v14 v17 v20 v23 v26 v29 I) 512#32).toNat, 0]) (hz' : z' = ![1, (nrowW v14 v17 v20 v23 v26 v29 I).toNat, 8192])
    (hp0 : p = ![(Scalar.remsi I 4#32).toNat])
    {hsrc hdst hty} {α : Type} {kk : PUnit → Prog (TpuEff nD τ sig (Elt F) Λ₀ .tc) α} {Q : α → sProp 𝕄} :
    ring c fa (rowsN v14 v17 v20 v23 v26 v29) G st
      ⊢ iprop((ring c fa (rowsN v14 v17 v20 v23 v26 v29) G (Function.update st (slotN I.toNat) (some I.toNat))
          -∗ wp frame (wpE (defs₀ (F := F)) Variants.none (c : Thread nD τ) none) Set.univ (kk ⟨⟩) Q)
        -∗ wp frame (wpE (defs₀ (F := F)) Variants.none (c : Thread nD τ) none) Set.univ
          (.op (.enqueueDma (((Memref.whole main_arg0).slice (Rect.unitDyn (s := S6x6144x8192) o' z' h') (fun _ => rfl)).squeeze (⟨2, sz⟩ : Shape) hsq')
            (.here (((Memref.whole cc0_scratch2).slice (Rect.unitDyn (s := S4x512x8192) o z h) (fun _ => rfl)).squeeze
            (⟨2, sz⟩ : Shape) hsq)) (.dma (((cc0_scratch17 : DmaSems sig S4).slice (Rect.unit (s := S4) p S1.size hp)).squeeze S_ squeezes_S1_S_).sem) hsrc hdst hty) kk) Q) := by
  have h72 := totN_le v14 v17 v20 v23 v26 v29
  have hr : (Scalar.remsi I 4#32).toNat = (slotN I.toNat).val := remN (by omega) (by decide) (by decide)
  rw [hr] at ho hp0
  have hR : rowsN v14 v17 v20 v23 v26 v29 I.toNat = (nrowW v14 v17 v20 v23 v26 v29 I).toNat := by
    unfold rowsN; rw [show BitVec.ofNat 32 I.toNat = I from BitVec.eq_of_toNat_eq (by simp)]
  have hb := chunk_bounds v14 v17 v20 v23 v26 v29 I hI
  subst ho' hz'
  rw [ring, Ring.AtW_focus (slotAt c fa (rowsN v14 v17 v20 v23 v26 v29) G) st (slotN I.toNat), hst]
  iintro ⟨Hk, Hr⟩ HK
  unfold slotAt
  iapply (issue c fa (slotN I.toNat) (nrowW v14 v17 v20 v23 v26 v29 I).toNat (by omega) (G := fun _ => True) (G' := G I.toNat)
    (cell_eq p _ hp0 _ _) ho hz hsz (by subst ho hz hsz; exact fun f _ => hG I hI _ _ _ _ f)) $$ Hk
  iintro Hf
  iapply HK
  iapply (Ring.AtW_update (slotAt c fa (rowsN v14 v17 v20 v23 v26 v29) G) st (slotN I.toNat) (some I.toNat))
  isplitl [Hf]
  · show _ ⊢ fly c fa (slotN I.toNat) (rowsN v14 v17 v20 v23 v26 v29 I.toNat) (G I.toNat)
    rw [hR]
  · iexact Hr

/-- The wait for chunk word `I`: its slot at rest, its rows in it. -/
theorem awaitI (I : BitVec 32) (hI : I.toNat < totN v14 v17 v20 v23 v26 v29) (st : Fin 4 → Option ℕ) (hst : st (slotN I.toNat) = some I.toNat)
    {sz : Fin 2 → ℕ} (hsz : sz = ![(nrowW v14 v17 v20 v23 v26 v29 I).toNat, 8192]) {hty} {W : Waits sig Unit}
    {p : Fin 1 → ℕ} {hp} (hp0 : p = ![(Scalar.remsi I 4#32).toNat])
    {α : Type} {kk : PUnit → Prog (TpuEff nD τ sig (Elt F) Λ₀ .tc) α} {Q : α → sProp 𝕄} :
    iprop(ring c fa (rowsN v14 v17 v20 v23 v26 v29) G st ∗ owes (c : Thread nD τ) 0 W)
      ⊢ iprop((iprop(rest c fa (slotN I.toNat) (G I.toNat) ∗ Ring.restW (slotAt c fa (rowsN v14 v17 v20 v23 v26 v29) G) st (slotN I.toNat) ∗ ∃ W', owes (c : Thread nD τ) 0 W')
          -∗ wp frame (wpE (defs₀ (F := F)) Variants.none (c : Thread nD τ) none) Set.univ (kk ⟨⟩) Q)
        -∗ wp frame (wpE (defs₀ (F := F)) Variants.none (c : Thread nD τ) none) Set.univ
          (.op (.waitDma (((cc0_scratch17 : DmaSems sig S4).slice (Rect.unit (s := S4) p S1.size hp)).squeeze S_ squeezes_S1_S_).sem
            (Memref.whole cc0_scratch2 : Memref sig .tc .vmem S4x512x8192 .fp8e4m3).view.ref (⟨2, sz⟩ : Shape) .fp8e4m3 hty) kk) Q) := by
  have h72 := totN_le v14 v17 v20 v23 v26 v29
  have hr : (Scalar.remsi I 4#32).toNat = (slotN I.toNat).val := remN (by omega) (by decide) (by decide)
  rw [hr] at hp0
  have hR : rowsN v14 v17 v20 v23 v26 v29 I.toNat = (nrowW v14 v17 v20 v23 v26 v29 I).toNat := by
    unfold rowsN; rw [show BitVec.ofNat 32 I.toNat = I from BitVec.eq_of_toNat_eq (by simp)]
  rw [ring, Ring.AtW_focus (slotAt c fa (rowsN v14 v17 v20 v23 v26 v29) G) st (slotN I.toNat), hst]
  iintro ⟨⟨Hk, Hr⟩, HO⟩ HK
  unfold slotAt
  iapply (await c fa (slotN I.toNat) (rowsN v14 v17 v20 v23 v26 v29 I.toNat) (G := G I.toNat)
    (cell_eq p _ hp0 _ _) (hR ▸ hsz)) $$ [Hk HO]
  · isplitl [Hk]; · iexact Hk
    iexact HO
  iintro ⟨Hs, HO⟩
  iapply HK
  isplitl [Hs]; · iexact Hs
  isplitl [Hr]; · iexact Hr
  iexists _; iexact HO

set_option maxHeartbeats 4000000 in
/-- One trip of the first loop. -/
theorem t1_step (hG : Delivers c fa G v14 v17 v20 v23 v26 v29) (t : Fin k0_t1_loop.trips) (u : Unit) :
    ring c fa (rowsN v14 v17 v20 v23 v26 v29) G (st1 (totN v14 v17 v20 v23 v26 v29) t.val)
      ⊢ wp frame (wpE (defs₀ (F := F)) Variants.none (c : Thread nD τ) none) Set.univ
        (k0_t1_body (F := F) arg0 harg0 arg1 harg1 (Memref.whole main_arg8) (Memref.isWhole_whole _) (Memref.whole main_arg7) (Memref.isWhole_whole _) (Memref.whole main_arg0) (Memref.isWhole_whole _) (Memref.whole main_arg1) (Memref.isWhole_whole _) (Memref.whole main_arg2) (Memref.isWhole_whole _) (Memref.whole main_arg5) (Memref.isWhole_whole _) (Memref.whole main_arg6) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 v14 v16 v17 v19 v20 v22 v23 v25 v26 v28 v29 k0_hw1 v31 v51 v71 v91 v111 v131 v151 t u)
        (fun _ => ring c fa (rowsN v14 v17 v20 v23 v26 v29) G (st1 (totN v14 v17 v20 v23 v26 v29) (t.val + 1))) := by
  have ht4 : t.val < 4 := by have := t.isLt; have := t1_trips; omega
  have hi := i1_toNat t
  have hs : slotN (Scf.iv 0#32 1#32 t.val : BitVec 32).toNat = (⟨t.val, ht4⟩ : Fin 4) := Fin.ext (by show (Scf.iv 0#32 1#32 t.val : BitVec 32).toNat % 4 = t.val; rw [hi]; exact Nat.mod_eq_of_lt ht4)
  have e := st1_succ (totN v14 v17 v20 v23 v26 v29) ⟨t.val, ht4⟩
  unfold k0_t1_body
  by_cases hc : k0_cond1 v14 v17 v20 v23 v26 v29 t = 1#1
  · simp only [dif_pos hc]
    have hlt := (cond1_iff v14 v17 v20 v23 v26 v29 t).1 hc
    iintro H
    sl_exec
    iapply (issueI c fa G v14 v17 v20 v23 v26 v29 hG (Scf.iv 0#32 1#32 t.val) (by rw [hi]; exact hlt) (st1 (totN v14 v17 v20 v23 v26 v29) t.val)
      (by rw [hs]; exact st1_self _ _) (congrArg Prod.fst (off2_eq v14 v17 v20 v23 v26 v29 t)) (congrArg Prod.snd (off2_eq v14 v17 v20 v23 v26 v29 t)) (sz1_eq v14 v17 v20 v23 v26 v29 t)
      (congrArg Prod.fst (off3_eq v14 v17 v20 v23 v26 v29 t)) (congrArg Prod.snd (off3_eq v14 v17 v20 v23 v26 v29 t)) rfl) $$ H
    iintro H
    sl_exec
    sl_step
    rw [hs, hi]
    rw [if_pos hlt] at e
    rw [e]
    iexact H
  · simp only [dif_neg hc]
    have hlt := fun h => hc ((cond1_iff v14 v17 v20 v23 v26 v29 t).2 h)
    iintro H
    sl_exec
    sl_step
    rw [if_neg hlt] at e
    have e2 : st1 (totN v14 v17 v20 v23 v26 v29) (t.val + 1) = st1 (totN v14 v17 v20 v23 v26 v29) t.val := by
      rw [e]; funext k; by_cases hk : k = ⟨t.val, ht4⟩
      · subst hk; rw [Function.update_self]; exact (st1_self (totN v14 v17 v20 v23 v26 v29) ⟨t.val, ht4⟩).symm
      · rw [Function.update_of_ne hk]
    rw [e2]; iexact H

end Cert.KernelIdeal.Hand

end
-- ==== Proof.KVal.lean ====
/-
  The vectors one trip of the main loop stores, as closed terms: the two partial dot products of the chunk in the ring
  slot, and the values of the chunk finished in the trip.
-/
module

public import proofs.«01_k».proof.Proof.KNat
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe

variable {F : FTy → Type} [FloatOps F]

/-- The diagonal of a 128 by 128 square. -/
def diagMask : IVec S128x128 1 :=
  cmpi .eq (iota .tc S128x128 32 [0] iota_S128x128_d0_w32) (iota .tc S128x128 32 [1] iota_S128x128_d1_w32)

/-- The zero word of a square and of a row. -/
abbrev zeroF : F .f32 := Scalar.ofBits .f32 0x00000000#32

/-- Row sums of `pb` plus the entries of `rb`, the diagonal laid out as a row. -/
def colVec (pb rb : FVec F S128x128 .f32) : FVec F S1x128 .f32 :=
  shapeCast S1x128 (multiReduction .add [0] S128
    (select diagMask
      (addf (broadcastTo S128x128 (shapeCast S128x1 (multiReduction .add [1] S128 pb 0x00000000#32 reduces_S128x128_S128 (.inl rfl) rfl)
        shapeCasts_S128_S128x1) broadcasts_S128x1_S128x128) rb)
      (broadcast S128x128 (zeroF (F := F)))) 0x00000000#32 reduces_S128x128_S128_2 (.inl rfl) rfl) shapeCasts_S128_S1x128

/-- The lanes of 128 tokens that belong to sequence `b` and lie below its length `ln`, the first token being `p * 512 + r`. -/
def laneMask (v211 v212 : IVec S6x128 32) (b p ln r : BitVec 32) : IVec S6x128 1 :=
  andi (cmpi .eq v211 (broadcast S6x128 b))
    (cmpi .slt (addi v212 (broadcast S6x128 (Scalar.addi (Scalar.muli p 512#32) r))) (broadcast S6x128 ln))

/-- The values of 128 tokens: scaled and shifted under the mask, zero elsewhere. -/
def unitV (v211 v212 : IVec S6x128 32) (b p ln r : BitVec 32) (ws bias : F .f32) (pb rb : FVec F S128x128 .f32) (sc : FVec F S6x128 .f32) :
    FVec F S6x128 .f32 :=
  select (laneMask v211 v212 b p ln r)
    (addf (mulf (mulf (broadcastTo S6x128 (colVec pb rb) broadcasts_S1x128_S6x128) sc) (broadcast S6x128 ws)) (broadcast S6x128 bias))
    (broadcast S6x128 (zeroF (F := F)))

/-- The stretches of 128 rows of a 512 by 128 buffer. -/
theorem rowBlk_inb (q : Fin 4) : ∀ a, (![128 * q.val, 0] : Fin 2 → ℕ) a + S128x128.size a ≤ S512x128.size a := by
  have := q.isLt
  refine Fin.forall_fin_two.2 ⟨?_, ?_⟩
  · show 128 * q.val + 128 ≤ 512; omega
  · show 0 + 128 ≤ 128; omega

/-- The four rows of values of the chunk finished, from the partial dot products kept and the scales. -/
def unitsV (v211 v212 : IVec S6x128 32) (b p ln : BitVec 32) (ws bias : F .f32)
    (o : Fin 4 → Fin 2 → ℕ) (ho : ∀ q a, o q a + S6x128.size a ≤ S6x6144.size a)
    (f18 : cc0_scratch6.ty.Contents (Elt F)) (f19 : cc0_scratch7.ty.Contents (Elt F)) (f20 : cc0_scratch8.ty.Contents (Elt F)) (q : Fin 4) :
    FVec F S6x128 .f32 :=
  unitV v211 v212 b p ln (BitVec.ofNat 32 (128 * q.val)) ws bias
    (View.readAt (Elt F) (Memref.whole cc0_scratch7).view (Rect.unit (s := S512x128) ![128 * q.val, 0] S128x128.size (rowBlk_inb q)).toLoadRect f19)
    (View.readAt (Elt F) (Memref.whole cc0_scratch6).view (Rect.unit (s := S512x128) ![128 * q.val, 0] S128x128.size (rowBlk_inb q)).toLoadRect f18)
    (View.readAt (Elt F) (Memref.whole cc0_scratch8).view (Rect.unit (s := S6x6144) (o q) S6x128.size (ho q)).toLoadRect f20)

/-- A store adding `U` to what the buffer holds. -/
def addPiece (o : Fin 2 → ℕ) (ho : ∀ a, o a + S6x128.size a ≤ S6x6144.size a) (U : FVec F S6x128 .f32)
    (g : cc0_scratch11.ty.Contents (Elt F)) : View.Piece (Elt F) S6x6144 .f32 :=
  ⟨Rect.unit (s := S6x6144) o S6x128.size ho, shapeCast S6x128
    (addf (View.readAt (Elt F) (Memref.whole cc0_scratch11).view (Rect.unit (s := S6x6144) o S6x128.size ho).toLoadRect g) U) shapeCasts_S6x128_S6x128⟩

section
variable (o : Fin 4 → Fin 2 → ℕ) (ho : ∀ q a, o q a + S6x128.size a ≤ S6x6144.size a) (U : Fin 4 → FVec F S6x128 .f32)
  (f : cc0_scratch11.ty.Contents (Elt F))
/-- The four stores of a chunk's values, the last 128 tokens first. -/
def pc1 : List (View.Piece (Elt F) S6x6144 .f32) := [addPiece (o 3) (ho 3) (U 3) f]
def pc2 : List (View.Piece (Elt F) S6x6144 .f32) :=
  addPiece (o 2) (ho 2) (U 2) ((Memref.whole cc0_scratch11).view.writes (Elt F) f (pc1 o ho U f)) :: pc1 o ho U f
def pc3 : List (View.Piece (Elt F) S6x6144 .f32) :=
  addPiece (o 1) (ho 1) (U 1) ((Memref.whole cc0_scratch11).view.writes (Elt F) f (pc2 o ho U f)) :: pc2 o ho U f
def pc4 : List (View.Piece (Elt F) S6x6144 .f32) :=
  addPiece (o 0) (ho 0) (U 0) ((Memref.whole cc0_scratch11).view.writes (Elt F) f (pc3 o ho U f)) :: pc3 o ho U f
/-- The values buffer after the four stores. -/
def valsNew : cc0_scratch11.ty.Contents (Elt F) := (Memref.whole cc0_scratch11).view.writes (Elt F) f (pc4 o ho U f)
end

/-! ### The partial dot products of the chunk in ring slot `s` -/

theorem hcol_inb (s : ℕ) (hs : s < 4) (k : Fin 4) : ∀ a, (![s, 0, 1536 * k.val] : Fin 3 → ℕ) a + S1x512x1536.size a ≤ S4x512x8192.size a := by
  have := k.isLt
  intro a; fin_cases a
  · show s + 1 ≤ 4; omega
  · show 0 + 512 ≤ 512; omega
  · show 1536 * k.val + 1536 ≤ 8192; omega
theorem wcol_inb (k : Fin 4) : ∀ a, (![0, 1536 * k.val] : Fin 2 → ℕ) a + S128x1536.size a ≤ S128x6144.size a := by
  have := k.isLt
  intro a; fin_cases a
  · show 0 + 128 ≤ 128; omega
  · show 1536 * k.val + 1536 ≤ 6144; omega
theorem hblk_inb (s : ℕ) (hs : s < 4) (q : Fin 4) (n : Fin 16) :
    ∀ a, (![s, 128 * q.val, 6144 + 128 * n.val] : Fin 3 → ℕ) a + S1x128x128.size a ≤ S4x512x8192.size a := by
  have := q.isLt; have := n.isLt
  intro a; fin_cases a
  · show s + 1 ≤ 4; omega
  · show 128 * q.val + 128 ≤ 512; omega
  · show 6144 + 128 * n.val + 128 ≤ 8192; omega
theorem vcol_inb (n : Fin 16) : ∀ a, (![0, 128 * n.val] : Fin 2 → ℕ) a + S8x128.size a ≤ S8x2048.size a := by
  have := n.isLt
  intro a; fin_cases a
  · show 0 + 8 ≤ 8; omega
  · show 128 * n.val + 128 ≤ 2048; omega

section
variable (s : ℕ) (hs : s < 4) (f16 : cc0_scratch4.ty.Contents (Elt F)) (f17 : cc0_scratch5.ty.Contents (Elt F)) (fr : cc0_scratch2.ty.Contents (Elt F))

/-- 1536 columns of the chunk against the same of the weights. -/
def mm (k : Fin 4) : FVec F S512x128 .f32 :=
  matmul dot_S512x1536_S128x1536_S512x128_1_1_0_0_n_n none
    (shapeCast S512x1536 (View.readAt (Elt F) (Memref.whole cc0_scratch2).view (Rect.unit (s := S4x512x8192) ![s, 0, 1536 * k.val] S1x512x1536.size (hcol_inb s hs k)).toLoadRect fr) shapeCasts_S1x512x1536_S512x1536)
    (View.readAt (Elt F) (Memref.whole cc0_scratch4).view (Rect.unit (s := S128x6144) ![0, 1536 * k.val] S128x1536.size (wcol_inb k)).toLoadRect f16)
    (constant S512x128 .f32 0x00000000#32)

/-- The first 6144 columns, by four products. -/
def rbVec : FVec F S512x128 .f32 :=
  shapeCast S512x128 (addf (addf (addf (mm s hs f16 fr 0) (mm s hs f16 fr 1)) (mm s hs f16 fr 2)) (mm s hs f16 fr 3)) shapeCasts_S512x128_S512x128

/-- 128 rows, 128 columns of the chunk times the weights, elementwise. -/
def pterm (q : Fin 4) (n : Fin 16) : FVec F S16x8x128 .f32 :=
  mulf (shapeCast S16x8x128 (extf .f32 (shapeCast S128x128 (View.readAt (Elt F) (Memref.whole cc0_scratch2).view
      (Rect.unit (s := S4x512x8192) ![s, 128 * q.val, 6144 + 128 * n.val] S1x128x128.size (hblk_inb s hs q n)).toLoadRect fr) shapeCasts_S1x128x128_S128x128 : FVec F S128x128 .fp8e4m3) bitsLt_fp8e4m3_f32) shapeCasts_S128x128_S16x8x128)
    (broadcastTo S16x8x128 (shapeCast S1x8x128 (View.readAt (Elt F) (Memref.whole cc0_scratch5).view
      (Rect.unit (s := S8x2048) ![0, 128 * n.val] S8x128.size (vcol_inb n)).toLoadRect f17) shapeCasts_S8x128_S1x8x128) broadcasts_S1x8x128_S16x8x128)

/-- The first `n` of the sixteen columns of blocks, added up. -/
def pacc (q : Fin 4) : (n : ℕ) → n ≤ 16 → FVec F S16x8x128 .f32
  | 0, _ => broadcast S16x8x128 (zeroF (F := F))
  | n + 1, h => addf (pacc q n (Nat.le_of_succ_le h)) (pterm s hs f17 fr q ⟨n, h⟩)

/-- The last 2048 columns, lane by lane. -/
def pbVec (q : Fin 4) : FVec F S128x128 .f32 :=
  shapeCast S128x128 (shapeCast S128x128 (pacc s hs f17 fr q 16 le_rfl) shapeCasts_S16x8x128_S128x128) shapeCasts_S128x128_S128x128

/-- The two partial-product buffers after the trip. -/
def rbNew (f18 : cc0_scratch6.ty.Contents (Elt F)) : cc0_scratch6.ty.Contents (Elt F) :=
  (Memref.whole cc0_scratch6).view.writes (Elt F) f18 [⟨Rect.unit (s := S512x128) ![0, 0] S512x128.size inb_S512x128_S512x128_0_0, rbVec s hs f16 fr⟩]
def pbPiece (q : Fin 4) : View.Piece (Elt F) S512x128 .f32 := ⟨Rect.unit (s := S512x128) ![128 * q.val, 0] S128x128.size (rowBlk_inb q), pbVec s hs f17 fr q⟩
def pbNew (f19 : cc0_scratch7.ty.Contents (Elt F)) : cc0_scratch7.ty.Contents (Elt F) :=
  (Memref.whole cc0_scratch7).view.writes (Elt F) f19 [pbPiece s hs f17 fr 3, pbPiece s hs f17 fr 2, pbPiece s hs f17 fr 1, pbPiece s hs f17 fr 0]
end

end Cert.KernelIdeal.Hand

end
-- ==== Proof.KLoop2.lean ====
module

public import proofs.«01_k».proof.Proof.KLoop1
public import proofs.«01_k».proof.Proof.KVal
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (G : ℕ → RBuf (F := F) c → Prop)
  (arg0 : Memref sig .tc .smem S1 .f32) (harg0 : arg0.IsWhole) (arg1 : Memref sig .tc .smem S1 .f32) (harg1 : arg1.IsWhole)
  (d0 : Buf (Elt F) (arg0.view.loc (c : Thread nD τ))) (d1 : Buf (Elt F) (arg1.view.loc (c : Thread nD τ)))
  (v14 v17 v20 v23 v26 v29 : BitVec 32) (k0_hw1 : k0_chk1 v14 v17 v20 v23 v26 v29)
  (v211 v212 : IVec S6x128 32) (v249 : FVec F S6x128 .f32) (v255 : IVec S6x128 1) (v256 : FVec F S6x128 .f32)

/-- Slot `k` of the ring, a memref. -/
def slotM (k : Fin 4) : Memref sig .tc .vmem (⟨3, ![1, 512, 8192]⟩ : Shape) .fp8e4m3 :=
  (Memref.whole cc0_scratch2 : Memref sig .tc .vmem S4x512x8192 .fp8e4m3).slice (Rect.unit (s := S4x512x8192) ![k.val, 0, 0] ![1, 512, 8192]
    (by intro a; have := k.isLt; fin_cases a <;> simp <;> omega)) (fun _ => rfl)

omit [FloatOps F] in
theorem slotM_set (k : Fin 4) : slotSet k = (slotM k).view.set := by
  have e : (slotM k).view.set = (Rect.unit (s := S4x512x8192) ![k.val, 0, 0] ![1, 512, 8192]
    (by intro a; have := k.isLt; fin_cases a <;> simp <;> omega)).set := by
    show ((Memref.whole cc0_scratch2 : Memref sig .tc .vmem S4x512x8192 .fp8e4m3).view.slice _).set = _
    rw [View.set_slice]; exact Finset.map_refl
  rw [e]
  ext i
  constructor
  · intro h
    have h := (Finset.mem_filter.1 h).2
    refine Rect.mem_set_unit.2 fun a => ?_
    have h1 := (i 1).isLt
    have h2 := (i 2).isLt
    fin_cases a
    · exact ⟨h.ge, by show (i 0).val < k.val + 1; omega⟩
    · exact ⟨Nat.zero_le _, by show (i 1).val < 0 + 512; simpa using h1⟩
    · exact ⟨Nat.zero_le _, by show (i 2).val < 0 + 8192; simpa using h2⟩
  · intro h
    have h0 : k.val ≤ (i 0).val ∧ (i 0).val < k.val + 1 := Rect.mem_set_unit.1 h 0
    exact Finset.mem_filter.2 ⟨Finset.mem_univ _, by omega⟩

theorem rest_own (k : Fin 4) (G : RBuf (F := F) c → Prop) :
    rest c fa k G = iprop(semVal ((c : Thread nD τ), cellK k) 0
      ∗ (∃ f : RBuf (F := F) c, ⌜G f⌝ ∗ (slotM k).view.loc (c : Thread nD τ) ↦[(slotM k).view.set]{fullShare} f)
      ∗ hidM.view.loc (c : Thread nD τ) ↦{Transfers.shareTok fullShare 4 k} fa) := by
  unfold rest
  rw [slotM_set]
  rfl

omit [FloatOps F] in
theorem slot_load (k : Fin 4) {sz : Fin 3 → ℕ} (o : Fin 3 → ℕ) (h : ∀ a, o a + sz a ≤ S4x512x8192.size a) (o0 : o 0 = k.val) (s0 : sz 0 = 1) :
    ((Memref.whole cc0_scratch2 : Memref sig .tc .vmem S4x512x8192 .fp8e4m3).access (Rect.unit (s := S4x512x8192) o sz h)).set ⊆ (slotM k).view.set := by
  rw [← slotM_set]
  intro i hi
  have hi' : i ∈ (Rect.unit (s := S4x512x8192) o sz h).set := by
    have e : ((Memref.whole cc0_scratch2 : Memref sig .tc .vmem S4x512x8192 .fp8e4m3).access (Rect.unit (s := S4x512x8192) o sz h)).set
        = (Rect.unit (s := S4x512x8192) o sz h).set := by
      show ((Memref.whole cc0_scratch2 : Memref sig .tc .vmem S4x512x8192 .fp8e4m3).view.slice _).set = _
      rw [View.set_slice]; exact Finset.map_refl
    rwa [e] at hi
  have h0 := Rect.mem_set_unit.1 hi' 0
  rw [o0, s0] at h0
  exact Finset.mem_filter.2 ⟨Finset.mem_univ _, by omega⟩

/-- A property, trip by trip, of the buffers the values are made of: the weights in their two layouts, the partial
products, the scales and the values. -/
abbrev JTy : Type := ℕ → cc0_scratch4.ty.Contents (Elt F) → cc0_scratch5.ty.Contents (Elt F) → cc0_scratch6.ty.Contents (Elt F) → cc0_scratch7.ty.Contents (Elt F) →
  cc0_scratch8.ty.Contents (Elt F) → cc0_scratch11.ty.Contents (Elt F) → Prop

variable (J : JTy (F := F))

/-- A scalar held in scalar memory. -/
abbrev rdS (a : Memref sig .tc .smem S1 .f32) (d : Buf (Elt F) (a.view.loc (c : Thread nD τ))) : F .f32 :=
  View.readAt (Elt F) a.view (Rect.unit (s := S1) ![0] S1.size inb_S1_S1_0).toLoadRect d (Shape.Idx.first (by decide))

/-- `J` passes from one trip to the next, whatever chunk rows `G` allows. -/
def Steps (t : Fin (k0_t2_loop v14 v17 v20 v23 v26 v29).trips) : Prop :=
  ∀ f16 f17 f18 f19 f20 f23 fr, J t.val f16 f17 f18 f19 f20 f23 → G t.val fr → ∀ hs,
    J (t.val + 1) f16 f17 (rbNew (Scalar.remsi (Scf.iv 0#32 1#32 t.val : BitVec 32) 4#32).toNat hs f16 fr f18)
      (pbNew (Scalar.remsi (Scf.iv 0#32 1#32 t.val : BitVec 32) 4#32).toNat hs f17 fr f19) f20
      (valsNew (fun q => k0_off8 v14 v17 v20 v23 v26 v29 t (BitVec.ofNat 32 (128 * q.val))) (k0_off8_inb v14 v17 v20 v23 v26 v29 k0_hw1 t)
        (unitsV v211 v212 (seqW v14 v17 v20 v23 v26 (prevW (Scf.iv 0#32 1#32 t.val))) (posW v14 v17 v20 v23 v26 v29 (prevW (Scf.iv 0#32 1#32 t.val)))
          (Scalar.select (Scalar.cmpi .eq (Scf.iv 0#32 1#32 t.val) 0#32) 0#32 (lenW v14 v17 v20 v23 v26 v29 (prevW (Scf.iv 0#32 1#32 t.val))))
          (rdS c arg0 d0) (rdS c arg1 d1) (fun q => k0_off8 v14 v17 v20 v23 v26 v29 t (BitVec.ofNat 32 (128 * q.val))) (k0_off8_inb v14 v17 v20 v23 v26 v29 k0_hw1 t) f18 f19 f20) f23)

theorem J_intro (n : ℕ) f16 f17 f18 f19 f20 f23 (h : J n f16 f17 f18 f19 f20 f23) :
    iprop(((Memref.whole cc0_scratch4).view.loc (c : Thread nD τ) ↦{fullShare} f16) ∗ ((Memref.whole cc0_scratch5).view.loc (c : Thread nD τ) ↦{fullShare} f17) ∗ ((Memref.whole cc0_scratch6).view.loc (c : Thread nD τ) ↦{fullShare} f18) ∗ ((Memref.whole cc0_scratch7).view.loc (c : Thread nD τ) ↦{fullShare} f19) ∗ ((Memref.whole cc0_scratch8).view.loc (c : Thread nD τ) ↦{fullShare} f20) ∗ ((Memref.whole cc0_scratch11).view.loc (c : Thread nD τ) ↦{fullShare} f23)) ⊢ (iprop(∃ f16 f17 f18 f19 f20 f23, ⌜J n f16 f17 f18 f19 f20 f23⌝ ∗ ((Memref.whole cc0_scratch4).view.loc (c : Thread nD τ) ↦{fullShare} f16) ∗ ((Memref.whole cc0_scratch5).view.loc (c : Thread nD τ) ↦{fullShare} f17) ∗ ((Memref.whole cc0_scratch6).view.loc (c : Thread nD τ) ↦{fullShare} f18) ∗ ((Memref.whole cc0_scratch7).view.loc (c : Thread nD τ) ↦{fullShare} f19) ∗ ((Memref.whole cc0_scratch8).view.loc (c : Thread nD τ) ↦{fullShare} f20) ∗ ((Memref.whole cc0_scratch11).view.loc (c : Thread nD τ) ↦{fullShare} f23)) : sProp 𝕄) := by
  iintro H
  iexists f16; iexists f17; iexists f18; iexists f19; iexists f20; iexists f23
  isplitr; · ipureintro; exact h
  iexact H

/-- What is held between trips of the second loop, and after it. -/
def inv2 (n : ℕ) : sProp 𝕄 :=
  iprop(ring c fa (rowsN v14 v17 v20 v23 v26 v29) G (st2 (totN v14 v17 v20 v23 v26 v29) n) ∗ (arg0.view.loc (c : Thread nD τ) ↦[arg0.view.set]{fullShare} d0) ∗ (arg1.view.loc (c : Thread nD τ) ↦[arg1.view.set]{fullShare} d1) ∗ (∃ f, ((Memref.whole cc0_scratch1).view.loc (c : Thread nD τ) ↦{fullShare} f)) ∗ (∃ f, ((Memref.whole cc0_scratch3).view.loc (c : Thread nD τ) ↦{fullShare} f)) ∗ (∃ f, ((Memref.whole cc0_scratch9).view.loc (c : Thread nD τ) ↦{fullShare} f)) ∗ (∃ f, ((Memref.whole cc0_scratch10).view.loc (c : Thread nD τ) ↦{fullShare} f)) ∗ (∃ f, ((Memref.whole cc0_scratch12).view.loc (c : Thread nD τ) ↦{fullShare} f)) ∗ (∃ f, ((Memref.whole cc0_scratch13).view.loc (c : Thread nD τ) ↦{fullShare} f)) ∗ (∃ f, ((Memref.whole cc0_scratch14).view.loc (c : Thread nD τ) ↦{fullShare} f)) ∗ (∃ f, ((Memref.whole cc0_scratch15).view.loc (c : Thread nD τ) ↦{fullShare} f)) ∗ (∃ f, ((Memref.whole cc0_scratch16).view.loc (c : Thread nD τ) ↦{fullShare} f)) ∗ (∃ f16 f17 f18 f19 f20 f23, ⌜J n f16 f17 f18 f19 f20 f23⌝ ∗ ((Memref.whole cc0_scratch4).view.loc (c : Thread nD τ) ↦{fullShare} f16) ∗ ((Memref.whole cc0_scratch5).view.loc (c : Thread nD τ) ↦{fullShare} f17) ∗ ((Memref.whole cc0_scratch6).view.loc (c : Thread nD τ) ↦{fullShare} f18) ∗ ((Memref.whole cc0_scratch7).view.loc (c : Thread nD τ) ↦{fullShare} f19) ∗ ((Memref.whole cc0_scratch8).view.loc (c : Thread nD τ) ↦{fullShare} f20) ∗ ((Memref.whole cc0_scratch11).view.loc (c : Thread nD τ) ↦{fullShare} f23)) ∗ ∃ W, owes (c : Thread nD τ) 0 W)

set_option maxHeartbeats 40000000 in
set_option maxRecDepth 65536 in
/-- One trip of the second loop. -/
theorem t2_step (hG : Delivers c fa G v14 v17 v20 v23 v26 v29) (t : Fin (k0_t2_loop v14 v17 v20 v23 v26 v29).trips) (hst : Steps c G arg0 arg1 d0 d1 v14 v17 v20 v23 v26 v29 k0_hw1 v211 v212 J t) (u : BitVec 32) :
    inv2 c fa G arg0 arg1 d0 d1 v14 v17 v20 v23 v26 v29 J t.val
      ⊢ wp frame (wpE (defs₀ (F := F)) Variants.none (c : Thread nD τ) none) Set.univ
        (k0_t2_body (F := F) arg0 harg0 arg1 harg1 (Memref.whole main_arg8) (Memref.isWhole_whole _) (Memref.whole main_arg7) (Memref.isWhole_whole _) (Memref.whole main_arg0) (Memref.isWhole_whole _) (Memref.whole main_arg1) (Memref.isWhole_whole _) (Memref.whole main_arg2) (Memref.isWhole_whole _) (Memref.whole main_arg5) (Memref.isWhole_whole _) (Memref.whole main_arg6) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 v14 (clipW v14) v17 (clipW v17) v20 (clipW v20) v23 (clipW v23) v26 (clipW v26) v29 k0_hw1 (clipW v29) (e0W v14) (e1W v14 v17) (e2W v14 v17 v20) (e3W v14 v17 v20 v23) (e4W v14 v17 v20 v23 v26) (e5W v14 v17 v20 v23 v26 v29) v211 v212 v249 v255 v256 t u)
        (fun _ => inv2 c fa G arg0 arg1 d0 d1 v14 v17 v20 v23 v26 v29 J (t.val + 1)) := by
  have h72 := totN_le v14 v17 v20 v23 v26 v29
  have htl : t.val < totN v14 v17 v20 v23 v26 v29 := by have := t.isLt; have := t2_trips v14 v17 v20 v23 v26 v29; omega
  have hi := i2_toNat v14 v17 v20 v23 v26 v29 t
  have hsl : (Scalar.remsi (Scf.iv 0#32 1#32 t.val : BitVec 32) 4#32).toNat = (slotN t.val).val := by
    refine (remN (by omega) (by decide) (by decide)).trans ?_
    rw [hi]
  have hs4 : (Scalar.remsi (Scf.iv 0#32 1#32 t.val : BitVec 32) 4#32).toNat < 4 := by rw [hsl]; exact Nat.mod_lt _ (by decide)
  have hs0 : slotN (Scf.iv 0#32 1#32 t.val : BitVec 32).toNat = slotN t.val := by rw [hi]
  have g9 := slot_load (slotN t.val) (sz := S1x512x1536.size) (k0_off9 v14 v17 v20 v23 v26 v29 t) (k0_off9_inb v14 v17 v20 v23 v26 v29 k0_hw1 t) hsl rfl
  have g10 := slot_load (slotN t.val) (sz := S1x128x128.size) (k0_off10 v14 v17 v20 v23 v26 v29 t) (k0_off10_inb v14 v17 v20 v23 v26 v29 k0_hw1 t) hsl rfl
  have g11 := slot_load (slotN t.val) (sz := S1x128x128.size) (k0_off11 v14 v17 v20 v23 v26 v29 t) (k0_off11_inb v14 v17 v20 v23 v26 v29 k0_hw1 t) hsl rfl
  have g12 := slot_load (slotN t.val) (sz := S1x128x128.size) (k0_off12 v14 v17 v20 v23 v26 v29 t) (k0_off12_inb v14 v17 v20 v23 v26 v29 k0_hw1 t) hsl rfl
  have g13 := slot_load (slotN t.val) (sz := S1x128x128.size) (k0_off13 v14 v17 v20 v23 v26 v29 t) (k0_off13_inb v14 v17 v20 v23 v26 v29 k0_hw1 t) hsl rfl
  have g14 := slot_load (slotN t.val) (sz := S1x128x128.size) (k0_off14 v14 v17 v20 v23 v26 v29 t) (k0_off14_inb v14 v17 v20 v23 v26 v29 k0_hw1 t) hsl rfl
  have g15 := slot_load (slotN t.val) (sz := S1x128x128.size) (k0_off15 v14 v17 v20 v23 v26 v29 t) (k0_off15_inb v14 v17 v20 v23 v26 v29 k0_hw1 t) hsl rfl
  have g16 := slot_load (slotN t.val) (sz := S1x128x128.size) (k0_off16 v14 v17 v20 v23 v26 v29 t) (k0_off16_inb v14 v17 v20 v23 v26 v29 k0_hw1 t) hsl rfl
  have g17 := slot_load (slotN t.val) (sz := S1x128x128.size) (k0_off17 v14 v17 v20 v23 v26 v29 t) (k0_off17_inb v14 v17 v20 v23 v26 v29 k0_hw1 t) hsl rfl
  have g18 := slot_load (slotN t.val) (sz := S1x128x128.size) (k0_off18 v14 v17 v20 v23 v26 v29 t) (k0_off18_inb v14 v17 v20 v23 v26 v29 k0_hw1 t) hsl rfl
  have g19 := slot_load (slotN t.val) (sz := S1x128x128.size) (k0_off19 v14 v17 v20 v23 v26 v29 t) (k0_off19_inb v14 v17 v20 v23 v26 v29 k0_hw1 t) hsl rfl
  have g20 := slot_load (slotN t.val) (sz := S1x128x128.size) (k0_off20 v14 v17 v20 v23 v26 v29 t) (k0_off20_inb v14 v17 v20 v23 v26 v29 k0_hw1 t) hsl rfl
  have g21 := slot_load (slotN t.val) (sz := S1x128x128.size) (k0_off21 v14 v17 v20 v23 v26 v29 t) (k0_off21_inb v14 v17 v20 v23 v26 v29 k0_hw1 t) hsl rfl
  have g22 := slot_load (slotN t.val) (sz := S1x128x128.size) (k0_off22 v14 v17 v20 v23 v26 v29 t) (k0_off22_inb v14 v17 v20 v23 v26 v29 k0_hw1 t) hsl rfl
  have g23 := slot_load (slotN t.val) (sz := S1x128x128.size) (k0_off23 v14 v17 v20 v23 v26 v29 t) (k0_off23_inb v14 v17 v20 v23 v26 v29 k0_hw1 t) hsl rfl
  have g24 := slot_load (slotN t.val) (sz := S1x128x128.size) (k0_off24 v14 v17 v20 v23 v26 v29 t) (k0_off24_inb v14 v17 v20 v23 v26 v29 k0_hw1 t) hsl rfl
  have g25 := slot_load (slotN t.val) (sz := S1x128x128.size) (k0_off25 v14 v17 v20 v23 v26 v29 t) (k0_off25_inb v14 v17 v20 v23 v26 v29 k0_hw1 t) hsl rfl
  have g26 := slot_load (slotN t.val) (sz := S1x512x1536.size) (k0_off26 v14 v17 v20 v23 v26 v29 t) (k0_off26_inb v14 v17 v20 v23 v26 v29 k0_hw1 t) hsl rfl
  have g27 := slot_load (slotN t.val) (sz := S1x128x128.size) (k0_off27 v14 v17 v20 v23 v26 v29 t) (k0_off27_inb v14 v17 v20 v23 v26 v29 k0_hw1 t) hsl rfl
  have g28 := slot_load (slotN t.val) (sz := S1x128x128.size) (k0_off28 v14 v17 v20 v23 v26 v29 t) (k0_off28_inb v14 v17 v20 v23 v26 v29 k0_hw1 t) hsl rfl
  have g29 := slot_load (slotN t.val) (sz := S1x128x128.size) (k0_off29 v14 v17 v20 v23 v26 v29 t) (k0_off29_inb v14 v17 v20 v23 v26 v29 k0_hw1 t) hsl rfl
  have g30 := slot_load (slotN t.val) (sz := S1x128x128.size) (k0_off30 v14 v17 v20 v23 v26 v29 t) (k0_off30_inb v14 v17 v20 v23 v26 v29 k0_hw1 t) hsl rfl
  have g31 := slot_load (slotN t.val) (sz := S1x128x128.size) (k0_off31 v14 v17 v20 v23 v26 v29 t) (k0_off31_inb v14 v17 v20 v23 v26 v29 k0_hw1 t) hsl rfl
  have g32 := slot_load (slotN t.val) (sz := S1x128x128.size) (k0_off32 v14 v17 v20 v23 v26 v29 t) (k0_off32_inb v14 v17 v20 v23 v26 v29 k0_hw1 t) hsl rfl
  have g33 := slot_load (slotN t.val) (sz := S1x128x128.size) (k0_off33 v14 v17 v20 v23 v26 v29 t) (k0_off33_inb v14 v17 v20 v23 v26 v29 k0_hw1 t) hsl rfl
  have g34 := slot_load (slotN t.val) (sz := S1x128x128.size) (k0_off34 v14 v17 v20 v23 v26 v29 t) (k0_off34_inb v14 v17 v20 v23 v26 v29 k0_hw1 t) hsl rfl
  have g35 := slot_load (slotN t.val) (sz := S1x128x128.size) (k0_off35 v14 v17 v20 v23 v26 v29 t) (k0_off35_inb v14 v17 v20 v23 v26 v29 k0_hw1 t) hsl rfl
  have g36 := slot_load (slotN t.val) (sz := S1x128x128.size) (k0_off36 v14 v17 v20 v23 v26 v29 t) (k0_off36_inb v14 v17 v20 v23 v26 v29 k0_hw1 t) hsl rfl
  have g37 := slot_load (slotN t.val) (sz := S1x128x128.size) (k0_off37 v14 v17 v20 v23 v26 v29 t) (k0_off37_inb v14 v17 v20 v23 v26 v29 k0_hw1 t) hsl rfl
  have g38 := slot_load (slotN t.val) (sz := S1x128x128.size) (k0_off38 v14 v17 v20 v23 v26 v29 t) (k0_off38_inb v14 v17 v20 v23 v26 v29 k0_hw1 t) hsl rfl
  have g39 := slot_load (slotN t.val) (sz := S1x128x128.size) (k0_off39 v14 v17 v20 v23 v26 v29 t) (k0_off39_inb v14 v17 v20 v23 v26 v29 k0_hw1 t) hsl rfl
  have g40 := slot_load (slotN t.val) (sz := S1x128x128.size) (k0_off40 v14 v17 v20 v23 v26 v29 t) (k0_off40_inb v14 v17 v20 v23 v26 v29 k0_hw1 t) hsl rfl
  have g41 := slot_load (slotN t.val) (sz := S1x128x128.size) (k0_off41 v14 v17 v20 v23 v26 v29 t) (k0_off41_inb v14 v17 v20 v23 v26 v29 k0_hw1 t) hsl rfl
  have g42 := slot_load (slotN t.val) (sz := S1x128x128.size) (k0_off42 v14 v17 v20 v23 v26 v29 t) (k0_off42_inb v14 v17 v20 v23 v26 v29 k0_hw1 t) hsl rfl
  have g43 := slot_load (slotN t.val) (sz := S1x512x1536.size) (k0_off43 v14 v17 v20 v23 v26 v29 t) (k0_off43_inb v14 v17 v20 v23 v26 v29 k0_hw1 t) hsl rfl
  have g44 := slot_load (slotN t.val) (sz := S1x128x128.size) (k0_off44 v14 v17 v20 v23 v26 v29 t) (k0_off44_inb v14 v17 v20 v23 v26 v29 k0_hw1 t) hsl rfl
  have g45 := slot_load (slotN t.val) (sz := S1x128x128.size) (k0_off45 v14 v17 v20 v23 v26 v29 t) (k0_off45_inb v14 v17 v20 v23 v26 v29 k0_hw1 t) hsl rfl
  have g46 := slot_load (slotN t.val) (sz := S1x128x128.size) (k0_off46 v14 v17 v20 v23 v26 v29 t) (k0_off46_inb v14 v17 v20 v23 v26 v29 k0_hw1 t) hsl rfl
  have g47 := slot_load (slotN t.val) (sz := S1x128x128.size) (k0_off47 v14 v17 v20 v23 v26 v29 t) (k0_off47_inb v14 v17 v20 v23 v26 v29 k0_hw1 t) hsl rfl
  have g48 := slot_load (slotN t.val) (sz := S1x128x128.size) (k0_off48 v14 v17 v20 v23 v26 v29 t) (k0_off48_inb v14 v17 v20 v23 v26 v29 k0_hw1 t) hsl rfl
  have g49 := slot_load (slotN t.val) (sz := S1x128x128.size) (k0_off49 v14 v17 v20 v23 v26 v29 t) (k0_off49_inb v14 v17 v20 v23 v26 v29 k0_hw1 t) hsl rfl
  have g50 := slot_load (slotN t.val) (sz := S1x128x128.size) (k0_off50 v14 v17 v20 v23 v26 v29 t) (k0_off50_inb v14 v17 v20 v23 v26 v29 k0_hw1 t) hsl rfl
  have g51 := slot_load (slotN t.val) (sz := S1x128x128.size) (k0_off51 v14 v17 v20 v23 v26 v29 t) (k0_off51_inb v14 v17 v20 v23 v26 v29 k0_hw1 t) hsl rfl
  have g52 := slot_load (slotN t.val) (sz := S1x128x128.size) (k0_off52 v14 v17 v20 v23 v26 v29 t) (k0_off52_inb v14 v17 v20 v23 v26 v29 k0_hw1 t) hsl rfl
  have g53 := slot_load (slotN t.val) (sz := S1x128x128.size) (k0_off53 v14 v17 v20 v23 v26 v29 t) (k0_off53_inb v14 v17 v20 v23 v26 v29 k0_hw1 t) hsl rfl
  have g54 := slot_load (slotN t.val) (sz := S1x128x128.size) (k0_off54 v14 v17 v20 v23 v26 v29 t) (k0_off54_inb v14 v17 v20 v23 v26 v29 k0_hw1 t) hsl rfl
  have g55 := slot_load (slotN t.val) (sz := S1x128x128.size) (k0_off55 v14 v17 v20 v23 v26 v29 t) (k0_off55_inb v14 v17 v20 v23 v26 v29 k0_hw1 t) hsl rfl
  have g56 := slot_load (slotN t.val) (sz := S1x128x128.size) (k0_off56 v14 v17 v20 v23 v26 v29 t) (k0_off56_inb v14 v17 v20 v23 v26 v29 k0_hw1 t) hsl rfl
  have g57 := slot_load (slotN t.val) (sz := S1x128x128.size) (k0_off57 v14 v17 v20 v23 v26 v29 t) (k0_off57_inb v14 v17 v20 v23 v26 v29 k0_hw1 t) hsl rfl
  have g58 := slot_load (slotN t.val) (sz := S1x128x128.size) (k0_off58 v14 v17 v20 v23 v26 v29 t) (k0_off58_inb v14 v17 v20 v23 v26 v29 k0_hw1 t) hsl rfl
  have g59 := slot_load (slotN t.val) (sz := S1x128x128.size) (k0_off59 v14 v17 v20 v23 v26 v29 t) (k0_off59_inb v14 v17 v20 v23 v26 v29 k0_hw1 t) hsl rfl
  have g60 := slot_load (slotN t.val) (sz := S1x512x1536.size) (k0_off60 v14 v17 v20 v23 v26 v29 t) (k0_off60_inb v14 v17 v20 v23 v26 v29 k0_hw1 t) hsl rfl
  have g61 := slot_load (slotN t.val) (sz := S1x128x128.size) (k0_off61 v14 v17 v20 v23 v26 v29 t) (k0_off61_inb v14 v17 v20 v23 v26 v29 k0_hw1 t) hsl rfl
  have g62 := slot_load (slotN t.val) (sz := S1x128x128.size) (k0_off62 v14 v17 v20 v23 v26 v29 t) (k0_off62_inb v14 v17 v20 v23 v26 v29 k0_hw1 t) hsl rfl
  have g63 := slot_load (slotN t.val) (sz := S1x128x128.size) (k0_off63 v14 v17 v20 v23 v26 v29 t) (k0_off63_inb v14 v17 v20 v23 v26 v29 k0_hw1 t) hsl rfl
  have g64 := slot_load (slotN t.val) (sz := S1x128x128.size) (k0_off64 v14 v17 v20 v23 v26 v29 t) (k0_off64_inb v14 v17 v20 v23 v26 v29 k0_hw1 t) hsl rfl
  have g65 := slot_load (slotN t.val) (sz := S1x128x128.size) (k0_off65 v14 v17 v20 v23 v26 v29 t) (k0_off65_inb v14 v17 v20 v23 v26 v29 k0_hw1 t) hsl rfl
  have g66 := slot_load (slotN t.val) (sz := S1x128x128.size) (k0_off66 v14 v17 v20 v23 v26 v29 t) (k0_off66_inb v14 v17 v20 v23 v26 v29 k0_hw1 t) hsl rfl
  have g67 := slot_load (slotN t.val) (sz := S1x128x128.size) (k0_off67 v14 v17 v20 v23 v26 v29 t) (k0_off67_inb v14 v17 v20 v23 v26 v29 k0_hw1 t) hsl rfl
  have g68 := slot_load (slotN t.val) (sz := S1x128x128.size) (k0_off68 v14 v17 v20 v23 v26 v29 t) (k0_off68_inb v14 v17 v20 v23 v26 v29 k0_hw1 t) hsl rfl
  have g69 := slot_load (slotN t.val) (sz := S1x128x128.size) (k0_off69 v14 v17 v20 v23 v26 v29 t) (k0_off69_inb v14 v17 v20 v23 v26 v29 k0_hw1 t) hsl rfl
  have g70 := slot_load (slotN t.val) (sz := S1x128x128.size) (k0_off70 v14 v17 v20 v23 v26 v29 t) (k0_off70_inb v14 v17 v20 v23 v26 v29 k0_hw1 t) hsl rfl
  have g71 := slot_load (slotN t.val) (sz := S1x128x128.size) (k0_off71 v14 v17 v20 v23 v26 v29 t) (k0_off71_inb v14 v17 v20 v23 v26 v29 k0_hw1 t) hsl rfl
  have g72 := slot_load (slotN t.val) (sz := S1x128x128.size) (k0_off72 v14 v17 v20 v23 v26 v29 t) (k0_off72_inb v14 v17 v20 v23 v26 v29 k0_hw1 t) hsl rfl
  have g73 := slot_load (slotN t.val) (sz := S1x128x128.size) (k0_off73 v14 v17 v20 v23 v26 v29 t) (k0_off73_inb v14 v17 v20 v23 v26 v29 k0_hw1 t) hsl rfl
  have g74 := slot_load (slotN t.val) (sz := S1x128x128.size) (k0_off74 v14 v17 v20 v23 v26 v29 t) (k0_off74_inb v14 v17 v20 v23 v26 v29 k0_hw1 t) hsl rfl
  have g75 := slot_load (slotN t.val) (sz := S1x128x128.size) (k0_off75 v14 v17 v20 v23 v26 v29 t) (k0_off75_inb v14 v17 v20 v23 v26 v29 k0_hw1 t) hsl rfl
  have g76 := slot_load (slotN t.val) (sz := S1x128x128.size) (k0_off76 v14 v17 v20 v23 v26 v29 t) (k0_off76_inb v14 v17 v20 v23 v26 v29 k0_hw1 t) hsl rfl
  unfold k0_t2_body inv2
  iintro ⟨HR, H0, H1, ⟨%f13, H13⟩, ⟨%f15, H15⟩, ⟨%f21, H21⟩, ⟨%f22, H22⟩, ⟨%f24, H24⟩, ⟨%f25, H25⟩, ⟨%f26, H26⟩, ⟨%f27, H27⟩, ⟨%f28, H28⟩, ⟨%f16, %f17, %f18, %f19, %f20, %f23, %hJ, H16, H17, H18, H19, H20, H23⟩, ⟨%W, HO⟩⟩
  sl_exec
  iapply (awaitI c fa G v14 v17 v20 v23 v26 v29 (Scf.iv 0#32 1#32 t.val) (by rw [hi]; exact htl) (st2 (totN v14 v17 v20 v23 v26 v29) t.val)
    (by rw [hs0, hi]; exact st2_self _ _ htl) (sz3_eq v14 v17 v20 v23 v26 v29 t) rfl) $$ [HR HO]
  · isplitl [HR]; · iexact HR
    iexact HO
  rw [hs0, hi]
  rw [rest_own]
  iintro ⟨⟨Hc, ⟨%fr, %hfr, Hr⟩, Htk⟩, HRr, ⟨%W2, HO⟩⟩
  sl_exec
  have hn4 := i24_toNat v14 v17 v20 v23 v26 v29 t
  have es := st2_succ (totN v14 v17 v20 v23 v26 v29) t.val
  have hsl4 : slotN (t.val + 4) = slotN t.val := Fin.ext (by show (t.val + 4) % 4 = t.val % 4; omega)
  ihave HR := (Ring.AtW_update (slotAt c fa (rowsN v14 v17 v20 v23 v26 v29) G) (st2 (totN v14 v17 v20 v23 v26 v29) t.val) (slotN t.val) none) $$ [Hc Hr Htk HRr]
  · isplitr [HRr]; swap; · iexact HRr
    unfold slotAt
    rw [rest_own]
    isplitl [Hc]; · iexact Hc
    isplitl [Hr]
    · iexists fr; isplitr; · ipureintro; trivial
      iexact Hr
    · iexact Htk
  by_cases hc : k0_cond2 v14 v17 v20 v23 v26 v29 t = 1#1
  · have hlt := (cond2_iff v14 v17 v20 v23 v26 v29 t).1 hc
    rw [dif_pos hc]
    rw [if_pos hlt] at es
    sl_exec
    iapply (issueI c fa G v14 v17 v20 v23 v26 v29 hG (Scalar.addi (Scf.iv 0#32 1#32 t.val) 4#32) (by rw [hn4]; exact hlt)
      (Function.update (st2 (totN v14 v17 v20 v23 v26 v29) t.val) (slotN t.val) none)
      (by rw [hn4, hsl4]; exact Function.update_self _ _ _) (congrArg Prod.fst (off78_eq v14 v17 v20 v23 v26 v29 t)) (congrArg Prod.snd (off78_eq v14 v17 v20 v23 v26 v29 t)) (sz5_eq v14 v17 v20 v23 v26 v29 t)
      (congrArg Prod.fst (off79_eq v14 v17 v20 v23 v26 v29 t)) (congrArg Prod.snd (off79_eq v14 v17 v20 v23 v26 v29 t)) rfl) $$ HR
    iintro HR
    sl_exec
    sl_step
    rw [hn4, hsl4, Function.update_idem]
    rw [es]
    isplitl [HR]; · iexact HR
    isplitl [H0]; · iexact H0
    isplitl [H1]; · iexact H1
    isplitl [H13]; · iexists _; iexact H13
    isplitl [H15]; · iexists _; iexact H15
    isplitl [H21]; · iexists _; iexact H21
    isplitl [H22]; · iexists _; iexact H22
    isplitl [H24]; · iexists _; iexact H24
    isplitl [H25]; · iexists _; iexact H25
    isplitl [H26]; · iexists _; iexact H26
    isplitl [H27]; · iexists _; iexact H27
    isplitl [H28]; · iexists _; iexact H28
    isplitl [H16 H17 H18 H19 H20 H23]
    · iapply (J_intro c J (t.val + 1) f16 f17 _ _ f20 _ (hst f16 f17 f18 f19 f20 f23 fr hJ hfr hs4))
      isplitl [H16]; · iexact H16
      isplitl [H17]; · iexact H17
      isplitl [H18]; · iexact H18
      isplitl [H19]; · iexact H19
      isplitl [H20]; · iexact H20
      iexact H23
    iexists _; iexact HO
  · have hlt := fun h => hc ((cond2_iff v14 v17 v20 v23 v26 v29 t).2 h)
    rw [dif_neg hc]
    rw [if_neg hlt] at es
    sl_exec
    sl_step
    rw [es]
    isplitl [HR]; · iexact HR
    isplitl [H0]; · iexact H0
    isplitl [H1]; · iexact H1
    isplitl [H13]; · iexists _; iexact H13
    isplitl [H15]; · iexists _; iexact H15
    isplitl [H21]; · iexists _; iexact H21
    isplitl [H22]; · iexists _; iexact H22
    isplitl [H24]; · iexists _; iexact H24
    isplitl [H25]; · iexists _; iexact H25
    isplitl [H26]; · iexists _; iexact H26
    isplitl [H27]; · iexists _; iexact H27
    isplitl [H28]; · iexists _; iexact H28
    isplitl [H16 H17 H18 H19 H20 H23]
    · iapply (J_intro c J (t.val + 1) f16 f17 _ _ f20 _ (hst f16 f17 f18 f19 f20 f23 fr hJ hfr hs4))
      isplitl [H16]; · iexact H16
      isplitl [H17]; · iexact H17
      isplitl [H18]; · iexact H18
      isplitl [H19]; · iexact H19
      isplitl [H20]; · iexact H20
      iexact H23
    iexists _; iexact HO

end Cert.KernelIdeal.Hand

end
-- ==== Proof.KInit.lean ====
module

public import proofs.«01_k».proof.Proof.KLoop1
public import proofs.«01_k».proof.Proof.Gen.KernelIdeal.Skeleton
public import Idealize.ShloMosaic.Lib.Ring.AtN

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (G : ℕ → RBuf (F := F) c → Prop) (R : ℕ → ℕ)

omit [FloatOps F] in
theorem slots_disj : ∀ a b : Fin 4, a ≠ b → Disjoint (slotSet a) (slotSet b) := by
  intro a b h
  refine Finset.disjoint_left.2 fun i ha hb => h (Fin.ext ?_)
  exact (Finset.mem_filter.1 ha).2.symm.trans (Finset.mem_filter.1 hb).2

omit [FloatOps F] in
theorem slots_cover : Finset.univ.biUnion slotSet = Finset.univ := by
  ext i
  simp only [Finset.mem_biUnion, Finset.mem_univ, true_and, iff_true]
  exact ⟨⟨(i 0).val, (i 0).isLt⟩, Finset.mem_filter.2 ⟨Finset.mem_univ _, rfl⟩⟩

/-- The ring at launch: four cells at zero, its buffer whole, the rows' array whole. -/
theorem ring_open (f : RBuf (F := F) c) :
    iprop((semVal ((c : Thread nD τ), cellK 0) 0 ∗ semVal ((c : Thread nD τ), cellK 1) 0 ∗ semVal ((c : Thread nD τ), cellK 2) 0 ∗ semVal ((c : Thread nD τ), cellK 3) 0)
      ∗ (ringM.view.loc (c : Thread nD τ) ↦{fullShare} f) ∗ (hidM.view.loc (c : Thread nD τ) ↦{fullShare} fa))
      ⊢ (iprop(ring c fa R G (fun _ => none) ∗ (hidM.view.loc (c : Thread nD τ) ↦{Transfers.shareDrop fullShare 4} fa)) : sProp 𝕄) := by
  unfold ring Ring.AtW slotAt rest
  rw [Ring.pointsTo_blocks slotSet slots_disj slots_cover f, Ring.bigSep_fin4, Ring.bigSep_fin4]
  iintro ⟨⟨C0, C1, C2, C3⟩, ⟨S0, S1, S2, S3⟩, H⟩
  ihave H := (Transfers.pointsTo_toks_split fullShare 4) $$ H
  rw [Ring.bigSep_fin4]
  icases H with ⟨HD, T0, T1, T2, T3⟩
  isplitr [HD]; swap; · iexact HD
  isplitl [C0 S0 T0]
  · isplitl [C0]; · iexact C0
    isplitl [S0]; · iexists f; isplitr; · ipureintro; trivial
                    iexact S0
    iexact T0
  isplitl [C1 S1 T1]
  · isplitl [C1]; · iexact C1
    isplitl [S1]; · iexists f; isplitr; · ipureintro; trivial
                    iexact S1
    iexact T1
  isplitl [C2 S2 T2]
  · isplitl [C2]; · iexact C2
    isplitl [S2]; · iexists f; isplitr; · ipureintro; trivial
                    iexact S2
    iexact T2
  · isplitl [C3]; · iexact C3
    isplitl [S3]; · iexists f; isplitr; · ipureintro; trivial
                    iexact S3
    iexact T3

/-- The ring at the end: everything back. -/
theorem ring_close (f₀ : RBuf (F := F) c) :
    iprop(ring c fa R G (fun _ => none) ∗ (hidM.view.loc (c : Thread nD τ) ↦{Transfers.shareDrop fullShare 4} fa))
      ⊢ (iprop((semVal ((c : Thread nD τ), cellK 0) 0 ∗ semVal ((c : Thread nD τ), cellK 1) 0 ∗ semVal ((c : Thread nD τ), cellK 2) 0 ∗ semVal ((c : Thread nD τ), cellK 3) 0)
        ∗ (∃ f, ringM.view.loc (c : Thread nD τ) ↦{fullShare} f) ∗ (hidM.view.loc (c : Thread nD τ) ↦{fullShare} fa)) : sProp 𝕄) := by
  unfold ring Ring.AtW slotAt rest
  rw [Ring.bigSep_fin4]
  iintro ⟨⟨⟨C0, ⟨%f0, -, S0⟩, T0⟩, ⟨C1, ⟨%f1, -, S1⟩, T1⟩, ⟨C2, ⟨%f2, -, S2⟩, T2⟩, ⟨C3, ⟨%f3, -, S3⟩, T3⟩⟩, HD⟩
  isplitl [C0 C1 C2 C3]
  · isplitl [C0]; · iexact C0
    isplitl [C1]; · iexact C1
    isplitl [C2]; · iexact C2
    iexact C3
  isplitl [S0 S1 S2 S3]
  · iapply (Ring.pointsTo_blocks_join_exists slotSet slots_disj slots_cover f₀)
    rw [Ring.bigSep_fin4]
    isplitl [S0]; · iexists _; iexact S0
    isplitl [S1]; · iexists _; iexact S1
    isplitl [S2]; · iexists _; iexact S2
    iexists _; iexact S3
  · iapply (Transfers.pointsTo_toks_join fullShare 4)
    isplitl [HD]; · iexact HD
    rw [Ring.bigSep_fin4]
    isplitl [T0]; · iexact T0
    isplitl [T1]; · iexact T1
    isplitl [T2]; · iexact T2
    iexact T3

end Cert.KernelIdeal.Hand

end
-- ==== Proof.KPre.lean ====
module

public import proofs.«01_k».proof.Proof.KRing
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (i2 : Buf (Elt F) ((Memref.whole main_arg8).view.loc (c : Thread nD τ))) (i3 : Buf (Elt F) ((Memref.whole main_arg7).view.loc (c : Thread nD τ))) (i5 : Buf (Elt F) ((Memref.whole main_arg1).view.loc (c : Thread nD τ))) (i6 : Buf (Elt F) ((Memref.whole main_arg2).view.loc (c : Thread nD τ))) (i7 : Buf (Elt F) ((Memref.whole main_arg5).view.loc (c : Thread nD τ))) (i8 : Buf (Elt F) ((Memref.whole main_arg6).view.loc (c : Thread nD τ)))
  (arg0 : Memref sig .tc .smem S1 .f32) (harg0 : arg0.IsWhole) (arg1 : Memref sig .tc .smem S1 .f32) (harg1 : arg1.IsWhole)
  (d0 : Buf (Elt F) (arg0.view.loc (c : Thread nD τ))) (d1 : Buf (Elt F) (arg1.view.loc (c : Thread nD τ)))

/-- What the kernel is run from. -/
def pre (P : Buf (Elt F) ((Memref.whole main_v0_0).view.loc (c : Thread nD τ)) → Prop) (W : Waits sig Unit) : sProp 𝕄 :=
  iprop((arg0.view.loc (c : Thread nD τ) ↦[arg0.view.set]{fullShare} d0) ∗ (arg1.view.loc (c : Thread nD τ) ↦[arg1.view.set]{fullShare} d1)
    ∗ (hidM.view.loc (c : Thread nD τ) ↦{fullShare} fa)
    ∗ ((Memref.whole main_arg8).view.loc (c : Thread nD τ) ↦{fullShare} i2)
    ∗ ((Memref.whole main_arg7).view.loc (c : Thread nD τ) ↦{fullShare} i3)
    ∗ ((Memref.whole main_arg1).view.loc (c : Thread nD τ) ↦{fullShare} i5)
    ∗ ((Memref.whole main_arg2).view.loc (c : Thread nD τ) ↦{fullShare} i6)
    ∗ ((Memref.whole main_arg5).view.loc (c : Thread nD τ) ↦{fullShare} i7)
    ∗ ((Memref.whole main_arg6).view.loc (c : Thread nD τ) ↦{fullShare} i8)
     ∗ (∃ f, ⌜P f⌝ ∗ ((Memref.whole main_v0_0).view.loc (c : Thread nD τ) ↦{fullShare} f))
     ∗ (∃ f, ((Memref.whole main_v0_1).view.loc (c : Thread nD τ) ↦{fullShare} f))
     ∗ (∃ f, ((Memref.whole main_v0_2).view.loc (c : Thread nD τ) ↦{fullShare} f))
     ∗ (∃ f, ((Memref.whole cc0_scratch0).view.loc (c : Thread nD τ) ↦{fullShare} f))
     ∗ (∃ f, ((Memref.whole cc0_scratch1).view.loc (c : Thread nD τ) ↦{fullShare} f))
     ∗ (∃ f, ((Memref.whole cc0_scratch2).view.loc (c : Thread nD τ) ↦{fullShare} f))
     ∗ (∃ f, ((Memref.whole cc0_scratch3).view.loc (c : Thread nD τ) ↦{fullShare} f))
     ∗ (∃ f, ((Memref.whole cc0_scratch4).view.loc (c : Thread nD τ) ↦{fullShare} f))
     ∗ (∃ f, ((Memref.whole cc0_scratch5).view.loc (c : Thread nD τ) ↦{fullShare} f))
     ∗ (∃ f, ((Memref.whole cc0_scratch6).view.loc (c : Thread nD τ) ↦{fullShare} f))
     ∗ (∃ f, ((Memref.whole cc0_scratch7).view.loc (c : Thread nD τ) ↦{fullShare} f))
     ∗ (∃ f, ((Memref.whole cc0_scratch8).view.loc (c : Thread nD τ) ↦{fullShare} f))
     ∗ (∃ f, ((Memref.whole cc0_scratch9).view.loc (c : Thread nD τ) ↦{fullShare} f))
     ∗ (∃ f, ((Memref.whole cc0_scratch10).view.loc (c : Thread nD τ) ↦{fullShare} f))
     ∗ (∃ f, ((Memref.whole cc0_scratch11).view.loc (c : Thread nD τ) ↦{fullShare} f))
     ∗ (∃ f, ((Memref.whole cc0_scratch12).view.loc (c : Thread nD τ) ↦{fullShare} f))
     ∗ (∃ f, ((Memref.whole cc0_scratch13).view.loc (c : Thread nD τ) ↦{fullShare} f))
     ∗ (∃ f, ((Memref.whole cc0_scratch14).view.loc (c : Thread nD τ) ↦{fullShare} f))
     ∗ (∃ f, ((Memref.whole cc0_scratch15).view.loc (c : Thread nD τ) ↦{fullShare} f))
     ∗ (∃ f, ((Memref.whole cc0_scratch16).view.loc (c : Thread nD τ) ↦{fullShare} f))
     ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ owes (c : Thread nD τ) 0 W)

theorem out_intro (f : Buf (Elt F) ((Memref.whole main_v0_0).view.loc (c : Thread nD τ))) :
    ((Memref.whole main_v0_0).view.loc (c : Thread nD τ) ↦{fullShare} f : sProp 𝕄)
      ⊢ iprop(∃ f : Buf (Elt F) ((Memref.whole main_v0_0).view.loc (c : Thread nD τ)), ⌜True⌝ ∗ ((Memref.whole main_v0_0).view.loc (c : Thread nD τ) ↦{fullShare} f)) := by
  iintro H
  iexists f; isplitr; · ipureintro; trivial
  iexact H

end Cert.KernelIdeal.Hand

end
-- ==== Proof.KHyp.lean ====
/-
  What the body is run under: what the rows fetched, the buffers between trips and the result are to satisfy.
-/
module

public import proofs.«01_k».proof.Proof.KLoop2
public import proofs.«01_k».proof.Proof.KPre
public import Idealize.ShloMosaic.Lib.Pointwise.Index
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (i2 : Buf (Elt F) ((Memref.whole main_arg8).view.loc (c : Thread nD τ))) (i5 : Buf (Elt F) ((Memref.whole main_arg1).view.loc (c : Thread nD τ)))
  (i6 : Buf (Elt F) ((Memref.whole main_arg2).view.loc (c : Thread nD τ)))
  (arg0 : Memref sig .tc .smem S1 .f32) (arg1 : Memref sig .tc .smem S1 .f32)
  (d0 : Buf (Elt F) (arg0.view.loc (c : Thread nD τ))) (d1 : Buf (Elt F) (arg1.view.loc (c : Thread nD τ)))
  (G : ℕ → RBuf (F := F) c → Prop) (J : JTy (F := F)) (P : Buf (Elt F) ((Memref.whole main_v0_0).view.loc (c : Thread nD τ)) → Prop)

/-- The six lengths, as words. -/
def lenAt (k : Fin 6) : BitVec 32 := (show main_arg8.ty.Contents (Elt F) from i2) (ix1 k)

/-- The words are the six lengths. -/
def IsWords (v14 v17 v20 v23 v26 v29 : BitVec 32) : Prop :=
  v14 = lenAt c i2 0 ∧ v17 = lenAt c i2 1 ∧ v20 = lenAt c i2 2 ∧ v23 = lenAt c i2 3 ∧ v26 = lenAt c i2 4 ∧ v29 = lenAt c i2 5

/-- A length read back from the copy made of the lengths. -/
theorem rd_word (k : Fin 6) (off : Fin 1 → ℕ) (ho : off = ![k.val]) (inb) (f12) (h) :
    View.readAt (Elt F) (Memref.whole cc0_scratch0).view (Rect.unit (s := S6) off S1.size inb).toLoadRect
      (View.write (Elt F) (Memref.whole cc0_scratch0).view f12 (ReadAs.same.apply (View.read (Elt F) (Memref.whole main_arg8).view i2)) Finset.univ)
      (Shape.Idx.first (s := S1) h) = lenAt c i2 k := by
  subst ho
  rw [View.readAt_apply, View.read_write_univ]
  show (show main_arg8.ty.Contents (Elt F) from i2) _ = (show main_arg8.ty.Contents (Elt F) from i2) (ix1 k)
  congr 1
  funext a; apply Fin.ext
  have : a = (0 : Fin 1) := Subsingleton.elim (α := Fin 1) _ _
  subst this
  show k.val + 1 * 0 = k.val
  omega

/-- The weights as the body copies them. -/
abbrev wLoad (f15 : cc0_scratch3.ty.Contents (Elt F)) : Vec F S8192 .fp8e4m3 :=
  View.readAt (Elt F) (Memref.whole cc0_scratch3).view (Rect.unit (s := S8192) ![0] S8192.size inb_S8192_S8192_0).toLoadRect
    (View.write (Elt F) (Memref.whole cc0_scratch3).view f15 (ReadAs.same.apply (View.read (Elt F) (Memref.whole main_arg2).view i6)) Finset.univ)

/-- Everything the body's run asks of `G`, `J` and `P`. -/
structure BodyHyp : Prop where
  del : ∀ v14 v17 v20 v23 v26 v29, IsWords c i2 v14 v17 v20 v23 v26 v29 → Delivers c fa G v14 v17 v20 v23 v26 v29
  step : ∀ v14 v17 v20 v23 v26 v29, IsWords c i2 v14 v17 v20 v23 v26 v29 → ∀ hw t,
    Steps c G arg0 arg1 d0 d1 v14 v17 v20 v23 v26 v29 hw (iota .tc S6x128 32 [0] iota_S6x128_d0_w32) (iota .tc S6x128 32 [1] iota_S6x128_d1_w32) J t
  init : ∀ f15 f16 f17 f18 f19 f20 f23,
    J 0 ((Memref.whole cc0_scratch4).view.writes (Elt F) f16 [⟨Rect.unit (s := S128x6144) ![0, 0] S128x6144.size inb_S128x6144_S128x6144_0_0, k0_pay646 (wLoad c i6 f15)⟩])
      ((Memref.whole cc0_scratch5).view.writes (Elt F) f17 [⟨Rect.unit (s := S8x2048) ![0, 0] S8x2048.size inb_S8x2048_S8x2048_0_0, k0_pay647 (wLoad c i6 f15)⟩])
      f18 f19 (View.write (Elt F) (Memref.whole cc0_scratch8).view f20 (ReadAs.same.apply (View.read (Elt F) (Memref.whole main_arg1).view i5)) Finset.univ)
      ((Memref.whole cc0_scratch11).view.writes (Elt F) f23 [⟨Rect.unit (s := S6x6144) ![0, 0] S6x6144.size inb_S6x6144_S6x6144_0_0, k0_pay636⟩])
  fin0 : ∀ v14 v17 v20 v23 v26 v29, IsWords c i2 v14 v17 v20 v23 v26 v29 → totN v14 v17 v20 v23 v26 v29 = 0 → ∀ g16 g17 g18 g19 g20 g23 f9,
    J (totN v14 v17 v20 v23 v26 v29) g16 g17 g18 g19 g20 g23 →
    P (View.write (Elt F) (Memref.whole main_v0_0).view f9 (ReadAs.same.apply (View.read (Elt F) (Memref.whole cc0_scratch11).view g23)) Finset.univ)
  fin1 : ∀ v14 v17 v20 v23 v26 v29, IsWords c i2 v14 v17 v20 v23 v26 v29 → ∀ hw hc, 0 < totN v14 v17 v20 v23 v26 v29 → ∀ g16 g17 g18 g19 g20 g23 f9,
    J (totN v14 v17 v20 v23 v26 v29) g16 g17 g18 g19 g20 g23 →
    P (View.write (Elt F) (Memref.whole main_v0_0).view f9 (ReadAs.same.apply (View.read (Elt F) (Memref.whole cc0_scratch11).view
      (valsNew (fun q => k0_off157 v14 v17 v20 v23 v26 v29 (BitVec.ofNat 32 (128 * q.val))) (k0_off157_inb v14 v17 v20 v23 v26 v29 hw hc)
        (unitsV (iota .tc S6x128 32 [0] iota_S6x128_d0_w32) (iota .tc S6x128 32 [1] iota_S6x128_d1_w32)
          (seqW v14 v17 v20 v23 v26 (Scalar.subi (e5W v14 v17 v20 v23 v26 v29) 1#32)) (posW v14 v17 v20 v23 v26 v29 (Scalar.subi (e5W v14 v17 v20 v23 v26 v29) 1#32))
          (lenW v14 v17 v20 v23 v26 v29 (Scalar.subi (e5W v14 v17 v20 v23 v26 v29) 1#32))
          (rdS c arg0 d0) (rdS c arg1 d1) (fun q => k0_off157 v14 v17 v20 v23 v26 v29 (BitVec.ofNat 32 (128 * q.val))) (k0_off157_inb v14 v17 v20 v23 v26 v29 hw hc) g18 g19 g20) g23))) Finset.univ)

theorem outP_intro (f : Buf (Elt F) ((Memref.whole main_v0_0).view.loc (c : Thread nD τ))) (h : P f) :
    ((Memref.whole main_v0_0).view.loc (c : Thread nD τ) ↦{fullShare} f : sProp 𝕄)
      ⊢ iprop(∃ f : Buf (Elt F) ((Memref.whole main_v0_0).view.loc (c : Thread nD τ)), ⌜P f⌝ ∗ ((Memref.whole main_v0_0).view.loc (c : Thread nD τ) ↦{fullShare} f)) := by
  iintro H
  iexists f; isplitr; · ipureintro; exact h
  iexact H

end Cert.KernelIdeal.Hand

end
-- ==== Proof.KBody.lean ====
/-
  The run of the kernel's body.
-/
module

public import proofs.«01_k».proof.Proof.KLoop2
public import proofs.«01_k».proof.Proof.KInit
public import proofs.«01_k».proof.Proof.KPre
public import proofs.«01_k».proof.Proof.KHyp
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (i2 : Buf (Elt F) ((Memref.whole main_arg8).view.loc (c : Thread nD τ))) (i3 : Buf (Elt F) ((Memref.whole main_arg7).view.loc (c : Thread nD τ))) (i5 : Buf (Elt F) ((Memref.whole main_arg1).view.loc (c : Thread nD τ))) (i6 : Buf (Elt F) ((Memref.whole main_arg2).view.loc (c : Thread nD τ))) (i7 : Buf (Elt F) ((Memref.whole main_arg5).view.loc (c : Thread nD τ))) (i8 : Buf (Elt F) ((Memref.whole main_arg6).view.loc (c : Thread nD τ)))
  (arg0 : Memref sig .tc .smem S1 .f32) (harg0 : arg0.IsWhole) (arg1 : Memref sig .tc .smem S1 .f32) (harg1 : arg1.IsWhole)
  (d0 : Buf (Elt F) (arg0.view.loc (c : Thread nD τ))) (d1 : Buf (Elt F) (arg1.view.loc (c : Thread nD τ)))

variable (G : ℕ → RBuf (F := F) c → Prop) (J : JTy (F := F)) (P : Buf (Elt F) ((Memref.whole main_v0_0).view.loc (c : Thread nD τ)) → Prop)

set_option maxHeartbeats 40000000 in
set_option maxRecDepth 65536 in
/-- The body's run: from its buffers to its buffers, the first result as `P` says. -/
theorem body_run (hB : BodyHyp c fa i2 i5 i6 arg0 arg1 d0 d1 G J P) (W : Waits sig Unit) :
    pre c fa i2 i3 i5 i6 i7 i8 arg0 arg1 d0 d1 (fun _ => True) W
      ⊢ wp frame (wpE (defs₀ (F := F)) Variants.none (c : Thread nD τ) none) Set.univ
        (cc0_ppo_critic (F := F) arg0 harg0 arg1 harg1 (Memref.whole main_arg8) (Memref.isWhole_whole _) (Memref.whole main_arg7) (Memref.isWhole_whole _) (Memref.whole main_arg0) (Memref.isWhole_whole _) (Memref.whole main_arg1) (Memref.isWhole_whole _) (Memref.whole main_arg2) (Memref.isWhole_whole _) (Memref.whole main_arg5) (Memref.isWhole_whole _) (Memref.whole main_arg6) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19)
        (fun _ => iprop(∃ W, pre c fa i2 i3 i5 i6 i7 i8 arg0 arg1 d0 d1 P W)) := by
  simp only [cc0_ppo_critic_eq_skeleton]; unfold cc0_ppo_critic_skel pre
  iintro ⟨H0, H1, HA, H2, H3, H5, H6, H7, H8, ⟨%f9, -, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, Q2, Q3, Q4, Q5, Q6, Q7, Q8, Q9, Q10, Q11, Q12, Q13, Q14, HO⟩
  sl_exec
  iapply (wp_assume _ _ _ _ (chk1_holds (body_run.sl.r c i2 f12) (body_run.sl.r_1 c i2 f12) (body_run.sl.r_2 c i2 f12) (body_run.sl.r_3 c i2 f12) (body_run.sl.r_4 c i2 f12) (body_run.sl.r_5 c i2 f12)))
  have hW : IsWords c i2 (body_run.sl.r c i2 f12) (body_run.sl.r_1 c i2 f12) (body_run.sl.r_2 c i2 f12) (body_run.sl.r_3 c i2 f12) (body_run.sl.r_4 c i2 f12) (body_run.sl.r_5 c i2 f12) :=
    ⟨rd_word c i2 0 _ rfl _ _ _, rd_word c i2 1 _ rfl _ _ _, rd_word c i2 2 _ rfl _ _ _, rd_word c i2 3 _ rfl _ _ _, rd_word c i2 4 _ rfl _ _ _, rd_word c i2 5 _ rfl _ _ _⟩
  have hD := hB.del _ _ _ _ _ _ hW
  ihave HR := (ring_open c fa G (rowsN (body_run.sl.r c i2 f12) (body_run.sl.r_1 c i2 f12) (body_run.sl.r_2 c i2 f12) (body_run.sl.r_3 c i2 f12) (body_run.sl.r_4 c i2 f12) (body_run.sl.r_5 c i2 f12)) f14) $$ [Q2 Q3 Q4 Q5 H14 HA]
  · isplitl [Q2 Q3 Q4 Q5]
    · isplitl [Q2]; · iexact Q2
      isplitl [Q3]; · iexact Q3
      isplitl [Q4]; · iexact Q4
      iexact Q5
    isplitl [H14]; · iexact H14
    iexact HA
  icases HR with ⟨HR, HA⟩
  sl_exec
  iapply (Scf.wp_for_bind frame (wpE (defs₀ (F := F)) Variants.none (c : Thread nD τ) none) Set.univ _ _ _ _ _ _
    (fun n _ => ring c fa (rowsN (body_run.sl.r c i2 f12) (body_run.sl.r_1 c i2 f12) (body_run.sl.r_2 c i2 f12) (body_run.sl.r_3 c i2 f12) (body_run.sl.r_4 c i2 f12) (body_run.sl.r_5 c i2 f12)) G (st1 (totN (body_run.sl.r c i2 f12) (body_run.sl.r_1 c i2 f12) (body_run.sl.r_2 c i2 f12) (body_run.sl.r_3 c i2 f12) (body_run.sl.r_4 c i2 f12) (body_run.sl.r_5 c i2 f12)) n)) (fun t u => t1_step c fa G arg0 harg0 arg1 harg1 _ _ _ _ _ _ _ _ _ _ _ _ _ _ _ _ _ _ _ hD t u)) $$ [HR]
  · rw [st1_zero]; iexact HR
  iintro %acc HR
  sl_exec
  have h1 : k0_t1_loop.trips = 4 := t1_trips
  have h2 := t2_trips (body_run.sl.r c i2 f12) (body_run.sl.r_1 c i2 f12) (body_run.sl.r_2 c i2 f12) (body_run.sl.r_3 c i2 f12) (body_run.sl.r_4 c i2 f12) (body_run.sl.r_5 c i2 f12)
  have h3 : (k0_t3_loop (body_run.sl.r c i2 f12) (body_run.sl.r_1 c i2 f12) (body_run.sl.r_2 c i2 f12) (body_run.sl.r_3 c i2 f12) (body_run.sl.r_4 c i2 f12) (body_run.sl.r_5 c i2 f12)).trips = 0 := Nat.eq_zero_of_not_pos fun h => t3_no (body_run.sl.r c i2 f12) (body_run.sl.r_1 c i2 f12) (body_run.sl.r_2 c i2 f12) (body_run.sl.r_3 c i2 f12) (body_run.sl.r_4 c i2 f12) (body_run.sl.r_5 c i2 f12) ⟨0, h⟩
  have e14 : st1 (totN (body_run.sl.r c i2 f12) (body_run.sl.r_1 c i2 f12) (body_run.sl.r_2 c i2 f12) (body_run.sl.r_3 c i2 f12) (body_run.sl.r_4 c i2 f12) (body_run.sl.r_5 c i2 f12)) (Scf.trips k0_t1_loop.lb k0_t1_loop.ub k0_t1_loop.st) = st2 (totN (body_run.sl.r c i2 f12) (body_run.sl.r_1 c i2 f12) (body_run.sl.r_2 c i2 f12) (body_run.sl.r_3 c i2 f12) (body_run.sl.r_4 c i2 f12) (body_run.sl.r_5 c i2 f12)) 0 := by
    rw [show Scf.trips k0_t1_loop.lb k0_t1_loop.ub k0_t1_loop.st = 4 from h1]; exact st1_four _
  rw [e14]
  iapply (Scf.wp_for_bind frame (wpE (defs₀ (F := F)) Variants.none (c : Thread nD τ) none) Set.univ _ _ _ _ _ _
    (fun n _ => inv2 c fa G arg0 arg1 d0 d1 (body_run.sl.r c i2 f12) (body_run.sl.r_1 c i2 f12) (body_run.sl.r_2 c i2 f12) (body_run.sl.r_3 c i2 f12) (body_run.sl.r_4 c i2 f12) (body_run.sl.r_5 c i2 f12) J n) (fun t u => t2_step c fa G arg0 harg0 arg1 harg1 d0 d1 (body_run.sl.r c i2 f12) (body_run.sl.r_1 c i2 f12) (body_run.sl.r_2 c i2 f12) (body_run.sl.r_3 c i2 f12) (body_run.sl.r_4 c i2 f12) (body_run.sl.r_5 c i2 f12) _ _ _ _ _ _ J hD t (hB.step _ _ _ _ _ _ hW _ t) u)) $$ [HR H0 H1 H13 H15 H16 H17 H18 H19 H20 H21 H22 H23 H24 H25 H26 H27 H28 HO]
  · unfold inv2
    isplitl [HR]; · iexact HR
    isplitl [H0]; · iexact H0
    isplitl [H1]; · iexact H1
    isplitl [H13]; · iexists _; iexact H13
    isplitl [H15]; · iexists _; iexact H15
    isplitl [H21]; · iexists _; iexact H21
    isplitl [H22]; · iexists _; iexact H22
    isplitl [H24]; · iexists _; iexact H24
    isplitl [H25]; · iexists _; iexact H25
    isplitl [H26]; · iexists _; iexact H26
    isplitl [H27]; · iexists _; iexact H27
    isplitl [H28]; · iexists _; iexact H28
    isplitl [H16 H17 H18 H19 H20 H23]
    · have hJ0 : J 0 ((Memref.whole cc0_scratch4).view.writes (Elt F) (Memref.whole cc0_scratch4).view.junk (body_run.sl.H16_1 c i6 f15)) ((Memref.whole cc0_scratch5).view.writes (Elt F) (Memref.whole cc0_scratch5).view.junk (body_run.sl.H17_1 c i6 f15)) ((Memref.whole cc0_scratch6).view.writes (Elt F) (Memref.whole cc0_scratch6).view.junk body_run.sl.H18_1) ((Memref.whole cc0_scratch7).view.writes (Elt F) (Memref.whole cc0_scratch7).view.junk body_run.sl.H19_1) (View.write (Elt F) (Memref.whole cc0_scratch8).view f20 (body_run.sl.dma0_3 c i5) Finset.univ) ((Memref.whole cc0_scratch11).view.writes (Elt F) (Memref.whole cc0_scratch11).view.junk body_run.sl.H23_1) :=
        hB.init f15 (Memref.whole cc0_scratch4).view.junk (Memref.whole cc0_scratch5).view.junk _ _ f20 (Memref.whole cc0_scratch11).view.junk
      iapply (J_intro c J 0 _ _ _ _ _ _ hJ0)
      isplitl [H16]; · iexact H16
      isplitl [H17]; · iexact H17
      isplitl [H18]; · iexact H18
      isplitl [H19]; · iexact H19
      isplitl [H20]; · iexact H20
      iexact H23
    iexists _; iexact HO
  iintro %acc2 HI
  have e2 : Scf.trips (k0_t2_loop (body_run.sl.r c i2 f12) (body_run.sl.r_1 c i2 f12) (body_run.sl.r_2 c i2 f12) (body_run.sl.r_3 c i2 f12) (body_run.sl.r_4 c i2 f12) (body_run.sl.r_5 c i2 f12)).lb (k0_t2_loop (body_run.sl.r c i2 f12) (body_run.sl.r_1 c i2 f12) (body_run.sl.r_2 c i2 f12) (body_run.sl.r_3 c i2 f12) (body_run.sl.r_4 c i2 f12) (body_run.sl.r_5 c i2 f12)).ub (k0_t2_loop (body_run.sl.r c i2 f12) (body_run.sl.r_1 c i2 f12) (body_run.sl.r_2 c i2 f12) (body_run.sl.r_3 c i2 f12) (body_run.sl.r_4 c i2 f12) (body_run.sl.r_5 c i2 f12)).st = totN (body_run.sl.r c i2 f12) (body_run.sl.r_1 c i2 f12) (body_run.sl.r_2 c i2 f12) (body_run.sl.r_3 c i2 f12) (body_run.sl.r_4 c i2 f12) (body_run.sl.r_5 c i2 f12) := h2
  rw [e2]
  unfold inv2
  rw [st2_end _ _ le_rfl]
  icases HI with ⟨HR, H0, H1, ⟨%g13, H13⟩, ⟨%g15, H15⟩, ⟨%g21, H21⟩, ⟨%g22, H22⟩, ⟨%g24, H24⟩, ⟨%g25, H25⟩, ⟨%g26, H26⟩, ⟨%g27, H27⟩, ⟨%g28, H28⟩, ⟨%g16, %g17, %g18, %g19, %g20, %g23, %hJ, H16, H17, H18, H19, H20, H23⟩, ⟨%W2, HO⟩⟩
  ihave HZ := (ring_close c fa G (rowsN (body_run.sl.r c i2 f12) (body_run.sl.r_1 c i2 f12) (body_run.sl.r_2 c i2 f12) (body_run.sl.r_3 c i2 f12) (body_run.sl.r_4 c i2 f12) (body_run.sl.r_5 c i2 f12)) f14) $$ [HR HA]
  · isplitl [HR]; · iexact HR
    iexact HA
  icases HZ with ⟨⟨Q2, Q3, Q4, Q5⟩, ⟨%g14, H14⟩, HA⟩
  iapply (Scf.wp_for_bind frame (wpE (defs₀ (F := F)) Variants.none (c : Thread nD τ) none) Set.univ _ _ _ _ _ _
    (fun _ _ => iprop(⌜True⌝)) (fun t _ => (t3_no (body_run.sl.r c i2 f12) (body_run.sl.r_1 c i2 f12) (body_run.sl.r_2 c i2 f12) (body_run.sl.r_3 c i2 f12) (body_run.sl.r_4 c i2 f12) (body_run.sl.r_5 c i2 f12) t).elim)) $$ []
  · ipureintro; exact True.intro
  iintro %acc3 -
  by_cases hc : k0_cond4 (body_run.sl.r c i2 f12) (body_run.sl.r_1 c i2 f12) (body_run.sl.r_2 c i2 f12) (body_run.sl.r_3 c i2 f12) (body_run.sl.r_4 c i2 f12) (body_run.sl.r_5 c i2 f12) = 1#1
  · rw [dif_pos hc]
    sl_exec
    sl_step
    iexists _
    isplitl [H0]; · iexact H0
    isplitl [H1]; · iexact H1
    isplitl [HA]; · iexact HA
    isplitl [H2]; · iexact H2
    isplitl [H3]; · iexact H3
    isplitl [H5]; · iexact H5
    isplitl [H6]; · iexact H6
    isplitl [H7]; · iexact H7
    isplitl [H8]; · iexact H8
    isplitl [H9]; · iapply (outP_intro c P _ (hB.fin1 _ _ _ _ _ _ hW (chk1_holds _ _ _ _ _ _) hc ((cond4_iff _ _ _ _ _ _).1 hc) g16 g17 g18 g19 g20 g23 f9 hJ)); iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    iexact HO
  · rw [dif_neg hc]
    sl_exec
    sl_step
    iexists _
    isplitl [H0]; · iexact H0
    isplitl [H1]; · iexact H1
    isplitl [HA]; · iexact HA
    isplitl [H2]; · iexact H2
    isplitl [H3]; · iexact H3
    isplitl [H5]; · iexact H5
    isplitl [H6]; · iexact H6
    isplitl [H7]; · iexact H7
    isplitl [H8]; · iexact H8
    isplitl [H9]; · iapply (outP_intro c P _ (hB.fin0 _ _ _ _ _ _ hW (Nat.eq_zero_of_not_pos fun h => hc ((cond4_iff _ _ _ _ _ _).2 h)) g16 g17 g18 g19 g20 g23 f9 hJ)); iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    iexact HO

end Cert.KernelIdeal.Hand

end
-- ==== Proof.KLaunch.lean ====
module

public import proofs.«01_k».proof.Proof.KPre
public import proofs.«01_k».proof.Proof.Gen.KernelIdeal.Skeleton
public import proofs.«01_k».proof.Proof.Gen.KernelIdeal.Frame
public import proofs.«01_k».proof.Proof.Gen.KernelIdeal.Points
public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
open Idealize.ShloMosaic.Pipeline (Dat Cfg Window BodyObligation cellOf)
open Idealize.ShloMosaic.Pipeline Idealize.ShloMosaic.Rounds

variable (m : (ℓ : Loc nD τ sig) → Buf (Elt F) ℓ) (ρ : Dev nD → PrngReg)
  (P : (c : Dev nD) → Buf (Elt F) ((c : Thread nD τ).loc main_v0_0) → Prop)

/-! ## The kernel's own semaphores and what it holds -/

abbrev osem : Fin 13 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14] : Fin 13 → SemLoc sig) j
theorem osemFacts : Pipeline.OwnSemFacts spec0 osem := by decide
theorem ownSems_eq (c : Dev nD) :
    (Pipeline.ownSems0 (Ix := Unit) (Name := ℕ) (U := Pipeline.UC sig nD τ) (Lvl := ℕ) (Val := Elt F) (τ := τ) osem c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem [0, 1, 2, 3, 4, 5, 6, 7, 8, 9, 10, 11, 12] (by decide) (by decide)]; rfl

/-- The arguments no window stages. -/
def ins : Finset (Ref sig .tc) := {main_arg0, main_arg1, main_arg2, main_arg5, main_arg6, main_arg7, main_arg8}

/-- The buffers that are no staged array, the arguments as launched and the first result as `p` says. -/
def held (c : Dev nD) (p : Buf (Elt F) ((c : Thread nD τ).loc main_v0_0) → Prop) : sProp 𝕄 :=
  iprop(∃ Y : (b : Ref sig .tc) → Buf (Elt F) ((c : Thread nD τ).loc b), ⌜(∀ b ∈ ins, Y b = V m c b) ∧ p (Y main_v0_0)⌝
    ∗ Pipeline.unscopedRest (Ix := Unit) (Name := ℕ) (U := Pipeline.UC sig nD τ) (Lvl := ℕ) spec0 c Y)

def heldL (c : Dev nD) (p : Buf (Elt F) ((c : Thread nD τ).loc main_v0_0) → Prop) : sProp 𝕄 :=
  iprop(((c : Thread nD τ).loc main_arg0 ↦{fullShare} V m c main_arg0) ∗ ((c : Thread nD τ).loc main_arg1 ↦{fullShare} V m c main_arg1) ∗ ((c : Thread nD τ).loc main_arg2 ↦{fullShare} V m c main_arg2) ∗ ((c : Thread nD τ).loc main_arg5 ↦{fullShare} V m c main_arg5) ∗ ((c : Thread nD τ).loc main_arg6 ↦{fullShare} V m c main_arg6) ∗ ((c : Thread nD τ).loc main_arg7 ↦{fullShare} V m c main_arg7) ∗ ((c : Thread nD τ).loc main_arg8 ↦{fullShare} V m c main_arg8) ∗ (∃ f, ⌜p f⌝ ∗ ((c : Thread nD τ).loc main_v0_0 ↦{fullShare} f))
    ∗ (∃ f, ((c : Thread nD τ).loc main_v0_1 ↦{fullShare} f)) ∗ (∃ f, ((c : Thread nD τ).loc main_v0_2 ↦{fullShare} f)))

theorem held_open (c : Dev nD) (p) : held m c p ⊢ heldL m c p := by
  unfold held heldL
  iintro ⟨%Y, %h, H⟩
  obtain ⟨h, hp⟩ := h
  ihave H := (show (Pipeline.unscopedRest (Ix := Unit) (Name := ℕ) (U := Pipeline.UC sig nD τ) (Lvl := ℕ) spec0 c Y : sProp 𝕄) ⊢ iprop(((c : Thread nD τ).loc main_arg0 ↦{fullShare} V m c main_arg0) ∗ ((c : Thread nD τ).loc main_arg1 ↦{fullShare} V m c main_arg1) ∗ ((c : Thread nD τ).loc main_arg2 ↦{fullShare} V m c main_arg2) ∗ ((c : Thread nD τ).loc main_arg5 ↦{fullShare} V m c main_arg5) ∗ ((c : Thread nD τ).loc main_arg6 ↦{fullShare} V m c main_arg6) ∗ ((c : Thread nD τ).loc main_arg7 ↦{fullShare} V m c main_arg7) ∗ ((c : Thread nD τ).loc main_arg8 ↦{fullShare} V m c main_arg8) ∗ ((c : Thread nD τ).loc main_v0_0 ↦{fullShare} Y main_v0_0)
      ∗ ((c : Thread nD τ).loc main_v0_1 ↦{fullShare} Y main_v0_1) ∗ ((c : Thread nD τ).loc main_v0_2 ↦{fullShare} Y main_v0_2)) from by
    rw [unscopedRest0_eq]; rw [h main_arg0 (by decide), h main_arg1 (by decide), h main_arg2 (by decide), h main_arg5 (by decide), h main_arg6 (by decide), h main_arg7 (by decide), h main_arg8 (by decide)]) $$ H
  icases H with ⟨U0, U1, U2, U3, U4, U5, U6, H9, H10, H11⟩
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [H9]
  · iexists _; isplitr; · ipureintro; exact hp
    iexact H9
  isplitl [H10]; · iexists _; iexact H10
  iexists _; iexact H11

/-- Contents that agree with `V` but at the results. -/
def upd (c : Dev nD) (f0 : Buf (Elt F) ((c : Thread nD τ).loc main_v0_0)) (f1 : Buf (Elt F) ((c : Thread nD τ).loc main_v0_1))
    (f2 : Buf (Elt F) ((c : Thread nD τ).loc main_v0_2)) : (b : Ref sig .tc) → Buf (Elt F) ((c : Thread nD τ).loc b) :=
  Function.update (Function.update (Function.update (V m c) main_v0_0 f0) main_v0_1 f1) main_v0_2 f2
theorem upd_in (c : Dev nD) (f0 f1 f2) (b : Ref sig .tc) (h0 : b ≠ main_v0_0) (h1 : b ≠ main_v0_1) (h2 : b ≠ main_v0_2) :
    upd m c f0 f1 f2 b = V m c b := by
  unfold upd; rw [Function.update_of_ne h2, Function.update_of_ne h1, Function.update_of_ne h0]
theorem upd_0 (c : Dev nD) (f0 f1 f2) : upd m c f0 f1 f2 main_v0_0 = f0 := by
  unfold upd; rw [Function.update_of_ne (by decide), Function.update_of_ne (by decide), Function.update_self]
theorem upd_1 (c : Dev nD) (f0 f1 f2) : upd m c f0 f1 f2 main_v0_1 = f1 := by
  unfold upd; rw [Function.update_of_ne (by decide), Function.update_self]
theorem upd_2 (c : Dev nD) (f0 f1 f2) : upd m c f0 f1 f2 main_v0_2 = f2 := by
  unfold upd; rw [Function.update_self]

theorem held_close (c : Dev nD) (p) : heldL m c p ⊢ held m c p := by
  unfold held heldL
  iintro ⟨U0, U1, U2, U3, U4, U5, U6, ⟨%f0, %hp, H9⟩, ⟨%f1, H10⟩, ⟨%f2, H11⟩⟩
  iexists upd m c f0 f1 f2
  isplitr
  · ipureintro
    refine ⟨fun b hb => upd_in m c f0 f1 f2 b ?_ ?_ ?_, ?_⟩
    · rintro rfl; exact absurd hb (by decide)
    · rintro rfl; exact absurd hb (by decide)
    · rintro rfl; exact absurd hb (by decide)
    · rw [upd_0]; exact hp
  rw [unscopedRest0_eq, upd_0, upd_1, upd_2, upd_in m c f0 f1 f2 main_arg0 (by decide) (by decide) (by decide), upd_in m c f0 f1 f2 main_arg1 (by decide) (by decide) (by decide), upd_in m c f0 f1 f2 main_arg2 (by decide) (by decide) (by decide), upd_in m c f0 f1 f2 main_arg5 (by decide) (by decide) (by decide), upd_in m c f0 f1 f2 main_arg6 (by decide) (by decide) (by decide), upd_in m c f0 f1 f2 main_arg7 (by decide) (by decide) (by decide), upd_in m c f0 f1 f2 main_arg8 (by decide) (by decide) (by decide)]
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [H9]; · iexact H9
  isplitl [H10]; · iexact H10
  iexact H11

theorem held_mono (c : Dev nD) (p q : Buf (Elt F) ((c : Thread nD τ).loc main_v0_0) → Prop) (h : ∀ f, p f → q f) : held m c p ⊢ held m c q := by
  unfold held
  iintro ⟨%Y, %hY, H⟩
  iexists Y; isplitr; · ipureintro; exact ⟨hY.1, h _ hY.2⟩
  iexact H

theorem in_all : ∀ w : Fin 2, (spec0 w).isOut = false := by decide

theorem pre_mono (c : Dev nD) (fa i2 i3 i5 i6 i7 i8 arg0 arg1 d0 d1) {p q : Buf (Elt F) ((c : Thread nD τ).loc main_v0_0) → Prop} (h : ∀ f, p f → q f)
    (W : Waits sig Unit) : pre c fa i2 i3 i5 i6 i7 i8 arg0 arg1 d0 d1 p W ⊢ pre c fa i2 i3 i5 i6 i7 i8 arg0 arg1 d0 d1 q W := by
  unfold pre
  iintro ⟨H0, H1, H4, H2, H3, H5, H6, H7, H8, ⟨%f, %hp, H9⟩, H⟩
  isplitl [H0]; · iexact H0
  isplitl [H1]; · iexact H1
  isplitl [H4]; · iexact H4
  isplitl [H2]; · iexact H2
  isplitl [H3]; · iexact H3
  isplitl [H5]; · iexact H5
  isplitl [H6]; · iexact H6
  isplitl [H7]; · iexact H7
  isplitl [H8]; · iexact H8
  isplitl [H9]
  · iexists f; isplitr; · ipureintro; exact h f hp
    iexact H9
  iexact H

/-! ## The proof data -/

/-- What the body is run from and leaves: what it holds, its semaphores at zero, its own buffers, the generator. -/
def Ph (c : Dev nD) (p : Buf (Elt F) ((c : Thread nD τ).loc main_v0_0) → Prop) : sProp 𝕄 :=
  iprop(held m c p ∗ Pipeline.ownSems0 (Ix := Unit) (Name := ℕ) (U := Pipeline.UC sig nD τ) (Lvl := ℕ) (Val := Elt F) (τ := τ) osem c
    ∗ Pipeline.scopedRest (Ix := Unit) (Name := ℕ) (U := Pipeline.UC sig nD τ) (Lvl := ℕ) (Val := Elt F) spec0 c ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := Ph m c (fun f => t ≠ 0 → P c f)
  q _ := fullShare
  owed _ := 0

theorem A_eq (c : Dev nD) (w : Fin cfg0.W) : (dats m P 0 c).A w = V m c (Pipeline.arrRef spec0 w) := by
  dsimp only [dats]
theorem after_0 (c : Dev nD) (t : Fin cfg0.N) : (dats m P 0 c).after 0 t = iblk m c 0 t := by dsimp only [dats]
theorem after_1 (c : Dev nD) (t : Fin cfg0.N) : (dats m P 0 c).after 1 t = iblk m c 1 t := by dsimp only [dats]
theorem before_0 (c : Dev nD) (t : Fin cfg0.N) (d) : (dats m P 0 c).before 0 t d = iblk m c 0 t :=
  ((dats m P 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m P 0 c).before 1 t d = iblk m c 1 t :=
  ((dats m P 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

abbrev st0 (t : Fin cfg0.N) : Memref sig .tc .smem S1 .f32 := win0_0.stage (cfg0.slots t 0)
abbrev st1' (t : Fin cfg0.N) : Memref sig .tc .smem S1 .f32 := win0_1.stage (cfg0.slots t 1)

/-- What is asked of the body: run from the launch's contents it leaves them, with the first result as `P` says. -/
def BodyRuns : Prop := ∀ (c : Dev nD) (t : Fin cfg0.N) (d0 : Buf (Elt F) ((st0 t).view.loc (c : Thread nD τ)))
    (d1 : Buf (Elt F) ((st1' t).view.loc (c : Thread nD τ))) (W : Waits sig Unit),
    (st0 t).view.read (Elt F) d0 = iblk m c 0 t → (st1' t).view.read (Elt F) d1 = iblk m c 1 t →
    (pre c (V m c main_arg0) (V m c main_arg8) (V m c main_arg7) (V m c main_arg1) (V m c main_arg2) (V m c main_arg5) (V m c main_arg6)
        (st0 t) (st1' t) d0 d1 (fun _ => True) W
      ⊢ wp frame (wpE (defs₀ (F := F)) Variants.none (c : Thread nD τ) none) Set.univ (bodyAt0 t)
        (fun _ => iprop(∃ W', pre c (V m c main_arg0) (V m c main_arg8) (V m c main_arg7) (V m c main_arg1) (V m c main_arg2) (V m c main_arg5)
          (V m c main_arg6) (st0 t) (st1' t) d0 d1 (P c) W')))

def bodyPre (c : Dev nD) (t : Fin cfg0.N) : sProp 𝕄 :=
  iprop((dats m P 0 c).Φ t.castSucc ∗ (dats m P 0 c).owesAt () t.castSucc
    ∗ (∃ d, owns (c : Thread nD τ) (st0 t) fullShare ((dats m P 0 c).before 0 t d))
    ∗ (∃ d, owns (c : Thread nD τ) (st1' t) fullShare ((dats m P 0 c).before 1 t d)))
def bodyPost (c : Dev nD) (t : Fin cfg0.N) : sProp 𝕄 :=
  iprop((dats m P 0 c).Φ t.succ ∗ (dats m P 0 c).owesAt () t.succ
    ∗ owns (c : Thread nD τ) (st0 t) fullShare ((dats m P 0 c).after 0 t)
    ∗ owns (c : Thread nD τ) (st1' t) fullShare ((dats m P 0 c).after 1 t))

/-- `pre` of what the launch holds, and back. -/
theorem to_pre (c : Dev nD) (p) (arg0 arg1 d0 d1) (W : Waits sig Unit) :
    iprop(Ph m c p ∗ owes (c : Thread nD τ) 0 W ∗ (arg0.view.loc (c : Thread nD τ) ↦[arg0.view.set]{fullShare} d0)
        ∗ (arg1.view.loc (c : Thread nD τ) ↦[arg1.view.set]{fullShare} d1))
      ⊢ iprop((∃ r, prngReg c r) ∗ pre c (V m c main_arg0) (V m c main_arg8) (V m c main_arg7) (V m c main_arg1) (V m c main_arg2) (V m c main_arg5) (V m c main_arg6)
        arg0 arg1 d0 d1 p W) := by
  refine (sep_mono (show Ph m c p ⊢ _ from sep_mono (held_open m c p) .rfl) .rfl).trans ?_
  unfold heldL pre
  rw [ownSems_eq, scopedRest0_eq]
  iintro ⟨⟨⟨H4, H5, H6, H7, H8, H3, H2, H9, H10, H11⟩, ⟨Q2, Q3, Q4, Q5, Q6, Q7, Q8, Q9, Q10, Q11, Q12, Q13, Q14⟩, ⟨S2, S3, S4, S5, S6, S7, S8, S9, S10, S11, S12, S13, S14, S15, S16, S0, S1⟩, Hr⟩, HO, H0, H1⟩
  isplitl [Hr]; · iexact Hr
  isplitl [H0]; · iexact H0
  isplitl [H1]; · iexact H1
  isplitl [H4]; · iexact H4
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  iexact HO

theorem of_pre (c : Dev nD) (p) (arg0 arg1 d0 d1) (W : Waits sig Unit) :
    iprop((∃ r, prngReg c r) ∗ pre c (V m c main_arg0) (V m c main_arg8) (V m c main_arg7) (V m c main_arg1) (V m c main_arg2) (V m c main_arg5) (V m c main_arg6)
        arg0 arg1 d0 d1 p W)
      ⊢ iprop(Ph m c p ∗ owes (c : Thread nD τ) 0 W ∗ (arg0.view.loc (c : Thread nD τ) ↦[arg0.view.set]{fullShare} d0)
        ∗ (arg1.view.loc (c : Thread nD τ) ↦[arg1.view.set]{fullShare} d1)) := by
  refine .trans ?_ (sep_mono (show _ ⊢ Ph m c p from sep_mono (held_close m c p) .rfl) .rfl)
  unfold heldL pre
  rw [ownSems_eq, scopedRest0_eq]
  iintro ⟨Hr, H0, H1, H4, H2, H3, H5, H6, H7, H8, H9, H10, H11, S0, S1, S2, S3, S4, S5, S6, S7, S8, S9, S10, S11, S12, S13, S14, S15, S16, Q2, Q3, Q4, Q5, Q6, Q7, Q8, Q9, Q10, Q11, Q12, Q13, Q14, HO⟩
  isplitr [HO H0 H1]
  · isplitr [Q2 Q3 Q4 Q5 Q6 Q7 Q8 Q9 Q10 Q11 Q12 Q13 Q14 S2 S3 S4 S5 S6 S7 S8 S9 S10 S11 S12 S13 S14 S15 S16 S0 S1 Hr]
    · isplitl [H4]; · iexact H4
      isplitl [H5]; · iexact H5
      isplitl [H6]; · iexact H6
      isplitl [H7]; · iexact H7
      isplitl [H8]; · iexact H8
      isplitl [H3]; · iexact H3
      isplitl [H2]; · iexact H2
      isplitl [H9]; · iexact H9
      isplitl [H10]; · iexact H10
      iexact H11
    isplitl [Q2 Q3 Q4 Q5 Q6 Q7 Q8 Q9 Q10 Q11 Q12 Q13 Q14]
    · isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      iexact Q14
    isplitl [S2 S3 S4 S5 S6 S7 S8 S9 S10 S11 S12 S13 S14 S15 S16 S0 S1]
    · isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S0]; · iexact S0
      iexact S1
    iexact Hr
  isplitl [HO]; · iexact HO
  isplitl [H0]; · iexact H0
  iexact H1

theorem to_post (c : Dev nD) (t : Fin cfg0.N) (d0 d1) (r0 : (st0 t).view.read (Elt F) d0 = iblk m c 0 t) (r1 : (st1' t).view.read (Elt F) d1 = iblk m c 1 t) :
    iprop((∃ r, prngReg c r) ∗ ∃ W', pre c (V m c main_arg0) (V m c main_arg8) (V m c main_arg7) (V m c main_arg1) (V m c main_arg2) (V m c main_arg5)
          (V m c main_arg6) (st0 t) (st1' t) d0 d1 (P c) W') ⊢ bodyPost m P c t := by
  unfold bodyPost
  rw [after_0, after_1]
  rw [show (dats m P 0 c).Φ t.succ = Ph m c (fun f => t.succ ≠ 0 → P c f) from rfl]
  unfold Dat.owesAt Pipeline.owesWithin
  rw [show (dats m P 0 c).owed t.succ = 0 from rfl]
  unfold owns
  iintro ⟨Hr, ⟨%W', H⟩⟩
  ihave H := (pre_mono c _ _ _ _ _ _ _ (st0 t) (st1' t) d0 d1 (q := fun f => t.succ ≠ 0 → P c f) (fun _ h _ => h) W') $$ H
  ihave H := (of_pre m c _ (st0 t) (st1' t) d0 d1 W') $$ [Hr H]
  · isplitl [Hr]; · iexact Hr
    iexact H
  icases H with ⟨HP, HW, H0, H1⟩
  isplitl [HP]; · iexact HP
  isplitl [HW]
  · iexists W'; isplitr; · ipureintro; exact fun _ _ => Or.inl trivial
    iexact HW
  isplitl [H0]
  · iexists d0; isplitr; · ipureintro; exact r0
    iexact H0
  iexists d1; isplitr; · ipureintro; exact r1
  iexact H1

theorem sound_body (hb : BodyRuns m P) (c : Dev nD) (t : Fin cfg0.N) :
    bodyPre m P c t ⊢ wp frame (wpE (defs₀ (F := F)) Variants.none c none) Set.univ (bodyAt0 t) (fun _ => bodyPost m P c t) := by
  unfold bodyPre
  rw [show (dats m P 0 c).Φ t.castSucc = Ph m c (fun f => t.castSucc ≠ 0 → P c f) from rfl]
  unfold Dat.owesAt Pipeline.owesWithin
  rw [show (dats m P 0 c).owed t.castSucc = 0 from rfl]
  have e0 : ∀ d, (dats m P 0 c).before 0 t d = iblk m c 0 t := before_0 m P c t
  have e1 : ∀ d, (dats m P 0 c).before 1 t d = iblk m c 1 t := before_1 m P c t
  simp only [e0, e1]
  unfold owns
  iintro ⟨HP, ⟨%W, -, HW⟩, ⟨%x0, %d0, %r0, H0⟩, ⟨%x1, %d1, %r1, H1⟩⟩
  ihave H := (to_pre m c _ (st0 t) (st1' t) d0 d1 W) $$ [HP HW H0 H1]
  · isplitl [HP]; · iexact HP
    isplitl [HW]; · iexact HW
    isplitl [H0]; · iexact H0
    iexact H1
  icases H with ⟨Hr, H⟩
  ihave H := (pre_mono c _ _ _ _ _ _ _ (st0 t) (st1' t) d0 d1 (q := fun _ => True) (fun _ _ => trivial) W) $$ H
  iapply (wp_mono frame _ _ (fun _ => to_post m P c t d0 d1 r0 r1))
  iapply (wp_frame_l frame _ _)
  isplitl [Hr]; · iexact Hr
  iapply (hb c t d0 d1 W r0 r1)
  iexact H
theorem defs₀_row (t : Fin cfg0.N) :
    defs₀ (F := F) .tc cfg0.body (cfg0.bodyArgs t (cfg0.slots t)) = bodyAt0 t := by
  unfold defs₀; rw [Defs.onTc_tc]

theorem body_obligation (hb : BodyRuns m P) (c : Dev nD) : BodyObligation (dats (F := F) m P 0 c) (defs₀ (F := F)) Variants.none () Set.univ := fun t => by
  rw [bigSep_W0, bigSep_W0, defs₀_row]
  exact triple_restated (sound_body m P hb c t) rfl .rfl fun _ => .rfl

theorem ins_sub : ins ⊆ Pipeline.restRefs sig spec0 := by decide

set_option backward.isDefEq.respectTransparency.types false in
theorem run_main (hb : BodyRuns m P) : θ_run defs (onTc (τ := τ) (main (F := F))) (s₀ m ρ)
    (fun r => (∀ c : Dev nD, (∀ w, r.2.mem ((spec0 w).arr.view.loc (c : Thread nD τ)) = V m c (Pipeline.arrRef spec0 w))
      ∧ (∀ b ∈ ins, r.2.mem ((c : Thread nD τ).loc b) = V m c b) ∧ P c (r.2.mem ((c : Thread nD τ).loc main_v0_0))) ∧ r.2.sem = fun _ => 0) :=
  Pipeline.θ_run_region_kit_quiescent cfgs (dats m P) () (0 : Fin 1) launch0 osemFacts embL defs₀ Variants.none m ρ main
    (hbody := fun c => (body_obligation m P hb c).loose) (hshare := fun c => (dats m P 0 c).share_full fun _ => rfl) (howed := fun _ _ => rfl)
    (G := fun _ => iprop(emp)) (u₀ := (initOf (cells cfgs cellOf_inj) (launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := Pipeline.hmain_region cfgs 0 defs₀ Variants.none m main fun c => (main_chain c).trans rfl) (hA := A_eq m P)
    (X := fun c => iprop(held m c (fun _ => True) ∗ Pipeline.ownSems0 osem c ∗ ∃ r, prngReg c r))
    (Y := fun c => held m c (P c))
    (Z := fun c => iprop(emp))
    (hX := fun c => by
      unfold held
      iintro ⟨HR, Hos, -, Hp, -⟩; imodintro
      isplitl [HR Hos Hp]
      · isplitl [HR]
        · iexists (V m c); isplitr; · ipureintro; exact ⟨fun _ _ => rfl, trivial⟩
          iexact HR
        isplitl [Hos]; · iexact Hos
        iexists _; iexact Hp
      · iempintro)
    (hin := fun c => by
      show _ ⊢ Ph m c _
      unfold Ph
      iintro ⟨⟨HR, Hos, Hp⟩, Hr⟩
      isplitl [HR]; · iapply (held_mono m c (fun _ => True) _ (fun _ _ h => absurd rfl h)); iexact HR
      isplitl [Hos]; · iexact Hos
      isplitl [Hr] <;> iassumption)
    (hout := fun c => by
      show Ph m c _ ⊢ _
      unfold Ph
      iintro ⟨HR, Hos, Hr, Hp⟩
      isplitl [HR]; · iapply (held_mono m c (fun f => Fin.last cfg0.N ≠ 0 → P c f) (P c) (fun _ h => h (by decide))); iexact HR
      isplitl [Hos] <;> iassumption)
    (QY := fun c s => (∀ b ∈ ins, s.mem ((c : Thread nD τ).loc b) = V m c b) ∧ P c (s.mem ((c : Thread nD τ).loc main_v0_0)))
    (hY := fun c s' => by
      unfold held Pipeline.unscopedRest
      iintro ⟨⟨%Y, %hY, HR⟩, -, HSI⟩
      ihave H := (pointsTo_read_all (Pipeline.restRefs sig spec0) (fun b => (c : Thread nD τ).loc b) Y s') $$ [HR HSI]
      · isplitl [HR] <;> iassumption
      icases H with ⟨%hR, HSI⟩
      imodintro
      isplitr
      · ipureintro
        exact ⟨fun b hb => (hR b (ins_sub hb)).trans (hY.1 b hb), by rw [hR main_v0_0 (by decide)]; exact hY.2⟩
      iexact HSI)
    (hQ := fun s h hz => ⟨fun c => ⟨fun w => ((h c).1 w).trans (by
      rw [show (dats m P 0 c).arrAt w cfg0.N = (dats m P 0 c).A w from (dats m P 0 c).arrAt_in w (in_all w) _]; exact A_eq m P c w), (h c).2⟩, hz⟩)

/-- The run: every argument as launched, the first result as `P` says, every semaphore at zero. -/
theorem run_post (hb : BodyRuns m P) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ P c (r.2.mem ((c.tc : Thread nD τ).loc main_v0_0)))
      ∧ r.2.sem = fun _ => 0) :=
  (θ_run defs _ _).mono (fun r h => ⟨fun c => ⟨⟨(h.1 c).2.1 main_arg0 (by decide), (h.1 c).2.1 main_arg1 (by decide), (h.1 c).2.1 main_arg2 (by decide),
    (h.1 c).1 0, (h.1 c).1 1, (h.1 c).2.1 main_arg5 (by decide), (h.1 c).2.1 main_arg6 (by decide), (h.1 c).2.1 main_arg7 (by decide),
    (h.1 c).2.1 main_arg8 (by decide)⟩, (h.1 c).2.2⟩, h.2⟩) (run_main m ρ P hb)

end Cert.KernelIdeal.Hand

end
-- ==== Proof.KFrame.lean ====
module

public import proofs.«01_k».proof.Proof.KBody
public import proofs.«01_k».proof.Proof.KLaunch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (m : (ℓ : Loc nD τ sig) → Buf (Elt F) ℓ) (ρ : Dev nD → PrngReg)

/-- The body runs from what the launch gives it. -/
theorem body_runs : BodyRuns m (fun _ _ => True) := fun c t d0 d1 W _ _ =>
  body_run c _ _ _ _ _ _ _ (st0 t) (hstage0_0 0) (st1' t) (hstage0_1 0) d0 d1 (fun _ _ => True) (fun _ _ _ _ _ _ _ => True) _
    { del := fun _ _ _ _ _ _ _ _ _ _ _ _ _ _ => trivial
      step := fun _ _ _ _ _ _ _ _ _ _ _ _ _ _ _ _ _ _ _ => trivial
      init := by intros; trivial
      fin0 := by intros; trivial
      fin1 := by intros; trivial } W

/-- Every weakly fair run ends, with the arguments as launched and every semaphore at zero. -/
theorem frame : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)))
      ∧ r.2.sem = fun _ => 0) :=
  (θ_run defs _ _).mono (fun r h => ⟨fun c => (h.1 c).1, h.2⟩) (run_post m ρ _ (body_runs m))

end Cert.KernelIdeal.Hand

end
-- ==== Proof.KAt.lean ====
/-
  The stored vectors at an index, over the extended reals.
-/
module

public import proofs.«01_k».proof.Proof.KVal
public import Idealize.ShloMosaic.PureOps.Ideal
public import Idealize.ShloMosaic.Lib.Pointwise
public import Idealize.ShloMosaic.Lib.WritesUnit

@[expose] public section

noncomputable section

namespace Cert.KernelIdeal.Hand

open Cert.KernelIdeal Cert.KernelIdeal.Gen
open Idealize.ShloMosaic Idealize.ShloMosaic.TcCoe
open scoped BigOperators

/-- The diagonal mask at an index. -/
theorem diagMask_at (r l : Fin 128) : diagMask (ix2 r l) = BitVec.ofBool (decide (r = l)) := by
  have h : diagMask (ix2 r l) = IntOp.cmpi .eq (BitVec.ofNat 32 r.val) (BitVec.ofNat 32 l.val) := by
    pointwise [diagMask]
  rw [h]
  show BitVec.ofBool (BitVec.ofNat 32 r.val == BitVec.ofNat 32 l.val) = _
  congr 1
  by_cases e : r = l
  · subst e; simp
  · have : BitVec.ofNat 32 r.val ≠ BitVec.ofNat 32 l.val := fun q => e (Fin.ext (by
      have := congrArg BitVec.toNat q; simp only [BitVec.toNat_ofNat] at this; have := r.isLt; have := l.isLt; omega))
    simp [this, e]

theorem colVec_at (pb rb : FVec Ideal S128x128 .f32) (l : Fin 128) :
    colVec pb rb (ix2 0 l) = ((∑ k : Fin 128, pb (ix2 l k)) + rb (ix2 l l) : EReal) := by
  have h : colVec pb rb (ix2 0 l) = ∑ r : Fin 128, (if diagMask (ix2 r l) = 1#1 then ((∑ k : Fin 128, pb (ix2 r k)) + rb (ix2 r l) : EReal) else 0) := by
    pointwise [colVec]
    rfl
  rw [h]
  simp only [diagMask_at]
  rw [Finset.sum_eq_single l]
  · simp
  · intro b _ hb; simp [hb]
  · intro h; exact absurd (Finset.mem_univ _) h

theorem unitV_at (v211 v212 : IVec S6x128 32) (b p ln r : BitVec 32) (ws bias : Ideal .f32) (pb rb : FVec Ideal S128x128 .f32) (sc : FVec Ideal S6x128 .f32)
    (b' : Fin 6) (l : Fin 128) :
    unitV v211 v212 b p ln r ws bias pb rb sc (ix2 b' l)
      = if laneMask v211 v212 b p ln r (ix2 b' l) = 1#1 then (((∑ k : Fin 128, pb (ix2 l k)) + rb (ix2 l l)) * sc (ix2 b' l) * ws + bias : EReal) else 0 := by
  have h : unitV v211 v212 b p ln r ws bias pb rb sc (ix2 b' l)
      = if laneMask v211 v212 b p ln r (ix2 b' l) = 1#1 then (colVec pb rb (ix2 0 l) * sc (ix2 b' l) * ws + bias : EReal) else 0 := by
    pointwise [unitV]
    rfl
  rw [h, colVec_at]

/-- The buffers' elements as numbers. -/
abbrev at2 (f : cc0_scratch2.ty.Contents (Elt Ideal)) (s : Fin 4) (r : Fin 512) (d : Fin 8192) : EReal := f (ix3 s r d)
abbrev at4 (f : cc0_scratch4.ty.Contents (Elt Ideal)) (r : Fin 128) (d : Fin 6144) : EReal := f (ix2 r d)
abbrev at5 (f : cc0_scratch5.ty.Contents (Elt Ideal)) (r : Fin 8) (d : Fin 2048) : EReal := f (ix2 r d)
abbrev at6 (f : cc0_scratch6.ty.Contents (Elt Ideal)) (r : Fin 512) (d : Fin 128) : EReal := f (ix2 r d)
abbrev at7 (f : cc0_scratch7.ty.Contents (Elt Ideal)) (r : Fin 512) (d : Fin 128) : EReal := f (ix2 r d)
abbrev at8 (f : cc0_scratch8.ty.Contents (Elt Ideal)) (r : Fin 6) (d : Fin 6144) : EReal := f (ix2 r d)
abbrev at11 (f : cc0_scratch11.ty.Contents (Elt Ideal)) (r : Fin 6) (d : Fin 6144) : EReal := f (ix2 r d)

/-- What a load at unit strides reads, at an index. -/
theorem readAt_pt (b : Ref sig .tc) {F : FTy → Type} (off size : Fin b.ty.shape.rank → ℕ) (inb) (f : b.ty.Contents (Elt F))
    (x : (Rect.unit (s := b.ty.shape) off size inb).toLoadRect.shape.Idx) (y : b.ty.shape.Idx) (h : ∀ a, (y a).val = off a + (x a).val) :
    View.readAt (Elt F) (Memref.whole b).view (Rect.unit (s := b.ty.shape) off size inb).toLoadRect f x = f y := by
  rw [View.readAt_apply]
  show f _ = f y
  congr 1
  funext a; apply Fin.ext
  rw [h a]
  show off a + 1 * (x a).val = _
  rw [Nat.one_mul]

/-- 512 by 128 from 1536 columns. -/
theorem mmG_at (A : FVec Ideal S1x512x1536 .fp8e4m3) (B : FVec Ideal S128x1536 .fp8e4m3) (r : Fin 512) (l : Fin 128) :
    matmul dot_S512x1536_S128x1536_S512x128_1_1_0_0_n_n none (shapeCast S512x1536 A shapeCasts_S1x512x1536_S512x1536) B
      (constant S512x128 .f32 0x00000000#32) (ix2 r l) = (∑ d : Fin 1536, A (ix3 0 r d) * B (ix2 l d) : EReal) := by
  pointwise

/-- 128 rows and columns, elementwise. -/
theorem ptermG_at (A : FVec Ideal S1x128x128 .fp8e4m3) (B : FVec Ideal S8x128 .f32) (i : Fin 16) (j : Fin 8) (l : Fin 128) :
    mulf (shapeCast S16x8x128 (extf .f32 (shapeCast S128x128 A shapeCasts_S1x128x128_S128x128 : FVec Ideal S128x128 .fp8e4m3) bitsLt_fp8e4m3_f32) shapeCasts_S128x128_S16x8x128)
      (broadcastTo S16x8x128 (shapeCast S1x8x128 B shapeCasts_S8x128_S1x8x128) broadcasts_S1x8x128_S16x8x128) (ix3 i j l)
    = (A (ix3 0 ⟨8 * i.val + j.val, by have := i.isLt; have := j.isLt; omega⟩ l) * B (ix2 j l) : EReal) := by
  pointwise
  congr 3
  exact Fin.ext (by show i.val * 8 + j.val = 8 * i.val + j.val; omega)

/-- The cast back to 128 rows. -/
theorem pcast_at (A : FVec Ideal S16x8x128 .f32) (r l : Fin 128) :
    shapeCast S128x128 (shapeCast S128x128 A shapeCasts_S16x8x128_S128x128) shapeCasts_S128x128_S128x128 (ix2 r l)
      = A (ix3 ⟨r.val / 8, by have := r.isLt; omega⟩ ⟨r.val % 8, Nat.mod_lt _ (by decide)⟩ l) := by
  pointwise

section
variable {sig' : RefSig} {κ' : Kind} {sp : Space} {e : EltTy} (v : View sig' κ' sp S512x128 e) {Val : EltTy → Type} (f : v.ty.Contents Val)
/-- A store over the whole of a 512 by 128 buffer, read at an index. -/
theorem whole_at (inb) (U : S512x128.Idx → Val e) (r : Fin 512) (l : Fin 128) :
    v.read Val (v.writes Val f [⟨Rect.unit (s := S512x128) ![0, 0] S512x128.size inb, U⟩]) (ix2 r l) = U (ix2 r l) :=
  View.read_writes_cons_rows_of_mem v f _ U [] (ix2 r l) (ix2 r l) rfl (Nat.zero_add _).symm rfl

/-- Four stores of 128 rows each, read at an index. -/
theorem rows_at (U : Fin 4 → S128x128.Idx → Val e) (q : Fin 4) (r l : Fin 128) :
    v.read Val (v.writes Val f [⟨Rect.unit (s := S512x128) ![128 * (3 : Fin 4).val, 0] S128x128.size (rowBlk_inb 3), U 3⟩,
      ⟨Rect.unit (s := S512x128) ![128 * (2 : Fin 4).val, 0] S128x128.size (rowBlk_inb 2), U 2⟩,
      ⟨Rect.unit (s := S512x128) ![128 * (1 : Fin 4).val, 0] S128x128.size (rowBlk_inb 1), U 1⟩,
      ⟨Rect.unit (s := S512x128) ![128 * (0 : Fin 4).val, 0] S128x128.size (rowBlk_inb 0), U 0⟩]) (ix2 (⟨128 * q.val + r.val, by have := q.isLt; have := r.isLt; omega⟩ : Fin 512) l) = U q (ix2 r l) := by
  have hr := r.isLt
  have miss : ∀ (q' : Fin 4) (w) (L) (hne : q' ≠ q), v.read Val (v.writes Val f
      ((⟨Rect.unit (s := S512x128) ![128 * q'.val, 0] S128x128.size (rowBlk_inb q'), w⟩ : View.Piece Val S512x128 e) :: L)) (ix2 (⟨128 * q.val + r.val, by have := q.isLt; have := r.isLt; omega⟩ : Fin 512) l)
      = v.read Val (v.writes Val f L) (ix2 (⟨128 * q.val + r.val, by have := q.isLt; have := r.isLt; omega⟩ : Fin 512) l) :=
    fun q' w L hne => View.read_writes_cons_rows_of_not_mem v f _ w L _ (o := 128 * q'.val) (W := 128) rfl rfl (by
      have h := fun e => hne (Fin.ext e)
      show 128 * q.val + r.val < 128 * q'.val ∨ 128 * q'.val + 128 ≤ 128 * q.val + r.val
      omega)
  have hit : ∀ (w) (L), v.read Val (v.writes Val f
      ((⟨Rect.unit (s := S512x128) ![128 * q.val, 0] S128x128.size (rowBlk_inb q), w⟩ : View.Piece Val S512x128 e) :: L)) (ix2 (⟨128 * q.val + r.val, by have := q.isLt; have := r.isLt; omega⟩ : Fin 512) l) = w (ix2 r l) :=
    fun w L => View.read_writes_cons_rows_of_mem v f _ w L _ (ix2 r l) rfl rfl rfl
  by_cases h3 : (3 : Fin 4) = q
  · subst h3; exact hit _ _
  rw [miss 3 _ _ h3]
  by_cases h2 : (2 : Fin 4) = q
  · subst h2; exact hit _ _
  rw [miss 2 _ _ h2]
  by_cases h1 : (1 : Fin 4) = q
  · subst h1; exact hit _ _
  rw [miss 1 _ _ h1]
  have h0 : (0 : Fin 4) = q := by
    apply Fin.ext; have := q.isLt
    have a3 := fun e => h3 (Fin.ext e); have a2 := fun e => h2 (Fin.ext e); have a1 := fun e => h1 (Fin.ext e)
    simp at a1 a2 a3 ⊢; omega
  subst h0; exact hit _ _
end

section
variable (s : ℕ) (hs : s < 4) (f16 : cc0_scratch4.ty.Contents (Elt Ideal)) (f17 : cc0_scratch5.ty.Contents (Elt Ideal)) (fr : cc0_scratch2.ty.Contents (Elt Ideal))

theorem mm_at (k : Fin 4) (r : Fin 512) (l : Fin 128) :
    mm s hs f16 fr k (ix2 r l) = ∑ d : Fin 1536, at2 fr ⟨s, hs⟩ r (⟨1536 * k.val + d.val, by have := k.isLt; have := d.isLt; omega⟩ : Fin 8192)
      * at4 f16 l (⟨1536 * k.val + d.val, by have := k.isLt; have := d.isLt; omega⟩ : Fin 6144) := by
  unfold mm
  rw [mmG_at]
  refine Finset.sum_congr rfl fun d _ => ?_
  rw [readAt_pt cc0_scratch2 _ _ _ fr _ (ix3 (⟨s, hs⟩ : Fin 4) r (⟨1536 * k.val + d.val, by have := k.isLt; have := d.isLt; omega⟩ : Fin 8192)) (by
      intro a; fin_cases a
      · rfl
      · exact (Nat.zero_add _).symm
      · rfl),
    readAt_pt cc0_scratch4 _ _ _ f16 _ (ix2 l (⟨1536 * k.val + d.val, by have := k.isLt; have := d.isLt; omega⟩ : Fin 6144)) (by
      intro a; fin_cases a
      · exact (Nat.zero_add _).symm
      · rfl)]

theorem pterm_at (q : Fin 4) (n : Fin 16) (i : Fin 16) (j : Fin 8) (l : Fin 128) :
    pterm s hs f17 fr q n (ix3 i j l) = at2 fr ⟨s, hs⟩ (⟨128 * q.val + (8 * i.val + j.val), by have := q.isLt; have := i.isLt; have := j.isLt; omega⟩ : Fin 512)
        (⟨6144 + 128 * n.val + l.val, by have := n.isLt; have := l.isLt; omega⟩ : Fin 8192)
      * at5 f17 j (⟨128 * n.val + l.val, by have := n.isLt; have := l.isLt; omega⟩ : Fin 2048) := by
  unfold pterm
  rw [ptermG_at]
  rw [readAt_pt cc0_scratch2 _ _ _ fr _ (ix3 (⟨s, hs⟩ : Fin 4) (⟨128 * q.val + (8 * i.val + j.val), by have := q.isLt; have := i.isLt; have := j.isLt; omega⟩ : Fin 512)
        (⟨6144 + 128 * n.val + l.val, by have := n.isLt; have := l.isLt; omega⟩ : Fin 8192)) (by
      intro a; fin_cases a <;> rfl),
    readAt_pt cc0_scratch5 _ _ _ f17 _ (ix2 j (⟨128 * n.val + l.val, by have := n.isLt; have := l.isLt; omega⟩ : Fin 2048)) (by
      intro a; fin_cases a
      · exact (Nat.zero_add _).symm
      · rfl)]

theorem pacc_at (q : Fin 4) (i : Fin 16) (j : Fin 8) (l : Fin 128) : ∀ (N : ℕ) (h : N ≤ 16),
    (pacc s hs f17 fr q N h (ix3 i j l) : EReal) = ∑ n : Fin N, (pterm s hs f17 fr q ⟨n.val, lt_of_lt_of_le n.isLt h⟩ (ix3 i j l) : EReal)
  | 0, _ => by
    rw [Fin.sum_univ_zero]; show (broadcast S16x8x128 (zeroF (F := Ideal)) (ix3 i j l) : EReal) = 0
    pointwise
  | N + 1, h => by
    rw [Fin.sum_univ_castSucc]
    refine Eq.trans ?_ (congrArg (· + _) (pacc_at q i j l N (Nat.le_of_succ_le h)))
    show (addf (pacc s hs f17 fr q N (Nat.le_of_succ_le h)) (pterm s hs f17 fr q ⟨N, h⟩) (ix3 i j l) : EReal) = _
    pointwise
    rfl

/-- The products' buffer after the trip. -/
theorem rbNew_at (f18 : cc0_scratch6.ty.Contents (Elt Ideal)) (r : Fin 512) (l : Fin 128) :
    at6 (rbNew s hs f16 fr f18) r l = ∑ k : Fin 4, ∑ d : Fin 1536, at2 fr ⟨s, hs⟩ r (⟨1536 * k.val + d.val, by have := k.isLt; have := d.isLt; omega⟩ : Fin 8192)
      * at4 f16 l (⟨1536 * k.val + d.val, by have := k.isLt; have := d.isLt; omega⟩ : Fin 6144) := by
  have h : at6 (rbNew s hs f16 fr f18) r l = rbVec s hs f16 fr (ix2 r l) := by
    show (Memref.whole cc0_scratch6).view.read (Elt Ideal) (rbNew s hs f16 fr f18) (ix2 r l) = _
    exact whole_at (Val := Elt Ideal) (e := .f32) (Memref.whole cc0_scratch6).view f18 _ (rbVec s hs f16 fr) r l
  rw [h, Fin.sum_univ_four]
  rw [← mm_at s hs f16 fr 0, ← mm_at s hs f16 fr 1, ← mm_at s hs f16 fr 2, ← mm_at s hs f16 fr 3]
  unfold rbVec
  generalize mm s hs f16 fr 0 = A0; generalize mm s hs f16 fr 1 = A1; generalize mm s hs f16 fr 2 = A2; generalize mm s hs f16 fr 3 = A3
  pointwise

theorem pbVec_at (q : Fin 4) (r l : Fin 128) :
    (pbVec s hs f17 fr q (ix2 r l) : EReal) = ∑ n : Fin 16, at2 fr ⟨s, hs⟩ (⟨128 * q.val + r.val, by have := q.isLt; have := r.isLt; omega⟩ : Fin 512)
        (⟨6144 + 128 * n.val + l.val, by have := n.isLt; have := l.isLt; omega⟩ : Fin 8192)
      * at5 f17 ⟨r.val % 8, Nat.mod_lt _ (by decide)⟩ (⟨128 * n.val + l.val, by have := n.isLt; have := l.isLt; omega⟩ : Fin 2048) := by
  unfold pbVec
  rw [pcast_at, pacc_at]
  refine Finset.sum_congr rfl fun n _ => ?_
  rw [pterm_at]
  congr 3
  show 128 * q.val + (8 * (r.val / 8) + r.val % 8) = 128 * q.val + r.val
  omega

theorem pbNew_at (f19 : cc0_scratch7.ty.Contents (Elt Ideal)) (q : Fin 4) (r l : Fin 128) :
    at7 (pbNew s hs f17 fr f19) (⟨128 * q.val + r.val, by have := q.isLt; have := r.isLt; omega⟩ : Fin 512) l = (pbVec s hs f17 fr q (ix2 r l) : EReal) := by
  show (Memref.whole cc0_scratch7).view.read (Elt Ideal) (pbNew s hs f17 fr f19) (ix2 (⟨128 * q.val + r.val, by have := q.isLt; have := r.isLt; omega⟩ : Fin 512) l) = _
  exact rows_at (Val := Elt Ideal) (e := .f32) (Memref.whole cc0_scratch7).view f19 (pbVec s hs f17 fr) q r l

/-- The two buffers together hold the whole products. -/
theorem dot_new (f18 : cc0_scratch6.ty.Contents (Elt Ideal)) (f19 : cc0_scratch7.ty.Contents (Elt Ideal)) (w h : Fin 8192 → EReal)
    (h16 : ∀ r d, at4 f16 r d = w ⟨d.val, by have := d.isLt; omega⟩) (h17 : ∀ j d, at5 f17 j d = w ⟨6144 + d.val, by have := d.isLt; omega⟩)
    (R : Fin 512) (hfr : ∀ d, at2 fr ⟨s, hs⟩ R d = h d) (l' : Fin 128) :
    (∑ l : Fin 128, at7 (pbNew s hs f17 fr f19) R l) + at6 (rbNew s hs f16 fr f18) R l' = ∑ d : Fin 8192, h d * w d := by
  obtain ⟨q, r, hR⟩ : ∃ (q : Fin 4) (r : Fin 128), R = (⟨128 * q.val + r.val, by have := q.isLt; have := r.isLt; omega⟩ : Fin 512) :=
    ⟨⟨R.val / 128, by have := R.isLt; omega⟩, ⟨R.val % 128, Nat.mod_lt _ (by decide)⟩, Fin.ext (by show R.val = 128 * (R.val / 128) + R.val % 128; omega)⟩
  rw [rbNew_at]
  subst hR
  simp only [pbNew_at, pbVec_at, h16, h17, hfr]
  have e1 : (∑ l : Fin 128, ∑ n : Fin 16, h ⟨6144 + 128 * n.val + l.val, by have := n.isLt; have := l.isLt; omega⟩ * w ⟨6144 + (128 * n.val + l.val), by have := n.isLt; have := l.isLt; omega⟩)
      = ∑ d : Fin 2048, h ⟨6144 + d.val, by have := d.isLt; omega⟩ * w ⟨6144 + d.val, by have := d.isLt; omega⟩ := by
    rw [Finset.sum_comm, ← Fintype.sum_prod_type', ← Equiv.sum_comp (finProdFinEquiv (m := 16) (n := 128))]
    refine Finset.sum_congr rfl fun x _ => ?_
    have : (finProdFinEquiv x : Fin (16 * 128)).val = x.2.val + 128 * x.1.val := rfl
    congr 2 <;> apply Fin.ext <;> simp only [this] <;> omega
  have e2 : (∑ k : Fin 4, ∑ d : Fin 1536, h ⟨1536 * k.val + d.val, by have := k.isLt; have := d.isLt; omega⟩ * w ⟨1536 * k.val + d.val, by have := k.isLt; have := d.isLt; omega⟩)
      = ∑ d : Fin 6144, h ⟨d.val, by have := d.isLt; omega⟩ * w ⟨d.val, by have := d.isLt; omega⟩ := by
    rw [← Fintype.sum_prod_type', ← Equiv.sum_comp (finProdFinEquiv (m := 4) (n := 1536))]
    refine Finset.sum_congr rfl fun x _ => ?_
    have : (finProdFinEquiv x : Fin (4 * 1536)).val = x.2.val + 1536 * x.1.val := rfl
    congr 2 <;> apply Fin.ext <;> simp only [this] <;> omega
  rw [e1, e2, add_comm]
  exact (Fin.sum_univ_add (a := 6144) (b := 2048) (fun d : Fin (6144 + 2048) => h d * w d)).symm
end
end Cert.KernelIdeal.Hand
end
-- ==== Proof.KAt2.lean ====
/-
  What the stores of a chunk's values leave, at an index, over the extended reals.
-/
module

public import proofs.«01_k».proof.Proof.KAt

@[expose] public section

noncomputable section

namespace Cert.KernelIdeal.Hand

open Cert.KernelIdeal Cert.KernelIdeal.Gen
open Idealize.ShloMosaic Idealize.ShloMosaic.TcCoe
open scoped BigOperators

abbrev iot0 : IVec S6x128 32 := iota .tc S6x128 32 [0] iota_S6x128_d0_w32
abbrev iot1 : IVec S6x128 32 := iota .tc S6x128 32 [1] iota_S6x128_d1_w32

/-- The lane mask at an index. -/
theorem laneMask_at (b p ln r : BitVec 32) (hb : b.toNat < 6) (hp : p.toNat < 12) (hr : r.toNat ≤ 384) (hl : ln.toNat ≤ 6144) (b' : Fin 6) (l : Fin 128) :
    laneMask iot0 iot1 b p ln r (ix2 b' l) = 1#1 ↔ b'.val = b.toNat ∧ p.toNat * 512 + r.toNat + l.val < ln.toNat := by
  have h : laneMask iot0 iot1 b p ln r (ix2 b' l) = IntOp.andi (IntOp.cmpi .eq (BitVec.ofNat 32 b'.val) b)
      (IntOp.cmpi .slt (IntOp.addi (BitVec.ofNat 32 l.val) (Scalar.addi (Scalar.muli p 512#32) r)) ln) := by
    pointwise [laneMask]
  rw [h]
  have := l.isLt; have := b'.isLt
  have h0 : (Scalar.muli p 512#32).toNat = p.toNat * 512 := mulN (show p.toNat * 512 < _ by omega)
  have h1 : (Scalar.addi (Scalar.muli p 512#32) r).toNat = p.toNat * 512 + r.toNat := by rw [addN (by omega), h0]
  have hl0 : (BitVec.ofNat 32 l.val).toNat = l.val := by rw [BitVec.toNat_ofNat]; omega
  have h2 : (IntOp.addi (BitVec.ofNat 32 l.val) (Scalar.addi (Scalar.muli p 512#32) r)).toNat = p.toNat * 512 + r.toNat + l.val := by
    show (BitVec.ofNat 32 l.val + Scalar.addi (Scalar.muli p 512#32) r).toNat = _
    rw [BitVec.toNat_add, h1, hl0]; omega
  generalize hx : IntOp.addi (BitVec.ofNat 32 l.val) (Scalar.addi (Scalar.muli p 512#32) r) = x at h2
  have e1 : (IntOp.cmpi .eq (BitVec.ofNat 32 b'.val) b = 1#1) ↔ b'.val = b.toNat := by
    show BitVec.ofBool (BitVec.ofNat 32 b'.val == b) = 1#1 ↔ _
    rw [← BitVec.toNat_inj]
    constructor
    · intro h
      by_cases e : BitVec.ofNat 32 b'.val = b
      · rw [← e, BitVec.toNat_ofNat]; omega
      · simp [e] at h
    · intro h
      have e : BitVec.ofNat 32 b'.val = b := BitVec.eq_of_toNat_eq (by rw [BitVec.toNat_ofNat]; omega)
      simp [e]
  have e2 : (IntOp.cmpi .slt x ln = 1#1) ↔ p.toNat * 512 + r.toNat + l.val < ln.toNat := by
    have i1 := WordCmp.toInt_eq_toNat_of_lt_half (w := 32) (x := x) (by omega)
    have i2 := WordCmp.toInt_eq_toNat_of_lt_half (w := 32) (x := ln) (by omega)
    show BitVec.ofBool (x.slt ln) = 1#1 ↔ _
    have : x.slt ln = decide (p.toNat * 512 + r.toNat + l.val < ln.toNat) := by
      show decide (x.toInt < ln.toInt) = _
      rw [i1, i2, h2]; congr 1; apply propext; omega
    rw [this]
    by_cases hh : p.toNat * 512 + r.toNat + l.val < ln.toNat <;> simp [hh]
  rw [← e1, ← e2]
  generalize IntOp.cmpi .eq (BitVec.ofNat 32 b'.val) b = y
  generalize IntOp.cmpi .slt x ln = z
  unfold IntOp.andi
  revert y z; decide

section
variable {sig' : RefSig} {κ' : Kind} {sp : Space} {e : EltTy} (v : View sig' κ' sp S6x6144 e) {Val : EltTy → Type} (f : v.ty.Contents Val)
/-- A store of 128 columns, read at an index. -/
theorem cols_at (o : Fin 2 → ℕ) (o1 : ℕ) (ho1 : o = ![0, o1]) (inb) (w : S6x128.Idx → Val e) (L : List (View.Piece Val S6x6144 e)) (b : Fin 6) (t : Fin 6144) :
    v.read Val (v.writes Val f (⟨Rect.unit (s := S6x6144) o S6x128.size inb, w⟩ :: L)) (ix2 b t)
      = if h : o1 ≤ t.val ∧ t.val < o1 + 128 then w (ix2 b ⟨t.val - o1, by omega⟩) else v.read Val (v.writes Val f L) (ix2 b t) := by
  by_cases h : o1 ≤ t.val ∧ t.val < o1 + 128
  · rw [dif_pos h]
    exact View.read_writes_cons_unit_of_mem v f inb w L (ix2 b t) (ix2 b (⟨t.val - o1, by omega⟩ : Fin 128)) ho1
      (Fin.forall_fin_two.2 ⟨(Nat.zero_add _).symm, by show t.val = o1 + (t.val - o1); omega⟩)
  · rw [dif_neg h]
    exact View.read_writes_cons_unit_of_not_mem v f inb w L (ix2 b t) ho1 (1 : Fin 2) (by show t.val < o1 ∨ o1 + 128 ≤ t.val; omega)
end

section
variable (f : cc0_scratch11.ty.Contents (Elt Ideal))
/-- One of the four stores adds its values in its columns. -/
theorem addPiece_at (o : Fin 2 → ℕ) (o1 : ℕ) (ho1 : o = ![0, o1]) (ho : ∀ a, o a + S6x128.size a ≤ S6x6144.size a) (U : FVec Ideal S6x128 .f32)
    (L : List (View.Piece (Elt Ideal) S6x6144 .f32)) (b : Fin 6) (t : Fin 6144) :
    at11 ((Memref.whole cc0_scratch11).view.writes (Elt Ideal) f (addPiece o ho U ((Memref.whole cc0_scratch11).view.writes (Elt Ideal) f L) :: L)) b t
      = if h : o1 ≤ t.val ∧ t.val < o1 + 128 then at11 ((Memref.whole cc0_scratch11).view.writes (Elt Ideal) f L) b t + (U (ix2 b ⟨t.val - o1, by omega⟩) : EReal)
        else at11 ((Memref.whole cc0_scratch11).view.writes (Elt Ideal) f L) b t := by
  unfold addPiece
  refine (cols_at (Val := Elt Ideal) (e := .f32) (Memref.whole cc0_scratch11).view f o o1 ho1 _ _ L b t).trans ?_
  by_cases h : o1 ≤ t.val ∧ t.val < o1 + 128
  · rw [dif_pos h, dif_pos h]
    generalize hg : (Memref.whole cc0_scratch11).view.writes (Elt Ideal) f L = g
    have e := readAt_pt cc0_scratch11 o S6x128.size ho g (ix2 b (⟨t.val - o1, by omega⟩ : Fin 128)) (ix2 b t) (by
      subst ho1
      exact Fin.forall_fin_two.2 ⟨(Nat.zero_add _).symm, by show t.val = o1 + (t.val - o1); omega⟩)
    unfold at11
    rw [← e]
    generalize View.readAt (Elt Ideal) (Memref.whole cc0_scratch11).view (Rect.unit (s := S6x6144) o S6x128.size ho).toLoadRect g = A
    show (shapeCast S6x128 (addf (A : FVec Ideal S6x128 .f32) U) shapeCasts_S6x128_S6x128 (ix2 b (⟨t.val - o1, by omega⟩ : Fin 128)) : EReal) = _
    pointwise
  · rw [dif_neg h, dif_neg h]; rfl

/-- The four stores add the values in the chunk's columns. -/
theorem valsNew_at (o : Fin 4 → Fin 2 → ℕ) (ho : ∀ q a, o q a + S6x128.size a ≤ S6x6144.size a) (U : Fin 4 → FVec Ideal S6x128 .f32)
    (p : ℕ) (hop : ∀ q, o q = ![0, p * 512 + 128 * q.val]) (b : Fin 6) (t : Fin 6144) :
    at11 (valsNew o ho U f) b t = if p * 512 ≤ t.val ∧ t.val < p * 512 + 512
      then at11 f b t + (U ⟨t.val % 512 / 128, by omega⟩ (ix2 b ⟨t.val % 128, Nat.mod_lt _ (by decide)⟩) : EReal) else at11 f b t := by
  have e0 : at11 ((Memref.whole cc0_scratch11).view.writes (Elt Ideal) f []) b t = at11 f b t := rfl
  have q3 := addPiece_at f (o 3) _ (hop 3) (ho 3) (U 3) [] b t
  rw [e0] at q3
  have q2 := addPiece_at f (o 2) _ (hop 2) (ho 2) (U 2) (pc1 o ho U f) b t
  have q1 := addPiece_at f (o 1) _ (hop 1) (ho 1) (U 1) (pc2 o ho U f) b t
  have q0 := addPiece_at f (o 0) _ (hop 0) (ho 0) (U 0) (pc3 o ho U f) b t
  have r2 : at11 ((Memref.whole cc0_scratch11).view.writes (Elt Ideal) f (pc1 o ho U f)) b t = _ := q3
  have r1 : at11 ((Memref.whole cc0_scratch11).view.writes (Elt Ideal) f (pc2 o ho U f)) b t = _ := q2
  have r0 : at11 ((Memref.whole cc0_scratch11).view.writes (Elt Ideal) f (pc3 o ho U f)) b t = _ := q1
  have r : at11 (valsNew o ho U f) b t = _ := q0
  clear q0 q1 q2 q3
  have hU : ∀ (q : Fin 4) (x : ℕ) (hx : x < 128), t.val = p * 512 + 128 * q.val + x →
      (U q (ix2 b ⟨x, hx⟩) : EReal) = U ⟨t.val % 512 / 128, by omega⟩ (ix2 b ⟨t.val % 128, Nat.mod_lt _ (by decide)⟩) := by
    intro q x hx ht
    have h1 : q = ⟨t.val % 512 / 128, by omega⟩ := Fin.ext (by show q.val = t.val % 512 / 128; omega)
    have h2 : (⟨x, hx⟩ : Fin 128) = ⟨t.val % 128, Nat.mod_lt _ (by decide)⟩ := Fin.ext (by show x = t.val % 128; omega)
    rw [← h1, ← h2]
  have v0 : ((0 : Fin 4)).val = 0 := rfl
  have v1 : ((1 : Fin 4)).val = 1 := rfl
  have v2 : ((2 : Fin 4)).val = 2 := rfl
  have v3 : ((3 : Fin 4)).val = 3 := rfl
  rw [r, r0, r1, r2]
  by_cases hin : p * 512 ≤ t.val ∧ t.val < p * 512 + 512
  · rw [if_pos hin]
    by_cases h0 : p * 512 + 128 * (0 : Fin 4).val ≤ t.val ∧ t.val < p * 512 + 128 * (0 : Fin 4).val + 128
    · rw [dif_pos h0, dif_neg (by omega), dif_neg (by omega), dif_neg (by omega)]
      exact congrArg _ (hU 0 _ _ (by omega))
    rw [dif_neg h0]
    by_cases h1 : p * 512 + 128 * (1 : Fin 4).val ≤ t.val ∧ t.val < p * 512 + 128 * (1 : Fin 4).val + 128
    · rw [dif_pos h1, dif_neg (by omega), dif_neg (by omega)]
      exact congrArg _ (hU 1 _ _ (by omega))
    rw [dif_neg h1]
    by_cases h2 : p * 512 + 128 * (2 : Fin 4).val ≤ t.val ∧ t.val < p * 512 + 128 * (2 : Fin 4).val + 128
    · rw [dif_pos h2, dif_neg (by omega)]
      exact congrArg _ (hU 2 _ _ (by omega))
    rw [dif_neg h2, dif_pos (by omega)]
    exact congrArg _ (hU 3 _ _ (by omega))
  · rw [if_neg hin, dif_neg (by omega), dif_neg (by omega), dif_neg (by omega), dif_neg (by omega)]
end
end Cert.KernelIdeal.Hand
end
-- ==== Proof.KInv.lean ====
/-
  The invariant of the second loop, over the extended reals, and its upkeep by one trip.
-/
module

public import proofs.«01_k».proof.Proof.KAt2
public import proofs.«01_k».proof.Proof.KLoop2
public import Idealize.ShloMosaic.Lib.ValueLayout

@[expose] public section

noncomputable section

namespace Cert.KernelIdeal.Hand

open Cert.KernelIdeal Cert.KernelIdeal.Gen
open Idealize.ShloMosaic Idealize.ShloMosaic.TcCoe
open scoped BigOperators

variable (v14 v17 v20 v23 v26 v29 : BitVec 32)

/-- The chunk that holds token `t` of sequence `b`. -/
def ck (b : Fin 6) (t : ℕ) : ℕ := endB v14 v17 v20 v23 v26 v29 b - 1 - t / 512

theorem ck_spec (b : Fin 6) (t : ℕ) (ht : t < lenB v14 v17 v20 v23 v26 v29 b) :
    endB v14 v17 v20 v23 v26 v29 b - chB v14 v17 v20 v23 v26 v29 b ≤ ck v14 v17 v20 v23 v26 v29 b t ∧ ck v14 v17 v20 v23 v26 v29 b t < endB v14 v17 v20 v23 v26 v29 b ∧ t / 512 + 1 + ck v14 v17 v20 v23 v26 v29 b t = endB v14 v17 v20 v23 v26 v29 b ∧ ck v14 v17 v20 v23 v26 v29 b t < totN v14 v17 v20 v23 v26 v29 := by
  have h1 := chB_eq v14 v17 v20 v23 v26 v29 b
  have h2 := chB_le v14 v17 v20 v23 v26 v29 b
  have h3 := endB_le v14 v17 v20 v23 v26 v29 b
  unfold ck
  omega

/-- A chunk belongs to one sequence. -/
theorem chunk_uniq (b b' : Fin 6) (i : ℕ) (h1 : endB v14 v17 v20 v23 v26 v29 b - chB v14 v17 v20 v23 v26 v29 b ≤ i) (h2 : i < endB v14 v17 v20 v23 v26 v29 b) (h1' : endB v14 v17 v20 v23 v26 v29 b' - chB v14 v17 v20 v23 v26 v29 b' ≤ i) (h2' : i < endB v14 v17 v20 v23 v26 v29 b') : b = b' := by
  fin_cases b <;> fin_cases b' <;> first | rfl | (exfalso; simp [endB, chB] at h1 h2 h1' h2'; omega)

/-- The tokens of a chunk, by its sequence, its position and its length. -/
theorem ck_iff (I : BitVec 32) (hI : I.toNat < totN v14 v17 v20 v23 v26 v29) (b : Fin 6) (t : Fin 6144) :
    (t.val < lenB v14 v17 v20 v23 v26 v29 b ∧ ck v14 v17 v20 v23 v26 v29 b t.val = I.toNat) ↔
      (((posW v14 v17 v20 v23 v26 v29 I).toNat * 512 ≤ t.val ∧ t.val < (posW v14 v17 v20 v23 v26 v29 I).toNat * 512 + 512) ∧ b.val = (seqW v14 v17 v20 v23 v26 I).toNat ∧ t.val < (lenW v14 v17 v20 v23 v26 v29 I).toNat) := by
  obtain ⟨b0, h1, h2, hS, hL, hp, hlt, hr⟩ := chunk_spec v14 v17 v20 v23 v26 v29 I hI
  rw [hS, hL, hp]
  constructor
  · rintro ⟨ht, hc⟩
    obtain ⟨c1, c2, c3, c4⟩ := ck_spec v14 v17 v20 v23 v26 v29 b t.val ht
    rw [hc] at c1 c2 c3
    obtain rfl := chunk_uniq v14 v17 v20 v23 v26 v29 b b0 I.toNat c1 c2 h1 h2
    exact ⟨⟨by omega, by omega⟩, rfl, ht⟩
  · rintro ⟨⟨ha, hb⟩, hbb, ht⟩
    obtain rfl : b = b0 := Fin.ext hbb
    refine ⟨ht, ?_⟩
    unfold ck; omega

section
variable (ws bias : Ideal .f32) (o : Fin 4 → Fin 2 → ℕ) (ho : ∀ q a, o q a + S6x128.size a ≤ S6x6144.size a)
  (f18 : cc0_scratch6.ty.Contents (Elt Ideal)) (f19 : cc0_scratch7.ty.Contents (Elt Ideal)) (f20 : cc0_scratch8.ty.Contents (Elt Ideal)) (f23 : cc0_scratch11.ty.Contents (Elt Ideal))

/-- One row of values at an index, from the buffers. -/
theorem unitsV_at (b p ln : BitVec 32) (p' : ℕ) (hop : ∀ q, o q = ![0, p' * 512 + 128 * q.val]) (q : Fin 4) (b' : Fin 6) (l : Fin 128) (t : Fin 6144) (ht : t.val = p' * 512 + 128 * q.val + l.val) :
    unitsV iot0 iot1 b p ln ws bias o ho f18 f19 f20 q (ix2 b' l)
      = if laneMask iot0 iot1 b p ln (BitVec.ofNat 32 (128 * q.val)) (ix2 b' l) = 1#1
        then (((∑ k : Fin 128, at7 f19 ⟨128 * q.val + l.val, by have := q.isLt; have := l.isLt; omega⟩ k) + at6 f18 ⟨128 * q.val + l.val, by have := q.isLt; have := l.isLt; omega⟩ l) * at8 f20 b' t * ws + bias : EReal) else 0 := by
  unfold unitsV
  rw [unitV_at]
  have e7 : ∀ k : Fin 128, View.readAt (Elt Ideal) (Memref.whole cc0_scratch7).view (Rect.unit (s := S512x128) ![128 * q.val, 0] S128x128.size (rowBlk_inb q)).toLoadRect f19 (ix2 l k)
      = f19 (ix2 (⟨128 * q.val + l.val, by have := q.isLt; have := l.isLt; omega⟩ : Fin 512) k) := fun k =>
    readAt_pt cc0_scratch7 ![128 * q.val, 0] S128x128.size (rowBlk_inb q) f19 (ix2 l k) (ix2 (⟨128 * q.val + l.val, by have := q.isLt; have := l.isLt; omega⟩ : Fin 512) k)
      (Fin.forall_fin_two.2 ⟨rfl, (Nat.zero_add _).symm⟩)
  have e6 : View.readAt (Elt Ideal) (Memref.whole cc0_scratch6).view (Rect.unit (s := S512x128) ![128 * q.val, 0] S128x128.size (rowBlk_inb q)).toLoadRect f18 (ix2 l l)
      = f18 (ix2 (⟨128 * q.val + l.val, by have := q.isLt; have := l.isLt; omega⟩ : Fin 512) l) :=
    readAt_pt cc0_scratch6 ![128 * q.val, 0] S128x128.size (rowBlk_inb q) f18 (ix2 l l) (ix2 (⟨128 * q.val + l.val, by have := q.isLt; have := l.isLt; omega⟩ : Fin 512) l)
      (Fin.forall_fin_two.2 ⟨rfl, (Nat.zero_add _).symm⟩)
  have e8 : View.readAt (Elt Ideal) (Memref.whole cc0_scratch8).view (Rect.unit (s := S6x6144) (o q) S6x128.size (ho q)).toLoadRect f20 (ix2 b' l) = f20 (ix2 b' t) :=
    readAt_pt cc0_scratch8 (o q) S6x128.size (ho q) f20 (ix2 b' l) (ix2 b' t) (by
      have h0 := congrFun (hop q) 0
      have h1 := congrFun (hop q) 1
      refine Fin.forall_fin_two.2 ⟨?_, ?_⟩
      · show b'.val = o q 0 + b'.val; rw [h0]; exact (Nat.zero_add _).symm
      · show t.val = o q 1 + l.val; rw [h1]; exact ht)
  congr 1
  rw [e8]
  exact congrArg (fun z : EReal => z * at8 f20 b' t * ws + bias) (congrArg₂ (fun x y : EReal => x + y) (Finset.sum_congr rfl fun k _ => e7 k) e6)

/-- The values of a chunk, added to the buffer. -/
theorem vals_chunk (I : BitVec 32) (hI : I.toNat < totN v14 v17 v20 v23 v26 v29) (ln : BitVec 32) (hln : ln.toNat ≤ (lenW v14 v17 v20 v23 v26 v29 I).toNat) (hop : ∀ q, o q = ![0, (posW v14 v17 v20 v23 v26 v29 I).toNat * 512 + 128 * q.val]) (b : Fin 6) (t : Fin 6144) :
    at11 (valsNew o ho (unitsV iot0 iot1 (seqW v14 v17 v20 v23 v26 I) (posW v14 v17 v20 v23 v26 v29 I) ln ws bias o ho f18 f19 f20) f23) b t
      = at11 f23 b t + if (t.val < lenB v14 v17 v20 v23 v26 v29 b ∧ ck v14 v17 v20 v23 v26 v29 b t.val = I.toNat) ∧ t.val < ln.toNat then
          (((∑ l : Fin 128, at7 f19 ⟨t.val % 512, Nat.mod_lt _ (by decide)⟩ l) + at6 f18 ⟨t.val % 512, Nat.mod_lt _ (by decide)⟩ ⟨t.val % 128, Nat.mod_lt _ (by decide)⟩)
            * at8 f20 b t * ws + bias : EReal) else 0 := by
  have hcb := chunk_bounds v14 v17 v20 v23 v26 v29 I hI
  obtain ⟨b0, _, _, _, hL, _⟩ := chunk_spec v14 v17 v20 v23 v26 v29 I hI
  have hL2 := lenB_le v14 v17 v20 v23 v26 v29 b0
  rw [valsNew_at f23 o ho _ (posW v14 v17 v20 v23 v26 v29 I).toNat hop b t]
  simp only [ck_iff v14 v17 v20 v23 v26 v29 I hI b t]
  by_cases hin : (posW v14 v17 v20 v23 v26 v29 I).toNat * 512 ≤ t.val ∧ t.val < (posW v14 v17 v20 v23 v26 v29 I).toNat * 512 + 512
  · rw [if_pos hin]
    congr 1
    have hr : (BitVec.ofNat 32 (128 * (⟨t.val % 512 / 128, by omega⟩ : Fin 4).val)).toNat = 128 * (t.val % 512 / 128) := by
      rw [BitVec.toNat_ofNat]; show 128 * (t.val % 512 / 128) % 2 ^ 32 = _; omega
    have hm := laneMask_at (seqW v14 v17 v20 v23 v26 I) (posW v14 v17 v20 v23 v26 v29 I) ln (BitVec.ofNat 32 (128 * (⟨t.val % 512 / 128, by omega⟩ : Fin 4).val)) hcb.1 hcb.2.1 (by rw [hr]; omega) (by omega) b ⟨t.val % 128, Nat.mod_lt _ (by decide)⟩
    rw [unitsV_at ws bias o ho f18 f19 f20 _ _ _ (posW v14 v17 v20 v23 v26 v29 I).toNat hop _ b _ t (by show t.val = _ + 128 * (t.val % 512 / 128) + t.val % 128; omega)]
    have hR : (⟨128 * (t.val % 512 / 128) + t.val % 128, by omega⟩ : Fin 512) = ⟨t.val % 512, Nat.mod_lt _ (by decide)⟩ := Fin.ext (by show 128 * (t.val % 512 / 128) + t.val % 128 = t.val % 512; omega)
    refine if_congr ?_ ?_ rfl
    · rw [hm, hr]
      show (b.val = _ ∧ (posW v14 v17 v20 v23 v26 v29 I).toNat * 512 + 128 * (t.val % 512 / 128) + t.val % 128 < ln.toNat) ↔ _
      constructor
      · rintro ⟨h1, h2⟩; exact ⟨⟨hin, h1, by omega⟩, by omega⟩
      · rintro ⟨⟨_, h1, _⟩, h2⟩; exact ⟨h1, by omega⟩
    · show (((∑ k : Fin 128, at7 f19 ⟨128 * (t.val % 512 / 128) + t.val % 128, _⟩ k) + at6 f18 ⟨128 * (t.val % 512 / 128) + t.val % 128, _⟩ _) * at8 f20 b t * ws + bias : EReal) = _
      rw [hR]
  · rw [if_neg hin, if_neg (fun h => hin h.1.1), add_zero]
end

/-! ## The invariant -/

variable (H : main_arg0.ty.Contents (Elt Ideal)) (w : Fin 8192 → EReal) (sc : Fin 6 → Fin 6144 → EReal) (ws bias : EReal)

/-- An element of the hidden states. -/
abbrev hAt (b : Fin 6) (t : Fin 6144) (d : Fin 8192) : EReal := H (ix3 b t d)
/-- A token's product with the weights. -/
def dotf (b : Fin 6) (t : Fin 6144) : EReal := ∑ d : Fin 8192, hAt H b t d * w d
/-- A token's value. -/
def valf (b : Fin 6) (t : Fin 6144) : EReal := dotf H w b t * sc b t * ws + bias

/-- What a slot holds when its chunk has arrived. -/
def GV (i : ℕ) (f : cc0_scratch2.ty.Contents (Elt Ideal)) : Prop :=
  ∀ (b : Fin 6) (t : Fin 6144), t.val < lenB v14 v17 v20 v23 v26 v29 b → ck v14 v17 v20 v23 v26 v29 b t.val = i →
    ∀ d, at2 f (slotN i) ⟨t.val % 512, Nat.mod_lt _ (by decide)⟩ d = hAt H b t d

/-- What the buffers hold before trip `n`: the weights, the scales, the values of all chunks but the last one fetched, and
the products of that one. -/
def JV : JTy (F := Ideal) := fun n f16 f17 f18 f19 f20 f23 =>
  (∀ r d, at4 f16 r d = w ⟨d.val, by have := d.isLt; omega⟩) ∧ (∀ j d, at5 f17 j d = w ⟨6144 + d.val, by have := d.isLt; omega⟩) ∧ (∀ b t, at8 f20 b t = sc b t)
  ∧ (∀ b t, at11 f23 b t = if t.val < lenB v14 v17 v20 v23 v26 v29 b ∧ ck v14 v17 v20 v23 v26 v29 b t.val + 1 < n then valf H w sc ws bias b t else 0)
  ∧ (∀ (b : Fin 6) (t : Fin 6144), t.val < lenB v14 v17 v20 v23 v26 v29 b → ck v14 v17 v20 v23 v26 v29 b t.val + 1 = n → ∀ l',
      (∑ l : Fin 128, at7 f19 ⟨t.val % 512, Nat.mod_lt _ (by decide)⟩ l) + at6 f18 ⟨t.val % 512, Nat.mod_lt _ (by decide)⟩ l' = dotf H w b t)

/-- The values after the chunk of word `I` is added, when chunks below it were there. -/
theorem vals_next (I : BitVec 32) (hI : I.toNat < totN v14 v17 v20 v23 v26 v29) (o : Fin 4 → Fin 2 → ℕ) (ho : ∀ q a, o q a + S6x128.size a ≤ S6x6144.size a) (hop : ∀ q, o q = ![0, (posW v14 v17 v20 v23 v26 v29 I).toNat * 512 + 128 * q.val])
    (f16 f17 f18 f19 f20 f23) (hJ : JV v14 v17 v20 v23 v26 v29 H w sc ws bias (I.toNat + 1) f16 f17 f18 f19 f20 f23) (b : Fin 6) (t : Fin 6144) :
    at11 (valsNew o ho (unitsV (F := Ideal) iot0 iot1 (seqW v14 v17 v20 v23 v26 I) (posW v14 v17 v20 v23 v26 v29 I) (lenW v14 v17 v20 v23 v26 v29 I) ws bias o ho f18 f19 f20) f23) b t
      = if t.val < lenB v14 v17 v20 v23 v26 v29 b ∧ ck v14 v17 v20 v23 v26 v29 b t.val + 1 < I.toNat + 2 then valf H w sc ws bias b t else 0 := by
  obtain ⟨h16, h17, h20, h23, hP⟩ := hJ
  rw [vals_chunk v14 v17 v20 v23 v26 v29 ws bias o ho f18 f19 f20 f23 I hI (lenW v14 v17 v20 v23 v26 v29 I) le_rfl hop b t]
  by_cases hc : t.val < lenB v14 v17 v20 v23 v26 v29 b ∧ ck v14 v17 v20 v23 v26 v29 b t.val = I.toNat
  · have hl : t.val < (lenW v14 v17 v20 v23 v26 v29 I).toNat := ((ck_iff v14 v17 v20 v23 v26 v29 I hI b t).1 hc).2.2
    rw [h23, h20, if_neg (by omega), if_pos ⟨hc, hl⟩, if_pos ⟨hc.1, by omega⟩, hP b t hc.1 (by omega), zero_add]
    rfl
  · rw [if_neg (fun h => hc h.1), add_zero, h23]
    exact if_congr (by omega) rfl rfl

theorem sel_first (x : BitVec 32) : Scalar.select (Scalar.cmpi .eq (0#32 : BitVec 32) 0#32) 0#32 x = 0#32 := rfl
theorem sel_later (i x : BitVec 32) (h : i.toNat ≠ 0) : Scalar.select (Scalar.cmpi .eq i 0#32) 0#32 x = x := by
  have hi : i ≠ 0#32 := fun e => h (by rw [e]; rfl)
  have e : Scalar.cmpi .eq i 0#32 = 0#1 := by
    show BitVec.ofBool (i == 0#32) = 0#1
    rw [beq_eq_false_iff_ne.2 hi]; rfl
  rw [e]; rfl

/-- One trip keeps the invariant. -/
theorem steps_JV (c : Dev nD) (arg0 arg1 : Memref sig .tc .smem S1 .f32) (d0 : Buf (Elt Ideal) (arg0.view.loc (c : Thread nD τ))) (d1 : Buf (Elt Ideal) (arg1.view.loc (c : Thread nD τ)))
    (hw : k0_chk1 v14 v17 v20 v23 v26 v29) (hws : (rdS c arg0 d0 : EReal) = ws) (hbias : (rdS c arg1 d1 : EReal) = bias) (t : Fin (k0_t2_loop v14 v17 v20 v23 v26 v29).trips) :
    Steps c (GV v14 v17 v20 v23 v26 v29 H) arg0 arg1 d0 d1 v14 v17 v20 v23 v26 v29 hw iot0 iot1 (JV v14 v17 v20 v23 v26 v29 H w sc ws bias) t := by
  intro f16 f17 f18 f19 f20 f23 fr hJ hG hs
  subst hws hbias
  have hi := i2_toNat v14 v17 v20 v23 v26 v29 t
  have hpl := prev_lt v14 v17 v20 v23 v26 v29 t
  have hpn := prev_toNat v14 v17 v20 v23 v26 v29 t
  have hop : ∀ q : Fin 4, k0_off8 v14 v17 v20 v23 v26 v29 t (BitVec.ofNat 32 (128 * q.val)) = ![0, (posW v14 v17 v20 v23 v26 v29 (prevW (Scf.iv 0#32 1#32 t))).toNat * 512 + 128 * q.val] := by
    intro q
    have hq : (BitVec.ofNat 32 (128 * q.val)).toNat = 128 * q.val := by have := q.isLt; rw [BitVec.toNat_ofNat]; omega
    rw [off8_eq, colW v14 v17 v20 v23 v26 v29 _ _ hpl (by rw [hq]; have := q.isLt; omega), hq]
  refine ⟨hJ.1, hJ.2.1, hJ.2.2.1, ?_, ?_⟩
  · intro b x
    by_cases h0 : t.val = 0
    · have e0 : (Scf.iv 0#32 1#32 t.val : BitVec 32) = 0#32 := BitVec.eq_of_toNat_eq (by rw [hi, h0]; rfl)
      have hln : Scalar.select (Scalar.cmpi .eq (Scf.iv 0#32 1#32 t.val : BitVec 32) 0#32) 0#32 (lenW v14 v17 v20 v23 v26 v29 (prevW (Scf.iv 0#32 1#32 t.val))) = 0#32 := by
        generalize lenW v14 v17 v20 v23 v26 v29 (prevW (Scf.iv 0#32 1#32 t.val)) = x
        rw [e0]; exact sel_first x
      rw [hln, vals_chunk v14 v17 v20 v23 v26 v29 _ _ _ _ f18 f19 f20 f23 _ hpl 0#32 (Nat.zero_le _) hop b x, if_neg (fun h => Nat.not_lt_zero _ h.2), add_zero, hJ.2.2.2.1, if_neg (by omega), if_neg (by omega)]
    · have hln : Scalar.select (Scalar.cmpi .eq (Scf.iv 0#32 1#32 t.val : BitVec 32) 0#32) 0#32 (lenW v14 v17 v20 v23 v26 v29 (prevW (Scf.iv 0#32 1#32 t.val))) = lenW v14 v17 v20 v23 v26 v29 (prevW (Scf.iv 0#32 1#32 t.val)) := by
        exact sel_later _ _ (by rw [hi]; exact h0)
      rw [hln, vals_next v14 v17 v20 v23 v26 v29 H w sc _ _ _ hpl _ _ hop f16 f17 f18 f19 f20 f23 (by rw [hpn, Nat.sub_add_cancel (by omega)]; exact hJ) b x, hpn]
      exact if_congr (by omega) rfl rfl
  · intro b x hx hc l'
    have hs' : (⟨(Scalar.remsi (Scf.iv 0#32 1#32 t.val : BitVec 32) 4#32).toNat, hs⟩ : Fin 4) = slotN t.val := Fin.ext (by
      have h72 := totN_le v14 v17 v20 v23 v26 v29
      have hil := i2_lt v14 v17 v20 v23 v26 v29 t
      show (Scalar.remsi (Scf.iv 0#32 1#32 t.val : BitVec 32) 4#32).toNat = t.val % 4
      rw [remN (by omega) (by decide) (by decide), hi])
    exact dot_new _ hs f16 f17 fr f18 f19 w (fun d => hAt H b x d) hJ.1 hJ.2.1 ⟨x.val % 512, Nat.mod_lt _ (by decide)⟩ (fun d => by
      rw [hs']; exact hG b x hx (by omega) d) l'

/-! ## The rows a transfer delivers -/

theorem resh {n : ℕ} (h : (⟨2, ![n, 8192]⟩ : Shape).numel = (⟨3, ![1, n, 8192]⟩ : Shape).numel) (r : Fin n) (d : Fin 8192) :
    Shape.reshapeEquiv h (ix2 r d) = ix3 (0 : Fin 1) r d :=
  Shape.reshapeEquiv_eq_of_rowMajor h (by
    rw [Shape.rowMajor_val_three, Shape.rowMajor_val_two]
    show ((0 * n + r.val) * 8192 + d.val) = r.val * 8192 + d.val
    simp only [Nat.zero_mul, Nat.zero_add])

/-- Where rows of a slot of the ring lie. -/
theorem emb_ring (a o n : ℕ) (h) (hsq) (r : Fin n) (d : Fin 8192) (ha : a < 4) (hr : o + r.val < 512) :
    (((ringM.slice (Rect.unitDyn (s := S4x512x8192) ![a, o, 0] ![1, n, 8192] h) (fun _ => rfl)).squeeze (⟨2, ![n, 8192]⟩ : Shape) hsq).view.emb (ix2 r d) : S4x512x8192.Idx)
      = ix3 ⟨a, ha⟩ ⟨o + r.val, hr⟩ d := by
  show (Rect.unitDyn (s := S4x512x8192) ![a, o, 0] ![1, n, 8192] h).emb (Shape.reshapeEquiv _ (ix2 r d)) = _
  rw [resh]
  funext k; apply Fin.ext
  match k with
  | ⟨0, _⟩ => show a + 1 * 0 = a; omega
  | ⟨1, _⟩ => show o + 1 * r.val = o + r.val; omega
  | ⟨2, _⟩ => show 0 + 1 * d.val = d.val; omega

theorem emb_hid (a o n : ℕ) (h) (hsq) (r : Fin n) (d : Fin 8192) (ha : a < 6) (hr : o + r.val < 6144) :
    (((hidM.slice (Rect.unitDyn (s := S6x6144x8192) ![a, o, 0] ![1, n, 8192] h) (fun _ => rfl)).squeeze (⟨2, ![n, 8192]⟩ : Shape) hsq).view.emb (ix2 r d) : S6x6144x8192.Idx)
      = ix3 ⟨a, ha⟩ ⟨o + r.val, hr⟩ d := by
  show (Rect.unitDyn (s := S6x6144x8192) ![a, o, 0] ![1, n, 8192] h).emb (Shape.reshapeEquiv _ (ix2 r d)) = _
  rw [resh]
  funext k; apply Fin.ext
  match k with
  | ⟨0, _⟩ => show a + 1 * 0 = a; omega
  | ⟨1, _⟩ => show o + 1 * r.val = o + r.val; omega
  | ⟨2, _⟩ => show 0 + 1 * d.val = d.val; omega

/-- Every chunk arrives as it is. -/
theorem delivers_GV (c : Dev nD) : Delivers (F := Ideal) c H (GV v14 v17 v20 v23 v26 v29 H) v14 v17 v20 v23 v26 v29 := by
  intro I hI h hsq h' hsq' f b t ht hc d
  obtain ⟨b0, h1, h2, hS, hL, hp, hlt, hnr⟩ := chunk_spec v14 v17 v20 v23 v26 v29 I hI
  obtain ⟨⟨ha, hb⟩, hbb, htl⟩ := (ck_iff v14 v17 v20 v23 v26 v29 I hI b t).1 ⟨ht, hc⟩
  have hm := mul512 v14 v17 v20 v23 v26 v29 I hI
  have hr : t.val % 512 < (nrowW v14 v17 v20 v23 v26 v29 I).toNat := by
    rw [hnr]; rw [hL] at htl; omega
  have e1 := emb_ring (slotN I.toNat).val 0 (nrowW v14 v17 v20 v23 v26 v29 I).toNat h hsq ⟨t.val % 512, hr⟩ d (slotN I.toNat).isLt (by show 0 + t.val % 512 < 512; omega)
  have e2 := emb_hid (seqW v14 v17 v20 v23 v26 I).toNat (Scalar.muli (posW v14 v17 v20 v23 v26 v29 I) 512#32).toNat (nrowW v14 v17 v20 v23 v26 v29 I).toNat h' hsq' ⟨t.val % 512, hr⟩ d (by rw [← hbb]; exact b.isLt) (by rw [hm]; show _ + t.val % 512 < 6144; have := t.isLt; omega)
  have e3 : (ix3 (⟨(seqW v14 v17 v20 v23 v26 I).toNat, by rw [← hbb]; exact b.isLt⟩ : Fin 6) (⟨(Scalar.muli (posW v14 v17 v20 v23 v26 v29 I) 512#32).toNat + t.val % 512, by rw [hm]; have := t.isLt; omega⟩ : Fin 6144) d : S6x6144x8192.Idx) = ix3 b t d := by
    have q1 : (⟨(seqW v14 v17 v20 v23 v26 I).toNat, by rw [← hbb]; exact b.isLt⟩ : Fin 6) = b := Fin.ext hbb.symm
    have q2 : (⟨(Scalar.muli (posW v14 v17 v20 v23 v26 v29 I) 512#32).toNat + t.val % 512, by rw [hm]; have := t.isLt; omega⟩ : Fin 6144) = t := Fin.ext (by show (Scalar.muli (posW v14 v17 v20 v23 v26 v29 I) 512#32).toNat + t.val % 512 = t.val; rw [hm]; omega)
    rw [q1, q2]
  have e4 : (ix3 (slotN I.toNat) (⟨t.val % 512, Nat.mod_lt _ (by decide)⟩ : Fin 512) d : S4x512x8192.Idx) = ix3 ⟨(slotN I.toNat).val, (slotN I.toNat).isLt⟩ ⟨0 + t.val % 512, by omega⟩ d := by
    congr 1; exact Fin.ext (Nat.zero_add _).symm
  unfold at2 hAt
  rw [e4, ← e1, View.write_emb_of_mem _ _ (Finset.mem_univ _), View.read_apply, e2, e3]
  rfl

end Cert.KernelIdeal.Hand
end
-- ==== Proof.KHypV.lean ====
/-
  What the body's run asks, for the values.
-/
module

public import proofs.«01_k».proof.Proof.KInv
public import proofs.«01_k».proof.Proof.KHyp

@[expose] public section

noncomputable section

namespace Cert.KernelIdeal.Hand

open Cert.KernelIdeal Cert.KernelIdeal.Gen
open Idealize.ShloMosaic Idealize.ShloMosaic.TcCoe
open scoped BigOperators

section
variable {sig' : RefSig} {κ' : Kind} {sp : Space} {e : EltTy} {s : Shape} (v : View sig' κ' sp s e) {Val : EltTy → Type} (f : v.ty.Contents Val)
/-- A store over the whole of a buffer, read at an index. -/
theorem full_at (off : Fin s.rank → ℕ) (h : ∀ a, off a = 0) (inb) (U : s.Idx → Val e) (x : s.Idx) :
    v.read Val (v.writes Val f [⟨Rect.unit (s := s) off s.size inb, U⟩]) x = U x :=
  View.read_writes_cons_unit_of_mem v f inb U [] x x rfl (fun a => by rw [h a, Nat.zero_add])
/-- A transfer over the whole of a buffer, read at an index. -/
theorem wr_at (U : s.Idx → Val e) (x : s.Idx) : v.read Val (v.write Val f U Finset.univ) x = U x := by
  rw [View.read_write_univ]
end
/-- The two, of a whole buffer. -/
theorem full_ref (b : Ref sig .tc) (f : b.ty.Contents (Elt Ideal)) (off : Fin b.ty.shape.rank → ℕ) (h : ∀ a, off a = 0) (inb) (U : b.ty.shape.Idx → Elt Ideal b.ty.elt) (x : b.ty.shape.Idx) :
    ((Memref.whole b).view.writes (Elt Ideal) f [⟨Rect.unit (s := b.ty.shape) off b.ty.shape.size inb, U⟩]) x = U x :=
  full_at (Val := Elt Ideal) (Memref.whole b).view f off h inb U x
theorem wr_ref (b : Ref sig .tc) (f : b.ty.Contents (Elt Ideal)) (U : b.ty.shape.Idx → Elt Ideal b.ty.elt) (x : b.ty.shape.Idx) :
    View.write (Elt Ideal) (Memref.whole b).view f U Finset.univ x = U x :=
  wr_at (Val := Elt Ideal) (Memref.whole b).view f U x
theorem z2 : ∀ a : Fin 2, (![0, 0] : Fin 2 → ℕ) a = 0 := Fin.forall_fin_two.2 ⟨rfl, rfl⟩

variable (c : Dev nD) (i2 : Buf (Elt Ideal) ((Memref.whole main_arg8).view.loc (c : Thread nD τ))) (i5 : Buf (Elt Ideal) ((Memref.whole main_arg1).view.loc (c : Thread nD τ)))
  (i6 : Buf (Elt Ideal) ((Memref.whole main_arg2).view.loc (c : Thread nD τ)))

/-- The weights and the scales, as numbers. -/
abbrev wAt (d : Fin 8192) : EReal := (show main_arg2.ty.Contents (Elt Ideal) from i6) (ix1 d)
abbrev scAt (b : Fin 6) (t : Fin 6144) : EReal := (show main_arg1.ty.Contents (Elt Ideal) from i5) (ix2 b t)

theorem wLoad_at (f15 : cc0_scratch3.ty.Contents (Elt Ideal)) (d : Fin 8192) : (wLoad c i6 f15 (ix1 d) : EReal) = wAt c i6 d := by
  unfold wLoad
  rw [View.readAt_apply, View.read_write_univ]
  show (show main_arg2.ty.Contents (Elt Ideal) from i6) _ = (show main_arg2.ty.Contents (Elt Ideal) from i6) (ix1 d)
  congr 1
  funext a; apply Fin.ext
  have : a = (0 : Fin 1) := Subsingleton.elim (α := Fin 1) _ _
  subst this
  show 0 + 1 * d.val = d.val
  omega

theorem pay646_at (x : Vec Ideal S8192 .fp8e4m3) (r : Fin 128) (d : Fin 6144) :
    (k0_pay646 x (ix2 r d) : EReal) = x (ix1 ⟨d.val, by have := d.isLt; omega⟩) := by
  pointwise [k0_pay646, k0_pay645]

theorem pay647_at (x : Vec Ideal S8192 .fp8e4m3) (r : Fin 8) (d : Fin 2048) :
    (k0_pay647 x (ix2 r d) : EReal) = x (ix1 ⟨6144 + d.val, by have := d.isLt; omega⟩) := by
  pointwise [k0_pay647, k0_pay645]

theorem pay636_at (b : Fin 6) (t : Fin 6144) : ((k0_pay636 (F := Ideal)) (ix2 b t) : EReal) = 0 := by
  pointwise [k0_pay636]

/-- The array written is the buffer of values. -/
theorem out_at (f9 : main_v0_0.ty.Contents (Elt Ideal)) (g23 : cc0_scratch11.ty.Contents (Elt Ideal)) (b : Fin 6) (t : Fin 6144) :
    ((show main_v0_0.ty.Contents (Elt Ideal) from View.write (Elt Ideal) (Memref.whole main_v0_0).view f9 (ReadAs.same.apply (View.read (Elt Ideal) (Memref.whole cc0_scratch11).view g23)) Finset.univ) (ix2 b t) : EReal)
      = at11 g23 b t :=
  wr_ref main_v0_0 f9 (ReadAs.same.apply (View.read (Elt Ideal) (Memref.whole cc0_scratch11).view g23)) (ix2 b t)

theorem sc_at (f20 : cc0_scratch8.ty.Contents (Elt Ideal)) (b : Fin 6) (t : Fin 6144) :
    at8 (View.write (Elt Ideal) (Memref.whole cc0_scratch8).view f20 (ReadAs.same.apply (View.read (Elt Ideal) (Memref.whole main_arg1).view i5)) Finset.univ) b t = scAt c i5 b t :=
  wr_ref cc0_scratch8 f20 (ReadAs.same.apply (View.read (Elt Ideal) (Memref.whole main_arg1).view i5)) (ix2 b t)

variable (H : HBuf (F := Ideal) c) (arg0 arg1 : Memref sig .tc .smem S1 .f32) (d0 : Buf (Elt Ideal) (arg0.view.loc (c : Thread nD τ))) (d1 : Buf (Elt Ideal) (arg1.view.loc (c : Thread nD τ)))

/-- The values, token by token: the product with the weights, scaled, where the token is in its sequence; zero after it. -/
def outAt (ws bias : EReal) (b : Fin 6) (t : Fin 6144) : EReal :=
  if t.val < lenB (lenAt c i2 0) (lenAt c i2 1) (lenAt c i2 2) (lenAt c i2 3) (lenAt c i2 4) (lenAt c i2 5) b then valf H (wAt c i6) (scAt c i5) ws bias b t else 0

/-- The hypotheses of the body's run hold of the values. -/
theorem bodyHyp_V : BodyHyp c H i2 i5 i6 arg0 arg1 d0 d1 (GV (lenAt c i2 0) (lenAt c i2 1) (lenAt c i2 2) (lenAt c i2 3) (lenAt c i2 4) (lenAt c i2 5) H) (JV (lenAt c i2 0) (lenAt c i2 1) (lenAt c i2 2) (lenAt c i2 3) (lenAt c i2 4) (lenAt c i2 5) H (wAt c i6) (scAt c i5) (rdS c arg0 d0) (rdS c arg1 d1))
    (fun f => ∀ (b : Fin 6) (t : Fin 6144), ((show main_v0_0.ty.Contents (Elt Ideal) from f) (ix2 b t) : EReal) = outAt c i2 i5 i6 H (rdS c arg0 d0) (rdS c arg1 d1) b t) where
  del := by
    rintro v14 v17 v20 v23 v26 v29 ⟨rfl, rfl, rfl, rfl, rfl, rfl⟩
    exact delivers_GV _ _ _ _ _ _ H c
  step := by
    rintro v14 v17 v20 v23 v26 v29 ⟨rfl, rfl, rfl, rfl, rfl, rfl⟩ hw t
    exact steps_JV _ _ _ _ _ _ H _ _ _ _ c arg0 arg1 d0 d1 hw rfl rfl t
  init := by
    intro f15 f16 f17 f18 f19 f20 f23
    refine ⟨fun r d => ?_, fun j d => ?_, fun b t => sc_at c i5 f20 b t, fun b t => ?_, fun b t _ h => absurd h (Nat.succ_ne_zero _)⟩
    · exact (full_ref cc0_scratch4 f16 ![0, 0] z2 inb_S128x6144_S128x6144_0_0 (k0_pay646 (wLoad c i6 f15)) (ix2 r d)).trans ((pay646_at (wLoad c i6 f15) r d).trans (wLoad_at c i6 f15 _))
    · exact (full_ref cc0_scratch5 f17 ![0, 0] z2 inb_S8x2048_S8x2048_0_0 (k0_pay647 (wLoad c i6 f15)) (ix2 j d)).trans ((pay647_at (wLoad c i6 f15) j d).trans (wLoad_at c i6 f15 _))
    · rw [if_neg (fun h => absurd h.2 (Nat.not_lt_zero _))]
      exact (full_ref cc0_scratch11 f23 ![0, 0] z2 inb_S6x6144_S6x6144_0_0 (k0_pay636 (F := Ideal)) (ix2 b t)).trans (pay636_at b t)
  fin0 := by
    rintro v14 v17 v20 v23 v26 v29 ⟨rfl, rfl, rfl, rfl, rfl, rfl⟩ h0 g16 g17 g18 g19 g20 g23 f9 hJ b t
    refine (out_at f9 g23 b t).trans ?_
    unfold outAt
    rw [hJ.2.2.2.1, if_neg (by omega), if_neg]
    intro h
    have := (ck_spec _ _ _ _ _ _ b t.val h).2.2.2
    omega
  fin1 := by
    rintro v14 v17 v20 v23 v26 v29 ⟨rfl, rfl, rfl, rfl, rfl, rfl⟩ hw hc h0 g16 g17 g18 g19 g20 g23 f9 hJ b t
    refine (out_at f9 _ b t).trans ?_
    have hl := last_lt _ _ _ _ _ _ h0
    have hn := last_toNat _ _ _ _ _ _ h0
    refine (vals_next _ _ _ _ _ _ H (wAt c i6) (scAt c i5) (rdS c arg0 d0) (rdS c arg1 d1) _ hl _ _ ?_ g16 g17 g18 g19 g20 g23 ?_ b t).trans ?_
    · intro q
      have hq : (BitVec.ofNat 32 (128 * q.val)).toNat = 128 * q.val := by have := q.isLt; rw [BitVec.toNat_ofNat]; omega
      rw [off157_eq, colW _ _ _ _ _ _ _ _ hl (by rw [hq]; have := q.isLt; omega), hq]
    · rw [hn, Nat.sub_add_cancel h0]; exact hJ
    · unfold outAt
      refine if_congr ⟨fun h => h.1, fun h => ⟨h, ?_⟩⟩ rfl rfl
      have := (ck_spec _ _ _ _ _ _ b t.val h).2.2.2
      omega

end Cert.KernelIdeal.Hand
end
-- ==== Proof.RefVal.lean ====
/-
  What the reference computes, token by token.
-/
module

public import proofs.«01_k».proof.Proof.Gen.ReferenceIdeal.Value
public import Idealize.ShloMosaic.Lib.Pipeline.ValueKit
public import Idealize.ShloMosaic.Lib.Claim
public import Idealize.ShloMosaic.Lib.Pointwise

@[expose] public section

noncomputable section

namespace Cert.ReferenceIdeal.Hand

open Cert.ReferenceIdeal Cert.ReferenceIdeal.Gen Cert.ReferenceIdeal.Value
open Idealize.ShloMosaic Idealize.ShloMosaic.TcCoe
open scoped BigOperators

/-- The reference's arithmetic at a token. -/
theorem pay_at (v0 : Vec Ideal S6x6144x8192 .fp8e4m3) (v2 : Vec Ideal S8192 .fp8e4m3) (v8 : Vec Ideal S6x6144 .f32) (v10 v13 : Elt Ideal .f32) (v17 : Vec Ideal S6 .i32)
    (b : Fin 6) (t : Fin 6144) :
    (k0_pay1 v0 v2 v8 v10 v13 v17 (ix2 b t) : EReal)
      = if IntOp.cmpi .slt (BitVec.ofNat 32 t.val) (v17 (ix1 b)) = 1#1 then ((∑ d : Fin 8192, v0 (ix3 b t d) * v2 (ix1 d)) * v8 (ix2 b t) * v10 + v13 : EReal) else 0 := by
  pointwise [k0_pay1]
  rfl

variable (m : (ℓ : Loc nD τ sig) → Buf (Elt Ideal) ℓ)

/-- The arguments in memory. -/
abbrev a0 (c : Dev nD) : Vec Ideal S6x6144x8192 .fp8e4m3 := m ((c : Thread nD τ).loc main_arg0)
abbrev a1 (c : Dev nD) : Vec Ideal S6x6144 .f32 := m ((c : Thread nD τ).loc main_arg1)
abbrev a2 (c : Dev nD) : Vec Ideal S8192 .fp8e4m3 := m ((c : Thread nD τ).loc main_arg2)
abbrev a3 (c : Dev nD) : Vec Ideal S1 .f32 := m ((c : Thread nD τ).loc main_arg3)
abbrev a4 (c : Dev nD) : Vec Ideal S1 .f32 := m ((c : Thread nD τ).loc main_arg4)
abbrev a8 (c : Dev nD) : Vec Ideal S6 .i32 := m ((c : Thread nD τ).loc main_arg8)

/-- The value of a token: its scaled product with the weights where it is in its sequence, zero after it. -/
def refAt (x0 : Vec Ideal S6x6144x8192 .fp8e4m3) (x1 : Vec Ideal S6x6144 .f32) (x2 : Vec Ideal S8192 .fp8e4m3) (x3 x4 : Elt Ideal .f32) (x8 : Vec Ideal S6 .i32) (b : Fin 6) (t : Fin 6144) : EReal :=
  if IntOp.cmpi .slt (BitVec.ofNat 32 t.val) (x8 (ix1 b)) = 1#1 then
    ((∑ d : Fin 8192, x0 (ix3 b t d) * x2 (ix1 d)) * x1 (ix2 b t) * x3 + x4 : EReal) else 0

theorem ix0_0 : ∀ (t : Fin cfg0.N) a, win0_0.index t a = 0 := by decide +kernel
theorem ix1_0 : ∀ (t : Fin cfg0.N) a, win0_1.index t a = 0 := by decide +kernel
theorem ix2_0 : ∀ (t : Fin cfg0.N) a, win0_2.index t a = 0 := by decide +kernel
theorem ix3_0 : ∀ (t : Fin cfg0.N) a, win0_3.index t a = 0 := by decide +kernel
theorem ix4_0 : ∀ (t : Fin cfg0.N) a, win0_4.index t a = 0 := by decide +kernel
theorem ix5_0 : ∀ (t : Fin cfg0.N) a, win0_5.index t a = 0 := by decide +kernel
theorem ix6_0 : ∀ (t : Fin cfg0.N) a, win0_6.index t a = 0 := by decide +kernel

theorem blk0 (c : Dev nD) (t : Fin cfg0.N) : (iblk m c 0 t : Vec Ideal S6x6144x8192 .fp8e4m3) = a0 m c := by
  funext x; blk_ext [iblk, V, ix0_0 t]
theorem blk1 (c : Dev nD) (t : Fin cfg0.N) : (iblk m c 1 t : Vec Ideal S6x6144 .f32) = a1 m c := by
  funext x; blk_ext [iblk, V, ix1_0 t]
theorem blk2 (c : Dev nD) (t : Fin cfg0.N) : (iblk m c 2 t : Vec Ideal S8192 .fp8e4m3) = a2 m c := by
  funext x; blk_ext [iblk, V, ix2_0 t]
theorem blk3 (c : Dev nD) (t : Fin cfg0.N) : (iblk m c 3 t : Vec Ideal S1 .f32) = a3 m c := by
  funext x; blk_ext [iblk, V, ix3_0 t]
theorem blk4 (c : Dev nD) (t : Fin cfg0.N) : (iblk m c 4 t : Vec Ideal S1 .f32) = a4 m c := by
  funext x; blk_ext [iblk, V, ix4_0 t]
theorem blk5 (c : Dev nD) (t : Fin cfg0.N) : (iblk m c 5 t : Vec Ideal S6 .i32) = a8 m c := by
  funext x; blk_ext [iblk, V, ix5_0 t]

/-- The array the reference leaves. -/
theorem arr_eq (c : Dev nD) : (dats m 0 c).arrAt 6 (cfgs 0).N = fun i : S6x6144.Idx => (refAt (a0 m c) (a1 m c) (a2 m c) (a3 m c (ix1 0)) (a4 m c (ix1 0)) (a8 m c) (i 0) (i 1) : EReal) := by
  refine (dats m 0 c).arrAt_eq_of_covers 6 _ (by decide +kernel) fun t hf y => ?_
  blk_simp
  rw [after0_6]
  unfold outsAt0
  frame_out
  simp only [Memref.IsWhole.read_unread, blk0, blk1, blk2, blk3, blk4, blk5]
  have h0 : (((View.whole main_v0).slice (win0_6.rect t)).emb y : S6x6144.Idx) = y := by
    blk_ext [ix6_0 t]
  rw [h0]
  have hy : (y : S6x6144.Idx) = ix2 (y 0) (y 1) := by
    funext a; exact Fin.cases rfl (fun a => Fin.cases rfl (fun a => a.elim0) a) a
  have r0 : View.read (Elt Ideal) (View.whole cc0_stg0_0) ((hs0_0 t).unread (a0 m c)) = a0 m c := (hs0_0 t).read_unread _
  have r1 : View.read (Elt Ideal) (View.whole cc0_stg1_0) ((hs0_1 t).unread (a1 m c)) = a1 m c := (hs0_1 t).read_unread _
  have r2 : View.read (Elt Ideal) (View.whole cc0_stg2_0) ((hs0_2 t).unread (a2 m c)) = a2 m c := (hs0_2 t).read_unread _
  have r3 : View.read (Elt Ideal) (View.whole cc0_stg3_0) ((hs0_3 t).unread (a3 m c)) = a3 m c := (hs0_3 t).read_unread _
  have r4 : View.read (Elt Ideal) (View.whole cc0_stg4_0) ((hs0_4 t).unread (a4 m c)) = a4 m c := (hs0_4 t).read_unread _
  have r5 : View.read (Elt Ideal) (View.whole cc0_stg5_0) ((hs0_5 t).unread (a8 m c)) = a8 m c := (hs0_5 t).read_unread _
  rw [r0, r1, r2, r3, r4, r5]
  have f1 : ∀ h, (Shape.Idx.first (s := S1) h) = ix1 0 := fun h => by
    funext a; have : a = (0 : Fin 1) := Subsingleton.elim (α := Fin 1) _ _
    subst this; exact Subsingleton.elim (α := Fin 1) _ _
  refine (congrArg _ hy).trans ((pay_at _ _ _ _ _ _ (y 0) (y 1)).trans ?_)
  unfold refAt
  rw [f1]

end Cert.ReferenceIdeal.Hand

end
-- ==== Proof.RefMask.lean ====
/-
  The reference's mask is the kernel's: a token lies below a length where it lies below the length clipped to the sequence.
-/
module

public import proofs.«01_k».proof.Proof.KHypV
public import proofs.«01_k».proof.Proof.RefVal

@[expose] public section

noncomputable section

namespace Cert.KernelIdeal.Hand

open Cert.KernelIdeal Cert.KernelIdeal.Gen
open Idealize.ShloMosaic Idealize.ShloMosaic.TcCoe
open scoped BigOperators

theorem mask_iff (v : BitVec 32) (t : Fin 6144) : IntOp.cmpi .slt (BitVec.ofNat 32 t.val) v = 1#1 ↔ t.val < lenN v := by
  have ht := t.isLt
  have h0 : (BitVec.ofNat 32 t.val).toNat = t.val := by rw [BitVec.toNat_ofNat]; omega
  have i1 := WordCmp.toInt_eq_toNat_of_lt_half (w := 32) (x := BitVec.ofNat 32 t.val) (by omega)
  have hv := BitVec.toInt_eq_toNat_cond v
  have hv' := v.isLt
  have z : (0#32).toInt = 0 := by decide
  have hx : (Scalar.maxsi 0#32 v).toNat = if v.toInt < 0 then 0 else v.toNat := by
    show (if v.slt 0#32 then 0#32 else v).toNat = _
    simp only [BitVec.slt_iff_toInt_lt, z]
    split <;> rfl
  have hx' := WordArith.two_mul_toNat_maxsi_zero_lt v
  have hc : lenN v = min 6144 (if v.toInt < 0 then 0 else v.toNat) := by
    unfold lenN clipW
    rw [minN (by decide) (by omega), hx]
    rfl
  have e : IntOp.cmpi .slt (BitVec.ofNat 32 t.val) v = 1#1 ↔ (t.val : ℤ) < v.toInt := by
    show BitVec.ofBool ((BitVec.ofNat 32 t.val).slt v) = 1#1 ↔ _
    have : (BitVec.ofNat 32 t.val).slt v = decide ((t.val : ℤ) < v.toInt) := by
      show decide ((BitVec.ofNat 32 t.val).toInt < v.toInt) = _
      rw [i1, h0]
    rw [this]
    by_cases hh : (t.val : ℤ) < v.toInt <;> simp [hh]
  rw [e, hc]
  by_cases hn : v.toInt < 0
  · rw [if_pos hn]; omega
  · rw [if_neg hn]
    split at hv <;> omega

variable (c : Dev nD) (i2 : Buf (Elt Ideal) ((Memref.whole main_arg8).view.loc (c : Thread nD τ))) (i5 : Buf (Elt Ideal) ((Memref.whole main_arg1).view.loc (c : Thread nD τ)))
  (i6 : Buf (Elt Ideal) ((Memref.whole main_arg2).view.loc (c : Thread nD τ))) (H : HBuf (F := Ideal) c)

/-- What the kernel leaves at a token is what the reference leaves there. -/
theorem out_eq (ws bias : EReal) (b : Fin 6) (t : Fin 6144) :
    outAt c i2 i5 i6 H ws bias b t = Cert.ReferenceIdeal.Hand.refAt H i5 i6 ws bias i2 b t := by
  unfold outAt Cert.ReferenceIdeal.Hand.refAt
  have hb : lenB (lenAt c i2 0) (lenAt c i2 1) (lenAt c i2 2) (lenAt c i2 3) (lenAt c i2 4) (lenAt c i2 5) b = lenN (lenAt c i2 b) := by
    unfold lenB; fin_cases b <;> rfl
  rw [hb]
  exact if_congr (mask_iff (lenAt c i2 b) t).symm rfl rfl

end Cert.KernelIdeal.Hand
end
-- ==== Proof.KVals.lean ====
/-
  The values the kernel leaves, from its arguments in memory.
-/
module

public import proofs.«01_k».proof.Proof.RefMask
public import proofs.«01_k».proof.Proof.KLaunch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped BigOperators

variable (m : (ℓ : Loc nD τ sig) → Buf (Elt Ideal) ℓ) (ρ : Dev nD → PrngReg)

/-- The values of the arguments in memory. -/
def valuesOf (c : Dev nD) (b : Fin 6) (t : Fin 6144) : EReal :=
  Cert.ReferenceIdeal.Hand.refAt (m ((c : Thread nD τ).loc main_arg0)) (m ((c : Thread nD τ).loc main_arg1)) (m ((c : Thread nD τ).loc main_arg2))
    ((m ((c : Thread nD τ).loc main_arg3) : Vec Ideal S1 .f32) (ix1 0)) ((m ((c : Thread nD τ).loc main_arg4) : Vec Ideal S1 .f32) (ix1 0)) (m ((c : Thread nD τ).loc main_arg8)) b t

/-- A buffer holds the values. -/
def IsValues (c : Dev nD) (f : Buf (Elt Ideal) ((Memref.whole main_v0_0).view.loc (c : Thread nD τ))) : Prop :=
  ∀ (b : Fin 6) (t : Fin 6144), ((show main_v0_0.ty.Contents (Elt Ideal) from f) (ix2 b t) : EReal) = valuesOf m c b t

theorem ixk0 : ∀ (t : Fin cfg0.N) a, win0_0.index t a = 0 := by decide +kernel
theorem ixk1 : ∀ (t : Fin cfg0.N) a, win0_1.index t a = 0 := by decide +kernel
theorem bk0 (c : Dev nD) (t : Fin cfg0.N) : (iblk m c 0 t : Vec Ideal S1 .f32) = m ((c : Thread nD τ).loc main_arg3) := by
  funext x; blk_ext [iblk, V, ixk0 t]
theorem bk1 (c : Dev nD) (t : Fin cfg0.N) : (iblk m c 1 t : Vec Ideal S1 .f32) = m ((c : Thread nD τ).loc main_arg4) := by
  funext x; blk_ext [iblk, V, ixk1 t]

theorem s1_eq (x y : S1.Idx) : x = y := by
  funext a; have h : a = (0 : Fin 1) := Subsingleton.elim (α := Fin 1) _ _
  subst h; exact Subsingleton.elim (α := Fin 1) _ _

/-- A scalar in scalar memory is what the buffer reads as. -/
theorem rdS_eq (c : Dev nD) (a : Memref sig .tc .smem S1 .f32) (d : Buf (Elt Ideal) (a.view.loc (c : Thread nD τ))) (x : Vec Ideal S1 .f32)
    (h : a.view.read (Elt Ideal) d = x) : rdS c a d = x (ix1 0) := by
  have e : rdS c a d = a.view.read (Elt Ideal) d ((Rect.unit (s := S1) ![0] S1.size inb_S1_S1_0).toLoadRect.idx (Shape.Idx.first (by decide))) := rfl
  rw [e, h]
  exact congrArg x (s1_eq _ _)

/-- The hypotheses of the body's run, of the launch's buffers. -/
theorem bodyHyp_launch (c : Dev nD) (t : Fin cfg0.N) (d0 : Buf (Elt Ideal) ((st0 t).view.loc (c : Thread nD τ)))
    (d1 : Buf (Elt Ideal) ((st1' t).view.loc (c : Thread nD τ)))
    (h0 : (st0 t).view.read (Elt Ideal) d0 = iblk m c 0 t) (h1 : (st1' t).view.read (Elt Ideal) d1 = iblk m c 1 t) :
    ∃ G J, BodyHyp c (V m c main_arg0) (V m c main_arg8) (V m c main_arg1) (V m c main_arg2) (st0 t) (st1' t) d0 d1 G J (IsValues m c) := by
  have hh := bodyHyp_V c (V m c main_arg8) (V m c main_arg1) (V m c main_arg2) (V m c main_arg0) (st0 t) (st1' t) d0 d1
  have r0 := rdS_eq c (st0 t) d0 _ (h0.trans (bk0 m c t))
  have r1 := rdS_eq c (st1' t) d1 _ (h1.trans (bk1 m c t))
  have hP : (fun f : Buf (Elt Ideal) ((Memref.whole main_v0_0).view.loc (c : Thread nD τ)) => ∀ (b : Fin 6) (t' : Fin 6144), ((show main_v0_0.ty.Contents (Elt Ideal) from f) (ix2 b t') : EReal)
      = outAt c (V m c main_arg8) (V m c main_arg1) (V m c main_arg2) (V m c main_arg0) (rdS c (st0 t) d0) (rdS c (st1' t) d1) b t') = IsValues m c := by
    funext f
    refine forall_congr fun b => forall_congr fun t' => ?_
    rw [out_eq, r0, r1]
    rfl
  rw [hP] at hh
  exact ⟨_, _, hh⟩

/-- The values of the arguments in memory, as an array. -/
def valuesArr (c : Dev nD) : Buf (Elt Ideal) ((c.tc : Thread nD τ).loc main_v0_0) :=
  show Vec Ideal S6x6144 .f32 from fun i => valuesOf m c (i 0) (i 1)

theorem isValues_eq (c : Dev nD) (f : Buf (Elt Ideal) ((c.tc : Thread nD τ).loc main_v0_0)) (h : IsValues m c f) : f = valuesArr m c := by
  funext i
  have hi : (i : S6x6144.Idx) = ix2 (i 0) (i 1) := by
    funext a; exact Fin.cases rfl (fun a => Fin.cases rfl (fun a => a.elim0) a) a
  exact (congrArg (show main_v0_0.ty.Contents (Elt Ideal) from f) hi).trans (h (i 0) (i 1))

/-- The kernel's run leaves the values. -/
theorem run_values_of (hb : BodyRuns m (IsValues m)) : θ_run defs (onTc (τ := τ) (main (F := Ideal))) ⟨m, fun _ => 0, ρ⟩ (fun r => ∀ c : Dev nD,
      r.2.mem ((c.tc : Thread nD τ).loc main_v0_0) = valuesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨isValues_eq m c _ (h.1 c).2, (h.1 c).1⟩) (run_post m ρ _ hb)

/-- The reference's run leaves the values of the same arguments. -/
theorem ref_values (m' : (ℓ : Loc Cert.ReferenceIdeal.nD Cert.ReferenceIdeal.τ Cert.ReferenceIdeal.sig) → Buf (Elt Ideal) ℓ) (g' : Dev Cert.ReferenceIdeal.nD → PrngReg)
    (he : ∀ c : Dev nD, m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v0) = valuesArr m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) := by
  refine (θ_run _ _ _).mono (fun r h c => ⟨(h c).1.trans ?_, (h c).2⟩) (Cert.ReferenceIdeal.Value.run_blocks m' g')
  obtain ⟨e0, e1, e2, e3, e4, -, -, -, e8⟩ := he c
  refine (Cert.ReferenceIdeal.Hand.arr_eq m' c).trans ?_
  funext i
  have a0 : Cert.ReferenceIdeal.Hand.a0 m' c = m ((c.tc : Thread nD τ).loc main_arg0) := e0
  have a1 : Cert.ReferenceIdeal.Hand.a1 m' c = m ((c.tc : Thread nD τ).loc main_arg1) := e1
  have a2 : Cert.ReferenceIdeal.Hand.a2 m' c = m ((c.tc : Thread nD τ).loc main_arg2) := e2
  have a3 : Cert.ReferenceIdeal.Hand.a3 m' c = m ((c.tc : Thread nD τ).loc main_arg3) := e3
  have a4 : Cert.ReferenceIdeal.Hand.a4 m' c = m ((c.tc : Thread nD τ).loc main_arg4) := e4
  have a8 : Cert.ReferenceIdeal.Hand.a8 m' c = m ((c.tc : Thread nD τ).loc main_arg8) := e8
  rw [a0, a1, a2, a3, a4, a8]
  rfl

end Cert.KernelIdeal.Hand

end
-- ==== Proof.KValue.lean ====
/-
  The kernel's run leaves the values.
-/
module

public import proofs.«01_k».proof.Proof.KBody
public import proofs.«01_k».proof.Proof.KVals

@[expose] public section

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- The body, from what the launch gives it, leaves the values in the first result. -/
theorem body_values : BodyRuns m (IsValues m) := fun c t d0 d1 W h0 h1 => by
  obtain ⟨G, J, hB⟩ := bodyHyp_launch m c t d0 d1 h0 h1
  exact body_run c _ _ _ _ _ _ _ (st0 t) (hstage0_0 0) (st1' t) (hstage0_1 0) d0 d1 G J _ hB W

end Cert.KernelIdeal.Hand

end
-- ==== Proof.BWords.lean ====
/- The run-time words of the printed kernel, in plain numbers. The printed body clips the six lengths, counts each
   sequence's chunks of 512 rows, and locates a chunk's sequence and position; every offset, extent and condition of the
   kernel is a composition of the few word functions below. Here the compositions are named, the printed definitions are
   identified with them, and the side condition the program assumes is proved. -/
module

public import proofs.«01_k».proof.Proof.Gen.Kernel
public import Idealize.ShloMosaic.Lib.Tactic.WordOmega
public import Idealize.ShloMosaic.Lib.LoopRemainder
public import Idealize.ShloMosaic.Lib.WordCmp

@[expose] public section

set_option maxRecDepth 16384

noncomputable section

namespace Cert.Kernel.Hand

open Cert.Kernel
open Idealize.ShloMosaic Idealize.ShloMosaic.TcCoe

/-- A length word clipped to `[0, 6144]`. -/
def clipW (v : BitVec 32) : BitVec 32 := Scalar.minsi 6144#32 (Scalar.maxsi 0#32 v)
/-- Floor division as printed. -/
def fdivW (x d : BitVec 32) : BitVec 32 :=
  Scalar.select (Scalar.andi (Scalar.cmpi .ne (Scalar.subi (Scalar.extui (Scalar.cmpi .sgt x 0#32)) (Scalar.extui (Scalar.cmpi .slt x 0#32)))
    (Scalar.subi (Scalar.extui (Scalar.cmpi .sgt d 0#32)) (Scalar.extui (Scalar.cmpi .slt d 0#32)))) (Scalar.cmpi .ne (Scalar.remsi x d) 0#32))
    (Scalar.subi (Scalar.divsi x d) 1#32) (Scalar.divsi x d)
/-- The number of chunks of a clipped length. -/
def chunksW (l : BitVec 32) : BitVec 32 := fdivW (Scalar.subi (Scalar.addi l 512#32) 1#32) 512#32
/-- The rows a chunk's transfer moves: the rows left from the chunk's start, a multiple of 32, at most 512. -/
def rowsW (ln cr : BitVec 32) : BitVec 32 :=
  Scalar.minsi (Scalar.muli (fdivW (Scalar.subi (Scalar.addi (Scalar.subi ln (Scalar.muli cr 512#32)) 32#32) 1#32) 32#32) 32#32) 512#32

section
variable (v14 v17 v20 v23 v26 v29 : BitVec 32)

/-- Cumulative chunk counts. -/
def e0W : BitVec 32 := Scalar.addi 0#32 (chunksW (clipW v14))
def e1W : BitVec 32 := Scalar.addi (e0W v14) (chunksW (clipW v17))
def e2W : BitVec 32 := Scalar.addi (e1W v14 v17) (chunksW (clipW v20))
def e3W : BitVec 32 := Scalar.addi (e2W v14 v17 v20) (chunksW (clipW v23))
def e4W : BitVec 32 := Scalar.addi (e3W v14 v17 v20 v23) (chunksW (clipW v26))
def e5W : BitVec 32 := Scalar.addi (e4W v14 v17 v20 v23 v26) (chunksW (clipW v29))

/-- The value of the sequence a chunk number falls in, of six. -/
def locW (i a0 a1 a2 a3 a4 a5 : BitVec 32) : BitVec 32 :=
  Scalar.select (Scalar.cmpi .sge i (e4W v14 v17 v20 v23 v26)) a5
   (Scalar.select (Scalar.cmpi .sge i (e3W v14 v17 v20 v23)) a4
    (Scalar.select (Scalar.cmpi .sge i (e2W v14 v17 v20)) a3
     (Scalar.select (Scalar.cmpi .sge i (e1W v14 v17)) a2
      (Scalar.select (Scalar.cmpi .sge i (e0W v14)) a1 a0))))
def seqW (i : BitVec 32) : BitVec 32 := locW v14 v17 v20 v23 v26 i 0#32 1#32 2#32 3#32 4#32 5#32
def lenW (i : BitVec 32) : BitVec 32 := locW v14 v17 v20 v23 v26 i (clipW v14) (clipW v17) (clipW v20) (clipW v23) (clipW v26) (clipW v29)
def endW (i : BitVec 32) : BitVec 32 := locW v14 v17 v20 v23 v26 i (e0W v14) (e1W v14 v17) (e2W v14 v17 v20) (e3W v14 v17 v20 v23) (e4W v14 v17 v20 v23 v26) (e5W v14 v17 v20 v23 v26 v29)
/-- The chunk's position in its sequence: chunks are taken last to first. -/
def posW (i : BitVec 32) : BitVec 32 := Scalar.subi (Scalar.subi (endW v14 v17 v20 v23 v26 v29 i) 1#32) i
def nrowW (i : BitVec 32) : BitVec 32 := rowsW (lenW v14 v17 v20 v23 v26 v29 i) (posW v14 v17 v20 v23 v26 v29 i)
/-- The chunk finished at trip `i`: the one before. -/
def prevW (i : BitVec 32) : BitVec 32 := Scalar.maxsi (Scalar.subi i 1#32) 0#32

/-! ### The printed definitions, as these -/

theorem t2_loop_eq : k0_t2_loop v14 v17 v20 v23 v26 v29 = ⟨0#32, Scalar.addi 0#32 (Scalar.muli (Scalar.divsi (Scalar.subi (e5W v14 v17 v20 v23 v26 v29) 0#32) 1#32) 1#32), 1#32⟩ := rfl
theorem t3_loop_eq : k0_t3_loop v14 v17 v20 v23 v26 v29 = ⟨Scalar.addi 0#32 (Scalar.muli (Scalar.divsi (Scalar.subi (e5W v14 v17 v20 v23 v26 v29) 0#32) 1#32) 1#32), Scalar.addi 0#32 (Scalar.subi (e5W v14 v17 v20 v23 v26 v29) 0#32), 1#32⟩ := rfl
theorem cond1_eq (t : Fin k0_t1_loop.trips) : k0_cond1 v14 v17 v20 v23 v26 v29 t
  = Scalar.cmpi .ne (Scalar.extui (Scalar.cmpi .slt (Scf.iv 0#32 1#32 t) (e5W v14 v17 v20 v23 v26 v29)) : BitVec 32) 0#32 := rfl
theorem off2_eq (t : Fin k0_t1_loop.trips) : k0_off2 v14 v17 v20 v23 v26 v29 t
  = ⟨![(Scalar.remsi (Scf.iv 0#32 1#32 t) 4#32).toNat, 0, 0], ![1, (nrowW v14 v17 v20 v23 v26 v29 (Scf.iv 0#32 1#32 t)).toNat, 8192]⟩ := rfl
theorem off3_eq (t : Fin k0_t1_loop.trips) : k0_off3 v14 v17 v20 v23 v26 v29 t
  = ⟨![(seqW v14 v17 v20 v23 v26 (Scf.iv 0#32 1#32 t)).toNat, (Scalar.muli (posW v14 v17 v20 v23 v26 v29 (Scf.iv 0#32 1#32 t)) 512#32).toNat, 0], ![1, (nrowW v14 v17 v20 v23 v26 v29 (Scf.iv 0#32 1#32 t)).toNat, 8192]⟩ := rfl
theorem sz1_eq (t : Fin k0_t1_loop.trips) : k0_sz1 v14 v17 v20 v23 v26 v29 t = ![(nrowW v14 v17 v20 v23 v26 v29 (Scf.iv 0#32 1#32 t)).toNat, 8192] := rfl
theorem sz2_eq (t : Fin k0_t1_loop.trips) : k0_sz2 v14 v17 v20 v23 v26 v29 t = ![(nrowW v14 v17 v20 v23 v26 v29 (Scf.iv 0#32 1#32 t)).toNat, 8192] := rfl
theorem mult1_eq (t : Fin k0_t1_loop.trips) : k0_mult1 v14 v17 v20 v23 v26 v29 t = nrowW v14 v17 v20 v23 v26 v29 (Scf.iv 0#32 1#32 t) := rfl
theorem mult2_eq (t : Fin k0_t1_loop.trips) : k0_mult2 v14 v17 v20 v23 v26 v29 t = Scalar.muli (posW v14 v17 v20 v23 v26 v29 (Scf.iv 0#32 1#32 t)) 512#32 := rfl
theorem mult3_eq (t : Fin (k0_t2_loop v14 v17 v20 v23 v26 v29).trips) : k0_mult3 v14 v17 v20 v23 v26 v29 t = nrowW v14 v17 v20 v23 v26 v29 (Scf.iv 0#32 1#32 t) := rfl
theorem mult4_eq (t : Fin (k0_t2_loop v14 v17 v20 v23 v26 v29).trips) : k0_mult4 v14 v17 v20 v23 v26 v29 t = Scalar.muli (posW v14 v17 v20 v23 v26 v29 (Scf.iv 0#32 1#32 t)) 512#32 := rfl
theorem off4_eq (t : Fin (k0_t2_loop v14 v17 v20 v23 v26 v29).trips) : k0_off4 v14 v17 v20 v23 v26 v29 t = ![(Scalar.remsi (Scf.iv 0#32 1#32 t) 4#32).toNat] := rfl
theorem off5_eq (t : Fin (k0_t2_loop v14 v17 v20 v23 v26 v29).trips) : k0_off5 v14 v17 v20 v23 v26 v29 t = ⟨![(Scalar.remsi (Scf.iv 0#32 1#32 t) 4#32).toNat, 0, 0], ![1, (nrowW v14 v17 v20 v23 v26 v29 (Scf.iv 0#32 1#32 t)).toNat, 8192]⟩ := rfl
theorem sz3_eq (t : Fin (k0_t2_loop v14 v17 v20 v23 v26 v29).trips) : k0_sz3 v14 v17 v20 v23 v26 v29 t = ![(nrowW v14 v17 v20 v23 v26 v29 (Scf.iv 0#32 1#32 t)).toNat, 8192] := rfl
theorem sz4_eq (t : Fin (k0_t2_loop v14 v17 v20 v23 v26 v29).trips) : k0_sz4 v14 v17 v20 v23 v26 v29 t = ![(nrowW v14 v17 v20 v23 v26 v29 (Scf.iv 0#32 1#32 t)).toNat, 8192] := rfl
theorem off7_eq (t : Fin (k0_t2_loop v14 v17 v20 v23 v26 v29).trips) : k0_off7 v14 v17 v20 v23 v26 v29 t = ![(seqW v14 v17 v20 v23 v26 (prevW (Scf.iv 0#32 1#32 t))).toNat] := rfl
theorem off8_eq (t : Fin (k0_t2_loop v14 v17 v20 v23 v26 v29).trips) (r : BitVec 32) : k0_off8 v14 v17 v20 v23 v26 v29 t r = ![0, (Scalar.addi (Scalar.muli (posW v14 v17 v20 v23 v26 v29 (prevW (Scf.iv 0#32 1#32 t))) 512#32) r).toNat] := rfl
theorem mult5_eq (t : Fin (k0_t2_loop v14 v17 v20 v23 v26 v29).trips) : k0_mult5 v14 v17 v20 v23 v26 v29 t = Scalar.addi (Scalar.muli (posW v14 v17 v20 v23 v26 v29 (prevW (Scf.iv 0#32 1#32 t))) 512#32) 384#32 := rfl
theorem mult6_eq (t : Fin (k0_t2_loop v14 v17 v20 v23 v26 v29).trips) : k0_mult6 v14 v17 v20 v23 v26 v29 t = Scalar.addi (Scalar.muli (posW v14 v17 v20 v23 v26 v29 (prevW (Scf.iv 0#32 1#32 t))) 512#32) 256#32 := rfl
theorem mult7_eq (t : Fin (k0_t2_loop v14 v17 v20 v23 v26 v29).trips) : k0_mult7 v14 v17 v20 v23 v26 v29 t = Scalar.addi (Scalar.muli (posW v14 v17 v20 v23 v26 v29 (prevW (Scf.iv 0#32 1#32 t))) 512#32) 128#32 := rfl
theorem mult8_eq (t : Fin (k0_t2_loop v14 v17 v20 v23 v26 v29).trips) : k0_mult8 v14 v17 v20 v23 v26 v29 t = Scalar.addi (Scalar.muli (posW v14 v17 v20 v23 v26 v29 (prevW (Scf.iv 0#32 1#32 t))) 512#32) 0#32 := rfl
theorem cond2_eq (t : Fin (k0_t2_loop v14 v17 v20 v23 v26 v29).trips) : k0_cond2 v14 v17 v20 v23 v26 v29 t = Scalar.cmpi .ne (Scalar.extui (Scalar.cmpi .slt (Scalar.addi (Scf.iv 0#32 1#32 t) 4#32) (e5W v14 v17 v20 v23 v26 v29)) : BitVec 32) 0#32 := rfl
theorem off77_eq (t : Fin (k0_t2_loop v14 v17 v20 v23 v26 v29).trips) : k0_off77 v14 v17 v20 v23 v26 v29 t = ![(Scalar.remsi (Scalar.addi (Scf.iv 0#32 1#32 t) 4#32) 4#32).toNat] := rfl
theorem off78_eq (t : Fin (k0_t2_loop v14 v17 v20 v23 v26 v29).trips) : k0_off78 v14 v17 v20 v23 v26 v29 t = ⟨![(Scalar.remsi (Scalar.addi (Scf.iv 0#32 1#32 t) 4#32) 4#32).toNat, 0, 0], ![1, (nrowW v14 v17 v20 v23 v26 v29 (Scalar.addi (Scf.iv 0#32 1#32 t) 4#32)).toNat, 8192]⟩ := rfl
theorem off79_eq (t : Fin (k0_t2_loop v14 v17 v20 v23 v26 v29).trips) : k0_off79 v14 v17 v20 v23 v26 v29 t = ⟨![(seqW v14 v17 v20 v23 v26 (Scalar.addi (Scf.iv 0#32 1#32 t) 4#32)).toNat, (Scalar.muli (posW v14 v17 v20 v23 v26 v29 (Scalar.addi (Scf.iv 0#32 1#32 t) 4#32)) 512#32).toNat, 0], ![1, (nrowW v14 v17 v20 v23 v26 v29 (Scalar.addi (Scf.iv 0#32 1#32 t) 4#32)).toNat, 8192]⟩ := rfl
theorem sz5_eq (t : Fin (k0_t2_loop v14 v17 v20 v23 v26 v29).trips) : k0_sz5 v14 v17 v20 v23 v26 v29 t = ![(nrowW v14 v17 v20 v23 v26 v29 (Scalar.addi (Scf.iv 0#32 1#32 t) 4#32)).toNat, 8192] := rfl
theorem sz6_eq (t : Fin (k0_t2_loop v14 v17 v20 v23 v26 v29).trips) : k0_sz6 v14 v17 v20 v23 v26 v29 t = ![(nrowW v14 v17 v20 v23 v26 v29 (Scalar.addi (Scf.iv 0#32 1#32 t) 4#32)).toNat, 8192] := rfl
theorem mult9_eq (t : Fin (k0_t2_loop v14 v17 v20 v23 v26 v29).trips) : k0_mult9 v14 v17 v20 v23 v26 v29 t = nrowW v14 v17 v20 v23 v26 v29 (Scalar.addi (Scf.iv 0#32 1#32 t) 4#32) := rfl
theorem mult10_eq (t : Fin (k0_t2_loop v14 v17 v20 v23 v26 v29).trips) : k0_mult10 v14 v17 v20 v23 v26 v29 t = Scalar.muli (posW v14 v17 v20 v23 v26 v29 (Scalar.addi (Scf.iv 0#32 1#32 t) 4#32)) 512#32 := rfl
theorem cond4_eq  : k0_cond4 v14 v17 v20 v23 v26 v29  = Scalar.cmpi .ne (Scalar.extui (Scalar.cmpi .sgt (e5W v14 v17 v20 v23 v26 v29) 0#32) : BitVec 32) 0#32 := rfl
theorem off156_eq  : k0_off156 v14 v17 v20 v23 v26 v29  = ![(seqW v14 v17 v20 v23 v26 (Scalar.subi (e5W v14 v17 v20 v23 v26 v29) 1#32)).toNat] := rfl
theorem off157_eq (r : BitVec 32) : k0_off157 v14 v17 v20 v23 v26 v29 r = ![0, (Scalar.addi (Scalar.muli (posW v14 v17 v20 v23 v26 v29 (Scalar.subi (e5W v14 v17 v20 v23 v26 v29) 1#32)) 512#32) r).toNat] := rfl
theorem mult19_eq  : k0_mult19 v14 v17 v20 v23 v26 v29  = Scalar.addi (Scalar.muli (posW v14 v17 v20 v23 v26 v29 (Scalar.subi (e5W v14 v17 v20 v23 v26 v29) 1#32)) 512#32) 384#32 := rfl
theorem mult20_eq  : k0_mult20 v14 v17 v20 v23 v26 v29  = Scalar.addi (Scalar.muli (posW v14 v17 v20 v23 v26 v29 (Scalar.subi (e5W v14 v17 v20 v23 v26 v29) 1#32)) 512#32) 256#32 := rfl
theorem mult21_eq  : k0_mult21 v14 v17 v20 v23 v26 v29  = Scalar.addi (Scalar.muli (posW v14 v17 v20 v23 v26 v29 (Scalar.subi (e5W v14 v17 v20 v23 v26 v29) 1#32)) 512#32) 128#32 := rfl
theorem mult22_eq  : k0_mult22 v14 v17 v20 v23 v26 v29  = Scalar.addi (Scalar.muli (posW v14 v17 v20 v23 v26 v29 (Scalar.subi (e5W v14 v17 v20 v23 v26 v29) 1#32)) 512#32) 0#32 := rfl
end
end Cert.Kernel.Hand
end
-- ==== Proof.BNat.lean ====
/- The kernel's run-time words in plain numbers: a clipped length is at most 6144, a chunk count is the quotient rounded
   up, and a chunk below the total has a sequence, a position in it and a row count that stay inside the arrays. -/
module

public import Idealize.ShloMosaic.Lib.Tactic.WordOmega
public import Idealize.ShloMosaic.Lib.WordCmp
public import Idealize.ShloMosaic.Lib.WordArith
public import Idealize.ShloMosaic.Lib.Routing.Words
public import proofs.«01_k».proof.Proof.BWords

@[expose] public section

set_option maxRecDepth 16384

noncomputable section

namespace Cert.Kernel.Hand

open Cert.Kernel
open Idealize.ShloMosaic Idealize.ShloMosaic.TcCoe

/-! ### Word operations on small numbers -/

theorem subN {x y : BitVec 32} (h : y.toNat ≤ x.toNat) : (Scalar.subi x y).toNat = x.toNat - y.toNat := by
  have := x.isLt; have := y.isLt
  show (x - y).toNat = _
  rw [BitVec.toNat_sub]; omega
theorem addN {x y : BitVec 32} (h : x.toNat + y.toNat < 2 ^ 32) : (Scalar.addi x y).toNat = x.toNat + y.toNat := by
  show (x + y).toNat = _
  rw [BitVec.toNat_add]; omega
theorem mulN {x y : BitVec 32} (h : x.toNat * y.toNat < 2 ^ 32) : (Scalar.muli x y).toNat = x.toNat * y.toNat := by
  show (x * y).toNat = _
  rw [BitVec.toNat_mul]; exact Nat.mod_eq_of_lt h
theorem ofNat_toNat' (x : BitVec 32) : BitVec.ofNat 32 x.toNat = x := by
  apply BitVec.eq_of_toNat_eq; rw [BitVec.toNat_ofNat]; exact Nat.mod_eq_of_lt x.isLt
theorem divN {x : BitVec 32} {d : Nat} (h : x.toNat < 2 ^ 31) (h0 : 0 < d) (hd : d < 2 ^ 31) : (Scalar.divsi x (BitVec.ofNat 32 d)).toNat = x.toNat / d := by
  have := Routing.divsi_word .scalar h h0 hd
  rw [ofNat_toNat'] at this
  show (IntOp.divsi .scalar x (BitVec.ofNat 32 d)).toNat = _
  rw [this, BitVec.toNat_ofNat]
  exact Nat.mod_eq_of_lt (lt_of_le_of_lt (Nat.div_le_self _ _) (by omega))
theorem remN {x : BitVec 32} {d : Nat} (h : x.toNat < 2 ^ 31) (h0 : 0 < d) (hd : d < 2 ^ 31) : (Scalar.remsi x (BitVec.ofNat 32 d)).toNat = x.toNat % d := by
  have := Routing.remsi_word .scalar h h0 hd
  rw [ofNat_toNat'] at this
  show (IntOp.remsi .scalar x (BitVec.ofNat 32 d)).toNat = _
  rw [this, BitVec.toNat_ofNat]
  exact Nat.mod_eq_of_lt (lt_of_le_of_lt (Nat.mod_le _ _) (by omega))
theorem minN {x y : BitVec 32} (hx : x.toNat < 2 ^ 31) (hy : y.toNat < 2 ^ 31) : (Scalar.minsi x y).toNat = min x.toNat y.toNat := by
  have h1 := WordCmp.toInt_eq_toNat_of_lt_half (w := 32) hx
  have h2 := WordCmp.toInt_eq_toNat_of_lt_half (w := 32) hy
  show (if x.slt y then x else y).toNat = _
  simp only [BitVec.slt_iff_toInt_lt]
  split <;> omega
theorem maxN {x y : BitVec 32} (hx : x.toNat < 2 ^ 31) (hy : y.toNat < 2 ^ 31) : (Scalar.maxsi x y).toNat = max x.toNat y.toNat := by
  have h1 := WordCmp.toInt_eq_toNat_of_lt_half (w := 32) hx
  have h2 := WordCmp.toInt_eq_toNat_of_lt_half (w := 32) hy
  show (if y.slt x then x else y).toNat = _
  simp only [BitVec.slt_iff_toInt_lt]
  split <;> omega
theorem geN {x y : BitVec 32} (hx : x.toNat < 2 ^ 31) (hy : y.toNat < 2 ^ 31) {α : Type} (a b : α) :
    Scalar.select (Scalar.cmpi .sge x y) a b = if y.toNat ≤ x.toNat then a else b := by
  have h1 := WordCmp.toInt_eq_toNat_of_lt_half (w := 32) hx
  have h2 := WordCmp.toInt_eq_toNat_of_lt_half (w := 32) hy
  show (if (IntOp.cmpi .sge x y) = 1 then a else b) = _
  rw [WordCmp.cmpi_sge_eq]
  by_cases h : y.toNat ≤ x.toNat
  · rw [if_pos h, if_pos]; exact (WordCmp.ofBool_decide_eq_one_iff _).2 (by omega)
  · rw [if_neg h, if_neg]; exact fun hh => h (by have := (WordCmp.ofBool_decide_eq_one_iff _).1 hh; omega)
theorem ltN {x y : BitVec 32} (hx : x.toNat < 2 ^ 31) (hy : y.toNat < 2 ^ 31) :
    Scalar.cmpi .ne (Scalar.extui (Scalar.cmpi .slt x y) : BitVec 32) 0#32 = 1#1 ↔ x.toNat < y.toNat := by
  have h1 := WordCmp.toInt_eq_toNat_of_lt_half (w := 32) hx
  have h2 := WordCmp.toInt_eq_toNat_of_lt_half (w := 32) hy
  show IntOp.cmpi .ne ((IntOp.cmpi .slt x y).setWidth 32) 0#32 = 1#1 ↔ _
  rw [WordCmp.cmpi_slt_eq, show (decide (x.toInt < y.toInt)) = decide (x.toNat < y.toNat) from by congr 1; rw [h1, h2]; exact propext Int.ofNat_lt]
  by_cases h : x.toNat < y.toNat <;> simp only [h, decide_true, decide_false] <;> decide

theorem clipW_le (v : BitVec 32) : (clipW v).toNat ≤ 6144 := by
  unfold clipW
  have h := WordArith.two_mul_toNat_maxsi_zero_lt v
  rw [minN (by decide) (by omega)]
  exact min_le_left _ _

theorem fdivW_eq (x : BitVec 32) (d : Nat) (h : x.toNat < 2 ^ 20) (h0 : 0 < d) (hd : d < 2 ^ 20) : (fdivW x (BitVec.ofNat 32 d)).toNat = x.toNat / d := by
  have hdv := divN (x := x) (d := d) (by omega) h0 (by omega)
  have hrm := remN (x := x) (d := d) (by omega) h0 (by omega)
  have hdn : (BitVec.ofNat 32 d).toNat = d := by rw [BitVec.toNat_ofNat]; exact Nat.mod_eq_of_lt (by omega)
  have hxi := WordCmp.toInt_eq_toNat_of_lt_half (w := 32) (x := x) (by omega)
  have hdi := WordCmp.toInt_eq_toNat_of_lt_half (w := 32) (x := BitVec.ofNat 32 d) (by omega)
  have z : (0#32).toInt = 0 := by decide
  unfold fdivW
  have e1 : Scalar.cmpi .sgt (BitVec.ofNat 32 d) 0#32 = 1#1 := by
    show IntOp.cmpi .sgt _ _ = _
    rw [WordCmp.cmpi_sgt_eq]; rw [WordCmp.ofBool_decide_eq_one_iff]; rw [hdi, z]; omega
  have e2 : Scalar.cmpi .slt (BitVec.ofNat 32 d) 0#32 = 0#1 := by
    show IntOp.cmpi .slt _ _ = _
    rw [WordCmp.cmpi_slt_eq]; rw [WordCmp.ofBool_decide_eq_zero_iff]; rw [hdi, z]; omega
  have e3 : Scalar.cmpi .slt x 0#32 = 0#1 := by
    show IntOp.cmpi .slt _ _ = _
    rw [WordCmp.cmpi_slt_eq]; rw [WordCmp.ofBool_decide_eq_zero_iff]; rw [hxi, z]; omega
  rw [e1, e2, e3]
  by_cases hx0 : x.toNat = 0
  · have hx : x = 0#32 := by apply BitVec.eq_of_toNat_eq; rw [hx0]; rfl
    have e4 : Scalar.cmpi .ne (Scalar.remsi x (BitVec.ofNat 32 d)) 0#32 = 0#1 := by
      have : Scalar.remsi x (BitVec.ofNat 32 d) = 0#32 := by apply BitVec.eq_of_toNat_eq; rw [hrm, hx0, Nat.zero_mod]; rfl
      rw [this]; decide
    rw [e4]
    have : ∀ b : BitVec 1, Scalar.andi b 0#1 = 0#1 := by decide
    rw [this]; exact hdv
  · have e5 : Scalar.cmpi .sgt x 0#32 = 1#1 := by
      show IntOp.cmpi .sgt _ _ = _
      rw [WordCmp.cmpi_sgt_eq]; rw [WordCmp.ofBool_decide_eq_one_iff]; rw [hxi, z]; omega
    rw [e5]
    have e6 : Scalar.cmpi .ne (Scalar.subi (Scalar.extui 1#1) (Scalar.extui 0#1)) (Scalar.subi (Scalar.extui 1#1) (Scalar.extui 0#1)) = 0#1 := by decide
    rw [e6]
    have : ∀ b : BitVec 1, Scalar.andi 0#1 b = 0#1 := by decide
    rw [this]; exact hdv

theorem chunksW_eq (l : BitVec 32) (h : l.toNat ≤ 6144) : (chunksW l).toNat = (l.toNat + 511) / 512 := by
  have h1 : (Scalar.addi l 512#32).toNat = l.toNat + 512 := addN (by rw [show (512#32).toNat = 512 from rfl]; omega)
  have h2 : (Scalar.subi (Scalar.addi l 512#32) 1#32).toNat = l.toNat + 511 := by
    rw [subN (by rw [h1]; show 1 ≤ _; omega), h1]; rfl
  unfold chunksW
  rw [show (512#32) = BitVec.ofNat 32 512 from rfl] at *
  rw [fdivW_eq _ 512 (by omega) (by omega) (by omega), h2]

theorem rowsW_eq (ln c : BitVec 32) (h : ln.toNat ≤ 6144) (hc : c.toNat * 512 < ln.toNat) :
    (rowsW ln c).toNat = min ((ln.toNat - c.toNat * 512 + 31) / 32 * 32) 512 := by
  have h0 : (Scalar.muli c 512#32).toNat = c.toNat * 512 := mulN (show c.toNat * 512 < _ by omega)
  have h1 : (Scalar.subi ln (Scalar.muli c 512#32)).toNat = ln.toNat - c.toNat * 512 := by rw [subN (by omega), h0]
  have h2 : (Scalar.addi (Scalar.subi ln (Scalar.muli c 512#32)) 32#32).toNat = ln.toNat - c.toNat * 512 + 32 := by
    rw [addN (by rw [h1]; show _ + 32 < _; omega), h1]; rfl
  have h3 : (Scalar.subi (Scalar.addi (Scalar.subi ln (Scalar.muli c 512#32)) 32#32) 1#32).toNat = ln.toNat - c.toNat * 512 + 31 := by
    rw [subN (by rw [h2]; show 1 ≤ _; omega), h2]; rfl
  have h4 := fdivW_eq _ 32 (show (Scalar.subi (Scalar.addi (Scalar.subi ln (Scalar.muli c 512#32)) 32#32) 1#32).toNat < 2 ^ 20 by omega) (by omega) (by omega)
  unfold rowsW
  have h5 : (Scalar.muli (fdivW (Scalar.subi (Scalar.addi (Scalar.subi ln (Scalar.muli c 512#32)) 32#32) 1#32) 32#32) 32#32).toNat = (ln.toNat - c.toNat * 512 + 31) / 32 * 32 := by
    rw [mulN (by rw [h4, h3]; show _ * 32 < _; omega), h4, h3]; rfl
  rw [minN (by omega) (by decide), h5]; rfl

/-! ### Chunks -/

/-- The six lengths, clipped. -/
def lenN (v : BitVec 32) : Nat := (clipW v).toNat
/-- A sequence's number of chunks. -/
def chN (v : BitVec 32) : Nat := (lenN v + 511) / 512
theorem lenN_le (v : BitVec 32) : lenN v ≤ 6144 := clipW_le v
theorem chN_le (v : BitVec 32) : chN v ≤ 12 := by have := lenN_le v; unfold chN; omega

section
variable (v14 v17 v20 v23 v26 v29 : BitVec 32)

theorem e0N : (e0W v14).toNat = chN v14 := by
  have := chunksW_eq _ (clipW_le v14)
  unfold e0W; rw [addN (by rw [this]; have := clipW_le v14; show 0 + _ < _; omega), this]; exact Nat.zero_add _
theorem eN (e v : BitVec 32) (h : e.toNat ≤ 1000) : (Scalar.addi e (chunksW (clipW v))).toNat = e.toNat + chN v := by
  have := chunksW_eq _ (clipW_le v)
  rw [addN (by rw [this]; have := clipW_le v; omega), this]; rfl
theorem e1N : (e1W v14 v17).toNat = chN v14 + chN v17 := by
  have := e0N v14; have := chN_le v14
  unfold e1W; rw [eN _ _ (by omega)]; omega
theorem e2N : (e2W v14 v17 v20).toNat = chN v14 + chN v17 + chN v20 := by
  have := e1N v14 v17; have := chN_le v14; have := chN_le v17
  unfold e2W; rw [eN _ _ (by omega)]; omega
theorem e3N : (e3W v14 v17 v20 v23).toNat = chN v14 + chN v17 + chN v20 + chN v23 := by
  have := e2N v14 v17 v20; have := chN_le v14; have := chN_le v17; have := chN_le v20
  unfold e3W; rw [eN _ _ (by omega)]; omega
theorem e4N : (e4W v14 v17 v20 v23 v26).toNat = chN v14 + chN v17 + chN v20 + chN v23 + chN v26 := by
  have := e3N v14 v17 v20 v23; have := chN_le v14; have := chN_le v17; have := chN_le v20; have := chN_le v23
  unfold e4W; rw [eN _ _ (by omega)]; omega
theorem e5N : (e5W v14 v17 v20 v23 v26 v29).toNat = chN v14 + chN v17 + chN v20 + chN v23 + chN v26 + chN v29 := by
  have := e4N v14 v17 v20 v23 v26; have := chN_le v14; have := chN_le v17; have := chN_le v20; have := chN_le v23; have := chN_le v26
  unfold e5W; rw [eN _ _ (by omega)]; omega

/-- The total number of chunks. -/
def totN : Nat := chN v14 + chN v17 + chN v20 + chN v23 + chN v26 + chN v29
theorem totN_le : totN v14 v17 v20 v23 v26 v29 ≤ 72 := by
  have := chN_le v14; have := chN_le v17; have := chN_le v20; have := chN_le v23; have := chN_le v26; have := chN_le v29
  unfold totN; omega

/-- Chunks before sequence `b`. -/
def begN (b : Nat) : Nat := ((List.range b).map fun k => chN ((![v14, v17, v20, v23, v26, v29] : Fin 6 → BitVec 32) (Fin.ofNat 6 k))).sum

/-- The clipped length of sequence `b`. -/
def lenB (b : Fin 6) : Nat := lenN ((![v14, v17, v20, v23, v26, v29] : Fin 6 → BitVec 32) b)
/-- The chunks up to and with sequence `b`. -/
def endB (b : Fin 6) : Nat := (![chN v14, chN v14 + chN v17, chN v14 + chN v17 + chN v20, chN v14 + chN v17 + chN v20 + chN v23,
  chN v14 + chN v17 + chN v20 + chN v23 + chN v26, chN v14 + chN v17 + chN v20 + chN v23 + chN v26 + chN v29] : Fin 6 → Nat) b
/-- The chunks of sequence `b`. -/
def chB (b : Fin 6) : Nat := chN ((![v14, v17, v20, v23, v26, v29] : Fin 6 → BitVec 32) b)

theorem lenB_le (b : Fin 6) : lenB v14 v17 v20 v23 v26 v29 b ≤ 6144 := lenN_le _
theorem chB_eq (b : Fin 6) : chB v14 v17 v20 v23 v26 v29 b = (lenB v14 v17 v20 v23 v26 v29 b + 511) / 512 := rfl
theorem chB_le (b : Fin 6) : chB v14 v17 v20 v23 v26 v29 b ≤ endB v14 v17 v20 v23 v26 v29 b := by
  fin_cases b <;> simp [chB, endB]
theorem endB_le (b : Fin 6) : endB v14 v17 v20 v23 v26 v29 b ≤ totN v14 v17 v20 v23 v26 v29 := by
  fin_cases b <;> simp [endB, totN] <;> omega

/-- Which sequence a chunk number below the total falls in. -/
theorem loc_spec (i : BitVec 32) (hi : i.toNat < totN v14 v17 v20 v23 v26 v29) :
    ∃ b : Fin 6, endB v14 v17 v20 v23 v26 v29 b - chB v14 v17 v20 v23 v26 v29 b ≤ i.toNat ∧ i.toNat < endB v14 v17 v20 v23 v26 v29 b ∧
      ∀ a0 a1 a2 a3 a4 a5 : BitVec 32, locW v14 v17 v20 v23 v26 i a0 a1 a2 a3 a4 a5 = (![a0, a1, a2, a3, a4, a5] : Fin 6 → BitVec 32) b := by
  have h72 := totN_le v14 v17 v20 v23 v26 v29
  have := chN_le v14; have := chN_le v17; have := chN_le v20; have := chN_le v23; have := chN_le v26; have := chN_le v29
  have E0 := e0N v14; have E1 := e1N v14 v17; have E2 := e2N v14 v17 v20; have E3 := e3N v14 v17 v20 v23; have E4 := e4N v14 v17 v20 v23 v26
  have key : ∀ a0 a1 a2 a3 a4 a5 : BitVec 32, locW v14 v17 v20 v23 v26 i a0 a1 a2 a3 a4 a5 =
      if chN v14 + chN v17 + chN v20 + chN v23 + chN v26 ≤ i.toNat then a5 else if chN v14 + chN v17 + chN v20 + chN v23 ≤ i.toNat then a4
      else if chN v14 + chN v17 + chN v20 ≤ i.toNat then a3 else if chN v14 + chN v17 ≤ i.toNat then a2 else if chN v14 ≤ i.toNat then a1 else a0 := by
    intro a0 a1 a2 a3 a4 a5
    unfold locW
    rw [geN (by omega) (by omega), geN (by omega) (by omega), geN (by omega) (by omega), geN (by omega) (by omega), geN (by omega) (by omega), E0, E1, E2, E3, E4]
  unfold totN at hi
  by_cases c4 : chN v14 + chN v17 + chN v20 + chN v23 + chN v26 ≤ i.toNat
  · exact ⟨5, by simp [endB, chB]; omega, by simp [endB]; omega, fun a0 a1 a2 a3 a4 a5 => by rw [key, if_pos c4]; rfl⟩
  by_cases c3 : chN v14 + chN v17 + chN v20 + chN v23 ≤ i.toNat
  · exact ⟨4, by simp [endB, chB]; omega, by simp [endB]; omega, fun a0 a1 a2 a3 a4 a5 => by rw [key, if_neg c4, if_pos c3]; rfl⟩
  by_cases c2 : chN v14 + chN v17 + chN v20 ≤ i.toNat
  · exact ⟨3, by simp [endB, chB]; omega, by simp [endB]; omega, fun a0 a1 a2 a3 a4 a5 => by rw [key, if_neg c4, if_neg c3, if_pos c2]; rfl⟩
  by_cases c1 : chN v14 + chN v17 ≤ i.toNat
  · exact ⟨2, by simp [endB, chB]; omega, by simp [endB]; omega, fun a0 a1 a2 a3 a4 a5 => by rw [key, if_neg c4, if_neg c3, if_neg c2, if_pos c1]; rfl⟩
  by_cases c0 : chN v14 ≤ i.toNat
  · exact ⟨1, by simp [endB, chB]; omega, by simp [endB]; omega, fun a0 a1 a2 a3 a4 a5 => by rw [key, if_neg c4, if_neg c3, if_neg c2, if_neg c1, if_pos c0]; rfl⟩
  · exact ⟨0, by simp [endB, chB], by simp [endB]; omega, fun a0 a1 a2 a3 a4 a5 => by rw [key, if_neg c4, if_neg c3, if_neg c2, if_neg c1, if_neg c0]; rfl⟩

/-- A chunk below the total: its sequence, its position there (counted from the last chunk), the rows its transfer moves. -/
theorem chunk_spec (i : BitVec 32) (hi : i.toNat < totN v14 v17 v20 v23 v26 v29) :
    ∃ b : Fin 6, endB v14 v17 v20 v23 v26 v29 b - chB v14 v17 v20 v23 v26 v29 b ≤ i.toNat ∧ i.toNat < endB v14 v17 v20 v23 v26 v29 b
      ∧ (seqW v14 v17 v20 v23 v26 i).toNat = b.val
      ∧ (lenW v14 v17 v20 v23 v26 v29 i).toNat = lenB v14 v17 v20 v23 v26 v29 b
      ∧ (posW v14 v17 v20 v23 v26 v29 i).toNat = endB v14 v17 v20 v23 v26 v29 b - 1 - i.toNat
      ∧ (posW v14 v17 v20 v23 v26 v29 i).toNat * 512 < lenB v14 v17 v20 v23 v26 v29 b
      ∧ (nrowW v14 v17 v20 v23 v26 v29 i).toNat = min ((lenB v14 v17 v20 v23 v26 v29 b - (posW v14 v17 v20 v23 v26 v29 i).toNat * 512 + 31) / 32 * 32) 512 := by
  obtain ⟨b, h1, h2, h3⟩ := loc_spec v14 v17 v20 v23 v26 v29 i hi
  have hE : (endW v14 v17 v20 v23 v26 v29 i).toNat = endB v14 v17 v20 v23 v26 v29 b := by
    unfold endW; rw [h3]
    have E0 := e0N v14; have E1 := e1N v14 v17; have E2 := e2N v14 v17 v20; have E3 := e3N v14 v17 v20 v23; have E4 := e4N v14 v17 v20 v23 v26; have E5 := e5N v14 v17 v20 v23 v26 v29
    fin_cases b <;> simpa [endB] using by assumption
  have hL : (lenW v14 v17 v20 v23 v26 v29 i).toNat = lenB v14 v17 v20 v23 v26 v29 b := by
    unfold lenW; rw [h3]; fin_cases b <;> rfl
  have hS : (seqW v14 v17 v20 v23 v26 i).toNat = b.val := by
    unfold seqW; rw [h3]; fin_cases b <;> rfl
  have hp0 : (Scalar.subi (endW v14 v17 v20 v23 v26 v29 i) 1#32).toNat = endB v14 v17 v20 v23 v26 v29 b - 1 := by
    rw [subN (by rw [hE]; show 1 ≤ _; omega), hE]; rfl
  have hp : (posW v14 v17 v20 v23 v26 v29 i).toNat = endB v14 v17 v20 v23 v26 v29 b - 1 - i.toNat := by
    unfold posW; rw [subN (by rw [hp0]; omega), hp0]
  have hlt : (posW v14 v17 v20 v23 v26 v29 i).toNat * 512 < lenB v14 v17 v20 v23 v26 v29 b := by
    have := chB_eq v14 v17 v20 v23 v26 v29 b; rw [hp]; omega
  refine ⟨b, h1, h2, hS, hL, hp, hlt, ?_⟩
  unfold nrowW
  rw [rowsW_eq _ _ (by rw [hL]; exact lenB_le _ _ _ _ _ _ b) (by rw [hL]; exact hlt), hL]

/-- The bounds every offset and extent of the kernel needs. -/
theorem chunk_bounds (i : BitVec 32) (hi : i.toNat < totN v14 v17 v20 v23 v26 v29) :
    (seqW v14 v17 v20 v23 v26 i).toNat < 6 ∧ (posW v14 v17 v20 v23 v26 v29 i).toNat < 12
    ∧ 32 ∣ (nrowW v14 v17 v20 v23 v26 v29 i).toNat ∧ (nrowW v14 v17 v20 v23 v26 v29 i).toNat ≤ 512 ∧ 32 ≤ (nrowW v14 v17 v20 v23 v26 v29 i).toNat
    ∧ (posW v14 v17 v20 v23 v26 v29 i).toNat * 512 + (nrowW v14 v17 v20 v23 v26 v29 i).toNat ≤ 6144 := by
  obtain ⟨b, h1, h2, hS, hL, hp, hlt, hr⟩ := chunk_spec v14 v17 v20 v23 v26 v29 i hi
  have := lenB_le v14 v17 v20 v23 v26 v29 b
  have := b.isLt
  rw [hS, hr]
  refine ⟨by omega, by omega, by omega, by omega, by omega, by omega⟩

/-- Column offsets: a chunk's position times 512 plus a small word. -/
theorem colW (i r : BitVec 32) (hi : i.toNat < totN v14 v17 v20 v23 v26 v29) (hr : r.toNat ≤ 384) :
    (Scalar.addi (Scalar.muli (posW v14 v17 v20 v23 v26 v29 i) 512#32) r).toNat = (posW v14 v17 v20 v23 v26 v29 i).toNat * 512 + r.toNat := by
  have := chunk_bounds v14 v17 v20 v23 v26 v29 i hi
  have h0 : (Scalar.muli (posW v14 v17 v20 v23 v26 v29 i) 512#32).toNat = (posW v14 v17 v20 v23 v26 v29 i).toNat * 512 := mulN (show _ * 512 < _ by omega)
  rw [addN (by omega), h0]
theorem mul512 (i : BitVec 32) (hi : i.toNat < totN v14 v17 v20 v23 v26 v29) :
    (Scalar.muli (posW v14 v17 v20 v23 v26 v29 i) 512#32).toNat = (posW v14 v17 v20 v23 v26 v29 i).toNat * 512 := by
  have := chunk_bounds v14 v17 v20 v23 v26 v29 i hi
  exact mulN (show _ * 512 < _ by omega)

/-! ### Trips -/

theorem ivN (t : Nat) (h : t < 2 ^ 31) : (Scf.iv 0#32 1#32 t).toNat = t := by
  unfold Scf.iv
  rw [BitVec.toNat_add, BitVec.toNat_mul, BitVec.toNat_ofNat]; show (0 + (t % 2 ^ 32 * 1) % 2 ^ 32) % 2 ^ 32 = t; omega

theorem t1_trips : k0_t1_loop.trips = 4 := by decide
theorem t2_ub : (k0_t2_loop v14 v17 v20 v23 v26 v29).ub = e5W v14 v17 v20 v23 v26 v29 := by
  rw [t2_loop_eq]; show Scalar.addi 0#32 (Scalar.muli (Scalar.divsi _ 1#32) 1#32) = _
  rw [Scalar.muli_divsi_one]
  apply BitVec.eq_of_toNat_eq
  rw [addN (by rw [subN (Nat.zero_le _)]; have := (e5W v14 v17 v20 v23 v26 v29).isLt; show 0 + (_ - 0) < _; omega), subN (Nat.zero_le _)]; exact Nat.zero_add _
theorem t2_trips : (k0_t2_loop v14 v17 v20 v23 v26 v29).trips = totN v14 v17 v20 v23 v26 v29 := by
  have h := t2_ub v14 v17 v20 v23 v26 v29
  have h5 := e5N v14 v17 v20 v23 v26 v29
  have h72 := totN_le v14 v17 v20 v23 v26 v29
  have hi := WordCmp.toInt_eq_toNat_of_lt_half (w := 32) (x := e5W v14 v17 v20 v23 v26 v29) (by unfold totN at h72; omega)
  show Scf.trips 0#32 (k0_t2_loop v14 v17 v20 v23 v26 v29).ub 1#32 = _
  rw [h]; unfold Scf.trips
  rw [hi, h5]
  show ((((_ : Nat) : Int) - 0 + 1 - 1) / 1).toNat = _
  unfold totN; omega
theorem t2_ok : (k0_t2_loop v14 v17 v20 v23 v26 v29).OK := by
  have h72 := totN_le v14 v17 v20 v23 v26 v29
  have ht := t2_trips v14 v17 v20 v23 v26 v29
  refine ⟨by show (0:Int) < 1; omega, ?_⟩
  show (0:Int) + ((k0_t2_loop v14 v17 v20 v23 v26 v29).trips : Int) * 1 < 2 ^ 31
  rw [ht]; omega
theorem t3_no (t : Fin (k0_t3_loop v14 v17 v20 v23 v26 v29).trips) : False :=
  Scf.rem_no_trip 0#32 (Scalar.subi (e5W v14 v17 v20 v23 v26 v29) 0#32) t
theorem t3_ok : (k0_t3_loop v14 v17 v20 v23 v26 v29).OK := Scf.rem_ok 0#32 (Scalar.subi (e5W v14 v17 v20 v23 v26 v29) 0#32)

theorem i1_toNat (t : Fin k0_t1_loop.trips) : (Scf.iv 0#32 1#32 t).toNat = t.val := ivN _ (by have := t.isLt; have := t1_trips; omega)
theorem i2_toNat (t : Fin (k0_t2_loop v14 v17 v20 v23 v26 v29).trips) : (Scf.iv 0#32 1#32 t).toNat = t.val :=
  ivN _ (by have := t.isLt; have := t2_trips v14 v17 v20 v23 v26 v29; have := totN_le v14 v17 v20 v23 v26 v29; omega)
theorem i2_lt (t : Fin (k0_t2_loop v14 v17 v20 v23 v26 v29).trips) : (Scf.iv 0#32 1#32 t).toNat < totN v14 v17 v20 v23 v26 v29 := by
  have := t.isLt; have := t2_trips v14 v17 v20 v23 v26 v29; rw [i2_toNat]; omega
theorem i24_toNat (t : Fin (k0_t2_loop v14 v17 v20 v23 v26 v29).trips) : (Scalar.addi (Scf.iv 0#32 1#32 t) 4#32).toNat = t.val + 4 := by
  have := t.isLt; have := t2_trips v14 v17 v20 v23 v26 v29; have := totN_le v14 v17 v20 v23 v26 v29
  have h := i2_toNat v14 v17 v20 v23 v26 v29 t
  rw [addN (by rw [h]; show _ + 4 < _; omega), h]; rfl
theorem prev_toNat (t : Fin (k0_t2_loop v14 v17 v20 v23 v26 v29).trips) : (prevW (Scf.iv 0#32 1#32 t)).toNat = t.val - 1 := by
  have := t.isLt; have := t2_trips v14 v17 v20 v23 v26 v29; have := totN_le v14 v17 v20 v23 v26 v29
  have h := i2_toNat v14 v17 v20 v23 v26 v29 t
  unfold prevW
  by_cases h0 : t.val = 0
  · have : Scf.iv 0#32 1#32 (t : Nat) = 0#32 := by apply BitVec.eq_of_toNat_eq; rw [h, h0]; rfl
    rw [this, h0]; decide
  · have h1 : (Scalar.subi (Scf.iv 0#32 1#32 t) 1#32).toNat = t.val - 1 := by rw [subN (by rw [h]; show 1 ≤ _; omega), h]; rfl
    rw [maxN (by omega) (by decide), h1]; show max _ 0 = _; omega
theorem prev_lt (t : Fin (k0_t2_loop v14 v17 v20 v23 v26 v29).trips) : (prevW (Scf.iv 0#32 1#32 t)).toNat < totN v14 v17 v20 v23 v26 v29 := by
  have := t.isLt; have := t2_trips v14 v17 v20 v23 v26 v29; rw [prev_toNat]; omega
theorem last_toNat (h0 : 0 < totN v14 v17 v20 v23 v26 v29) : (Scalar.subi (e5W v14 v17 v20 v23 v26 v29) 1#32).toNat = totN v14 v17 v20 v23 v26 v29 - 1 := by
  have h5 : (e5W v14 v17 v20 v23 v26 v29).toNat = totN v14 v17 v20 v23 v26 v29 := e5N v14 v17 v20 v23 v26 v29
  rw [subN (by rw [h5]; exact h0), h5]; rfl
theorem last_lt (h0 : 0 < totN v14 v17 v20 v23 v26 v29) : (Scalar.subi (e5W v14 v17 v20 v23 v26 v29) 1#32).toNat < totN v14 v17 v20 v23 v26 v29 := by
  rw [last_toNat _ _ _ _ _ _ h0]; omega
theorem cond1_iff (t : Fin k0_t1_loop.trips) : k0_cond1 v14 v17 v20 v23 v26 v29 t = 1#1 ↔ t.val < totN v14 v17 v20 v23 v26 v29 := by
  have h5 : (e5W v14 v17 v20 v23 v26 v29).toNat = totN v14 v17 v20 v23 v26 v29 := e5N v14 v17 v20 v23 v26 v29
  have h72 := totN_le v14 v17 v20 v23 v26 v29
  have := t.isLt; have := t1_trips
  have hi := i1_toNat t
  rw [cond1_eq, ltN (by omega) (by omega), h5, hi]
theorem cond2_iff (t : Fin (k0_t2_loop v14 v17 v20 v23 v26 v29).trips) : k0_cond2 v14 v17 v20 v23 v26 v29 t = 1#1 ↔ t.val + 4 < totN v14 v17 v20 v23 v26 v29 := by
  have h5 : (e5W v14 v17 v20 v23 v26 v29).toNat = totN v14 v17 v20 v23 v26 v29 := e5N v14 v17 v20 v23 v26 v29
  have h72 := totN_le v14 v17 v20 v23 v26 v29
  have := t.isLt; have := t2_trips v14 v17 v20 v23 v26 v29
  have hi := i24_toNat v14 v17 v20 v23 v26 v29 t
  rw [cond2_eq, ltN (by omega) (by omega), h5, hi]
theorem cond4_iff : k0_cond4 v14 v17 v20 v23 v26 v29 = 1#1 ↔ 0 < totN v14 v17 v20 v23 v26 v29 := by
  have h5 : (e5W v14 v17 v20 v23 v26 v29).toNat = totN v14 v17 v20 v23 v26 v29 := e5N v14 v17 v20 v23 v26 v29
  have h72 := totN_le v14 v17 v20 v23 v26 v29
  rw [cond4_eq]
  exact (ltN (x := 0#32) (y := e5W v14 v17 v20 v23 v26 v29) (by decide) (by omega)).trans (by rw [h5]; exact Iff.rfl)
end
end Cert.Kernel.Hand
end
-- ==== Proof.BChk.lean ====
/- The side condition the printed kernel assumes of its length words holds for every six words: the kernel clips them. -/
module

public import proofs.«01_k».proof.Proof.BNat

@[expose] public section

set_option maxRecDepth 16384

noncomputable section

namespace Cert.Kernel.Hand

open Cert.Kernel
open Idealize.ShloMosaic Idealize.ShloMosaic.TcCoe

theorem slot_inb (w r c R C : Nat) (hw : w < 4) (hr : r + R ≤ 512) (hc : c + C ≤ 8192) :
    ∀ a, (![w, r, c] : Fin 3 → Nat) a + (⟨3, ![1, R, C]⟩ : Shape).size a ≤ S4x512x8192.size a := by
  intro a; fin_cases a
  · show w + 1 ≤ 4; omega
  · exact hr
  · exact hc
theorem ring_inb (w R : Nat) (hw : w < 4) (hR : R ≤ 512) :
    ∀ a, (![1, R, 8192] : Fin 3 → Nat) a = 0 ∨ (![w, 0, 0] : Fin 3 → Nat) a + (![1, R, 8192] : Fin 3 → Nat) a ≤ S4x512x8192.size a := by
  intro a; right; fin_cases a
  · show w + 1 ≤ 4; omega
  · show 0 + R ≤ 512; omega
  · show 0 + 8192 ≤ 8192; omega
theorem src_inb (b p R : Nat) (hb : b < 6) (hp : p + R ≤ 6144) :
    ∀ a, (![1, R, 8192] : Fin 3 → Nat) a = 0 ∨ (![b, p, 0] : Fin 3 → Nat) a + (![1, R, 8192] : Fin 3 → Nat) a ≤ S6x6144x8192.size a := by
  intro a; right; fin_cases a
  · show b + 1 ≤ 6; omega
  · show p + R ≤ 6144; omega
  · show 0 + 8192 ≤ 8192; omega
theorem sq_rows (R : Nat) : (⟨3, ![1, R, 8192]⟩ : Shape).Squeezes ⟨2, ![R, 8192]⟩ := by
  show Shape.dropsOnes [8192, R, 1] [8192, R] = true
  simp [Shape.dropsOnes]
theorem ring_words (w R : Nat) (h32 : 32 ∣ R) (hinb : ∀ a, (![1, R, 8192] : Fin 3 → Nat) a = 0 ∨ (![w, 0, 0] : Fin 3 → Nat) a + (![1, R, 8192] : Fin 3 → Nat) a ≤ S4x512x8192.size a) :
    (Rect.unitDyn (s := S4x512x8192) ![w, 0, 0] ![1, R, 8192] hinb).WholeWords (EltTy.packing .fp8e4m3) :=
by
  have h2 : 2 ≤ S4x512x8192.rank := by decide
  have h : EltTy.packing .fp8e4m3 ∣ R := Dvd.dvd.trans (by decide) h32
  exact Or.inl (Or.inr ⟨h2, rfl, Or.inl ⟨⟨0, rfl⟩, h⟩⟩)
theorem src_words (b p R : Nat) (h32 : 32 ∣ R) (hp : 512 ∣ p) (hinb : ∀ a, (![1, R, 8192] : Fin 3 → Nat) a = 0 ∨ (![b, p, 0] : Fin 3 → Nat) a + (![1, R, 8192] : Fin 3 → Nat) a ≤ S6x6144x8192.size a) :
    (Rect.unitDyn (s := S6x6144x8192) ![b, p, 0] ![1, R, 8192] hinb).WholeWords (EltTy.packing .fp8e4m3) :=
by
  have h2 : 2 ≤ S6x6144x8192.rank := by decide
  have h : EltTy.packing .fp8e4m3 ∣ R := Dvd.dvd.trans (by decide) h32
  have h' : EltTy.packing .fp8e4m3 ∣ p := Dvd.dvd.trans (by decide) hp
  exact Or.inl (Or.inr ⟨h2, rfl, Or.inl ⟨h', h⟩⟩)
theorem one_inb (n w : Nat) (hw : w < n) : ∀ a, (![w] : Fin 1 → Nat) a + S1.size a ≤ (⟨1, ![n]⟩ : Shape).size a := by
  intro a; fin_cases a; show w + 1 ≤ n; omega
theorem col_inb (p : Nat) (hp : p + 128 ≤ 6144) : ∀ a, (![0, p] : Fin 2 → Nat) a + S6x128.size a ≤ S6x6144.size a := by
  intro a; fin_cases a
  · show 0 + 6 ≤ 6; omega
  · exact hp
theorem slotw_lt (x : BitVec 32) (h : x.toNat < 2 ^ 31) : (Scalar.remsi x 4#32).toNat < 4 := by
  have := remN (x := x) (d := 4) h (by omega) (by omega)
  rw [show (4#32) = BitVec.ofNat 32 4 from rfl, this]; omega

section
variable (v14 v17 v20 v23 v26 v29 : BitVec 32)

theorem i1_lt (t : Fin k0_t1_loop.trips) (h : k0_cond1 v14 v17 v20 v23 v26 v29 t = 1#1) : (Scf.iv 0#32 1#32 t).toNat < totN v14 v17 v20 v23 v26 v29 := by
  rw [i1_toNat]; exact (cond1_iff _ _ _ _ _ _ t).1 h
theorem i24_lt (t : Fin (k0_t2_loop v14 v17 v20 v23 v26 v29).trips) (h : k0_cond2 v14 v17 v20 v23 v26 v29 t = 1#1) : (Scalar.addi (Scf.iv 0#32 1#32 t) 4#32).toNat < totN v14 v17 v20 v23 v26 v29 := by
  rw [i24_toNat]; exact (cond2_iff _ _ _ _ _ _ t).1 h
theorem tot_lt : totN v14 v17 v20 v23 v26 v29 < 2 ^ 31 := by have := totN_le v14 v17 v20 v23 v26 v29; omega
theorem dvd512 (i : BitVec 32) (hi : i.toNat < totN v14 v17 v20 v23 v26 v29) : 512 ∣ (Scalar.muli (posW v14 v17 v20 v23 v26 v29 i) 512#32).toNat := by
  rw [mul512 _ _ _ _ _ _ i hi]; omega
theorem dvd128 (i r : BitVec 32) (hi : i.toNat < totN v14 v17 v20 v23 v26 v29) (hr : r.toNat ≤ 384) (hr' : 128 ∣ r.toNat) :
    128 ∣ (Scalar.addi (Scalar.muli (posW v14 v17 v20 v23 v26 v29 i) 512#32) r).toNat := by
  rw [colW _ _ _ _ _ _ i r hi hr]; omega
theorem src_fit (i : BitVec 32) (hi : i.toNat < totN v14 v17 v20 v23 v26 v29) :
    (Scalar.muli (posW v14 v17 v20 v23 v26 v29 i) 512#32).toNat + (nrowW v14 v17 v20 v23 v26 v29 i).toNat ≤ 6144 := by
  rw [mul512 _ _ _ _ _ _ i hi]; exact (chunk_bounds _ _ _ _ _ _ i hi).2.2.2.2.2
theorem col_fit (i : BitVec 32) (hi : i.toNat < totN v14 v17 v20 v23 v26 v29) (r : Fin 4) :
    (Scalar.addi (Scalar.muli (posW v14 v17 v20 v23 v26 v29 i) 512#32) (BitVec.ofNat 32 (128 * r.val))).toNat + 128 ≤ 6144 := by
  have hr : (BitVec.ofNat 32 (128 * r.val)).toNat = 128 * r.val := by rw [BitVec.toNat_ofNat]; exact Nat.mod_eq_of_lt (by have := r.isLt; omega)
  have h := (chunk_bounds _ _ _ _ _ _ i hi).2.1
  rw [colW _ _ _ _ _ _ i _ hi (by rw [hr]; have := r.isLt; omega), hr]; have := r.isLt; omega

theorem chk1_0_holds : k0_chk1_0 v14 v17 v20 v23 v26 v29 := by
  unfold k0_chk1_0
  refine ⟨fun t h => (chunk_bounds v14 v17 v20 v23 v26 v29 (Scf.iv 0#32 1#32 t) (i1_lt v14 v17 v20 v23 v26 v29 t h)).2.2.1,
    fun t h => dvd512 v14 v17 v20 v23 v26 v29 (Scf.iv 0#32 1#32 t) (i1_lt v14 v17 v20 v23 v26 v29 t h),
    fun t h => ring_inb (Scalar.remsi (Scf.iv 0#32 1#32 t) 4#32).toNat (nrowW v14 v17 v20 v23 v26 v29 (Scf.iv 0#32 1#32 t)).toNat (slotw_lt (Scf.iv 0#32 1#32 t) (lt_trans (i1_lt v14 v17 v20 v23 v26 v29 t h) (tot_lt v14 v17 v20 v23 v26 v29))) (chunk_bounds v14 v17 v20 v23 v26 v29 (Scf.iv 0#32 1#32 t) (i1_lt v14 v17 v20 v23 v26 v29 t h)).2.2.2.1,
    fun t h => sq_rows (nrowW v14 v17 v20 v23 v26 v29 (Scf.iv 0#32 1#32 t)).toNat,
    fun t h => src_inb (seqW v14 v17 v20 v23 v26 (Scf.iv 0#32 1#32 t)).toNat (Scalar.muli (posW v14 v17 v20 v23 v26 v29 (Scf.iv 0#32 1#32 t)) 512#32).toNat (nrowW v14 v17 v20 v23 v26 v29 (Scf.iv 0#32 1#32 t)).toNat (chunk_bounds v14 v17 v20 v23 v26 v29 (Scf.iv 0#32 1#32 t) (i1_lt v14 v17 v20 v23 v26 v29 t h)).1 (src_fit v14 v17 v20 v23 v26 v29 (Scf.iv 0#32 1#32 t) (i1_lt v14 v17 v20 v23 v26 v29 t h)),
    fun t h => sq_rows (nrowW v14 v17 v20 v23 v26 v29 (Scf.iv 0#32 1#32 t)).toNat,
    fun t h => fun hinb => src_words (seqW v14 v17 v20 v23 v26 (Scf.iv 0#32 1#32 t)).toNat (Scalar.muli (posW v14 v17 v20 v23 v26 v29 (Scf.iv 0#32 1#32 t)) 512#32).toNat (nrowW v14 v17 v20 v23 v26 v29 (Scf.iv 0#32 1#32 t)).toNat (chunk_bounds v14 v17 v20 v23 v26 v29 (Scf.iv 0#32 1#32 t) (i1_lt v14 v17 v20 v23 v26 v29 t h)).2.2.1 (dvd512 v14 v17 v20 v23 v26 v29 (Scf.iv 0#32 1#32 t) (i1_lt v14 v17 v20 v23 v26 v29 t h)) hinb,
    fun t h => fun hinb => ring_words (Scalar.remsi (Scf.iv 0#32 1#32 t) 4#32).toNat (nrowW v14 v17 v20 v23 v26 v29 (Scf.iv 0#32 1#32 t)).toNat (chunk_bounds v14 v17 v20 v23 v26 v29 (Scf.iv 0#32 1#32 t) (i1_lt v14 v17 v20 v23 v26 v29 t h)).2.2.1 hinb,
    t2_ok v14 v17 v20 v23 v26 v29,
    fun t => (chunk_bounds v14 v17 v20 v23 v26 v29 (Scf.iv 0#32 1#32 t) (i2_lt v14 v17 v20 v23 v26 v29 t)).2.2.1,
    fun t => dvd512 v14 v17 v20 v23 v26 v29 (Scf.iv 0#32 1#32 t) (i2_lt v14 v17 v20 v23 v26 v29 t),
    fun t => one_inb 4 (Scalar.remsi (Scf.iv 0#32 1#32 t) 4#32).toNat (slotw_lt (Scf.iv 0#32 1#32 t) (lt_trans (i2_lt v14 v17 v20 v23 v26 v29 t) (tot_lt v14 v17 v20 v23 v26 v29))),
    fun t => sq_rows (nrowW v14 v17 v20 v23 v26 v29 (Scf.iv 0#32 1#32 t)).toNat,
    fun t => sq_rows (nrowW v14 v17 v20 v23 v26 v29 (Scf.iv 0#32 1#32 t)).toNat,
    fun t => one_inb 6 (seqW v14 v17 v20 v23 v26 (prevW (Scf.iv 0#32 1#32 t))).toNat (chunk_bounds v14 v17 v20 v23 v26 v29 (prevW (Scf.iv 0#32 1#32 t)) (prev_lt v14 v17 v20 v23 v26 v29 t)).1,
    fun t => dvd128 v14 v17 v20 v23 v26 v29 (prevW (Scf.iv 0#32 1#32 t)) 384#32 (prev_lt v14 v17 v20 v23 v26 v29 t) (by decide) (by decide),
    fun t => fun r => col_inb _ (col_fit v14 v17 v20 v23 v26 v29 (prevW (Scf.iv 0#32 1#32 t)) (prev_lt v14 v17 v20 v23 v26 v29 t) r),
    fun t => dvd128 v14 v17 v20 v23 v26 v29 (prevW (Scf.iv 0#32 1#32 t)) 256#32 (prev_lt v14 v17 v20 v23 v26 v29 t) (by decide) (by decide),
    fun t => dvd128 v14 v17 v20 v23 v26 v29 (prevW (Scf.iv 0#32 1#32 t)) 128#32 (prev_lt v14 v17 v20 v23 v26 v29 t) (by decide) (by decide),
    fun t => dvd128 v14 v17 v20 v23 v26 v29 (prevW (Scf.iv 0#32 1#32 t)) 0#32 (prev_lt v14 v17 v20 v23 v26 v29 t) (by decide) (by decide),
    fun t => slot_inb (Scalar.remsi (Scf.iv 0#32 1#32 t) 4#32).toNat 0 0 512 1536 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6144 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6272 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6400 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6528 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6656 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6784 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 6912 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7040 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7168 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7296 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7424 128 128 (slotw_lt (Scf.iv 0#32 1#32 t) (lt_trans (i2_lt v14 v17 v20 v23 v26 v29 t) (tot_lt v14 v17 v20 v23 v26 v29))) (by decide) (by decide)⟩

theorem chk1_1_holds : k0_chk1_1 v14 v17 v20 v23 v26 v29 := by
  unfold k0_chk1_1
  refine ⟨fun t => slot_inb (Scalar.remsi (Scf.iv 0#32 1#32 t) 4#32).toNat 0 7552 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7680 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7808 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 7936 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 8064 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 1536 512 1536 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6144 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6272 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6400 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6528 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6656 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6784 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 6912 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7040 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7168 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7296 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7424 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7552 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7680 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7808 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 7936 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 128 8064 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 3072 512 1536 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6144 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6272 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6400 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6528 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6656 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6784 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 6912 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7040 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7168 128 128 (slotw_lt (Scf.iv 0#32 1#32 t) (lt_trans (i2_lt v14 v17 v20 v23 v26 v29 t) (tot_lt v14 v17 v20 v23 v26 v29))) (by decide) (by decide)⟩

theorem chk1_2_holds : k0_chk1_2 v14 v17 v20 v23 v26 v29 := by
  unfold k0_chk1_2
  refine ⟨fun t => slot_inb (Scalar.remsi (Scf.iv 0#32 1#32 t) 4#32).toNat 256 7296 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7424 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7552 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7680 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7808 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 7936 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 256 8064 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 0 4608 512 1536 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6144 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6272 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6400 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6528 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6656 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6784 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 6912 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7040 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7168 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7296 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7424 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7552 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7680 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7808 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 7936 128 128 (slotw_lt (Scf.iv 0#32 1#32 t) (lt_trans (i2_lt v14 v17 v20 v23 v26 v29 t) (tot_lt v14 v17 v20 v23 v26 v29))) (by decide) (by decide),
    fun t => slot_inb (Scalar.remsi (Scf.iv 0#32 1#32 t) 4#32).toNat 384 8064 128 128 (slotw_lt (Scf.iv 0#32 1#32 t) (lt_trans (i2_lt v14 v17 v20 v23 v26 v29 t) (tot_lt v14 v17 v20 v23 v26 v29))) (by decide) (by decide),
    fun t h => (chunk_bounds v14 v17 v20 v23 v26 v29 (Scalar.addi (Scf.iv 0#32 1#32 t) 4#32) (i24_lt v14 v17 v20 v23 v26 v29 t h)).2.2.1,
    fun t h => dvd512 v14 v17 v20 v23 v26 v29 (Scalar.addi (Scf.iv 0#32 1#32 t) 4#32) (i24_lt v14 v17 v20 v23 v26 v29 t h),
    fun t h => one_inb 4 (Scalar.remsi (Scalar.addi (Scf.iv 0#32 1#32 t) 4#32) 4#32).toNat (slotw_lt (Scalar.addi (Scf.iv 0#32 1#32 t) 4#32) (lt_trans (i24_lt v14 v17 v20 v23 v26 v29 t h) (tot_lt v14 v17 v20 v23 v26 v29))),
    fun t h => ring_inb (Scalar.remsi (Scalar.addi (Scf.iv 0#32 1#32 t) 4#32) 4#32).toNat (nrowW v14 v17 v20 v23 v26 v29 (Scalar.addi (Scf.iv 0#32 1#32 t) 4#32)).toNat (slotw_lt (Scalar.addi (Scf.iv 0#32 1#32 t) 4#32) (lt_trans (i24_lt v14 v17 v20 v23 v26 v29 t h) (tot_lt v14 v17 v20 v23 v26 v29))) (chunk_bounds v14 v17 v20 v23 v26 v29 (Scalar.addi (Scf.iv 0#32 1#32 t) 4#32) (i24_lt v14 v17 v20 v23 v26 v29 t h)).2.2.2.1,
    fun t h => sq_rows (nrowW v14 v17 v20 v23 v26 v29 (Scalar.addi (Scf.iv 0#32 1#32 t) 4#32)).toNat,
    fun t h => src_inb (seqW v14 v17 v20 v23 v26 (Scalar.addi (Scf.iv 0#32 1#32 t) 4#32)).toNat (Scalar.muli (posW v14 v17 v20 v23 v26 v29 (Scalar.addi (Scf.iv 0#32 1#32 t) 4#32)) 512#32).toNat (nrowW v14 v17 v20 v23 v26 v29 (Scalar.addi (Scf.iv 0#32 1#32 t) 4#32)).toNat (chunk_bounds v14 v17 v20 v23 v26 v29 (Scalar.addi (Scf.iv 0#32 1#32 t) 4#32) (i24_lt v14 v17 v20 v23 v26 v29 t h)).1 (src_fit v14 v17 v20 v23 v26 v29 (Scalar.addi (Scf.iv 0#32 1#32 t) 4#32) (i24_lt v14 v17 v20 v23 v26 v29 t h)),
    fun t h => sq_rows (nrowW v14 v17 v20 v23 v26 v29 (Scalar.addi (Scf.iv 0#32 1#32 t) 4#32)).toNat,
    fun t h => fun hinb => src_words (seqW v14 v17 v20 v23 v26 (Scalar.addi (Scf.iv 0#32 1#32 t) 4#32)).toNat (Scalar.muli (posW v14 v17 v20 v23 v26 v29 (Scalar.addi (Scf.iv 0#32 1#32 t) 4#32)) 512#32).toNat (nrowW v14 v17 v20 v23 v26 v29 (Scalar.addi (Scf.iv 0#32 1#32 t) 4#32)).toNat (chunk_bounds v14 v17 v20 v23 v26 v29 (Scalar.addi (Scf.iv 0#32 1#32 t) 4#32) (i24_lt v14 v17 v20 v23 v26 v29 t h)).2.2.1 (dvd512 v14 v17 v20 v23 v26 v29 (Scalar.addi (Scf.iv 0#32 1#32 t) 4#32) (i24_lt v14 v17 v20 v23 v26 v29 t h)) hinb⟩

theorem chk1_3_holds : k0_chk1_3 v14 v17 v20 v23 v26 v29 := by
  unfold k0_chk1_3
  refine ⟨fun t h => fun hinb => ring_words (Scalar.remsi (Scalar.addi (Scf.iv 0#32 1#32 t) 4#32) 4#32).toNat (nrowW v14 v17 v20 v23 v26 v29 (Scalar.addi (Scf.iv 0#32 1#32 t) 4#32)).toNat (chunk_bounds v14 v17 v20 v23 v26 v29 (Scalar.addi (Scf.iv 0#32 1#32 t) 4#32) (i24_lt v14 v17 v20 v23 v26 v29 t h)).2.2.1 hinb,
    t3_ok v14 v17 v20 v23 v26 v29,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim⟩

theorem chk1_4_holds : k0_chk1_4 v14 v17 v20 v23 v26 v29 := by
  unfold k0_chk1_4
  refine ⟨fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim⟩

theorem chk1_5_holds : k0_chk1_5 v14 v17 v20 v23 v26 v29 := by
  unfold k0_chk1_5
  refine ⟨fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun t => (t3_no v14 v17 v20 v23 v26 v29 t).elim,
    fun h => one_inb 6 (seqW v14 v17 v20 v23 v26 (Scalar.subi (e5W v14 v17 v20 v23 v26 v29) 1#32)).toNat (chunk_bounds v14 v17 v20 v23 v26 v29 (Scalar.subi (e5W v14 v17 v20 v23 v26 v29) 1#32) (last_lt v14 v17 v20 v23 v26 v29 ((cond4_iff v14 v17 v20 v23 v26 v29).1 h))).1,
    fun h => dvd128 v14 v17 v20 v23 v26 v29 (Scalar.subi (e5W v14 v17 v20 v23 v26 v29) 1#32) 384#32 (last_lt v14 v17 v20 v23 v26 v29 ((cond4_iff v14 v17 v20 v23 v26 v29).1 h)) (by decide) (by decide),
    fun h => fun r => col_inb _ (col_fit v14 v17 v20 v23 v26 v29 (Scalar.subi (e5W v14 v17 v20 v23 v26 v29) 1#32) (last_lt v14 v17 v20 v23 v26 v29 ((cond4_iff v14 v17 v20 v23 v26 v29).1 h)) r),
    fun h => dvd128 v14 v17 v20 v23 v26 v29 (Scalar.subi (e5W v14 v17 v20 v23 v26 v29) 1#32) 256#32 (last_lt v14 v17 v20 v23 v26 v29 ((cond4_iff v14 v17 v20 v23 v26 v29).1 h)) (by decide) (by decide),
    fun h => dvd128 v14 v17 v20 v23 v26 v29 (Scalar.subi (e5W v14 v17 v20 v23 v26 v29) 1#32) 128#32 (last_lt v14 v17 v20 v23 v26 v29 ((cond4_iff v14 v17 v20 v23 v26 v29).1 h)) (by decide) (by decide),
    fun h => dvd128 v14 v17 v20 v23 v26 v29 (Scalar.subi (e5W v14 v17 v20 v23 v26 v29) 1#32) 0#32 (last_lt v14 v17 v20 v23 v26 v29 ((cond4_iff v14 v17 v20 v23 v26 v29).1 h)) (by decide) (by decide)⟩

/-- The assumed side condition, at every six words. -/
theorem chk1_holds : k0_chk1 v14 v17 v20 v23 v26 v29 := by
  unfold k0_chk1
  exact ⟨chk1_0_holds v14 v17 v20 v23 v26 v29, chk1_1_holds v14 v17 v20 v23 v26 v29, chk1_2_holds v14 v17 v20 v23 v26 v29, chk1_3_holds v14 v17 v20 v23 v26 v29, chk1_4_holds v14 v17 v20 v23 v26 v29, chk1_5_holds v14 v17 v20 v23 v26 v29⟩
end
end Cert.Kernel.Hand
end
-- ==== Proof.BRing.lean ====
/-
  The ring of four slots the rows arrive in: one transfer a slot, each with a run-time number of rows.
  A slot is held by its own elements, and the rows' array is lent to each cell as a read token.
-/
module

public import proofs.«01_k».proof.Proof.BNat
public import proofs.«01_k».proof.Proof.BChk
public import proofs.«01_k».proof.Proof.Gen.Kernel.Launch
public import proofs.«01_k».proof.Proof.Gen.Kernel.Frame
public import Idealize.ShloMosaic.Lib.Pipeline.Routed
public import Idealize.ShloMosaic.Lib.SparseCore.FromWhole
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The ring, whole, and the rows' array, whole. -/
abbrev ringM : Memref sig .tc .vmem S4x512x8192 .fp8e4m3 := Memref.whole cc0_scratch2
abbrev hidM : Memref sig .tc .hbm S6x6144x8192 .fp8e4m3 := Memref.whole main_arg0

/-- The elements of slot `k`. -/
def slotSet (k : Fin 4) : Finset S4x512x8192.Idx := Finset.univ.filter fun i => (i 0).val = k.val
/-- The cell of slot `k`. -/
abbrev cellK (k : Fin 4) : SemLoc sig := SemLoc.dma ⟨2 + k.val, by have := k.isLt; show 2 + k.val < 15; omega⟩

abbrev RBuf (c : Dev nD) : Type := Buf (Elt F) (ringM.view.loc (c : Thread nD τ))
abbrev HBuf (c : Dev nD) : Type := Buf (Elt F) (hidM.view.loc (c : Thread nD τ))

/-- The amount a transfer of `R` rows counts. -/
abbrev amt (R : ℕ) : ℕ := (cc0_scratch2 : Ref sig .tc).dmaCredit ⟨2, ![R, 8192]⟩ .fp8e4m3

/-- Slot `k` at rest: its cell at zero, its elements at contents of which `G` says something, its read token. -/
def rest (c : Dev nD) (fa : HBuf (F := F) c) (k : Fin 4) (G : RBuf (F := F) c → Prop) : sProp 𝕄 :=
  iprop(semVal ((c : Thread nD τ), cellK k) 0
    ∗ (∃ f : RBuf (F := F) c, ⌜G f⌝ ∗ ringM.view.loc (c : Thread nD τ) ↦[slotSet k]{fullShare} f)
    ∗ hidM.view.loc (c : Thread nD τ) ↦{Transfers.shareTok fullShare 4 k} fa)
/-- Slot `k` with `R` rows on their way. -/
def fly (c : Dev nD) (fa : HBuf (F := F) c) (k : Fin 4) (R : ℕ) (G : RBuf (F := F) c → Prop) : sProp 𝕄 :=
  Transfers.Flight (countersEmb (U := Pipeline.UC sig nD τ)) (c : Thread nD τ) (cellK k) () (amt R)
    iprop((∃ f : RBuf (F := F) c, ⌜G f⌝ ∗ ringM.view.loc (c : Thread nD τ) ↦[slotSet k]{fullShare} f)
      ∗ hidM.view.loc (c : Thread nD τ) ↦{Transfers.shareTok fullShare 4 k} fa)

theorem amt_pos (R : ℕ) (h : 0 < R) : 0 < amt R :=
  RefSig.dmaCredit_pos _ _ _ _ _ _ (by
    show 0 < ∏ a : Fin 2, (![R, 8192] : Fin 2 → ℕ) a
    rw [Fin.prod_univ_two]; show 0 < R * 8192; omega)

theorem subset_slot (k : Fin 4) (R : ℕ) (h) (hsq) :
    ((ringM.slice (Rect.unitDyn (s := S4x512x8192) ![k.val, 0, 0] ![1, R, 8192] h) (fun _ => rfl)).squeeze
      (⟨2, ![R, 8192]⟩ : Shape) hsq).view.set ⊆ slotSet k := by
  rw [Memref.set_view_squeeze]
  intro i hi
  have hi' : i ∈ (Rect.unitDyn (s := S4x512x8192) ![k.val, 0, 0] ![1, R, 8192] h).set := by
    have e : (ringM.slice (Rect.unitDyn (s := S4x512x8192) ![k.val, 0, 0] ![1, R, 8192] h) (fun _ => rfl)).view.set
        = (Rect.unitDyn (s := S4x512x8192) ![k.val, 0, 0] ![1, R, 8192] h).set := by
      show (ringM.view.slice _).set = _
      rw [View.set_slice]; exact Finset.map_refl
    rwa [e] at hi
  have h0 := Rect.mem_set_unitDyn.1 hi' 0
  have h1 : k.val ≤ (i 0).val ∧ (i 0).val < k.val + 1 := h0
  exact Finset.mem_filter.2 ⟨Finset.mem_univ _, by omega⟩

theorem cell_eq (o : Fin 1 → ℕ) (k : Fin 4) (ho : o = ![k.val]) (h) (hsq) :
    SemLoc.dma (((cc0_scratch17 : DmaSems sig S4).slice (Rect.unit (s := S4) o S1.size h)).squeeze S_ hsq).sem = cellK k := by
  subst ho
  fin_cases k <;> with_unfolding_all rfl

/-- Issue: slot `k` at rest becomes slot `k` in flight. -/
theorem issue (c : Dev nD) (fa : HBuf (F := F) c) (k : Fin 4) (R : ℕ) (hR : 0 < R) {G G' : RBuf (F := F) c → Prop}
    {o z : Fin 3 → ℕ} {h} {sz : Fin 2 → ℕ} {hsq} {o' z' : Fin 3 → ℕ} {h'} {hsq'}
    {sem : DmaSem sig} (hs : SemLoc.dma sem = cellK k) (ho : o = ![k.val, 0, 0]) (hz : z = ![1, R, 8192]) (hsz : sz = ![R, 8192])
    (hG : ∀ f, G f → G' ((((ringM.slice (Rect.unitDyn (s := S4x512x8192) o z h) (fun _ => rfl)).squeeze (⟨2, sz⟩ : Shape) hsq).view.write (Elt F) f
      ((((hidM.slice (Rect.unitDyn (s := S6x6144x8192) o' z' h') (fun _ => rfl)).squeeze (⟨2, sz⟩ : Shape) hsq').view.read (Elt F) fa)) Finset.univ)))
    {hsrc hdst hty} {α : Type} {kk : PUnit → Prog (TpuEff nD τ sig (Elt F) Λ₀ .tc) α} {Q : α → sProp 𝕄} :
    rest c fa k G
      ⊢ iprop((fly c fa k R G' -∗ wp frame (wpE (defs₀ (F := F)) Variants.none (c : Thread nD τ) none) Set.univ (kk ⟨⟩) Q)
        -∗ wp frame (wpE (defs₀ (F := F)) Variants.none (c : Thread nD τ) none) Set.univ
          (.op (.enqueueDma ((hidM.slice (Rect.unitDyn (s := S6x6144x8192) o' z' h') (fun _ => rfl)).squeeze (⟨2, sz⟩ : Shape) hsq')
            (.here ((ringM.slice (Rect.unitDyn (s := S4x512x8192) o z h) (fun _ => rfl)).squeeze
            (⟨2, sz⟩ : Shape) hsq)) (.dma sem) hsrc hdst hty) kk) Q) := by
  subst ho hz hsz
  unfold rest fly
  rw [← hs]
  iintro ⟨Hc, ⟨%f, %hf, Hd⟩, Ht⟩ Hk
  iapply (Transfers.wp_dmaFromWhole (countersEmb (U := Pipeline.UC sig nD τ)) Variants.none (c : Thread nD τ) none
    (src := (hidM.slice (Rect.unitDyn (s := S6x6144x8192) o' z' h') (fun _ => rfl)).squeeze (⟨2, ![R, 8192]⟩ : Shape) hsq')
    (dst := (ringM.slice (Rect.unitDyn (s := S4x512x8192) ![k.val, 0, 0] ![1, R, 8192] h) (fun _ => rfl)).squeeze (⟨2, ![R, 8192]⟩ : Shape) hsq)
    (fs := fa) (fd := f) (q := Transfers.shareTok fullShare 4 k) (Sd := slotSet k)
    () (amt R) rfl (amt_pos R hR) (subset_slot k R _ _)) $$ [Hc Hd Ht]
  · isplitl [Ht]; · iexact Ht
    isplitl [Hd]; · iexact Hd
    iexact Hc
  iintro Hfl
  iapply Hk
  iapply (Transfers.Flight_mono (countersEmb (U := Pipeline.UC sig nD τ)) (c : Thread nD τ) ?_) $$ Hfl
  iintro ⟨Hd, Ht⟩
  isplitl [Hd]
  · iexists _
    isplitr; swap; · iexact Hd
    ipureintro
    exact hG f hf
  · iexact Ht

/-- Wait: slot `k` in flight becomes slot `k` at rest. -/
theorem await (c : Dev nD) (fa : HBuf (F := F) c) (k : Fin 4) (R : ℕ) {G : RBuf (F := F) c → Prop}
    {sem : DmaSem sig} (hs : SemLoc.dma sem = cellK k) {sz : Fin 2 → ℕ} (hsz : sz = ![R, 8192]) {hty} {W : Waits sig Unit}
    {α : Type} {kk : PUnit → Prog (TpuEff nD τ sig (Elt F) Λ₀ .tc) α} {Q : α → sProp 𝕄} :
    iprop(fly c fa k R G ∗ owes (c : Thread nD τ) 0 W)
      ⊢ iprop((iprop(rest c fa k G ∗ owes (c : Thread nD τ) 0 (insert (SemLoc.dma sem, ()) W))
          -∗ wp frame (wpE (defs₀ (F := F)) Variants.none (c : Thread nD τ) none) Set.univ (kk ⟨⟩) Q)
        -∗ wp frame (wpE (defs₀ (F := F)) Variants.none (c : Thread nD τ) none) Set.univ
          (.op (.waitDma sem ringM.view.ref (⟨2, sz⟩ : Shape) .fp8e4m3 hty) kk) Q) := by
  subst hsz
  unfold rest fly
  rw [← hs]
  iintro ⟨Hf, HO⟩ Hk
  iapply (Transfers.wp_waitLocalSized (countersEmb (U := Pipeline.UC sig nD τ)) Variants.none (c : Thread nD τ) none
    () (N := amt R) rfl) $$ [Hf HO]
  · isplitl [Hf]; · iexact Hf
    iexact HO
  iintro ⟨⟨Hd, Ht⟩, Hc, HO⟩
  iapply Hk
  isplitr [HO]
  · isplitl [Hc]; · iexact Hc
    isplitl [Hd]; · iexact Hd
    iexact Ht
  · iexact HO

end Cert.Kernel.Hand

end
-- ==== Proof.BLoop1.lean ====
/-
  The ring as one assertion over the four slots, each at rest or with a chunk's rows on their way, and the two
  loops' bookkeeping of it: the loop that starts the first four chunks.
-/
module

public import proofs.«01_k».proof.Proof.BRing
public import proofs.«01_k».proof.Proof.Gen.Kernel.Skeleton

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- What a slot holds: nothing on its way, or the rows of chunk `j`, of which `G j` says what they will be. -/
def slotAt (c : Dev nD) (fa : HBuf (F := F) c) (R : ℕ → ℕ) (G : ℕ → RBuf (F := F) c → Prop) (k : Fin 4) : Option ℕ → sProp 𝕄
  | none => rest c fa k fun _ => True
  | some j => fly c fa k (R j) (G j)

/-- The four slots. -/
abbrev ring (c : Dev nD) (fa : HBuf (F := F) c) (R : ℕ → ℕ) (G : ℕ → RBuf (F := F) c → Prop) (st : Fin 4 → Option ℕ) : sProp 𝕄 :=
  Ring.AtW (slotAt c fa R G) st

/-- Before trip `t` of the first loop: the chunks below `t` are on their way. -/
def st1 (tot t : ℕ) (k : Fin 4) : Option ℕ := if k.val < t ∧ k.val < tot then some k.val else none
/-- Before trip `i` of the main loop: the chunks `i` to `i + 3` are on their way, each in its slot. -/
def st2 (tot i : ℕ) (k : Fin 4) : Option ℕ :=
  if i + (k.val + 4 - i % 4) % 4 < tot then some (i + (k.val + 4 - i % 4) % 4) else none

theorem st1_zero (tot : ℕ) : st1 tot 0 = fun _ => none := by
  funext k; simp [st1]
theorem st1_four (tot : ℕ) : st1 tot 4 = st2 tot 0 := by
  funext k; have := k.isLt
  have e : 0 + (k.val + 4 - 0 % 4) % 4 = k.val := by omega
  simp only [st1, st2, e, k.isLt, true_and]
theorem st1_self (tot : ℕ) (t : Fin 4) : st1 tot t.val t = none := by simp [st1]
theorem st1_succ (tot : ℕ) (t : Fin 4) :
    st1 tot (t.val + 1) = Function.update (st1 tot t.val) t (if t.val < tot then some t.val else none) := by
  funext k
  by_cases h : k = t
  · subst h; rw [Function.update_self]; simp [st1]
  · rw [Function.update_of_ne h]
    have hk : k.val ≠ t.val := fun e => h (Fin.ext e)
    simp only [st1]
    have : (k.val < t.val + 1) ↔ k.val < t.val := by omega
    simp only [this]
theorem st2_self (tot i : ℕ) (h : i < tot) : st2 tot i ⟨i % 4, Nat.mod_lt _ (by decide)⟩ = some i := by
  have e : i + (i % 4 + 4 - i % 4) % 4 = i := by omega
  simp only [st2, e, if_pos h]
theorem st2_succ (tot i : ℕ) :
    st2 tot (i + 1) = Function.update (st2 tot i) ⟨i % 4, Nat.mod_lt _ (by decide)⟩ (if i + 4 < tot then some (i + 4) else none) := by
  funext k
  have hk := k.isLt
  by_cases h : k = ⟨i % 4, Nat.mod_lt _ (by decide)⟩
  · subst h; rw [Function.update_self]
    have e : i + 1 + (i % 4 + 4 - (i + 1) % 4) % 4 = i + 4 := by omega
    simp only [st2, e]
  · rw [Function.update_of_ne h]
    have hk' : k.val ≠ i % 4 := fun e => h (Fin.ext e)
    have e : i + 1 + (k.val + 4 - (i + 1) % 4) % 4 = i + (k.val + 4 - i % 4) % 4 := by omega
    simp only [st2, e]
theorem st2_end (tot i : ℕ) (h : tot ≤ i) : st2 tot i = fun _ => none := by
  funext k; simp only [st2]; rw [if_neg (by omega)]

/-- The rows chunk `i` has. -/
def rowsN (v14 v17 v20 v23 v26 v29 : BitVec 32) (i : ℕ) : ℕ := (nrowW v14 v17 v20 v23 v26 v29 (BitVec.ofNat 32 i)).toNat

/-- The slot chunk word `I` uses. -/
abbrev slotN (n : ℕ) : Fin 4 := ⟨n % 4, Nat.mod_lt _ (by decide)⟩

/-- `G` says of every chunk's rows, once in their slot, what a transfer of that chunk leaves there. -/
def Delivers (c : Dev nD) (fa : HBuf (F := F) c) (G : ℕ → RBuf (F := F) c → Prop) (v14 v17 v20 v23 v26 v29 : BitVec 32) : Prop :=
  ∀ (I : BitVec 32), I.toNat < totN v14 v17 v20 v23 v26 v29 → ∀ (h) (hsq) (h') (hsq') (f : RBuf (F := F) c),
    G I.toNat (((ringM.slice (Rect.unitDyn (s := S4x512x8192) ![(slotN I.toNat).val, 0, 0] ![1, (nrowW v14 v17 v20 v23 v26 v29 I).toNat, 8192] h) (fun _ => rfl)).squeeze
        (⟨2, ![(nrowW v14 v17 v20 v23 v26 v29 I).toNat, 8192]⟩ : Shape) hsq).view.write (Elt F) f
      (((hidM.slice (Rect.unitDyn (s := S6x6144x8192) ![(seqW v14 v17 v20 v23 v26 I).toNat, (Scalar.muli (posW v14 v17 v20 v23 v26 v29 I) 512#32).toNat, 0]
        ![1, (nrowW v14 v17 v20 v23 v26 v29 I).toNat, 8192] h') (fun _ => rfl)).squeeze (⟨2, ![(nrowW v14 v17 v20 v23 v26 v29 I).toNat, 8192]⟩ : Shape) hsq').view.read (Elt F) fa) Finset.univ)

variable (c : Dev nD) (fa : HBuf (F := F) c) (G : ℕ → RBuf (F := F) c → Prop)
  (arg0 : Memref sig .tc .smem S1 .f32) (harg0 : arg0.IsWhole) (arg1 : Memref sig .tc .smem S1 .f32) (harg1 : arg1.IsWhole)
  (v14 v16 v17 v19 v20 v22 v23 v25 v26 v28 v29 : BitVec 32) (k0_hw1 : k0_chk1 v14 v17 v20 v23 v26 v29)
  (v31 v51 v71 v91 v111 v131 v151 : BitVec 32)

/-- Issue of chunk word `I` on the slot it names. -/
theorem issueI (hG : Delivers c fa G v14 v17 v20 v23 v26 v29) (I : BitVec 32) (hI : I.toNat < totN v14 v17 v20 v23 v26 v29) (st : Fin 4 → Option ℕ) (hst : st (slotN I.toNat) = none)
    {o z : Fin 3 → ℕ} {h} {sz : Fin 2 → ℕ} {hsq} {o' z' : Fin 3 → ℕ} {h'} {hsq'} {p : Fin 1 → ℕ} {hp}
    (ho : o = ![(Scalar.remsi I 4#32).toNat, 0, 0]) (hz : z = ![1, (nrowW v14 v17 v20 v23 v26 v29 I).toNat, 8192]) (hsz : sz = ![(nrowW v14 v17 v20 v23 v26 v29 I).toNat, 8192])
    (ho' : o' = ![(seqW v14 v17 v20 v23 v26 I).toNat, (Scalar.muli (posW v14 v17 v20 v23 v26 v29 I) 512#32).toNat, 0]) (hz' : z' = ![1, (nrowW v14 v17 v20 v23 v26 v29 I).toNat, 8192])
    (hp0 : p = ![(Scalar.remsi I 4#32).toNat])
    {hsrc hdst hty} {α : Type} {kk : PUnit → Prog (TpuEff nD τ sig (Elt F) Λ₀ .tc) α} {Q : α → sProp 𝕄} :
    ring c fa (rowsN v14 v17 v20 v23 v26 v29) G st
      ⊢ iprop((ring c fa (rowsN v14 v17 v20 v23 v26 v29) G (Function.update st (slotN I.toNat) (some I.toNat))
          -∗ wp frame (wpE (defs₀ (F := F)) Variants.none (c : Thread nD τ) none) Set.univ (kk ⟨⟩) Q)
        -∗ wp frame (wpE (defs₀ (F := F)) Variants.none (c : Thread nD τ) none) Set.univ
          (.op (.enqueueDma (((Memref.whole main_arg0).slice (Rect.unitDyn (s := S6x6144x8192) o' z' h') (fun _ => rfl)).squeeze (⟨2, sz⟩ : Shape) hsq')
            (.here (((Memref.whole cc0_scratch2).slice (Rect.unitDyn (s := S4x512x8192) o z h) (fun _ => rfl)).squeeze
            (⟨2, sz⟩ : Shape) hsq)) (.dma (((cc0_scratch17 : DmaSems sig S4).slice (Rect.unit (s := S4) p S1.size hp)).squeeze S_ squeezes_S1_S_).sem) hsrc hdst hty) kk) Q) := by
  have h72 := totN_le v14 v17 v20 v23 v26 v29
  have hr : (Scalar.remsi I 4#32).toNat = (slotN I.toNat).val := remN (by omega) (by decide) (by decide)
  rw [hr] at ho hp0
  have hR : rowsN v14 v17 v20 v23 v26 v29 I.toNat = (nrowW v14 v17 v20 v23 v26 v29 I).toNat := by
    unfold rowsN; rw [show BitVec.ofNat 32 I.toNat = I from BitVec.eq_of_toNat_eq (by simp)]
  have hb := chunk_bounds v14 v17 v20 v23 v26 v29 I hI
  subst ho' hz'
  rw [ring, Ring.AtW_focus (slotAt c fa (rowsN v14 v17 v20 v23 v26 v29) G) st (slotN I.toNat), hst]
  iintro ⟨Hk, Hr⟩ HK
  unfold slotAt
  iapply (issue c fa (slotN I.toNat) (nrowW v14 v17 v20 v23 v26 v29 I).toNat (by omega) (G := fun _ => True) (G' := G I.toNat)
    (cell_eq p _ hp0 _ _) ho hz hsz (by subst ho hz hsz; exact fun f _ => hG I hI _ _ _ _ f)) $$ Hk
  iintro Hf
  iapply HK
  iapply (Ring.AtW_update (slotAt c fa (rowsN v14 v17 v20 v23 v26 v29) G) st (slotN I.toNat) (some I.toNat))
  isplitl [Hf]
  · show _ ⊢ fly c fa (slotN I.toNat) (rowsN v14 v17 v20 v23 v26 v29 I.toNat) (G I.toNat)
    rw [hR]
  · iexact Hr

/-- The wait for chunk word `I`: its slot at rest, its rows in it. -/
theorem awaitI (I : BitVec 32) (hI : I.toNat < totN v14 v17 v20 v23 v26 v29) (st : Fin 4 → Option ℕ) (hst : st (slotN I.toNat) = some I.toNat)
    {sz : Fin 2 → ℕ} (hsz : sz = ![(nrowW v14 v17 v20 v23 v26 v29 I).toNat, 8192]) {hty} {W : Waits sig Unit}
    {p : Fin 1 → ℕ} {hp} (hp0 : p = ![(Scalar.remsi I 4#32).toNat])
    {α : Type} {kk : PUnit → Prog (TpuEff nD τ sig (Elt F) Λ₀ .tc) α} {Q : α → sProp 𝕄} :
    iprop(ring c fa (rowsN v14 v17 v20 v23 v26 v29) G st ∗ owes (c : Thread nD τ) 0 W)
      ⊢ iprop((iprop(rest c fa (slotN I.toNat) (G I.toNat) ∗ Ring.restW (slotAt c fa (rowsN v14 v17 v20 v23 v26 v29) G) st (slotN I.toNat) ∗ ∃ W', owes (c : Thread nD τ) 0 W')
          -∗ wp frame (wpE (defs₀ (F := F)) Variants.none (c : Thread nD τ) none) Set.univ (kk ⟨⟩) Q)
        -∗ wp frame (wpE (defs₀ (F := F)) Variants.none (c : Thread nD τ) none) Set.univ
          (.op (.waitDma (((cc0_scratch17 : DmaSems sig S4).slice (Rect.unit (s := S4) p S1.size hp)).squeeze S_ squeezes_S1_S_).sem
            (Memref.whole cc0_scratch2 : Memref sig .tc .vmem S4x512x8192 .fp8e4m3).view.ref (⟨2, sz⟩ : Shape) .fp8e4m3 hty) kk) Q) := by
  have h72 := totN_le v14 v17 v20 v23 v26 v29
  have hr : (Scalar.remsi I 4#32).toNat = (slotN I.toNat).val := remN (by omega) (by decide) (by decide)
  rw [hr] at hp0
  have hR : rowsN v14 v17 v20 v23 v26 v29 I.toNat = (nrowW v14 v17 v20 v23 v26 v29 I).toNat := by
    unfold rowsN; rw [show BitVec.ofNat 32 I.toNat = I from BitVec.eq_of_toNat_eq (by simp)]
  rw [ring, Ring.AtW_focus (slotAt c fa (rowsN v14 v17 v20 v23 v26 v29) G) st (slotN I.toNat), hst]
  iintro ⟨⟨Hk, Hr⟩, HO⟩ HK
  unfold slotAt
  iapply (await c fa (slotN I.toNat) (rowsN v14 v17 v20 v23 v26 v29 I.toNat) (G := G I.toNat)
    (cell_eq p _ hp0 _ _) (hR ▸ hsz)) $$ [Hk HO]
  · isplitl [Hk]; · iexact Hk
    iexact HO
  iintro ⟨Hs, HO⟩
  iapply HK
  isplitl [Hs]; · iexact Hs
  isplitl [Hr]; · iexact Hr
  iexists _; iexact HO

set_option maxHeartbeats 4000000 in
/-- One trip of the first loop. -/
theorem t1_step (hG : Delivers c fa G v14 v17 v20 v23 v26 v29) (t : Fin k0_t1_loop.trips) (u : Unit) :
    ring c fa (rowsN v14 v17 v20 v23 v26 v29) G (st1 (totN v14 v17 v20 v23 v26 v29) t.val)
      ⊢ wp frame (wpE (defs₀ (F := F)) Variants.none (c : Thread nD τ) none) Set.univ
        (k0_t1_body (F := F) arg0 harg0 arg1 harg1 (Memref.whole main_arg8) (Memref.isWhole_whole _) (Memref.whole main_arg7) (Memref.isWhole_whole _) (Memref.whole main_arg0) (Memref.isWhole_whole _) (Memref.whole main_arg1) (Memref.isWhole_whole _) (Memref.whole main_arg2) (Memref.isWhole_whole _) (Memref.whole main_arg5) (Memref.isWhole_whole _) (Memref.whole main_arg6) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 v14 v16 v17 v19 v20 v22 v23 v25 v26 v28 v29 k0_hw1 v31 v51 v71 v91 v111 v131 v151 t u)
        (fun _ => ring c fa (rowsN v14 v17 v20 v23 v26 v29) G (st1 (totN v14 v17 v20 v23 v26 v29) (t.val + 1))) := by
  have ht4 : t.val < 4 := by have := t.isLt; have := t1_trips; omega
  have hi := i1_toNat t
  have hs : slotN (Scf.iv 0#32 1#32 t.val : BitVec 32).toNat = (⟨t.val, ht4⟩ : Fin 4) := Fin.ext (by show (Scf.iv 0#32 1#32 t.val : BitVec 32).toNat % 4 = t.val; rw [hi]; exact Nat.mod_eq_of_lt ht4)
  have e := st1_succ (totN v14 v17 v20 v23 v26 v29) ⟨t.val, ht4⟩
  unfold k0_t1_body
  by_cases hc : k0_cond1 v14 v17 v20 v23 v26 v29 t = 1#1
  · simp only [dif_pos hc]
    have hlt := (cond1_iff v14 v17 v20 v23 v26 v29 t).1 hc
    iintro H
    sl_exec
    iapply (issueI c fa G v14 v17 v20 v23 v26 v29 hG (Scf.iv 0#32 1#32 t.val) (by rw [hi]; exact hlt) (st1 (totN v14 v17 v20 v23 v26 v29) t.val)
      (by rw [hs]; exact st1_self _ _) (congrArg Prod.fst (off2_eq v14 v17 v20 v23 v26 v29 t)) (congrArg Prod.snd (off2_eq v14 v17 v20 v23 v26 v29 t)) (sz1_eq v14 v17 v20 v23 v26 v29 t)
      (congrArg Prod.fst (off3_eq v14 v17 v20 v23 v26 v29 t)) (congrArg Prod.snd (off3_eq v14 v17 v20 v23 v26 v29 t)) rfl) $$ H
    iintro H
    sl_exec
    sl_step
    rw [hs, hi]
    rw [if_pos hlt] at e
    rw [e]
    iexact H
  · simp only [dif_neg hc]
    have hlt := fun h => hc ((cond1_iff v14 v17 v20 v23 v26 v29 t).2 h)
    iintro H
    sl_exec
    sl_step
    rw [if_neg hlt] at e
    have e2 : st1 (totN v14 v17 v20 v23 v26 v29) (t.val + 1) = st1 (totN v14 v17 v20 v23 v26 v29) t.val := by
      rw [e]; funext k; by_cases hk : k = ⟨t.val, ht4⟩
      · subst hk; rw [Function.update_self]; exact (st1_self (totN v14 v17 v20 v23 v26 v29) ⟨t.val, ht4⟩).symm
      · rw [Function.update_of_ne hk]
    rw [e2]; iexact H

end Cert.Kernel.Hand

end
-- ==== Proof.BLoop2.lean ====
module

public import proofs.«01_k».proof.Proof.BLoop1
public import proofs.«01_k».proof.Proof.Gen.Kernel.Skeleton

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (G : ℕ → RBuf (F := F) c → Prop)
  (arg0 : Memref sig .tc .smem S1 .f32) (harg0 : arg0.IsWhole) (arg1 : Memref sig .tc .smem S1 .f32) (harg1 : arg1.IsWhole)
  (d0 : Buf (Elt F) (arg0.view.loc (c : Thread nD τ))) (d1 : Buf (Elt F) (arg1.view.loc (c : Thread nD τ)))
  (v14 v16 v17 v19 v20 v22 v23 v25 v26 v28 v29 : BitVec 32) (k0_hw1 : k0_chk1 v14 v17 v20 v23 v26 v29)
  (v31 v51 v71 v91 v111 v131 v151 : BitVec 32) (v211 v212 : IVec S6x128 32) (v249 : FVec F S6x128 .f32) (v255 : IVec S6x128 1) (v256 : FVec F S6x128 .f32)

/-- Slot `k` of the ring, a memref. -/
def slotM (k : Fin 4) : Memref sig .tc .vmem (⟨3, ![1, 512, 8192]⟩ : Shape) .fp8e4m3 :=
  (Memref.whole cc0_scratch2 : Memref sig .tc .vmem S4x512x8192 .fp8e4m3).slice (Rect.unit (s := S4x512x8192) ![k.val, 0, 0] ![1, 512, 8192]
    (by intro a; have := k.isLt; fin_cases a <;> simp <;> omega)) (fun _ => rfl)

omit [FloatOps F] in
theorem slotM_set (k : Fin 4) : slotSet k = (slotM k).view.set := by
  have e : (slotM k).view.set = (Rect.unit (s := S4x512x8192) ![k.val, 0, 0] ![1, 512, 8192]
    (by intro a; have := k.isLt; fin_cases a <;> simp <;> omega)).set := by
    show ((Memref.whole cc0_scratch2 : Memref sig .tc .vmem S4x512x8192 .fp8e4m3).view.slice _).set = _
    rw [View.set_slice]; exact Finset.map_refl
  rw [e]
  ext i
  constructor
  · intro h
    have h := (Finset.mem_filter.1 h).2
    refine Rect.mem_set_unit.2 fun a => ?_
    have h1 := (i 1).isLt
    have h2 := (i 2).isLt
    fin_cases a
    · exact ⟨h.ge, by show (i 0).val < k.val + 1; omega⟩
    · exact ⟨Nat.zero_le _, by show (i 1).val < 0 + 512; simpa using h1⟩
    · exact ⟨Nat.zero_le _, by show (i 2).val < 0 + 8192; simpa using h2⟩
  · intro h
    have h0 : k.val ≤ (i 0).val ∧ (i 0).val < k.val + 1 := Rect.mem_set_unit.1 h 0
    exact Finset.mem_filter.2 ⟨Finset.mem_univ _, by omega⟩

theorem rest_own (k : Fin 4) (G : RBuf (F := F) c → Prop) :
    rest c fa k G = iprop(semVal ((c : Thread nD τ), cellK k) 0
      ∗ (∃ f : RBuf (F := F) c, ⌜G f⌝ ∗ (slotM k).view.loc (c : Thread nD τ) ↦[(slotM k).view.set]{fullShare} f)
      ∗ hidM.view.loc (c : Thread nD τ) ↦{Transfers.shareTok fullShare 4 k} fa) := by
  unfold rest
  rw [slotM_set]
  rfl

omit [FloatOps F] in
theorem slot_load (k : Fin 4) {sz : Fin 3 → ℕ} (o : Fin 3 → ℕ) (h : ∀ a, o a + sz a ≤ S4x512x8192.size a) (o0 : o 0 = k.val) (s0 : sz 0 = 1) :
    ((Memref.whole cc0_scratch2 : Memref sig .tc .vmem S4x512x8192 .fp8e4m3).access (Rect.unit (s := S4x512x8192) o sz h)).set ⊆ (slotM k).view.set := by
  rw [← slotM_set]
  intro i hi
  have hi' : i ∈ (Rect.unit (s := S4x512x8192) o sz h).set := by
    have e : ((Memref.whole cc0_scratch2 : Memref sig .tc .vmem S4x512x8192 .fp8e4m3).access (Rect.unit (s := S4x512x8192) o sz h)).set
        = (Rect.unit (s := S4x512x8192) o sz h).set := by
      show ((Memref.whole cc0_scratch2 : Memref sig .tc .vmem S4x512x8192 .fp8e4m3).view.slice _).set = _
      rw [View.set_slice]; exact Finset.map_refl
    rwa [e] at hi
  have h0 := Rect.mem_set_unit.1 hi' 0
  rw [o0, s0] at h0
  exact Finset.mem_filter.2 ⟨Finset.mem_univ _, by omega⟩

/-- What is held between trips of the second loop, and after it. -/
def inv2 (n : ℕ) : sProp 𝕄 :=
  iprop(ring c fa (rowsN v14 v17 v20 v23 v26 v29) G (st2 (totN v14 v17 v20 v23 v26 v29) n) ∗ (arg0.view.loc (c : Thread nD τ) ↦[arg0.view.set]{fullShare} d0) ∗ (arg1.view.loc (c : Thread nD τ) ↦[arg1.view.set]{fullShare} d1) ∗ (∃ f, ((Memref.whole cc0_scratch1).view.loc (c : Thread nD τ) ↦{fullShare} f)) ∗ (∃ f, ((Memref.whole cc0_scratch3).view.loc (c : Thread nD τ) ↦{fullShare} f)) ∗ (∃ f, ((Memref.whole cc0_scratch4).view.loc (c : Thread nD τ) ↦{fullShare} f)) ∗ (∃ f, ((Memref.whole cc0_scratch5).view.loc (c : Thread nD τ) ↦{fullShare} f)) ∗ (∃ f, ((Memref.whole cc0_scratch6).view.loc (c : Thread nD τ) ↦{fullShare} f)) ∗ (∃ f, ((Memref.whole cc0_scratch7).view.loc (c : Thread nD τ) ↦{fullShare} f)) ∗ (∃ f, ((Memref.whole cc0_scratch8).view.loc (c : Thread nD τ) ↦{fullShare} f)) ∗ (∃ f, ((Memref.whole cc0_scratch9).view.loc (c : Thread nD τ) ↦{fullShare} f)) ∗ (∃ f, ((Memref.whole cc0_scratch10).view.loc (c : Thread nD τ) ↦{fullShare} f)) ∗ (∃ f, ((Memref.whole cc0_scratch11).view.loc (c : Thread nD τ) ↦{fullShare} f)) ∗ (∃ f, ((Memref.whole cc0_scratch12).view.loc (c : Thread nD τ) ↦{fullShare} f)) ∗ (∃ f, ((Memref.whole cc0_scratch13).view.loc (c : Thread nD τ) ↦{fullShare} f)) ∗ (∃ f, ((Memref.whole cc0_scratch14).view.loc (c : Thread nD τ) ↦{fullShare} f)) ∗ (∃ f, ((Memref.whole cc0_scratch15).view.loc (c : Thread nD τ) ↦{fullShare} f)) ∗ (∃ f, ((Memref.whole cc0_scratch16).view.loc (c : Thread nD τ) ↦{fullShare} f)) ∗ ∃ W, owes (c : Thread nD τ) 0 W)

set_option maxHeartbeats 40000000 in
set_option maxRecDepth 65536 in
/-- One trip of the second loop. -/
theorem t2_step (hG : Delivers c fa G v14 v17 v20 v23 v26 v29) (t : Fin (k0_t2_loop v14 v17 v20 v23 v26 v29).trips) (u : BitVec 32) :
    inv2 c fa G arg0 arg1 d0 d1 v14 v17 v20 v23 v26 v29 t.val
      ⊢ wp frame (wpE (defs₀ (F := F)) Variants.none (c : Thread nD τ) none) Set.univ
        (k0_t2_body (F := F) arg0 harg0 arg1 harg1 (Memref.whole main_arg8) (Memref.isWhole_whole _) (Memref.whole main_arg7) (Memref.isWhole_whole _) (Memref.whole main_arg0) (Memref.isWhole_whole _) (Memref.whole main_arg1) (Memref.isWhole_whole _) (Memref.whole main_arg2) (Memref.isWhole_whole _) (Memref.whole main_arg5) (Memref.isWhole_whole _) (Memref.whole main_arg6) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 v14 v16 v17 v19 v20 v22 v23 v25 v26 v28 v29 k0_hw1 v31 v51 v71 v91 v111 v131 v151 v211 v212 v249 v255 v256 t u)
        (fun _ => inv2 c fa G arg0 arg1 d0 d1 v14 v17 v20 v23 v26 v29 (t.val + 1)) := by
  have h72 := totN_le v14 v17 v20 v23 v26 v29
  have htl : t.val < totN v14 v17 v20 v23 v26 v29 := by have := t.isLt; have := t2_trips v14 v17 v20 v23 v26 v29; omega
  have hi := i2_toNat v14 v17 v20 v23 v26 v29 t
  have hsl : (Scalar.remsi (Scf.iv 0#32 1#32 t.val : BitVec 32) 4#32).toNat = (slotN t.val).val := by
    refine (remN (by omega) (by decide) (by decide)).trans ?_
    rw [hi]
  have hs0 : slotN (Scf.iv 0#32 1#32 t.val : BitVec 32).toNat = slotN t.val := by rw [hi]
  have g9 := slot_load (slotN t.val) (sz := S1x512x1536.size) (k0_off9 v14 v17 v20 v23 v26 v29 t) (k0_off9_inb v14 v17 v20 v23 v26 v29 k0_hw1 t) hsl rfl
  have g10 := slot_load (slotN t.val) (sz := S1x128x128.size) (k0_off10 v14 v17 v20 v23 v26 v29 t) (k0_off10_inb v14 v17 v20 v23 v26 v29 k0_hw1 t) hsl rfl
  have g11 := slot_load (slotN t.val) (sz := S1x128x128.size) (k0_off11 v14 v17 v20 v23 v26 v29 t) (k0_off11_inb v14 v17 v20 v23 v26 v29 k0_hw1 t) hsl rfl
  have g12 := slot_load (slotN t.val) (sz := S1x128x128.size) (k0_off12 v14 v17 v20 v23 v26 v29 t) (k0_off12_inb v14 v17 v20 v23 v26 v29 k0_hw1 t) hsl rfl
  have g13 := slot_load (slotN t.val) (sz := S1x128x128.size) (k0_off13 v14 v17 v20 v23 v26 v29 t) (k0_off13_inb v14 v17 v20 v23 v26 v29 k0_hw1 t) hsl rfl
  have g14 := slot_load (slotN t.val) (sz := S1x128x128.size) (k0_off14 v14 v17 v20 v23 v26 v29 t) (k0_off14_inb v14 v17 v20 v23 v26 v29 k0_hw1 t) hsl rfl
  have g15 := slot_load (slotN t.val) (sz := S1x128x128.size) (k0_off15 v14 v17 v20 v23 v26 v29 t) (k0_off15_inb v14 v17 v20 v23 v26 v29 k0_hw1 t) hsl rfl
  have g16 := slot_load (slotN t.val) (sz := S1x128x128.size) (k0_off16 v14 v17 v20 v23 v26 v29 t) (k0_off16_inb v14 v17 v20 v23 v26 v29 k0_hw1 t) hsl rfl
  have g17 := slot_load (slotN t.val) (sz := S1x128x128.size) (k0_off17 v14 v17 v20 v23 v26 v29 t) (k0_off17_inb v14 v17 v20 v23 v26 v29 k0_hw1 t) hsl rfl
  have g18 := slot_load (slotN t.val) (sz := S1x128x128.size) (k0_off18 v14 v17 v20 v23 v26 v29 t) (k0_off18_inb v14 v17 v20 v23 v26 v29 k0_hw1 t) hsl rfl
  have g19 := slot_load (slotN t.val) (sz := S1x128x128.size) (k0_off19 v14 v17 v20 v23 v26 v29 t) (k0_off19_inb v14 v17 v20 v23 v26 v29 k0_hw1 t) hsl rfl
  have g20 := slot_load (slotN t.val) (sz := S1x128x128.size) (k0_off20 v14 v17 v20 v23 v26 v29 t) (k0_off20_inb v14 v17 v20 v23 v26 v29 k0_hw1 t) hsl rfl
  have g21 := slot_load (slotN t.val) (sz := S1x128x128.size) (k0_off21 v14 v17 v20 v23 v26 v29 t) (k0_off21_inb v14 v17 v20 v23 v26 v29 k0_hw1 t) hsl rfl
  have g22 := slot_load (slotN t.val) (sz := S1x128x128.size) (k0_off22 v14 v17 v20 v23 v26 v29 t) (k0_off22_inb v14 v17 v20 v23 v26 v29 k0_hw1 t) hsl rfl
  have g23 := slot_load (slotN t.val) (sz := S1x128x128.size) (k0_off23 v14 v17 v20 v23 v26 v29 t) (k0_off23_inb v14 v17 v20 v23 v26 v29 k0_hw1 t) hsl rfl
  have g24 := slot_load (slotN t.val) (sz := S1x128x128.size) (k0_off24 v14 v17 v20 v23 v26 v29 t) (k0_off24_inb v14 v17 v20 v23 v26 v29 k0_hw1 t) hsl rfl
  have g25 := slot_load (slotN t.val) (sz := S1x128x128.size) (k0_off25 v14 v17 v20 v23 v26 v29 t) (k0_off25_inb v14 v17 v20 v23 v26 v29 k0_hw1 t) hsl rfl
  have g26 := slot_load (slotN t.val) (sz := S1x512x1536.size) (k0_off26 v14 v17 v20 v23 v26 v29 t) (k0_off26_inb v14 v17 v20 v23 v26 v29 k0_hw1 t) hsl rfl
  have g27 := slot_load (slotN t.val) (sz := S1x128x128.size) (k0_off27 v14 v17 v20 v23 v26 v29 t) (k0_off27_inb v14 v17 v20 v23 v26 v29 k0_hw1 t) hsl rfl
  have g28 := slot_load (slotN t.val) (sz := S1x128x128.size) (k0_off28 v14 v17 v20 v23 v26 v29 t) (k0_off28_inb v14 v17 v20 v23 v26 v29 k0_hw1 t) hsl rfl
  have g29 := slot_load (slotN t.val) (sz := S1x128x128.size) (k0_off29 v14 v17 v20 v23 v26 v29 t) (k0_off29_inb v14 v17 v20 v23 v26 v29 k0_hw1 t) hsl rfl
  have g30 := slot_load (slotN t.val) (sz := S1x128x128.size) (k0_off30 v14 v17 v20 v23 v26 v29 t) (k0_off30_inb v14 v17 v20 v23 v26 v29 k0_hw1 t) hsl rfl
  have g31 := slot_load (slotN t.val) (sz := S1x128x128.size) (k0_off31 v14 v17 v20 v23 v26 v29 t) (k0_off31_inb v14 v17 v20 v23 v26 v29 k0_hw1 t) hsl rfl
  have g32 := slot_load (slotN t.val) (sz := S1x128x128.size) (k0_off32 v14 v17 v20 v23 v26 v29 t) (k0_off32_inb v14 v17 v20 v23 v26 v29 k0_hw1 t) hsl rfl
  have g33 := slot_load (slotN t.val) (sz := S1x128x128.size) (k0_off33 v14 v17 v20 v23 v26 v29 t) (k0_off33_inb v14 v17 v20 v23 v26 v29 k0_hw1 t) hsl rfl
  have g34 := slot_load (slotN t.val) (sz := S1x128x128.size) (k0_off34 v14 v17 v20 v23 v26 v29 t) (k0_off34_inb v14 v17 v20 v23 v26 v29 k0_hw1 t) hsl rfl
  have g35 := slot_load (slotN t.val) (sz := S1x128x128.size) (k0_off35 v14 v17 v20 v23 v26 v29 t) (k0_off35_inb v14 v17 v20 v23 v26 v29 k0_hw1 t) hsl rfl
  have g36 := slot_load (slotN t.val) (sz := S1x128x128.size) (k0_off36 v14 v17 v20 v23 v26 v29 t) (k0_off36_inb v14 v17 v20 v23 v26 v29 k0_hw1 t) hsl rfl
  have g37 := slot_load (slotN t.val) (sz := S1x128x128.size) (k0_off37 v14 v17 v20 v23 v26 v29 t) (k0_off37_inb v14 v17 v20 v23 v26 v29 k0_hw1 t) hsl rfl
  have g38 := slot_load (slotN t.val) (sz := S1x128x128.size) (k0_off38 v14 v17 v20 v23 v26 v29 t) (k0_off38_inb v14 v17 v20 v23 v26 v29 k0_hw1 t) hsl rfl
  have g39 := slot_load (slotN t.val) (sz := S1x128x128.size) (k0_off39 v14 v17 v20 v23 v26 v29 t) (k0_off39_inb v14 v17 v20 v23 v26 v29 k0_hw1 t) hsl rfl
  have g40 := slot_load (slotN t.val) (sz := S1x128x128.size) (k0_off40 v14 v17 v20 v23 v26 v29 t) (k0_off40_inb v14 v17 v20 v23 v26 v29 k0_hw1 t) hsl rfl
  have g41 := slot_load (slotN t.val) (sz := S1x128x128.size) (k0_off41 v14 v17 v20 v23 v26 v29 t) (k0_off41_inb v14 v17 v20 v23 v26 v29 k0_hw1 t) hsl rfl
  have g42 := slot_load (slotN t.val) (sz := S1x128x128.size) (k0_off42 v14 v17 v20 v23 v26 v29 t) (k0_off42_inb v14 v17 v20 v23 v26 v29 k0_hw1 t) hsl rfl
  have g43 := slot_load (slotN t.val) (sz := S1x512x1536.size) (k0_off43 v14 v17 v20 v23 v26 v29 t) (k0_off43_inb v14 v17 v20 v23 v26 v29 k0_hw1 t) hsl rfl
  have g44 := slot_load (slotN t.val) (sz := S1x128x128.size) (k0_off44 v14 v17 v20 v23 v26 v29 t) (k0_off44_inb v14 v17 v20 v23 v26 v29 k0_hw1 t) hsl rfl
  have g45 := slot_load (slotN t.val) (sz := S1x128x128.size) (k0_off45 v14 v17 v20 v23 v26 v29 t) (k0_off45_inb v14 v17 v20 v23 v26 v29 k0_hw1 t) hsl rfl
  have g46 := slot_load (slotN t.val) (sz := S1x128x128.size) (k0_off46 v14 v17 v20 v23 v26 v29 t) (k0_off46_inb v14 v17 v20 v23 v26 v29 k0_hw1 t) hsl rfl
  have g47 := slot_load (slotN t.val) (sz := S1x128x128.size) (k0_off47 v14 v17 v20 v23 v26 v29 t) (k0_off47_inb v14 v17 v20 v23 v26 v29 k0_hw1 t) hsl rfl
  have g48 := slot_load (slotN t.val) (sz := S1x128x128.size) (k0_off48 v14 v17 v20 v23 v26 v29 t) (k0_off48_inb v14 v17 v20 v23 v26 v29 k0_hw1 t) hsl rfl
  have g49 := slot_load (slotN t.val) (sz := S1x128x128.size) (k0_off49 v14 v17 v20 v23 v26 v29 t) (k0_off49_inb v14 v17 v20 v23 v26 v29 k0_hw1 t) hsl rfl
  have g50 := slot_load (slotN t.val) (sz := S1x128x128.size) (k0_off50 v14 v17 v20 v23 v26 v29 t) (k0_off50_inb v14 v17 v20 v23 v26 v29 k0_hw1 t) hsl rfl
  have g51 := slot_load (slotN t.val) (sz := S1x128x128.size) (k0_off51 v14 v17 v20 v23 v26 v29 t) (k0_off51_inb v14 v17 v20 v23 v26 v29 k0_hw1 t) hsl rfl
  have g52 := slot_load (slotN t.val) (sz := S1x128x128.size) (k0_off52 v14 v17 v20 v23 v26 v29 t) (k0_off52_inb v14 v17 v20 v23 v26 v29 k0_hw1 t) hsl rfl
  have g53 := slot_load (slotN t.val) (sz := S1x128x128.size) (k0_off53 v14 v17 v20 v23 v26 v29 t) (k0_off53_inb v14 v17 v20 v23 v26 v29 k0_hw1 t) hsl rfl
  have g54 := slot_load (slotN t.val) (sz := S1x128x128.size) (k0_off54 v14 v17 v20 v23 v26 v29 t) (k0_off54_inb v14 v17 v20 v23 v26 v29 k0_hw1 t) hsl rfl
  have g55 := slot_load (slotN t.val) (sz := S1x128x128.size) (k0_off55 v14 v17 v20 v23 v26 v29 t) (k0_off55_inb v14 v17 v20 v23 v26 v29 k0_hw1 t) hsl rfl
  have g56 := slot_load (slotN t.val) (sz := S1x128x128.size) (k0_off56 v14 v17 v20 v23 v26 v29 t) (k0_off56_inb v14 v17 v20 v23 v26 v29 k0_hw1 t) hsl rfl
  have g57 := slot_load (slotN t.val) (sz := S1x128x128.size) (k0_off57 v14 v17 v20 v23 v26 v29 t) (k0_off57_inb v14 v17 v20 v23 v26 v29 k0_hw1 t) hsl rfl
  have g58 := slot_load (slotN t.val) (sz := S1x128x128.size) (k0_off58 v14 v17 v20 v23 v26 v29 t) (k0_off58_inb v14 v17 v20 v23 v26 v29 k0_hw1 t) hsl rfl
  have g59 := slot_load (slotN t.val) (sz := S1x128x128.size) (k0_off59 v14 v17 v20 v23 v26 v29 t) (k0_off59_inb v14 v17 v20 v23 v26 v29 k0_hw1 t) hsl rfl
  have g60 := slot_load (slotN t.val) (sz := S1x512x1536.size) (k0_off60 v14 v17 v20 v23 v26 v29 t) (k0_off60_inb v14 v17 v20 v23 v26 v29 k0_hw1 t) hsl rfl
  have g61 := slot_load (slotN t.val) (sz := S1x128x128.size) (k0_off61 v14 v17 v20 v23 v26 v29 t) (k0_off61_inb v14 v17 v20 v23 v26 v29 k0_hw1 t) hsl rfl
  have g62 := slot_load (slotN t.val) (sz := S1x128x128.size) (k0_off62 v14 v17 v20 v23 v26 v29 t) (k0_off62_inb v14 v17 v20 v23 v26 v29 k0_hw1 t) hsl rfl
  have g63 := slot_load (slotN t.val) (sz := S1x128x128.size) (k0_off63 v14 v17 v20 v23 v26 v29 t) (k0_off63_inb v14 v17 v20 v23 v26 v29 k0_hw1 t) hsl rfl
  have g64 := slot_load (slotN t.val) (sz := S1x128x128.size) (k0_off64 v14 v17 v20 v23 v26 v29 t) (k0_off64_inb v14 v17 v20 v23 v26 v29 k0_hw1 t) hsl rfl
  have g65 := slot_load (slotN t.val) (sz := S1x128x128.size) (k0_off65 v14 v17 v20 v23 v26 v29 t) (k0_off65_inb v14 v17 v20 v23 v26 v29 k0_hw1 t) hsl rfl
  have g66 := slot_load (slotN t.val) (sz := S1x128x128.size) (k0_off66 v14 v17 v20 v23 v26 v29 t) (k0_off66_inb v14 v17 v20 v23 v26 v29 k0_hw1 t) hsl rfl
  have g67 := slot_load (slotN t.val) (sz := S1x128x128.size) (k0_off67 v14 v17 v20 v23 v26 v29 t) (k0_off67_inb v14 v17 v20 v23 v26 v29 k0_hw1 t) hsl rfl
  have g68 := slot_load (slotN t.val) (sz := S1x128x128.size) (k0_off68 v14 v17 v20 v23 v26 v29 t) (k0_off68_inb v14 v17 v20 v23 v26 v29 k0_hw1 t) hsl rfl
  have g69 := slot_load (slotN t.val) (sz := S1x128x128.size) (k0_off69 v14 v17 v20 v23 v26 v29 t) (k0_off69_inb v14 v17 v20 v23 v26 v29 k0_hw1 t) hsl rfl
  have g70 := slot_load (slotN t.val) (sz := S1x128x128.size) (k0_off70 v14 v17 v20 v23 v26 v29 t) (k0_off70_inb v14 v17 v20 v23 v26 v29 k0_hw1 t) hsl rfl
  have g71 := slot_load (slotN t.val) (sz := S1x128x128.size) (k0_off71 v14 v17 v20 v23 v26 v29 t) (k0_off71_inb v14 v17 v20 v23 v26 v29 k0_hw1 t) hsl rfl
  have g72 := slot_load (slotN t.val) (sz := S1x128x128.size) (k0_off72 v14 v17 v20 v23 v26 v29 t) (k0_off72_inb v14 v17 v20 v23 v26 v29 k0_hw1 t) hsl rfl
  have g73 := slot_load (slotN t.val) (sz := S1x128x128.size) (k0_off73 v14 v17 v20 v23 v26 v29 t) (k0_off73_inb v14 v17 v20 v23 v26 v29 k0_hw1 t) hsl rfl
  have g74 := slot_load (slotN t.val) (sz := S1x128x128.size) (k0_off74 v14 v17 v20 v23 v26 v29 t) (k0_off74_inb v14 v17 v20 v23 v26 v29 k0_hw1 t) hsl rfl
  have g75 := slot_load (slotN t.val) (sz := S1x128x128.size) (k0_off75 v14 v17 v20 v23 v26 v29 t) (k0_off75_inb v14 v17 v20 v23 v26 v29 k0_hw1 t) hsl rfl
  have g76 := slot_load (slotN t.val) (sz := S1x128x128.size) (k0_off76 v14 v17 v20 v23 v26 v29 t) (k0_off76_inb v14 v17 v20 v23 v26 v29 k0_hw1 t) hsl rfl
  unfold k0_t2_body inv2
  iintro ⟨HR, H0, H1, ⟨%f13, H13⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%W, HO⟩⟩
  sl_exec
  iapply (awaitI c fa G v14 v17 v20 v23 v26 v29 (Scf.iv 0#32 1#32 t.val) (by rw [hi]; exact htl) (st2 (totN v14 v17 v20 v23 v26 v29) t.val)
    (by rw [hs0, hi]; exact st2_self _ _ htl) (sz3_eq v14 v17 v20 v23 v26 v29 t) rfl) $$ [HR HO]
  · isplitl [HR]; · iexact HR
    iexact HO
  rw [hs0, hi]
  rw [rest_own]
  iintro ⟨⟨Hc, ⟨%fr, %hfr, Hr⟩, Htk⟩, HRr, ⟨%W2, HO⟩⟩
  sl_exec
  have hn4 := i24_toNat v14 v17 v20 v23 v26 v29 t
  have es := st2_succ (totN v14 v17 v20 v23 v26 v29) t.val
  have hsl4 : slotN (t.val + 4) = slotN t.val := Fin.ext (by show (t.val + 4) % 4 = t.val % 4; omega)
  ihave HR := (Ring.AtW_update (slotAt c fa (rowsN v14 v17 v20 v23 v26 v29) G) (st2 (totN v14 v17 v20 v23 v26 v29) t.val) (slotN t.val) none) $$ [Hc Hr Htk HRr]
  · isplitr [HRr]; swap; · iexact HRr
    unfold slotAt
    rw [rest_own]
    isplitl [Hc]; · iexact Hc
    isplitl [Hr]
    · iexists fr; isplitr; · ipureintro; trivial
      iexact Hr
    · iexact Htk
  by_cases hc : k0_cond2 v14 v17 v20 v23 v26 v29 t = 1#1
  · have hlt := (cond2_iff v14 v17 v20 v23 v26 v29 t).1 hc
    rw [dif_pos hc]
    rw [if_pos hlt] at es
    sl_exec
    iapply (issueI c fa G v14 v17 v20 v23 v26 v29 hG (Scalar.addi (Scf.iv 0#32 1#32 t.val) 4#32) (by rw [hn4]; exact hlt)
      (Function.update (st2 (totN v14 v17 v20 v23 v26 v29) t.val) (slotN t.val) none)
      (by rw [hn4, hsl4]; exact Function.update_self _ _ _) (congrArg Prod.fst (off78_eq v14 v17 v20 v23 v26 v29 t)) (congrArg Prod.snd (off78_eq v14 v17 v20 v23 v26 v29 t)) (sz5_eq v14 v17 v20 v23 v26 v29 t)
      (congrArg Prod.fst (off79_eq v14 v17 v20 v23 v26 v29 t)) (congrArg Prod.snd (off79_eq v14 v17 v20 v23 v26 v29 t)) rfl) $$ HR
    iintro HR
    sl_exec
    sl_step
    rw [hn4, hsl4, Function.update_idem]
    rw [es]
    isplitl [HR]; · iexact HR
    isplitl [H0]; · iexact H0
    isplitl [H1]; · iexact H1
    isplitl [H13]; · iexists _; iexact H13
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact HO
  · have hlt := fun h => hc ((cond2_iff v14 v17 v20 v23 v26 v29 t).2 h)
    rw [dif_neg hc]
    rw [if_neg hlt] at es
    sl_exec
    sl_step
    rw [es]
    isplitl [HR]; · iexact HR
    isplitl [H0]; · iexact H0
    isplitl [H1]; · iexact H1
    isplitl [H13]; · iexists _; iexact H13
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact HO

end Cert.Kernel.Hand

end
-- ==== Proof.BInit.lean ====
module

public import proofs.«01_k».proof.Proof.BLoop1
public import proofs.«01_k».proof.Proof.Gen.Kernel.Skeleton
public import Idealize.ShloMosaic.Lib.Ring.AtN

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (G : ℕ → RBuf (F := F) c → Prop) (R : ℕ → ℕ)

omit [FloatOps F] in
theorem slots_disj : ∀ a b : Fin 4, a ≠ b → Disjoint (slotSet a) (slotSet b) := by
  intro a b h
  refine Finset.disjoint_left.2 fun i ha hb => h (Fin.ext ?_)
  exact (Finset.mem_filter.1 ha).2.symm.trans (Finset.mem_filter.1 hb).2

omit [FloatOps F] in
theorem slots_cover : Finset.univ.biUnion slotSet = Finset.univ := by
  ext i
  simp only [Finset.mem_biUnion, Finset.mem_univ, true_and, iff_true]
  exact ⟨⟨(i 0).val, (i 0).isLt⟩, Finset.mem_filter.2 ⟨Finset.mem_univ _, rfl⟩⟩

/-- The ring at launch: four cells at zero, its buffer whole, the rows' array whole. -/
theorem ring_open (f : RBuf (F := F) c) :
    iprop((semVal ((c : Thread nD τ), cellK 0) 0 ∗ semVal ((c : Thread nD τ), cellK 1) 0 ∗ semVal ((c : Thread nD τ), cellK 2) 0 ∗ semVal ((c : Thread nD τ), cellK 3) 0)
      ∗ (ringM.view.loc (c : Thread nD τ) ↦{fullShare} f) ∗ (hidM.view.loc (c : Thread nD τ) ↦{fullShare} fa))
      ⊢ (iprop(ring c fa R G (fun _ => none) ∗ (hidM.view.loc (c : Thread nD τ) ↦{Transfers.shareDrop fullShare 4} fa)) : sProp 𝕄) := by
  unfold ring Ring.AtW slotAt rest
  rw [Ring.pointsTo_blocks slotSet slots_disj slots_cover f, Ring.bigSep_fin4, Ring.bigSep_fin4]
  iintro ⟨⟨C0, C1, C2, C3⟩, ⟨S0, S1, S2, S3⟩, H⟩
  ihave H := (Transfers.pointsTo_toks_split fullShare 4) $$ H
  rw [Ring.bigSep_fin4]
  icases H with ⟨HD, T0, T1, T2, T3⟩
  isplitr [HD]; swap; · iexact HD
  isplitl [C0 S0 T0]
  · isplitl [C0]; · iexact C0
    isplitl [S0]; · iexists f; isplitr; · ipureintro; trivial
                    iexact S0
    iexact T0
  isplitl [C1 S1 T1]
  · isplitl [C1]; · iexact C1
    isplitl [S1]; · iexists f; isplitr; · ipureintro; trivial
                    iexact S1
    iexact T1
  isplitl [C2 S2 T2]
  · isplitl [C2]; · iexact C2
    isplitl [S2]; · iexists f; isplitr; · ipureintro; trivial
                    iexact S2
    iexact T2
  · isplitl [C3]; · iexact C3
    isplitl [S3]; · iexists f; isplitr; · ipureintro; trivial
                    iexact S3
    iexact T3

/-- The ring at the end: everything back. -/
theorem ring_close (f₀ : RBuf (F := F) c) :
    iprop(ring c fa R G (fun _ => none) ∗ (hidM.view.loc (c : Thread nD τ) ↦{Transfers.shareDrop fullShare 4} fa))
      ⊢ (iprop((semVal ((c : Thread nD τ), cellK 0) 0 ∗ semVal ((c : Thread nD τ), cellK 1) 0 ∗ semVal ((c : Thread nD τ), cellK 2) 0 ∗ semVal ((c : Thread nD τ), cellK 3) 0)
        ∗ (∃ f, ringM.view.loc (c : Thread nD τ) ↦{fullShare} f) ∗ (hidM.view.loc (c : Thread nD τ) ↦{fullShare} fa)) : sProp 𝕄) := by
  unfold ring Ring.AtW slotAt rest
  rw [Ring.bigSep_fin4]
  iintro ⟨⟨⟨C0, ⟨%f0, -, S0⟩, T0⟩, ⟨C1, ⟨%f1, -, S1⟩, T1⟩, ⟨C2, ⟨%f2, -, S2⟩, T2⟩, ⟨C3, ⟨%f3, -, S3⟩, T3⟩⟩, HD⟩
  isplitl [C0 C1 C2 C3]
  · isplitl [C0]; · iexact C0
    isplitl [C1]; · iexact C1
    isplitl [C2]; · iexact C2
    iexact C3
  isplitl [S0 S1 S2 S3]
  · iapply (Ring.pointsTo_blocks_join_exists slotSet slots_disj slots_cover f₀)
    rw [Ring.bigSep_fin4]
    isplitl [S0]; · iexists _; iexact S0
    isplitl [S1]; · iexists _; iexact S1
    isplitl [S2]; · iexists _; iexact S2
    iexists _; iexact S3
  · iapply (Transfers.pointsTo_toks_join fullShare 4)
    isplitl [HD]; · iexact HD
    rw [Ring.bigSep_fin4]
    isplitl [T0]; · iexact T0
    isplitl [T1]; · iexact T1
    isplitl [T2]; · iexact T2
    iexact T3

end Cert.Kernel.Hand

end
-- ==== Proof.BPre.lean ====
module

public import proofs.«01_k».proof.Proof.BRing
public import proofs.«01_k».proof.Proof.Gen.Kernel.Skeleton

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (i2 : Buf (Elt F) ((Memref.whole main_arg8).view.loc (c : Thread nD τ))) (i3 : Buf (Elt F) ((Memref.whole main_arg7).view.loc (c : Thread nD τ))) (i5 : Buf (Elt F) ((Memref.whole main_arg1).view.loc (c : Thread nD τ))) (i6 : Buf (Elt F) ((Memref.whole main_arg2).view.loc (c : Thread nD τ))) (i7 : Buf (Elt F) ((Memref.whole main_arg5).view.loc (c : Thread nD τ))) (i8 : Buf (Elt F) ((Memref.whole main_arg6).view.loc (c : Thread nD τ)))
  (arg0 : Memref sig .tc .smem S1 .f32) (harg0 : arg0.IsWhole) (arg1 : Memref sig .tc .smem S1 .f32) (harg1 : arg1.IsWhole)
  (d0 : Buf (Elt F) (arg0.view.loc (c : Thread nD τ))) (d1 : Buf (Elt F) (arg1.view.loc (c : Thread nD τ)))

/-- What the kernel is run from. -/
def pre (P : Buf (Elt F) ((Memref.whole main_v0_0).view.loc (c : Thread nD τ)) → Prop) (W : Waits sig Unit) : sProp 𝕄 :=
  iprop((arg0.view.loc (c : Thread nD τ) ↦[arg0.view.set]{fullShare} d0) ∗ (arg1.view.loc (c : Thread nD τ) ↦[arg1.view.set]{fullShare} d1)
    ∗ (hidM.view.loc (c : Thread nD τ) ↦{fullShare} fa)
    ∗ ((Memref.whole main_arg8).view.loc (c : Thread nD τ) ↦{fullShare} i2)
    ∗ ((Memref.whole main_arg7).view.loc (c : Thread nD τ) ↦{fullShare} i3)
    ∗ ((Memref.whole main_arg1).view.loc (c : Thread nD τ) ↦{fullShare} i5)
    ∗ ((Memref.whole main_arg2).view.loc (c : Thread nD τ) ↦{fullShare} i6)
    ∗ ((Memref.whole main_arg5).view.loc (c : Thread nD τ) ↦{fullShare} i7)
    ∗ ((Memref.whole main_arg6).view.loc (c : Thread nD τ) ↦{fullShare} i8)
     ∗ (∃ f, ⌜P f⌝ ∗ ((Memref.whole main_v0_0).view.loc (c : Thread nD τ) ↦{fullShare} f))
     ∗ (∃ f, ((Memref.whole main_v0_1).view.loc (c : Thread nD τ) ↦{fullShare} f))
     ∗ (∃ f, ((Memref.whole main_v0_2).view.loc (c : Thread nD τ) ↦{fullShare} f))
     ∗ (∃ f, ((Memref.whole cc0_scratch0).view.loc (c : Thread nD τ) ↦{fullShare} f))
     ∗ (∃ f, ((Memref.whole cc0_scratch1).view.loc (c : Thread nD τ) ↦{fullShare} f))
     ∗ (∃ f, ((Memref.whole cc0_scratch2).view.loc (c : Thread nD τ) ↦{fullShare} f))
     ∗ (∃ f, ((Memref.whole cc0_scratch3).view.loc (c : Thread nD τ) ↦{fullShare} f))
     ∗ (∃ f, ((Memref.whole cc0_scratch4).view.loc (c : Thread nD τ) ↦{fullShare} f))
     ∗ (∃ f, ((Memref.whole cc0_scratch5).view.loc (c : Thread nD τ) ↦{fullShare} f))
     ∗ (∃ f, ((Memref.whole cc0_scratch6).view.loc (c : Thread nD τ) ↦{fullShare} f))
     ∗ (∃ f, ((Memref.whole cc0_scratch7).view.loc (c : Thread nD τ) ↦{fullShare} f))
     ∗ (∃ f, ((Memref.whole cc0_scratch8).view.loc (c : Thread nD τ) ↦{fullShare} f))
     ∗ (∃ f, ((Memref.whole cc0_scratch9).view.loc (c : Thread nD τ) ↦{fullShare} f))
     ∗ (∃ f, ((Memref.whole cc0_scratch10).view.loc (c : Thread nD τ) ↦{fullShare} f))
     ∗ (∃ f, ((Memref.whole cc0_scratch11).view.loc (c : Thread nD τ) ↦{fullShare} f))
     ∗ (∃ f, ((Memref.whole cc0_scratch12).view.loc (c : Thread nD τ) ↦{fullShare} f))
     ∗ (∃ f, ((Memref.whole cc0_scratch13).view.loc (c : Thread nD τ) ↦{fullShare} f))
     ∗ (∃ f, ((Memref.whole cc0_scratch14).view.loc (c : Thread nD τ) ↦{fullShare} f))
     ∗ (∃ f, ((Memref.whole cc0_scratch15).view.loc (c : Thread nD τ) ↦{fullShare} f))
     ∗ (∃ f, ((Memref.whole cc0_scratch16).view.loc (c : Thread nD τ) ↦{fullShare} f))
     ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ owes (c : Thread nD τ) 0 W)

theorem out_intro (f : Buf (Elt F) ((Memref.whole main_v0_0).view.loc (c : Thread nD τ))) :
    ((Memref.whole main_v0_0).view.loc (c : Thread nD τ) ↦{fullShare} f : sProp 𝕄)
      ⊢ iprop(∃ f : Buf (Elt F) ((Memref.whole main_v0_0).view.loc (c : Thread nD τ)), ⌜True⌝ ∗ ((Memref.whole main_v0_0).view.loc (c : Thread nD τ) ↦{fullShare} f)) := by
  iintro H
  iexists f; isplitr; · ipureintro; trivial
  iexact H

end Cert.Kernel.Hand

end
-- ==== Proof.BBody.lean ====
module

public import proofs.«01_k».proof.Proof.BLoop2
public import proofs.«01_k».proof.Proof.BInit
public import proofs.«01_k».proof.Proof.BPre
public import proofs.«01_k».proof.Proof.Gen.Kernel.Skeleton

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (c : Dev nD) (fa : HBuf (F := F) c) (i2 : Buf (Elt F) ((Memref.whole main_arg8).view.loc (c : Thread nD τ))) (i3 : Buf (Elt F) ((Memref.whole main_arg7).view.loc (c : Thread nD τ))) (i5 : Buf (Elt F) ((Memref.whole main_arg1).view.loc (c : Thread nD τ))) (i6 : Buf (Elt F) ((Memref.whole main_arg2).view.loc (c : Thread nD τ))) (i7 : Buf (Elt F) ((Memref.whole main_arg5).view.loc (c : Thread nD τ))) (i8 : Buf (Elt F) ((Memref.whole main_arg6).view.loc (c : Thread nD τ)))
  (arg0 : Memref sig .tc .smem S1 .f32) (harg0 : arg0.IsWhole) (arg1 : Memref sig .tc .smem S1 .f32) (harg1 : arg1.IsWhole)
  (d0 : Buf (Elt F) (arg0.view.loc (c : Thread nD τ))) (d1 : Buf (Elt F) (arg1.view.loc (c : Thread nD τ)))

/-- Nothing said of the rows. -/
abbrev Gn : ℕ → RBuf (F := F) c → Prop := fun _ _ => True

set_option maxHeartbeats 40000000 in
set_option maxRecDepth 65536 in
theorem body_run (W : Waits sig Unit) :
    pre c fa i2 i3 i5 i6 i7 i8 arg0 arg1 d0 d1 (fun _ => True) W
      ⊢ wp frame (wpE (defs₀ (F := F)) Variants.none (c : Thread nD τ) none) Set.univ
        (cc0_ppo_critic (F := F) arg0 harg0 arg1 harg1 (Memref.whole main_arg8) (Memref.isWhole_whole _) (Memref.whole main_arg7) (Memref.isWhole_whole _) (Memref.whole main_arg0) (Memref.isWhole_whole _) (Memref.whole main_arg1) (Memref.isWhole_whole _) (Memref.whole main_arg2) (Memref.isWhole_whole _) (Memref.whole main_arg5) (Memref.isWhole_whole _) (Memref.whole main_arg6) (Memref.isWhole_whole _) (Memref.whole main_v0_0) (Memref.isWhole_whole _) (Memref.whole main_v0_1) (Memref.isWhole_whole _) (Memref.whole main_v0_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19)
        (fun _ => iprop(∃ W, pre c fa i2 i3 i5 i6 i7 i8 arg0 arg1 d0 d1 (fun _ => True) W)) := by
  simp only [cc0_ppo_critic_eq_skeleton]; unfold cc0_ppo_critic_skel pre
  iintro ⟨H0, H1, HA, H2, H3, H5, H6, H7, H8, ⟨%f9, -, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, Q2, Q3, Q4, Q5, Q6, Q7, Q8, Q9, Q10, Q11, Q12, Q13, Q14, HO⟩
  sl_exec
  iapply (wp_assume _ _ _ _ (chk1_holds (body_run.sl.r c i2 f12) (body_run.sl.r_1 c i2 f12) (body_run.sl.r_2 c i2 f12) (body_run.sl.r_3 c i2 f12) (body_run.sl.r_4 c i2 f12) (body_run.sl.r_5 c i2 f12)))
  ihave HR := (ring_open c fa (Gn c) (rowsN (body_run.sl.r c i2 f12) (body_run.sl.r_1 c i2 f12) (body_run.sl.r_2 c i2 f12) (body_run.sl.r_3 c i2 f12) (body_run.sl.r_4 c i2 f12) (body_run.sl.r_5 c i2 f12)) f14) $$ [Q2 Q3 Q4 Q5 H14 HA]
  · isplitl [Q2 Q3 Q4 Q5]
    · isplitl [Q2]; · iexact Q2
      isplitl [Q3]; · iexact Q3
      isplitl [Q4]; · iexact Q4
      iexact Q5
    isplitl [H14]; · iexact H14
    iexact HA
  icases HR with ⟨HR, HA⟩
  sl_exec
  iapply (Scf.wp_for_bind frame (wpE (defs₀ (F := F)) Variants.none (c : Thread nD τ) none) Set.univ _ _ _ _ _ _
    (fun n _ => ring c fa (rowsN (body_run.sl.r c i2 f12) (body_run.sl.r_1 c i2 f12) (body_run.sl.r_2 c i2 f12) (body_run.sl.r_3 c i2 f12) (body_run.sl.r_4 c i2 f12) (body_run.sl.r_5 c i2 f12)) (Gn c) (st1 (totN (body_run.sl.r c i2 f12) (body_run.sl.r_1 c i2 f12) (body_run.sl.r_2 c i2 f12) (body_run.sl.r_3 c i2 f12) (body_run.sl.r_4 c i2 f12) (body_run.sl.r_5 c i2 f12)) n)) (fun t u => t1_step c fa (Gn c) arg0 harg0 arg1 harg1 _ _ _ _ _ _ _ _ _ _ _ _ _ _ _ _ _ _ _ (fun _ _ _ _ _ _ _ => trivial) t u)) $$ [HR]
  · rw [st1_zero]; iexact HR
  iintro %acc HR
  sl_exec
  have h1 : k0_t1_loop.trips = 4 := t1_trips
  have h2 := t2_trips (body_run.sl.r c i2 f12) (body_run.sl.r_1 c i2 f12) (body_run.sl.r_2 c i2 f12) (body_run.sl.r_3 c i2 f12) (body_run.sl.r_4 c i2 f12) (body_run.sl.r_5 c i2 f12)
  have h3 : (k0_t3_loop (body_run.sl.r c i2 f12) (body_run.sl.r_1 c i2 f12) (body_run.sl.r_2 c i2 f12) (body_run.sl.r_3 c i2 f12) (body_run.sl.r_4 c i2 f12) (body_run.sl.r_5 c i2 f12)).trips = 0 := Nat.eq_zero_of_not_pos fun h => t3_no (body_run.sl.r c i2 f12) (body_run.sl.r_1 c i2 f12) (body_run.sl.r_2 c i2 f12) (body_run.sl.r_3 c i2 f12) (body_run.sl.r_4 c i2 f12) (body_run.sl.r_5 c i2 f12) ⟨0, h⟩
  have e14 : st1 (totN (body_run.sl.r c i2 f12) (body_run.sl.r_1 c i2 f12) (body_run.sl.r_2 c i2 f12) (body_run.sl.r_3 c i2 f12) (body_run.sl.r_4 c i2 f12) (body_run.sl.r_5 c i2 f12)) (Scf.trips k0_t1_loop.lb k0_t1_loop.ub k0_t1_loop.st) = st2 (totN (body_run.sl.r c i2 f12) (body_run.sl.r_1 c i2 f12) (body_run.sl.r_2 c i2 f12) (body_run.sl.r_3 c i2 f12) (body_run.sl.r_4 c i2 f12) (body_run.sl.r_5 c i2 f12)) 0 := by
    rw [show Scf.trips k0_t1_loop.lb k0_t1_loop.ub k0_t1_loop.st = 4 from h1]; exact st1_four _
  rw [e14]
  iapply (Scf.wp_for_bind frame (wpE (defs₀ (F := F)) Variants.none (c : Thread nD τ) none) Set.univ _ _ _ _ _ _
    (fun n _ => inv2 c fa (Gn c) arg0 arg1 d0 d1 (body_run.sl.r c i2 f12) (body_run.sl.r_1 c i2 f12) (body_run.sl.r_2 c i2 f12) (body_run.sl.r_3 c i2 f12) (body_run.sl.r_4 c i2 f12) (body_run.sl.r_5 c i2 f12) n) (fun t u => t2_step c fa (Gn c) arg0 harg0 arg1 harg1 d0 d1 _ _ _ _ _ _ _ _ _ _ _ _ _ _ _ _ _ _ _ _ _ _ _ _ (fun _ _ _ _ _ _ _ => trivial) t u)) $$ [HR H0 H1 H13 H15 H16 H17 H18 H19 H20 H21 H22 H23 H24 H25 H26 H27 H28 HO]
  · unfold inv2
    isplitl [HR]; · iexact HR
    isplitl [H0]; · iexact H0
    isplitl [H1]; · iexact H1
    isplitl [H13]; · iexists _; iexact H13
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact HO
  iintro %acc2 HI
  have e2 : Scf.trips (k0_t2_loop (body_run.sl.r c i2 f12) (body_run.sl.r_1 c i2 f12) (body_run.sl.r_2 c i2 f12) (body_run.sl.r_3 c i2 f12) (body_run.sl.r_4 c i2 f12) (body_run.sl.r_5 c i2 f12)).lb (k0_t2_loop (body_run.sl.r c i2 f12) (body_run.sl.r_1 c i2 f12) (body_run.sl.r_2 c i2 f12) (body_run.sl.r_3 c i2 f12) (body_run.sl.r_4 c i2 f12) (body_run.sl.r_5 c i2 f12)).ub (k0_t2_loop (body_run.sl.r c i2 f12) (body_run.sl.r_1 c i2 f12) (body_run.sl.r_2 c i2 f12) (body_run.sl.r_3 c i2 f12) (body_run.sl.r_4 c i2 f12) (body_run.sl.r_5 c i2 f12)).st = totN (body_run.sl.r c i2 f12) (body_run.sl.r_1 c i2 f12) (body_run.sl.r_2 c i2 f12) (body_run.sl.r_3 c i2 f12) (body_run.sl.r_4 c i2 f12) (body_run.sl.r_5 c i2 f12) := h2
  rw [e2]
  unfold inv2
  rw [st2_end _ _ le_rfl]
  icases HI with ⟨HR, H0, H1, ⟨%g13, H13⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩, ⟨%g26, H26⟩, ⟨%g27, H27⟩, ⟨%g28, H28⟩, ⟨%W2, HO⟩⟩
  ihave HZ := (ring_close c fa (Gn c) (rowsN (body_run.sl.r c i2 f12) (body_run.sl.r_1 c i2 f12) (body_run.sl.r_2 c i2 f12) (body_run.sl.r_3 c i2 f12) (body_run.sl.r_4 c i2 f12) (body_run.sl.r_5 c i2 f12)) f14) $$ [HR HA]
  · isplitl [HR]; · iexact HR
    iexact HA
  icases HZ with ⟨⟨Q2, Q3, Q4, Q5⟩, ⟨%g14, H14⟩, HA⟩
  iapply (Scf.wp_for_bind frame (wpE (defs₀ (F := F)) Variants.none (c : Thread nD τ) none) Set.univ _ _ _ _ _ _
    (fun _ _ => iprop(⌜True⌝)) (fun t _ => (t3_no (body_run.sl.r c i2 f12) (body_run.sl.r_1 c i2 f12) (body_run.sl.r_2 c i2 f12) (body_run.sl.r_3 c i2 f12) (body_run.sl.r_4 c i2 f12) (body_run.sl.r_5 c i2 f12) t).elim)) $$ []
  · ipureintro; exact True.intro
  iintro %acc3 -
  by_cases hc : k0_cond4 (body_run.sl.r c i2 f12) (body_run.sl.r_1 c i2 f12) (body_run.sl.r_2 c i2 f12) (body_run.sl.r_3 c i2 f12) (body_run.sl.r_4 c i2 f12) (body_run.sl.r_5 c i2 f12) = 1#1
  · rw [dif_pos hc]
    sl_exec
    sl_step
    iexists _
    isplitl [H0]; · iexact H0
    isplitl [H1]; · iexact H1
    isplitl [HA]; · iexact HA
    isplitl [H2]; · iexact H2
    isplitl [H3]; · iexact H3
    isplitl [H5]; · iexact H5
    isplitl [H6]; · iexact H6
    isplitl [H7]; · iexact H7
    isplitl [H8]; · iexact H8
    isplitl [H9]; · iapply (out_intro c _); iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    iexact HO
  · rw [dif_neg hc]
    sl_exec
    sl_step
    iexists _
    isplitl [H0]; · iexact H0
    isplitl [H1]; · iexact H1
    isplitl [HA]; · iexact HA
    isplitl [H2]; · iexact H2
    isplitl [H3]; · iexact H3
    isplitl [H5]; · iexact H5
    isplitl [H6]; · iexact H6
    isplitl [H7]; · iexact H7
    isplitl [H8]; · iexact H8
    isplitl [H9]; · iapply (out_intro c _); iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    iexact HO

end Cert.Kernel.Hand

end
-- ==== Proof.BLaunch.lean ====
module

public import proofs.«01_k».proof.Proof.BPre
public import proofs.«01_k».proof.Proof.Gen.Kernel.Skeleton
public import proofs.«01_k».proof.Proof.Gen.Kernel.Frame
public import proofs.«01_k».proof.Proof.Gen.Kernel.Points
public import proofs.«01_k».proof.Proof.Gen.Kernel.Launch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
open Idealize.ShloMosaic.Pipeline (Dat Cfg Window BodyObligation cellOf)
open Idealize.ShloMosaic.Pipeline Idealize.ShloMosaic.Rounds

variable (m : (ℓ : Loc nD τ sig) → Buf (Elt F) ℓ) (ρ : Dev nD → PrngReg)
  (P : (c : Dev nD) → Buf (Elt F) ((c : Thread nD τ).loc main_v0_0) → Prop)

/-! ## The kernel's own semaphores and what it holds -/

abbrev osem : Fin 13 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14] : Fin 13 → SemLoc sig) j
theorem osemFacts : Pipeline.OwnSemFacts spec0 osem := by decide
theorem ownSems_eq (c : Dev nD) :
    (Pipeline.ownSems0 (Ix := Unit) (Name := ℕ) (U := Pipeline.UC sig nD τ) (Lvl := ℕ) (Val := Elt F) (τ := τ) osem c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem [0, 1, 2, 3, 4, 5, 6, 7, 8, 9, 10, 11, 12] (by decide) (by decide)]; rfl

/-- The arguments no window stages. -/
def ins : Finset (Ref sig .tc) := {main_arg0, main_arg1, main_arg2, main_arg5, main_arg6, main_arg7, main_arg8}

/-- The buffers that are no staged array, the arguments as launched and the first result as `p` says. -/
def held (c : Dev nD) (p : Buf (Elt F) ((c : Thread nD τ).loc main_v0_0) → Prop) : sProp 𝕄 :=
  iprop(∃ Y : (b : Ref sig .tc) → Buf (Elt F) ((c : Thread nD τ).loc b), ⌜(∀ b ∈ ins, Y b = V m c b) ∧ p (Y main_v0_0)⌝
    ∗ Pipeline.unscopedRest (Ix := Unit) (Name := ℕ) (U := Pipeline.UC sig nD τ) (Lvl := ℕ) spec0 c Y)

def heldL (c : Dev nD) (p : Buf (Elt F) ((c : Thread nD τ).loc main_v0_0) → Prop) : sProp 𝕄 :=
  iprop(((c : Thread nD τ).loc main_arg0 ↦{fullShare} V m c main_arg0) ∗ ((c : Thread nD τ).loc main_arg1 ↦{fullShare} V m c main_arg1) ∗ ((c : Thread nD τ).loc main_arg2 ↦{fullShare} V m c main_arg2) ∗ ((c : Thread nD τ).loc main_arg5 ↦{fullShare} V m c main_arg5) ∗ ((c : Thread nD τ).loc main_arg6 ↦{fullShare} V m c main_arg6) ∗ ((c : Thread nD τ).loc main_arg7 ↦{fullShare} V m c main_arg7) ∗ ((c : Thread nD τ).loc main_arg8 ↦{fullShare} V m c main_arg8) ∗ (∃ f, ⌜p f⌝ ∗ ((c : Thread nD τ).loc main_v0_0 ↦{fullShare} f))
    ∗ (∃ f, ((c : Thread nD τ).loc main_v0_1 ↦{fullShare} f)) ∗ (∃ f, ((c : Thread nD τ).loc main_v0_2 ↦{fullShare} f)))

theorem held_open (c : Dev nD) (p) : held m c p ⊢ heldL m c p := by
  unfold held heldL
  iintro ⟨%Y, %h, H⟩
  obtain ⟨h, hp⟩ := h
  ihave H := (show (Pipeline.unscopedRest (Ix := Unit) (Name := ℕ) (U := Pipeline.UC sig nD τ) (Lvl := ℕ) spec0 c Y : sProp 𝕄) ⊢ iprop(((c : Thread nD τ).loc main_arg0 ↦{fullShare} V m c main_arg0) ∗ ((c : Thread nD τ).loc main_arg1 ↦{fullShare} V m c main_arg1) ∗ ((c : Thread nD τ).loc main_arg2 ↦{fullShare} V m c main_arg2) ∗ ((c : Thread nD τ).loc main_arg5 ↦{fullShare} V m c main_arg5) ∗ ((c : Thread nD τ).loc main_arg6 ↦{fullShare} V m c main_arg6) ∗ ((c : Thread nD τ).loc main_arg7 ↦{fullShare} V m c main_arg7) ∗ ((c : Thread nD τ).loc main_arg8 ↦{fullShare} V m c main_arg8) ∗ ((c : Thread nD τ).loc main_v0_0 ↦{fullShare} Y main_v0_0)
      ∗ ((c : Thread nD τ).loc main_v0_1 ↦{fullShare} Y main_v0_1) ∗ ((c : Thread nD τ).loc main_v0_2 ↦{fullShare} Y main_v0_2)) from by
    rw [unscopedRest0_eq]; rw [h main_arg0 (by decide), h main_arg1 (by decide), h main_arg2 (by decide), h main_arg5 (by decide), h main_arg6 (by decide), h main_arg7 (by decide), h main_arg8 (by decide)]) $$ H
  icases H with ⟨U0, U1, U2, U3, U4, U5, U6, H9, H10, H11⟩
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [H9]
  · iexists _; isplitr; · ipureintro; exact hp
    iexact H9
  isplitl [H10]; · iexists _; iexact H10
  iexists _; iexact H11

/-- Contents that agree with `V` but at the results. -/
def upd (c : Dev nD) (f0 : Buf (Elt F) ((c : Thread nD τ).loc main_v0_0)) (f1 : Buf (Elt F) ((c : Thread nD τ).loc main_v0_1))
    (f2 : Buf (Elt F) ((c : Thread nD τ).loc main_v0_2)) : (b : Ref sig .tc) → Buf (Elt F) ((c : Thread nD τ).loc b) :=
  Function.update (Function.update (Function.update (V m c) main_v0_0 f0) main_v0_1 f1) main_v0_2 f2
theorem upd_in (c : Dev nD) (f0 f1 f2) (b : Ref sig .tc) (h0 : b ≠ main_v0_0) (h1 : b ≠ main_v0_1) (h2 : b ≠ main_v0_2) :
    upd m c f0 f1 f2 b = V m c b := by
  unfold upd; rw [Function.update_of_ne h2, Function.update_of_ne h1, Function.update_of_ne h0]
theorem upd_0 (c : Dev nD) (f0 f1 f2) : upd m c f0 f1 f2 main_v0_0 = f0 := by
  unfold upd; rw [Function.update_of_ne (by decide), Function.update_of_ne (by decide), Function.update_self]
theorem upd_1 (c : Dev nD) (f0 f1 f2) : upd m c f0 f1 f2 main_v0_1 = f1 := by
  unfold upd; rw [Function.update_of_ne (by decide), Function.update_self]
theorem upd_2 (c : Dev nD) (f0 f1 f2) : upd m c f0 f1 f2 main_v0_2 = f2 := by
  unfold upd; rw [Function.update_self]

theorem held_close (c : Dev nD) (p) : heldL m c p ⊢ held m c p := by
  unfold held heldL
  iintro ⟨U0, U1, U2, U3, U4, U5, U6, ⟨%f0, %hp, H9⟩, ⟨%f1, H10⟩, ⟨%f2, H11⟩⟩
  iexists upd m c f0 f1 f2
  isplitr
  · ipureintro
    refine ⟨fun b hb => upd_in m c f0 f1 f2 b ?_ ?_ ?_, ?_⟩
    · rintro rfl; exact absurd hb (by decide)
    · rintro rfl; exact absurd hb (by decide)
    · rintro rfl; exact absurd hb (by decide)
    · rw [upd_0]; exact hp
  rw [unscopedRest0_eq, upd_0, upd_1, upd_2, upd_in m c f0 f1 f2 main_arg0 (by decide) (by decide) (by decide), upd_in m c f0 f1 f2 main_arg1 (by decide) (by decide) (by decide), upd_in m c f0 f1 f2 main_arg2 (by decide) (by decide) (by decide), upd_in m c f0 f1 f2 main_arg5 (by decide) (by decide) (by decide), upd_in m c f0 f1 f2 main_arg6 (by decide) (by decide) (by decide), upd_in m c f0 f1 f2 main_arg7 (by decide) (by decide) (by decide), upd_in m c f0 f1 f2 main_arg8 (by decide) (by decide) (by decide)]
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [H9]; · iexact H9
  isplitl [H10]; · iexact H10
  iexact H11

theorem held_mono (c : Dev nD) (p q : Buf (Elt F) ((c : Thread nD τ).loc main_v0_0) → Prop) (h : ∀ f, p f → q f) : held m c p ⊢ held m c q := by
  unfold held
  iintro ⟨%Y, %hY, H⟩
  iexists Y; isplitr; · ipureintro; exact ⟨hY.1, h _ hY.2⟩
  iexact H

theorem in_all : ∀ w : Fin 2, (spec0 w).isOut = false := by decide

theorem pre_mono (c : Dev nD) (fa i2 i3 i5 i6 i7 i8 arg0 arg1 d0 d1) {p q : Buf (Elt F) ((c : Thread nD τ).loc main_v0_0) → Prop} (h : ∀ f, p f → q f)
    (W : Waits sig Unit) : pre c fa i2 i3 i5 i6 i7 i8 arg0 arg1 d0 d1 p W ⊢ pre c fa i2 i3 i5 i6 i7 i8 arg0 arg1 d0 d1 q W := by
  unfold pre
  iintro ⟨H0, H1, H4, H2, H3, H5, H6, H7, H8, ⟨%f, %hp, H9⟩, H⟩
  isplitl [H0]; · iexact H0
  isplitl [H1]; · iexact H1
  isplitl [H4]; · iexact H4
  isplitl [H2]; · iexact H2
  isplitl [H3]; · iexact H3
  isplitl [H5]; · iexact H5
  isplitl [H6]; · iexact H6
  isplitl [H7]; · iexact H7
  isplitl [H8]; · iexact H8
  isplitl [H9]
  · iexists f; isplitr; · ipureintro; exact h f hp
    iexact H9
  iexact H

/-! ## The proof data -/

/-- What the body is run from and leaves: what it holds, its semaphores at zero, its own buffers, the generator. -/
def Ph (c : Dev nD) (p : Buf (Elt F) ((c : Thread nD τ).loc main_v0_0) → Prop) : sProp 𝕄 :=
  iprop(held m c p ∗ Pipeline.ownSems0 (Ix := Unit) (Name := ℕ) (U := Pipeline.UC sig nD τ) (Lvl := ℕ) (Val := Elt F) (τ := τ) osem c
    ∗ Pipeline.scopedRest (Ix := Unit) (Name := ℕ) (U := Pipeline.UC sig nD τ) (Lvl := ℕ) (Val := Elt F) spec0 c ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := Ph m c (fun f => t ≠ 0 → P c f)
  q _ := fullShare
  owed _ := 0

theorem A_eq (c : Dev nD) (w : Fin cfg0.W) : (dats m P 0 c).A w = V m c (Pipeline.arrRef spec0 w) := by
  dsimp only [dats]
theorem after_0 (c : Dev nD) (t : Fin cfg0.N) : (dats m P 0 c).after 0 t = iblk m c 0 t := by dsimp only [dats]
theorem after_1 (c : Dev nD) (t : Fin cfg0.N) : (dats m P 0 c).after 1 t = iblk m c 1 t := by dsimp only [dats]
theorem before_0 (c : Dev nD) (t : Fin cfg0.N) (d) : (dats m P 0 c).before 0 t d = iblk m c 0 t :=
  ((dats m P 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m P 0 c).before 1 t d = iblk m c 1 t :=
  ((dats m P 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

abbrev st0 (t : Fin cfg0.N) : Memref sig .tc .smem S1 .f32 := win0_0.stage (cfg0.slots t 0)
abbrev st1' (t : Fin cfg0.N) : Memref sig .tc .smem S1 .f32 := win0_1.stage (cfg0.slots t 1)

/-- What is asked of the body: run from the launch's contents it leaves them, with the first result as `P` says. -/
def BodyRuns : Prop := ∀ (c : Dev nD) (t : Fin cfg0.N) (d0 : Buf (Elt F) ((st0 t).view.loc (c : Thread nD τ)))
    (d1 : Buf (Elt F) ((st1' t).view.loc (c : Thread nD τ))) (W : Waits sig Unit),
    (st0 t).view.read (Elt F) d0 = iblk m c 0 t → (st1' t).view.read (Elt F) d1 = iblk m c 1 t →
    (pre c (V m c main_arg0) (V m c main_arg8) (V m c main_arg7) (V m c main_arg1) (V m c main_arg2) (V m c main_arg5) (V m c main_arg6)
        (st0 t) (st1' t) d0 d1 (fun _ => True) W
      ⊢ wp frame (wpE (defs₀ (F := F)) Variants.none (c : Thread nD τ) none) Set.univ (bodyAt0 t)
        (fun _ => iprop(∃ W', pre c (V m c main_arg0) (V m c main_arg8) (V m c main_arg7) (V m c main_arg1) (V m c main_arg2) (V m c main_arg5)
          (V m c main_arg6) (st0 t) (st1' t) d0 d1 (P c) W')))

def bodyPre (c : Dev nD) (t : Fin cfg0.N) : sProp 𝕄 :=
  iprop((dats m P 0 c).Φ t.castSucc ∗ (dats m P 0 c).owesAt () t.castSucc
    ∗ (∃ d, owns (c : Thread nD τ) (st0 t) fullShare ((dats m P 0 c).before 0 t d))
    ∗ (∃ d, owns (c : Thread nD τ) (st1' t) fullShare ((dats m P 0 c).before 1 t d)))
def bodyPost (c : Dev nD) (t : Fin cfg0.N) : sProp 𝕄 :=
  iprop((dats m P 0 c).Φ t.succ ∗ (dats m P 0 c).owesAt () t.succ
    ∗ owns (c : Thread nD τ) (st0 t) fullShare ((dats m P 0 c).after 0 t)
    ∗ owns (c : Thread nD τ) (st1' t) fullShare ((dats m P 0 c).after 1 t))

/-- `pre` of what the launch holds, and back. -/
theorem to_pre (c : Dev nD) (p) (arg0 arg1 d0 d1) (W : Waits sig Unit) :
    iprop(Ph m c p ∗ owes (c : Thread nD τ) 0 W ∗ (arg0.view.loc (c : Thread nD τ) ↦[arg0.view.set]{fullShare} d0)
        ∗ (arg1.view.loc (c : Thread nD τ) ↦[arg1.view.set]{fullShare} d1))
      ⊢ iprop((∃ r, prngReg c r) ∗ pre c (V m c main_arg0) (V m c main_arg8) (V m c main_arg7) (V m c main_arg1) (V m c main_arg2) (V m c main_arg5) (V m c main_arg6)
        arg0 arg1 d0 d1 p W) := by
  refine (sep_mono (show Ph m c p ⊢ _ from sep_mono (held_open m c p) .rfl) .rfl).trans ?_
  unfold heldL pre
  rw [ownSems_eq, scopedRest0_eq]
  iintro ⟨⟨⟨H4, H5, H6, H7, H8, H3, H2, H9, H10, H11⟩, ⟨Q2, Q3, Q4, Q5, Q6, Q7, Q8, Q9, Q10, Q11, Q12, Q13, Q14⟩, ⟨S2, S3, S4, S5, S6, S7, S8, S9, S10, S11, S12, S13, S14, S15, S16, S0, S1⟩, Hr⟩, HO, H0, H1⟩
  isplitl [Hr]; · iexact Hr
  isplitl [H0]; · iexact H0
  isplitl [H1]; · iexact H1
  isplitl [H4]; · iexact H4
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  iexact HO

theorem of_pre (c : Dev nD) (p) (arg0 arg1 d0 d1) (W : Waits sig Unit) :
    iprop((∃ r, prngReg c r) ∗ pre c (V m c main_arg0) (V m c main_arg8) (V m c main_arg7) (V m c main_arg1) (V m c main_arg2) (V m c main_arg5) (V m c main_arg6)
        arg0 arg1 d0 d1 p W)
      ⊢ iprop(Ph m c p ∗ owes (c : Thread nD τ) 0 W ∗ (arg0.view.loc (c : Thread nD τ) ↦[arg0.view.set]{fullShare} d0)
        ∗ (arg1.view.loc (c : Thread nD τ) ↦[arg1.view.set]{fullShare} d1)) := by
  refine .trans ?_ (sep_mono (show _ ⊢ Ph m c p from sep_mono (held_close m c p) .rfl) .rfl)
  unfold heldL pre
  rw [ownSems_eq, scopedRest0_eq]
  iintro ⟨Hr, H0, H1, H4, H2, H3, H5, H6, H7, H8, H9, H10, H11, S0, S1, S2, S3, S4, S5, S6, S7, S8, S9, S10, S11, S12, S13, S14, S15, S16, Q2, Q3, Q4, Q5, Q6, Q7, Q8, Q9, Q10, Q11, Q12, Q13, Q14, HO⟩
  isplitr [HO H0 H1]
  · isplitr [Q2 Q3 Q4 Q5 Q6 Q7 Q8 Q9 Q10 Q11 Q12 Q13 Q14 S2 S3 S4 S5 S6 S7 S8 S9 S10 S11 S12 S13 S14 S15 S16 S0 S1 Hr]
    · isplitl [H4]; · iexact H4
      isplitl [H5]; · iexact H5
      isplitl [H6]; · iexact H6
      isplitl [H7]; · iexact H7
      isplitl [H8]; · iexact H8
      isplitl [H3]; · iexact H3
      isplitl [H2]; · iexact H2
      isplitl [H9]; · iexact H9
      isplitl [H10]; · iexact H10
      iexact H11
    isplitl [Q2 Q3 Q4 Q5 Q6 Q7 Q8 Q9 Q10 Q11 Q12 Q13 Q14]
    · isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      iexact Q14
    isplitl [S2 S3 S4 S5 S6 S7 S8 S9 S10 S11 S12 S13 S14 S15 S16 S0 S1]
    · isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S0]; · iexact S0
      iexact S1
    iexact Hr
  isplitl [HO]; · iexact HO
  isplitl [H0]; · iexact H0
  iexact H1

theorem to_post (c : Dev nD) (t : Fin cfg0.N) (d0 d1) (r0 : (st0 t).view.read (Elt F) d0 = iblk m c 0 t) (r1 : (st1' t).view.read (Elt F) d1 = iblk m c 1 t) :
    iprop((∃ r, prngReg c r) ∗ ∃ W', pre c (V m c main_arg0) (V m c main_arg8) (V m c main_arg7) (V m c main_arg1) (V m c main_arg2) (V m c main_arg5)
          (V m c main_arg6) (st0 t) (st1' t) d0 d1 (P c) W') ⊢ bodyPost m P c t := by
  unfold bodyPost
  rw [after_0, after_1]
  rw [show (dats m P 0 c).Φ t.succ = Ph m c (fun f => t.succ ≠ 0 → P c f) from rfl]
  unfold Dat.owesAt Pipeline.owesWithin
  rw [show (dats m P 0 c).owed t.succ = 0 from rfl]
  unfold owns
  iintro ⟨Hr, ⟨%W', H⟩⟩
  ihave H := (pre_mono c _ _ _ _ _ _ _ (st0 t) (st1' t) d0 d1 (q := fun f => t.succ ≠ 0 → P c f) (fun _ h _ => h) W') $$ H
  ihave H := (of_pre m c _ (st0 t) (st1' t) d0 d1 W') $$ [Hr H]
  · isplitl [Hr]; · iexact Hr
    iexact H
  icases H with ⟨HP, HW, H0, H1⟩
  isplitl [HP]; · iexact HP
  isplitl [HW]
  · iexists W'; isplitr; · ipureintro; exact fun _ _ => Or.inl trivial
    iexact HW
  isplitl [H0]
  · iexists d0; isplitr; · ipureintro; exact r0
    iexact H0
  iexists d1; isplitr; · ipureintro; exact r1
  iexact H1

theorem sound_body (hb : BodyRuns m P) (c : Dev nD) (t : Fin cfg0.N) :
    bodyPre m P c t ⊢ wp frame (wpE (defs₀ (F := F)) Variants.none c none) Set.univ (bodyAt0 t) (fun _ => bodyPost m P c t) := by
  unfold bodyPre
  rw [show (dats m P 0 c).Φ t.castSucc = Ph m c (fun f => t.castSucc ≠ 0 → P c f) from rfl]
  unfold Dat.owesAt Pipeline.owesWithin
  rw [show (dats m P 0 c).owed t.castSucc = 0 from rfl]
  have e0 : ∀ d, (dats m P 0 c).before 0 t d = iblk m c 0 t := before_0 m P c t
  have e1 : ∀ d, (dats m P 0 c).before 1 t d = iblk m c 1 t := before_1 m P c t
  simp only [e0, e1]
  unfold owns
  iintro ⟨HP, ⟨%W, -, HW⟩, ⟨%x0, %d0, %r0, H0⟩, ⟨%x1, %d1, %r1, H1⟩⟩
  ihave H := (to_pre m c _ (st0 t) (st1' t) d0 d1 W) $$ [HP HW H0 H1]
  · isplitl [HP]; · iexact HP
    isplitl [HW]; · iexact HW
    isplitl [H0]; · iexact H0
    iexact H1
  icases H with ⟨Hr, H⟩
  ihave H := (pre_mono c _ _ _ _ _ _ _ (st0 t) (st1' t) d0 d1 (q := fun _ => True) (fun _ _ => trivial) W) $$ H
  iapply (wp_mono frame _ _ (fun _ => to_post m P c t d0 d1 r0 r1))
  iapply (wp_frame_l frame _ _)
  isplitl [Hr]; · iexact Hr
  iapply (hb c t d0 d1 W r0 r1)
  iexact H
theorem defs₀_row (t : Fin cfg0.N) :
    defs₀ (F := F) .tc cfg0.body (cfg0.bodyArgs t (cfg0.slots t)) = bodyAt0 t := by
  unfold defs₀; rw [Defs.onTc_tc]

theorem body_obligation (hb : BodyRuns m P) (c : Dev nD) : BodyObligation (dats (F := F) m P 0 c) (defs₀ (F := F)) Variants.none () Set.univ := fun t => by
  rw [bigSep_W0, bigSep_W0, defs₀_row]
  exact triple_restated (sound_body m P hb c t) rfl .rfl fun _ => .rfl

theorem ins_sub : ins ⊆ Pipeline.restRefs sig spec0 := by decide

set_option backward.isDefEq.respectTransparency.types false in
theorem run_main (hb : BodyRuns m P) : θ_run defs (onTc (τ := τ) (main (F := F))) (s₀ m ρ)
    (fun r => (∀ c : Dev nD, (∀ w, r.2.mem ((spec0 w).arr.view.loc (c : Thread nD τ)) = V m c (Pipeline.arrRef spec0 w))
      ∧ (∀ b ∈ ins, r.2.mem ((c : Thread nD τ).loc b) = V m c b) ∧ P c (r.2.mem ((c : Thread nD τ).loc main_v0_0))) ∧ r.2.sem = fun _ => 0) :=
  Pipeline.θ_run_region_kit_quiescent cfgs (dats m P) () (0 : Fin 1) launch0 osemFacts embL defs₀ Variants.none m ρ main
    (hbody := fun c => (body_obligation m P hb c).loose) (hshare := fun c => (dats m P 0 c).share_full fun _ => rfl) (howed := fun _ _ => rfl)
    (G := fun _ => iprop(emp)) (u₀ := (initOf (cells cfgs cellOf_inj) (launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := Pipeline.hmain_region cfgs 0 defs₀ Variants.none m main fun c => (main_chain c).trans rfl) (hA := A_eq m P)
    (X := fun c => iprop(held m c (fun _ => True) ∗ Pipeline.ownSems0 osem c ∗ ∃ r, prngReg c r))
    (Y := fun c => held m c (P c))
    (Z := fun c => iprop(emp))
    (hX := fun c => by
      unfold held
      iintro ⟨HR, Hos, -, Hp, -⟩; imodintro
      isplitl [HR Hos Hp]
      · isplitl [HR]
        · iexists (V m c); isplitr; · ipureintro; exact ⟨fun _ _ => rfl, trivial⟩
          iexact HR
        isplitl [Hos]; · iexact Hos
        iexists _; iexact Hp
      · iempintro)
    (hin := fun c => by
      show _ ⊢ Ph m c _
      unfold Ph
      iintro ⟨⟨HR, Hos, Hp⟩, Hr⟩
      isplitl [HR]; · iapply (held_mono m c (fun _ => True) _ (fun _ _ h => absurd rfl h)); iexact HR
      isplitl [Hos]; · iexact Hos
      isplitl [Hr] <;> iassumption)
    (hout := fun c => by
      show Ph m c _ ⊢ _
      unfold Ph
      iintro ⟨HR, Hos, Hr, Hp⟩
      isplitl [HR]; · iapply (held_mono m c (fun f => Fin.last cfg0.N ≠ 0 → P c f) (P c) (fun _ h => h (by decide))); iexact HR
      isplitl [Hos] <;> iassumption)
    (QY := fun c s => (∀ b ∈ ins, s.mem ((c : Thread nD τ).loc b) = V m c b) ∧ P c (s.mem ((c : Thread nD τ).loc main_v0_0)))
    (hY := fun c s' => by
      unfold held Pipeline.unscopedRest
      iintro ⟨⟨%Y, %hY, HR⟩, -, HSI⟩
      ihave H := (pointsTo_read_all (Pipeline.restRefs sig spec0) (fun b => (c : Thread nD τ).loc b) Y s') $$ [HR HSI]
      · isplitl [HR] <;> iassumption
      icases H with ⟨%hR, HSI⟩
      imodintro
      isplitr
      · ipureintro
        exact ⟨fun b hb => (hR b (ins_sub hb)).trans (hY.1 b hb), by rw [hR main_v0_0 (by decide)]; exact hY.2⟩
      iexact HSI)
    (hQ := fun s h hz => ⟨fun c => ⟨fun w => ((h c).1 w).trans (by
      rw [show (dats m P 0 c).arrAt w cfg0.N = (dats m P 0 c).A w from (dats m P 0 c).arrAt_in w (in_all w) _]; exact A_eq m P c w), (h c).2⟩, hz⟩)

/-- The run: every argument as launched, the first result as `P` says, every semaphore at zero. -/
theorem run_post (hb : BodyRuns m P) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ P c (r.2.mem ((c.tc : Thread nD τ).loc main_v0_0)))
      ∧ r.2.sem = fun _ => 0) :=
  (θ_run defs _ _).mono (fun r h => ⟨fun c => ⟨⟨(h.1 c).2.1 main_arg0 (by decide), (h.1 c).2.1 main_arg1 (by decide), (h.1 c).2.1 main_arg2 (by decide),
    (h.1 c).1 0, (h.1 c).1 1, (h.1 c).2.1 main_arg5 (by decide), (h.1 c).2.1 main_arg6 (by decide), (h.1 c).2.1 main_arg7 (by decide),
    (h.1 c).2.1 main_arg8 (by decide)⟩, (h.1 c).2.2⟩, h.2⟩) (run_main m ρ P hb)

end Cert.Kernel.Hand

end
-- ==== Proof.BFrame.lean ====
module

public import proofs.«01_k».proof.Proof.BBody
public import proofs.«01_k».proof.Proof.BLaunch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
variable (m : (ℓ : Loc nD τ sig) → Buf (Elt F) ℓ) (ρ : Dev nD → PrngReg)

/-- The body runs from what the launch gives it. -/
theorem body_runs : BodyRuns m (fun _ _ => True) := fun c t d0 d1 W _ _ =>
  body_run c _ _ _ _ _ _ _ (st0 t) (hstage0_0 0) (st1' t) (hstage0_1 0) d0 d1 W

/-- Every weakly fair run ends, with the arguments as launched and every semaphore at zero. -/
theorem frame : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)))
      ∧ r.2.sem = fun _ => 0) :=
  (θ_run defs _ _).mono (fun r h => ⟨fun c => (h.1 c).1, h.2⟩) (run_post m ρ _ (body_runs m))

end Cert.Kernel.Hand

end
-- ==== Proof.lean ====
module

public import proofs.«01_k».proof.Defs
public import proofs.«01_k».proof.Proof.Gen.ReferenceIdeal.Value
public import proofs.«01_k».proof.Proof.KFrame
public import proofs.«01_k».proof.Proof.KValue
public import proofs.«01_k».proof.Proof.BFrame
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Kernel and reference leave the same values, and their arguments unchanged. -/
theorem values_eq : Cert.algebraic_KernelIdeal_ReferenceIdeal (hKernelIdeal := Cert.KernelIdeal.Gen.facts) (hReferenceIdeal := Cert.ReferenceIdeal.Gen.facts) :=
  fun m g m' g' _ he => ⟨Cert.KernelIdeal.Hand.valuesArr m,
    Cert.KernelIdeal.Hand.run_values_of m g (Cert.KernelIdeal.Hand.body_values m), Cert.KernelIdeal.Hand.ref_values m m' g' he⟩

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, fun m g _ => Cert.ReferenceIdeal.Gen.frame m g, trivial, values_eq⟩

end Cert.Proof

end
